-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v146) = v0 c
          ∧ r.2.mem ((c.tc : Thread Cert.Reference5Ideal.nD Cert.Reference5Ideal.τ).loc Cert.Reference5Ideal.main_v148) = v1 c
          ∧ r.2.mem ((c.tc : Thread Cert.Reference5Ideal.nD Cert.Reference5Ideal.τ).loc Cert.Reference5Ideal.main_v150) = v2 c
          ∧ r.2.mem ((c.tc : Thread Cert.Reference5Ideal.nD Cert.Reference5Ideal.τ).loc Cert.Reference5Ideal.main_v140) = v3 c
          ∧ r.2.mem ((c.tc : Thread Cert.Reference5Ideal.nD Cert.Reference5Ideal.τ).loc Cert.Reference5Ideal.main_v118) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_v42) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v14_0)) (v1 : (c : Dev Cert.Kernel13Ideal.nD) → Buf (Elt Ideal) ((c.tc : Thread Cert.Kernel13Ideal.nD Cert.Kernel13Ideal.τ).loc Cert.Kernel13Ideal.main_v14_1)) (v2 : (c : Dev Cert.Kernel13Ideal.nD) → Buf (Elt Ideal) ((c.tc : Thread Cert.Kernel13Ideal.nD Cert.Kernel13Ideal.τ).loc Cert.Kernel13Ideal.main_v14_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v14_0) = v0 c
          ∧ r.2.mem ((c.tc : Thread Cert.Kernel13Ideal.nD Cert.Kernel13Ideal.τ).loc Cert.Kernel13Ideal.main_v14_1) = v1 c
          ∧ r.2.mem ((c.tc : Thread Cert.Kernel13Ideal.nD Cert.Kernel13Ideal.τ).loc Cert.Kernel13Ideal.main_v14_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v53) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v53_0)) (v1 : (c : Dev Cert.Kernel14Ideal.nD) → Buf (Elt Ideal) ((c.tc : Thread Cert.Kernel14Ideal.nD Cert.Kernel14Ideal.τ).loc Cert.Kernel14Ideal.main_v53_1)) (v2 : (c : Dev Cert.Kernel14Ideal.nD) → Buf (Elt Ideal) ((c.tc : Thread Cert.Kernel14Ideal.nD Cert.Kernel14Ideal.τ).loc Cert.Kernel14Ideal.main_v53_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v53_0) = v0 c
          ∧ r.2.mem ((c.tc : Thread Cert.Kernel14Ideal.nD Cert.Kernel14Ideal.τ).loc Cert.Kernel14Ideal.main_v53_1) = v1 c
          ∧ r.2.mem ((c.tc : Thread Cert.Kernel14Ideal.nD Cert.Kernel14Ideal.τ).loc Cert.Kernel14Ideal.main_v53_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v70) = v0 c
          ∧ r.2.mem ((c.tc : Thread Cert.Reference14Ideal.nD Cert.Reference14Ideal.τ).loc Cert.Reference14Ideal.main_v73) = v1 c
          ∧ r.2.mem ((c.tc : Thread Cert.Reference14Ideal.nD Cert.Reference14Ideal.τ).loc Cert.Reference14Ideal.main_v76) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v31)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v31) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v37) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite8 : Cert.Pre_finite8.Facts) (hPre_finite9 : Cert.Pre_finite9.Facts) (hPre_finite10 : Cert.Pre_finite10.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
-- ==== Pre_finite.lean ====
abbrev S1x8192x512 : Shape := ⟨3, ![1, 8192, 512]⟩
abbrev S1x512 : Shape := ⟨2, ![1, 512]⟩
abbrev S_ : Shape := ⟨0, ![]⟩

class Facts : Prop where
  bcast_S_S1x8192x512 : S_.BroadcastsInDim S1x8192x512 (![] : Fin 0 → Fin S1x8192x512.rank)
  reducesTo_S1x8192x512_S_d0_1_2 : S1x8192x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x8192x512 .f32) (main_v14 : IVec S_ 1) (main_v15 : FVec F S1x512 .f32) (main_cst_5 : FVec F S_ .f32) : IVec S_ 1 :=
  let main_v16 : FVec F S1x512 .f32 := broadcastInDim S1x512 ![] bcast_S_S1x512 main_cst_5
  let main_v17 : IVec S1x512 1 := cmpf .olt main_v15 main_v16
  let main_c_6 : IVec S_ 1 := constantI S_ 1 1#1
  let main_v18 : IVec S_ 1 := (fun x v => Host.reduce IntOp.andi x v reducesTo_S1x512_S_d0_1 h_S_) main_v17 main_c_6
  let main_v19 : IVec S_ 1 := andi main_v14 main_v18
  let main_v20 : FVec F S1x8192x512 .f32 := Host.absf main_arg4
  let main_cst_7 : FVec F S_ .f32 := constant S_ .f32 0x7F800000#32
  let main_v21 : FVec F S1x8192x512 .f32 := broadcastInDim S1x8192x512 ![] bcast_S_S1x8192x512 main_cst_7
  let main_v22 : IVec S1x8192x512 1 := cmpf .olt main_v20 main_v21
  let main_c_8 : IVec S_ 1 := constantI S_ 1 1#1
  let main_v23 : IVec S_ 1 := (fun x v => Host.reduce IntOp.andi x v reducesTo_S1x8192x512_S_d0_1_2 h_S_) main_v22 main_c_8
  let main_v24 : IVec S_ 1 := andi main_v19 main_v23
  main_v24

def fn {F : FTy → Type} [FloatOps F] (main_arg0 : FVec F S1x8192x512 .f32) (main_arg1 : FVec F S1x512 .f32) (main_arg2 : FVec F S1x512 .f32) (main_arg3 : FVec F S1x512 .f32) (main_arg4 : FVec F S1x8192x512 .f32) : IVec S_ 1 :=
  let main_v0 : FVec F S1x8192x512 .f32 := Host.absf main_arg0
  let main_cst : FVec F S_ .f32 := constant S_ .f32 0x7F800000#32
  let main_v1 : FVec F S1x8192x512 .f32 := broadcastInDim S1x8192x512 ![] bcast_S_S1x8192x512 main_cst
  let main_v2 : IVec S1x8192x512 1 := cmpf .olt main_v0 main_v1
  let main_c : IVec S_ 1 := constantI S_ 1 1#1
  let main_v3 : IVec S_ 1 := (fun x v => Host.reduce IntOp.andi x v reducesTo_S1x8192x512_S_d0_1_2 h_S_) main_v2 main_c
  let main_c_0 : IVec S_ 1 := constantI S_ 1 1#1
  let main_v4 : IVec S_ 1 := andi main_c_0 main_v3
  let main_v5 : FVec F S1x512 .f32 := Host.absf main_arg1
  let main_cst_1 : FVec F S_ .f32 := constant S_ .f32 0x7F800000#32
  let main_v6 : FVec F S1x512 .f32 := broadcastInDim S1x512 ![] bcast_S_S1x512 main_cst_1
  let main_v7 : IVec S1x512 1 := cmpf .olt main_v5 main_v6
  let main_c_2 : IVec S_ 1 := constantI S_ 1 1#1
  let main_v8 : IVec S_ 1 := (fun x v => Host.reduce IntOp.andi x v reducesTo_S1x512_S_d0_1 h_S_) main_v7 main_c_2
  let main_v9 : IVec S_ 1 := andi main_v4 main_v8
  let main_v10 : FVec F S1x512 .f32 := Host.absf main_arg2
  let main_cst_3 : FVec F S_ .f32 := constant S_ .f32 0x7F800000#32
  let main_v11 : FVec F S1x512 .f32 := broadcastInDim S1x512 ![] bcast_S_S1x512 main_cst_3
  let main_v12 : IVec S1x512 1 := cmpf .olt main_v10 main_v11
  let main_c_4 : IVec S_ 1 := constantI S_ 1 1#1
  let main_v13 : IVec S_ 1 := (fun x v => Host.reduce IntOp.andi x v reducesTo_S1x512_S_d0_1 h_S_) main_v12 main_c_4
  let main_v14 : IVec S_ 1 := andi main_v9 main_v13
  let main_v15 : FVec F S1x512 .f32 := Host.absf main_arg3
  let main_cst_5 : FVec F S_ .f32 := constant S_ .f32 0x7F800000#32
  fn_part1 (F := F) main_arg4 main_v14 main_v15 main_cst_5
-- ==== Pre_finite10.lean ====
abbrev S1x8192x1440 : Shape := ⟨3, ![1, 8192, 1440]⟩
abbrev S1x128 : Shape := ⟨2, ![1, 128]⟩
abbrev S1x128x1024 : Shape := ⟨3, ![1, 128, 1024]⟩
abbrev S1x8192x1024 : Shape := ⟨3, ![1, 8192, 1024]⟩
abbrev S_ : Shape := ⟨0, ![]⟩

class Facts : Prop where
  bcast_S_S1x8192x1440 : S_.BroadcastsInDim S1x8192x1440 (![] : Fin 0 → Fin S1x8192x1440.rank)
  reducesTo_S1x8192x1440_S_d0_1_2 : S1x8192x1440.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bcast_S_S1x128x1024 : S_.BroadcastsInDim S1x128x1024 (![] : Fin 0 → Fin S1x128x1024.rank)
  reducesTo_S1x128x1024_S_d0_1_2 : S1x128x1024.ReducesTo [0, 1, 2] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_v14 : IVec S_ 1) (main_v15 : FVec F S1x8192x1024 .f32) (main_cst_5 : FVec F S_ .f32) : IVec S_ 1 :=
  let main_v16 : FVec F S1x8192x1024 .f32 := broadcastInDim S1x8192x1024 ![] bcast_S_S1x8192x1024 main_cst_5
  let main_v17 : IVec S1x8192x1024 1 := cmpf .olt main_v15 main_v16
  let main_c_6 : IVec S_ 1 := constantI S_ 1 1#1
  let main_v18 : IVec S_ 1 := (fun x v => Host.reduce IntOp.andi x v reducesTo_S1x8192x1024_S_d0_1_2 h_S_) main_v17 main_c_6
  let main_v19 : IVec S_ 1 := andi main_v14 main_v18
  main_v19

def fn {F : FTy → Type} [FloatOps F] (main_arg0 : FVec F S1x8192x1440 .f32) (main_arg1 : FVec F S1x128 .f32) (main_arg2 : FVec F S1x128x1024 .f32) (main_arg3 : FVec F S1x8192x1024 .f32) : IVec S_ 1 :=
  let main_v0 : FVec F S1x8192x1440 .f32 := Host.absf main_arg0
  let main_cst : FVec F S_ .f32 := constant S_ .f32 0x7F800000#32
  let main_v1 : FVec F S1x8192x1440 .f32 := broadcastInDim S1x8192x1440 ![] bcast_S_S1x8192x1440 main_cst
  let main_v2 : IVec S1x8192x1440 1 := cmpf .olt main_v0 main_v1
  let main_c : IVec S_ 1 := constantI S_ 1 1#1
  let main_v3 : IVec S_ 1 := (fun x v => Host.reduce IntOp.andi x v reducesTo_S1x8192x1440_S_d0_1_2 h_S_) main_v2 main_c
  let main_c_0 : IVec S_ 1 := constantI S_ 1 1#1
  let main_v4 : IVec S_ 1 := andi main_c_0 main_v3
  let main_v5 : FVec F S1x128 .f32 := Host.absf main_arg1
  let main_cst_1 : FVec F S_ .f32 := constant S_ .f32 0x7F800000#32
  let main_v6 : FVec F S1x128 .f32 := broadcastInDim S1x128 ![] bcast_S_S1x128 main_cst_1
  let main_v7 : IVec S1x128 1 := cmpf .olt main_v5 main_v6
  let main_c_2 : IVec S_ 1 := constantI S_ 1 1#1
  let main_v8 : IVec S_ 1 := (fun x v => Host.reduce IntOp.andi x v reducesTo_S1x128_S_d0_1 h_S_) main_v7 main_c_2
  let main_v9 : IVec S_ 1 := andi main_v4 main_v8
  let main_v10 : FVec F S1x128x1024 .f32 := Host.absf main_arg2
  let main_cst_3 : FVec F S_ .f32 := constant S_ .f32 0x7F800000#32
  let main_v11 : FVec F S1x128x1024 .f32 := broadcastInDim S1x128x1024 ![] bcast_S_S1x128x1024 main_cst_3
  let main_v12 : IVec S1x128x1024 1 := cmpf .olt main_v10 main_v11
  let main_c_4 : IVec S_ 1 := constantI S_ 1 1#1
  let main_v13 : IVec S_ 1 := (fun x v => Host.reduce IntOp.andi x v reducesTo_S1x128x1024_S_d0_1_2 h_S_) main_v12 main_c_4
  let main_v14 : IVec S_ 1 := andi main_v9 main_v13
  let main_v15 : FVec F S1x8192x1024 .f32 := Host.absf main_arg3
  let main_cst_5 : FVec F S_ .f32 := constant S_ .f32 0x7F800000#32
  fn_part1 (F := F) main_v14 main_v15 main_cst_5
-- ==== Pre_finite13.lean ====
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn {F : FTy → Type} [FloatOps F] (main_arg0 : FVec F S1x8192x8x96 .f32) (main_arg1 : FVec F S1x8192x8x96 .f32) (main_arg2 : FVec F S1x8192x8x64 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_c_0 : IVec S_ 1 := constantI S_ 1 1#1
  let main_v4 : IVec S_ 1 := andi main_c_0 main_v3
  let main_v5 : FVec F S1x8192x8x96 .f32 := Host.absf main_arg1
  let main_cst_1 : FVec F S_ .f32 := constant S_ .f32 0x7F800000#32
  let main_v6 : FVec F S1x8192x8x96 .f32 := broadcastInDim S1x8192x8x96 ![] bcast_S_S1x8192x8x96 main_cst_1
  let main_v7 : IVec S1x8192x8x96 1 := cmpf .olt main_v5 main_v6
  let main_c_2 : IVec S_ 1 := constantI S_ 1 1#1
  let main_v8 : IVec S_ 1 := (fun x v => Host.reduce IntOp.andi x v reducesTo_S1x8192x8x96_S_d0_1_2_3 h_S_) main_v7 main_c_2
  let main_v9 : IVec S_ 1 := andi main_v4 main_v8
  let main_v10 : FVec F S1x8192x8x64 .f32 := Host.absf main_arg2
  let main_cst_3 : FVec F S_ .f32 := constant S_ .f32 0x7F800000#32
  let main_v11 : FVec F S1x8192x8x64 .f32 := broadcastInDim S1x8192x8x64 ![] bcast_S_S1x8192x8x64 main_cst_3
  let main_v12 : IVec S1x8192x8x64 1 := cmpf .olt main_v10 main_v11
  let main_c_4 : IVec S_ 1 := constantI S_ 1 1#1
  let main_v13 : IVec S_ 1 := (fun x v => Host.reduce IntOp.andi x v reducesTo_S1x8192x8x64_S_d0_1_2_3 h_S_) main_v12 main_c_4
  let main_v14 : IVec S_ 1 := andi main_v9 main_v13
  main_v14
-- ==== Pre_finite14.lean ====
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn_part1 {F : FTy → Type} [FloatOps F] (main_v14 : IVec S_ 1) (main_v15 : FVec F S1x8192x8x64 .f32) (main_cst_5 : FVec F S_ .f32) : IVec S_ 1 :=
  let main_v16 : FVec F S1x8192x8x64 .f32 := broadcastInDim S1x8192x8x64 ![] bcast_S_S1x8192x8x64 main_cst_5
  let main_v17 : IVec S1x8192x8x64 1 := cmpf .olt main_v15 main_v16
  let main_c_6 : IVec S_ 1 := constantI S_ 1 1#1
  let main_v18 : IVec S_ 1 := (fun x v => Host.reduce IntOp.andi x v reducesTo_S1x8192x8x64_S_d0_1_2_3 h_S_) main_v17 main_c_6
  let main_v19 : IVec S_ 1 := andi main_v14 main_v18
  main_v19

def fn {F : FTy → Type} [FloatOps F] (main_arg0 : FVec F S1x8192x8x96 .f32) (main_arg1 : FVec F S1x8192x8x96 .f32) (main_arg2 : FVec F S1x8192x8x64 .f32) (main_arg3 : FVec F S1x8192x8x64 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_c_0 : IVec S_ 1 := constantI S_ 1 1#1
  let main_v4 : IVec S_ 1 := andi main_c_0 main_v3
  let main_v5 : FVec F S1x8192x8x96 .f32 := Host.absf main_arg1
  let main_cst_1 : FVec F S_ .f32 := constant S_ .f32 0x7F800000#32
  let main_v6 : FVec F S1x8192x8x96 .f32 := broadcastInDim S1x8192x8x96 ![] bcast_S_S1x8192x8x96 main_cst_1
  let main_v7 : IVec S1x8192x8x96 1 := cmpf .olt main_v5 main_v6
  let main_c_2 : IVec S_ 1 := constantI S_ 1 1#1
  let main_v8 : IVec S_ 1 := (fun x v => Host.reduce IntOp.andi x v reducesTo_S1x8192x8x96_S_d0_1_2_3 h_S_) main_v7 main_c_2
  let main_v9 : IVec S_ 1 := andi main_v4 main_v8
  let main_v10 : FVec F S1x8192x8x64 .f32 := Host.absf main_arg2
  let main_cst_3 : FVec F S_ .f32 := constant S_ .f32 0x7F800000#32
  let main_v11 : FVec F S1x8192x8x64 .f32 := broadcastInDim S1x8192x8x64 ![] bcast_S_S1x8192x8x64 main_cst_3
  let main_v12 : IVec S1x8192x8x64 1 := cmpf .olt main_v10 main_v11
  let main_c_4 : IVec S_ 1 := constantI S_ 1 1#1
  let main_v13 : IVec S_ 1 := (fun x v => Host.reduce IntOp.andi x v reducesTo_S1x8192x8x64_S_d0_1_2_3 h_S_) main_v12 main_c_4
  let main_v14 : IVec S_ 1 := andi main_v9 main_v13
  let main_v15 : FVec F S1x8192x8x64 .f32 := Host.absf main_arg3
  let main_cst_5 : FVec F S_ .f32 := constant S_ .f32 0x7F800000#32
  fn_part1 (F := F) main_v14 main_v15 main_cst_5
-- ==== Pre_finite2.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x8192x5632 : S_.BroadcastsInDim S1x8192x5632 (![] : Fin 0 → Fin S1x8192x5632.rank)
  reducesTo_S1x8192x5632_S_d0_1_2 : S1x8192x5632.ReducesTo [0, 1, 2] S_

variable [Facts]

def fn_part1 {F : FTy → Type} [FloatOps F] (main_arg4 : FVec F S1x8192x1024 .f32) (main_v14 : IVec S_ 1) (main_v15 : FVec F S1x8192x5632 .f32) (main_cst_5 : FVec F S_ .f32) : IVec S_ 1 :=
  let main_v16 : FVec F S1x8192x5632 .f32 := broadcastInDim S1x8192x5632 ![] bcast_S_S1x8192x5632 main_cst_5
  let main_v17 : IVec S1x8192x5632 1 := cmpf .olt main_v15 main_v16
  let main_c_6 : IVec S_ 1 := constantI S_ 1 1#1
  let main_v18 : IVec S_ 1 := (fun x v => Host.reduce IntOp.andi x v reducesTo_S1x8192x5632_S_d0_1_2 h_S_) main_v17 main_c_6
  let main_v19 : IVec S_ 1 := andi main_v14 main_v18
  let main_v20 : FVec F S1x8192x1024 .f32 := Host.absf main_arg4
  let main_cst_7 : FVec F S_ .f32 := constant S_ .f32 0x7F800000#32
  let main_v21 : FVec F S1x8192x1024 .f32 := broadcastInDim S1x8192x1024 ![] bcast_S_S1x8192x1024 main_cst_7
  let main_v22 : IVec S1x8192x1024 1 := cmpf .olt main_v20 main_v21
  let main_c_8 : IVec S_ 1 := constantI S_ 1 1#1
  let main_v23 : IVec S_ 1 := (fun x v => Host.reduce IntOp.andi x v reducesTo_S1x8192x1024_S_d0_1_2 h_S_) main_v22 main_c_8
  let main_v24 : IVec S_ 1 := andi main_v19 main_v23
  main_v24

def fn {F : FTy → Type} [FloatOps F] (main_arg0 : FVec F S1x8192x1024 .f32) (main_arg1 : FVec F S1x1024 .f32) (main_arg2 : FVec F S1x1024x5632 .f32) (main_arg3 : FVec F S1x8192x5632 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x5632 .f32 := Host.absf main_arg2
  let main_cst_3 : FVec F S_ .f32 := constant S_ .f32 0x7F800000#32
  let main_v11 : FVec F S1x1024x5632 .f32 := broadcastInDim S1x1024x5632 ![] bcast_S_S1x1024x5632 main_cst_3
  let main_v12 : IVec S1x1024x5632 1 := cmpf .olt main_v10 main_v11
  let main_c_4 : IVec S_ 1 := constantI S_ 1 1#1
  let main_v13 : IVec S_ 1 := (fun x v => Host.reduce IntOp.andi x v reducesTo_S1x1024x5632_S_d0_1_2 h_S_) main_v12 main_c_4
  let main_v14 : IVec S_ 1 := andi main_v9 main_v13
  let main_v15 : FVec F S1x8192x5632 .f32 := Host.absf main_arg3
  let main_cst_5 : FVec F S_ .f32 := constant S_ .f32 0x7F800000#32
  fn_part1 (F := F) main_arg4 main_v14 main_v15 main_cst_5
-- ==== Pre_finite3.lean ====
abbrev S1x8192x1440 : Shape := ⟨3, ![1, 8192, 1440]⟩
abbrev S1x256 : Shape := ⟨2, ![1, 256]⟩
abbrev S1x256x768 : Shape := ⟨3, ![1, 256, 768]⟩
abbrev S1x8192x8x96 : Shape := ⟨4, ![1, 8192, 8, 96]⟩
abbrev S_ : Shape := ⟨0, ![]⟩

class Facts : Prop where
  bcast_S_S1x8192x1440 : S_.BroadcastsInDim S1x8192x1440 (![] : Fin 0 → Fin S1x8192x1440.rank)
  reducesTo_S1x8192x1440_S_d0_1_2 : S1x8192x1440.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S1x256x768 : S_.BroadcastsInDim S1x256x768 (![] : Fin 0 → Fin S1x256x768.rank)
  reducesTo_S1x256x768_S_d0_1_2 : S1x256x768.ReducesTo [0, 1, 2] S_
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_

variable [Facts]

def fn_part1 {F : FTy → Type} [FloatOps F] (main_v14 : IVec S_ 1) (main_v15 : FVec F S1x8192x8x96 .f32) (main_cst_5 : FVec F S_ .f32) : IVec S_ 1 :=
  let main_v16 : FVec F S1x8192x8x96 .f32 := broadcastInDim S1x8192x8x96 ![] bcast_S_S1x8192x8x96 main_cst_5
  let main_v17 : IVec S1x8192x8x96 1 := cmpf .olt main_v15 main_v16
  let main_c_6 : IVec S_ 1 := constantI S_ 1 1#1
  let main_v18 : IVec S_ 1 := (fun x v => Host.reduce IntOp.andi x v reducesTo_S1x8192x8x96_S_d0_1_2_3 h_S_) main_v17 main_c_6
  let main_v19 : IVec S_ 1 := andi main_v14 main_v18
  main_v19

def fn {F : FTy → Type} [FloatOps F] (main_arg0 : FVec F S1x8192x1440 .f32) (main_arg1 : FVec F S1x256 .f32) (main_arg2 : FVec F S1x256x768 .f32) (main_arg3 : FVec F S1x8192x8x96 .f32) : IVec S_ 1 :=
  let main_v0 : FVec F S1x8192x1440 .f32 := Host.absf main_arg0
  let main_cst : FVec F S_ .f32 := constant S_ .f32 0x7F800000#32
  let main_v1 : FVec F S1x8192x1440 .f32 := broadcastInDim S1x8192x1440 ![] bcast_S_S1x8192x1440 main_cst
  let main_v2 : IVec S1x8192x1440 1 := cmpf .olt main_v0 main_v1
  let main_c : IVec S_ 1 := constantI S_ 1 1#1
  let main_v3 : IVec S_ 1 := (fun x v => Host.reduce IntOp.andi x v reducesTo_S1x8192x1440_S_d0_1_2 h_S_) main_v2 main_c
  let main_c_0 : IVec S_ 1 := constantI S_ 1 1#1
  let main_v4 : IVec S_ 1 := andi main_c_0 main_v3
  let main_v5 : FVec F S1x256 .f32 := Host.absf main_arg1
  let main_cst_1 : FVec F S_ .f32 := constant S_ .f32 0x7F800000#32
  let main_v6 : FVec F S1x256 .f32 := broadcastInDim S1x256 ![] bcast_S_S1x256 main_cst_1
  let main_v7 : IVec S1x256 1 := cmpf .olt main_v5 main_v6
  let main_c_2 : IVec S_ 1 := constantI S_ 1 1#1
  let main_v8 : IVec S_ 1 := (fun x v => Host.reduce IntOp.andi x v reducesTo_S1x256_S_d0_1 h_S_) main_v7 main_c_2
  let main_v9 : IVec S_ 1 := andi main_v4 main_v8
  let main_v10 : FVec F S1x256x768 .f32 := Host.absf main_arg2
  let main_cst_3 : FVec F S_ .f32 := constant S_ .f32 0x7F800000#32
  let main_v11 : FVec F S1x256x768 .f32 := broadcastInDim S1x256x768 ![] bcast_S_S1x256x768 main_cst_3
  let main_v12 : IVec S1x256x768 1 := cmpf .olt main_v10 main_v11
  let main_c_4 : IVec S_ 1 := constantI S_ 1 1#1
  let main_v13 : IVec S_ 1 := (fun x v => Host.reduce IntOp.andi x v reducesTo_S1x256x768_S_d0_1_2 h_S_) main_v12 main_c_4
  let main_v14 : IVec S_ 1 := andi main_v9 main_v13
  let main_v15 : FVec F S1x8192x8x96 .f32 := Host.absf main_arg3
  let main_cst_5 : FVec F S_ .f32 := constant S_ .f32 0x7F800000#32
  fn_part1 (F := F) main_v14 main_v15 main_cst_5
-- ==== Pre_finite4.lean ====
abbrev S1x8192x1024 : Shape := ⟨3, ![1, 8192, 1024]⟩
abbrev S1x1024 : Shape := ⟨2, ![1, 1024]⟩
abbrev S1x1024x1440 : Shape := ⟨3, ![1, 1024, 1440]⟩
abbrev S1x8192x1440 : Shape := ⟨3, ![1, 8192, 1440]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1440 : S_.BroadcastsInDim S1x1024x1440 (![] : Fin 0 → Fin S1x1024x1440.rank)
  reducesTo_S1x1024x1440_S_d0_1_2 : S1x1024x1440.ReducesTo [0, 1, 2] S_
  bcast_S_S1x8192x1440 : S_.BroadcastsInDim S1x8192x1440 (![] : Fin 0 → Fin S1x8192x1440.rank)
  reducesTo_S1x8192x1440_S_d0_1_2 : S1x8192x1440.ReducesTo [0, 1, 2] S_

variable [Facts]

def fn_part1 {F : FTy → Type} [FloatOps F] (main_arg4 : FVec F S1x8192x1024 .f32) (main_v14 : IVec S_ 1) (main_v15 : FVec F S1x8192x1440 .f32) (main_cst_5 : FVec F S_ .f32) : IVec S_ 1 :=
  let main_v16 : FVec F S1x8192x1440 .f32 := broadcastInDim S1x8192x1440 ![] bcast_S_S1x8192x1440 main_cst_5
  let main_v17 : IVec S1x8192x1440 1 := cmpf .olt main_v15 main_v16
  let main_c_6 : IVec S_ 1 := constantI S_ 1 1#1
  let main_v18 : IVec S_ 1 := (fun x v => Host.reduce IntOp.andi x v reducesTo_S1x8192x1440_S_d0_1_2 h_S_) main_v17 main_c_6
  let main_v19 : IVec S_ 1 := andi main_v14 main_v18
  let main_v20 : FVec F S1x8192x1024 .f32 := Host.absf main_arg4
  let main_cst_7 : FVec F S_ .f32 := constant S_ .f32 0x7F800000#32
  let main_v21 : FVec F S1x8192x1024 .f32 := broadcastInDim S1x8192x1024 ![] bcast_S_S1x8192x1024 main_cst_7
  let main_v22 : IVec S1x8192x1024 1 := cmpf .olt main_v20 main_v21
  let main_c_8 : IVec S_ 1 := constantI S_ 1 1#1
  let main_v23 : IVec S_ 1 := (fun x v => Host.reduce IntOp.andi x v reducesTo_S1x8192x1024_S_d0_1_2 h_S_) main_v22 main_c_8
  let main_v24 : IVec S_ 1 := andi main_v19 main_v23
  main_v24

def fn {F : FTy → Type} [FloatOps F] (main_arg0 : FVec F S1x8192x1024 .f32) (main_arg1 : FVec F S1x1024 .f32) (main_arg2 : FVec F S1x1024x1440 .f32) (main_arg3 : FVec F S1x8192x1440 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x1440 .f32 := Host.absf main_arg2
  let main_cst_3 : FVec F S_ .f32 := constant S_ .f32 0x7F800000#32
  let main_v11 : FVec F S1x1024x1440 .f32 := broadcastInDim S1x1024x1440 ![] bcast_S_S1x1024x1440 main_cst_3
  let main_v12 : IVec S1x1024x1440 1 := cmpf .olt main_v10 main_v11
  let main_c_4 : IVec S_ 1 := constantI S_ 1 1#1
  let main_v13 : IVec S_ 1 := (fun x v => Host.reduce IntOp.andi x v reducesTo_S1x1024x1440_S_d0_1_2 h_S_) main_v12 main_c_4
  let main_v14 : IVec S_ 1 := andi main_v9 main_v13
  let main_v15 : FVec F S1x8192x1440 .f32 := Host.absf main_arg3
  let main_cst_5 : FVec F S_ .f32 := constant S_ .f32 0x7F800000#32
  fn_part1 (F := F) main_arg4 main_v14 main_v15 main_cst_5
-- ==== Pre_finite5.lean ====
abbrev S1x8192x1024 : Shape := ⟨3, ![1, 8192, 1024]⟩
abbrev S1x256x2048 : Shape := ⟨3, ![1, 256, 2048]⟩
abbrev S1x256 : Shape := ⟨2, ![1, 256]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x256x2048 : S_.BroadcastsInDim S1x256x2048 (![] : Fin 0 → Fin S1x256x2048.rank)
  reducesTo_S1x256x2048_S_d0_1_2 : S1x256x2048.ReducesTo [0, 1, 2] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x8192x1024 .f32) (main_v14 : IVec S_ 1) (main_v15 : FVec F S1x256 .f32) (main_cst_5 : FVec F S_ .f32) : IVec S_ 1 :=
  let main_v16 : FVec F S1x256 .f32 := broadcastInDim S1x256 ![] bcast_S_S1x256 main_cst_5
  let main_v17 : IVec S1x256 1 := cmpf .olt main_v15 main_v16
  let main_c_6 : IVec S_ 1 := constantI S_ 1 1#1
  let main_v18 : IVec S_ 1 := (fun x v => Host.reduce IntOp.andi x v reducesTo_S1x256_S_d0_1 h_S_) main_v17 main_c_6
  let main_v19 : IVec S_ 1 := andi main_v14 main_v18
  let main_v20 : FVec F S1x8192x1024 .f32 := Host.absf main_arg4
  let main_cst_7 : FVec F S_ .f32 := constant S_ .f32 0x7F800000#32
  let main_v21 : FVec F S1x8192x1024 .f32 := broadcastInDim S1x8192x1024 ![] bcast_S_S1x8192x1024 main_cst_7
  let main_v22 : IVec S1x8192x1024 1 := cmpf .olt main_v20 main_v21
  let main_c_8 : IVec S_ 1 := constantI S_ 1 1#1
  let main_v23 : IVec S_ 1 := (fun x v => Host.reduce IntOp.andi x v reducesTo_S1x8192x1024_S_d0_1_2 h_S_) main_v22 main_c_8
  let main_v24 : IVec S_ 1 := andi main_v19 main_v23
  main_v24

def fn {F : FTy → Type} [FloatOps F] (main_arg0 : FVec F S1x8192x1024 .f32) (main_arg1 : FVec F S1x256x2048 .f32) (main_arg2 : FVec F S1x256 .f32) (main_arg3 : FVec F S1x256 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_c_0 : IVec S_ 1 := constantI S_ 1 1#1
  let main_v4 : IVec S_ 1 := andi main_c_0 main_v3
  let main_v5 : FVec F S1x256x2048 .f32 := Host.absf main_arg1
  let main_cst_1 : FVec F S_ .f32 := constant S_ .f32 0x7F800000#32
  let main_v6 : FVec F S1x256x2048 .f32 := broadcastInDim S1x256x2048 ![] bcast_S_S1x256x2048 main_cst_1
  let main_v7 : IVec S1x256x2048 1 := cmpf .olt main_v5 main_v6
  let main_c_2 : IVec S_ 1 := constantI S_ 1 1#1
  let main_v8 : IVec S_ 1 := (fun x v => Host.reduce IntOp.andi x v reducesTo_S1x256x2048_S_d0_1_2 h_S_) main_v7 main_c_2
  let main_v9 : IVec S_ 1 := andi main_v4 main_v8
  let main_v10 : FVec F S1x256 .f32 := Host.absf main_arg2
  let main_cst_3 : FVec F S_ .f32 := constant S_ .f32 0x7F800000#32
  let main_v11 : FVec F S1x256 .f32 := broadcastInDim S1x256 ![] bcast_S_S1x256 main_cst_3
  let main_v12 : IVec S1x256 1 := cmpf .olt main_v10 main_v11
  let main_c_4 : IVec S_ 1 := constantI S_ 1 1#1
  let main_v13 : IVec S_ 1 := (fun x v => Host.reduce IntOp.andi x v reducesTo_S1x256_S_d0_1 h_S_) main_v12 main_c_4
  let main_v14 : IVec S_ 1 := andi main_v9 main_v13
  let main_v15 : FVec F S1x256 .f32 := Host.absf main_arg3
  let main_cst_5 : FVec F S_ .f32 := constant S_ .f32 0x7F800000#32
  fn_part1 (F := F) main_arg4 main_v14 main_v15 main_cst_5
-- ==== Pre_finite8.lean ====
abbrev S1x8192x1024 : Shape := ⟨3, ![1, 8192, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_arg4 : FVec F S1x8192x1024 .f32) (main_v14 : IVec S_ 1) (main_v15 : FVec F S1x8192x1024 .f32) (main_cst_5 : FVec F S_ .f32) : IVec S_ 1 :=
  let main_v16 : FVec F S1x8192x1024 .f32 := broadcastInDim S1x8192x1024 ![] bcast_S_S1x8192x1024 main_cst_5
  let main_v17 : IVec S1x8192x1024 1 := cmpf .olt main_v15 main_v16
  let main_c_6 : IVec S_ 1 := constantI S_ 1 1#1
  let main_v18 : IVec S_ 1 := (fun x v => Host.reduce IntOp.andi x v reducesTo_S1x8192x1024_S_d0_1_2 h_S_) main_v17 main_c_6
  let main_v19 : IVec S_ 1 := andi main_v14 main_v18
  let main_v20 : FVec F S1x8192x1024 .f32 := Host.absf main_arg4
  let main_cst_7 : FVec F S_ .f32 := constant S_ .f32 0x7F800000#32
  let main_v21 : FVec F S1x8192x1024 .f32 := broadcastInDim S1x8192x1024 ![] bcast_S_S1x8192x1024 main_cst_7
  let main_v22 : IVec S1x8192x1024 1 := cmpf .olt main_v20 main_v21
  let main_c_8 : IVec S_ 1 := constantI S_ 1 1#1
  let main_v23 : IVec S_ 1 := (fun x v => Host.reduce IntOp.andi x v reducesTo_S1x8192x1024_S_d0_1_2 h_S_) main_v22 main_c_8
  let main_v24 : IVec S_ 1 := andi main_v19 main_v23
  main_v24

def fn {F : FTy → Type} [FloatOps F] (main_arg0 : FVec F S1x8192x1024 .f32) (main_arg1 : FVec F S1x1024 .f32) (main_arg2 : FVec F S1x1024x1024 .f32) (main_arg3 : FVec F S1x8192x1024 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x1024 .f32 := Host.absf main_arg2
  let main_cst_3 : FVec F S_ .f32 := constant S_ .f32 0x7F800000#32
  let main_v11 : FVec F S1x1024x1024 .f32 := broadcastInDim S1x1024x1024 ![] bcast_S_S1x1024x1024 main_cst_3
  let main_v12 : IVec S1x1024x1024 1 := cmpf .olt main_v10 main_v11
  let main_c_4 : IVec S_ 1 := constantI S_ 1 1#1
  let main_v13 : IVec S_ 1 := (fun x v => Host.reduce IntOp.andi x v reducesTo_S1x1024x1024_S_d0_1_2 h_S_) main_v12 main_c_4
  let main_v14 : IVec S_ 1 := andi main_v9 main_v13
  let main_v15 : FVec F S1x8192x1024 .f32 := Host.absf main_arg3
  let main_cst_5 : FVec F S_ .f32 := constant S_ .f32 0x7F800000#32
  fn_part1 (F := F) main_arg4 main_v14 main_v15 main_cst_5
-- ==== Pre_finite9.lean ====
abbrev S1x256x1024 : Shape := ⟨3, ![1, 256, 1024]⟩
abbrev S1x1024 : Shape := ⟨2, ![1, 1024]⟩
abbrev S1x1024x2048 : Shape := ⟨3, ![1, 1024, 2048]⟩
abbrev S1x256x2048 : Shape := ⟨3, ![1, 256, 2048]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x256x2048 : S_.BroadcastsInDim S1x256x2048 (![] : Fin 0 → Fin S1x256x2048.rank)
  reducesTo_S1x256x2048_S_d0_1_2 : S1x256x2048.ReducesTo [0, 1, 2] S_

variable [Facts]

def fn_part1 {F : FTy → Type} [FloatOps F] (main_v14 : IVec S_ 1) (main_v15 : FVec F S1x256x2048 .f32) (main_cst_5 : FVec F S_ .f32) : IVec S_ 1 :=
  let main_v16 : FVec F S1x256x2048 .f32 := broadcastInDim S1x256x2048 ![] bcast_S_S1x256x2048 main_cst_5
  let main_v17 : IVec S1x256x2048 1 := cmpf .olt main_v15 main_v16
  let main_c_6 : IVec S_ 1 := constantI S_ 1 1#1
  let main_v18 : IVec S_ 1 := (fun x v => Host.reduce IntOp.andi x v reducesTo_S1x256x2048_S_d0_1_2 h_S_) main_v17 main_c_6
  let main_v19 : IVec S_ 1 := andi main_v14 main_v18
  main_v19

def fn {F : FTy → Type} [FloatOps F] (main_arg0 : FVec F S1x256x1024 .f32) (main_arg1 : FVec F S1x1024 .f32) (main_arg2 : FVec F S1x1024x2048 .f32) (main_arg3 : FVec F S1x256x2048 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x2048 .f32 := Host.absf main_arg2
  let main_cst_3 : FVec F S_ .f32 := constant S_ .f32 0x7F800000#32
  let main_v11 : FVec F S1x1024x2048 .f32 := broadcastInDim S1x1024x2048 ![] bcast_S_S1x1024x2048 main_cst_3
  let main_v12 : IVec S1x1024x2048 1 := cmpf .olt main_v10 main_v11
  let main_c_4 : IVec S_ 1 := constantI S_ 1 1#1
  let main_v13 : IVec S_ 1 := (fun x v => Host.reduce IntOp.andi x v reducesTo_S1x1024x2048_S_d0_1_2 h_S_) main_v12 main_c_4
  let main_v14 : IVec S_ 1 := andi main_v9 main_v13
  let main_v15 : FVec F S1x256x2048 .f32 := Host.absf main_arg3
  let main_cst_5 : FVec F S_ .f32 := constant S_ .f32 0x7F800000#32
  fn_part1 (F := F) main_v14 main_v15 main_cst_5
-- ==== Kernel.lean ====
abbrev S1x8192x512 : Shape := ⟨3, ![1, 8192, 512]⟩
abbrev S1x512 : Shape := ⟨2, ![1, 512]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 13
  | .vmem => 11
  | .smem => 0
  | _ => 0

abbrev bufTy : (tb : Table) → Fin (tcTables nBuf tb) → BufTy
  | .hbm, ⟨0, _⟩ => ⟨S1x8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S1x512, .f32⟩
  | .hbm, ⟨12, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x8192x512 : Shape := ⟨3, ![1, 8192, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S8192x512 : Shape := ⟨2, ![8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x8192x512, .f32⟩
  | .hbm, ⟨5, _⟩ => ⟨S512, .f32⟩
  | .hbm, ⟨6, _⟩ => ⟨S1x1x512, .f32⟩
  | .hbm, ⟨7, _⟩ => ⟨S1x8192x512, .f32⟩
  | .hbm, ⟨8, _⟩ => ⟨S1x8192x512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x512, .f32⟩
  | .hbm, ⟨35, _⟩ => ⟨S1x8192x512, .f32⟩
  | .hbm, ⟨36, _⟩ => ⟨S1x1x512, .f32⟩
  | .hbm, ⟨37, _⟩ => ⟨S1x8192x512, .f32⟩
  | .hbm, ⟨38, _⟩ => ⟨S1x8192x512, .f32⟩
  | .hbm, ⟨39, _⟩ => ⟨S1x1x512, .f32⟩
  | .hbm, ⟨40, _⟩ => ⟨S1x8192x512, .f32⟩
  | .hbm, ⟨41, _⟩ => ⟨S1x8192x512, .f32⟩
  | .hbm, ⟨42, _⟩ => ⟨S1x8192x512, .f32⟩
  | .hbm, ⟨43, _⟩ => ⟨S1x8192x512, .f32⟩
  | .hbm, ⟨44, _⟩ => ⟨S_, .f32⟩
  | .hbm, ⟨45, _⟩ => ⟨S1x8192x512, .f32⟩
  | .hbm, ⟨46, _⟩ => ⟨S1x8192x512, .f32⟩
  | .hbm, ⟨47, _⟩ => ⟨S_, .f32⟩
  | .hbm, ⟨48, _⟩ => ⟨S1x8192x512, .f32⟩
  | .hbm, ⟨49, _⟩ => ⟨S1x8192x512, .f32⟩
  | .hbm, ⟨50, _⟩ => ⟨S_, .f32⟩
  | .hbm, ⟨51, _⟩ => ⟨S1x8192x512, .f32⟩
  | .hbm, ⟨52, _⟩ => ⟨S1x8192x512, .f32⟩
  | .hbm, ⟨53, _⟩ => ⟨S1x8192x512, .f32⟩
  | .hbm, ⟨54, _⟩ => ⟨S1x8192x512, .f32⟩
  | .hbm, ⟨55, _⟩ => ⟨S1x8192x512, .f32⟩
  | .hbm, ⟨56, _⟩ => ⟨S1x8192x512, .f32⟩
  | .hbm, ⟨57, _⟩ => ⟨S1x8192x512, .f32⟩
  | .hbm, ⟨58, _⟩ => ⟨S1x8192x512, .f32⟩
  | .hbm, ⟨59, _⟩ => ⟨S_, .f32⟩
  | .hbm, ⟨60, _⟩ => ⟨S1x512, .f32⟩
  | .hbm, ⟨61, _⟩ => ⟨S1x1x512, .f32⟩
  | .hbm, ⟨62, _⟩ => ⟨S_, .f32⟩
  | .hbm, ⟨63, _⟩ => ⟨S512, .f32⟩
  | .hbm, ⟨64, _⟩ => ⟨S1x8192x512, .f32⟩
  | .hbm, ⟨65, _⟩ => ⟨S_, .f32⟩
  | .hbm, ⟨66, _⟩ => ⟨S1x512, .f32⟩
  | .hbm, ⟨67, _⟩ => ⟨S1x1x512, .f32⟩
  | .hbm, ⟨68, _⟩ => ⟨S1x8192x512, .f32⟩
  | .hbm, ⟨69, _⟩ => ⟨S1x8192x512, .f32⟩
  | .hbm, ⟨70, _⟩ => ⟨S_, .f32⟩
  | .hbm, ⟨71, _⟩ => ⟨S512, .f32⟩
  | .hbm, ⟨72, _⟩ => ⟨S1x8192x512, .f32⟩
  | .hbm, ⟨73, _⟩ => ⟨S_, .f32⟩
  | .hbm, ⟨74, _⟩ => ⟨S1x8192, .f32⟩
  | .hbm, ⟨75, _⟩ => ⟨S1x8192x1, .f32⟩
  | .hbm, ⟨76, _⟩ => ⟨S1x8192x512, .f32⟩
  | .hbm, ⟨77, _⟩ => ⟨S1x8192x512, .f32⟩
  | .hbm, ⟨78, _⟩ => ⟨S1x8192x1, .f32⟩
  | .hbm, ⟨79, _⟩ => ⟨S_, .f32⟩
  | .hbm, ⟨80, _⟩ => ⟨S1x8192x1, .f32⟩
  | .hbm, ⟨81, _⟩ => ⟨S1x8192x1, .f32⟩
  | .hbm, ⟨82, _⟩ => ⟨S_, .f32⟩
  | .hbm, ⟨83, _⟩ => ⟨S8192, .f32⟩
  | .hbm, ⟨84, _⟩ => ⟨S1x8192, .f32⟩
  | .hbm, ⟨85, _⟩ => ⟨S1x8192x512, .f32⟩
  | .hbm, ⟨86, _⟩ => ⟨S1x8192x512, .f32⟩
  | .hbm, ⟨87, _⟩ => ⟨S1x8192x512, .f32⟩
  | .hbm, ⟨88, _⟩ => ⟨S1x8192x512, .f32⟩
  | .hbm, ⟨89, _⟩ => ⟨S1x8192x512, .f32⟩
  | .hbm, ⟨90, _⟩ => ⟨S1x8192x512, .f32⟩
  | .hbm, ⟨91, _⟩ => ⟨S_, .f32⟩
  | .hbm, ⟨92, _⟩ => ⟨S1x8192, .f32⟩
  | .hbm, ⟨93, _⟩ => ⟨S1x8192x1, .f32⟩
  | .hbm, ⟨94, _⟩ => ⟨S_, .f32⟩
  | .hbm, ⟨95, _⟩ => ⟨S1x8192x1, .f32⟩
  | .hbm, ⟨96, _⟩ => ⟨S1x8192x1, .f32⟩
  | .hbm, ⟨97, _⟩ => ⟨S_, .f32⟩
  | .hbm, ⟨98, _⟩ => ⟨S8192, .f32⟩
  | .hbm, ⟨99, _⟩ => ⟨S1x8192, .f32⟩
  | .hbm, ⟨100, _⟩ => ⟨S1x8192x512, .f32⟩
  | .hbm, ⟨101, _⟩ => ⟨S1x8192x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x1x512, .f32⟩
  | .hbm, ⟨107, _⟩ => ⟨S_, .f32⟩
  | .hbm, ⟨108, _⟩ => ⟨S512, .f32⟩
  | .hbm, ⟨109, _⟩ => ⟨S1x512, .f32⟩
  | .hbm, ⟨110, _⟩ => ⟨S8192x512, .f32⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]
-- ==== Kernel2.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S1024x5632 : Shape := ⟨2, ![1024, 5632]⟩
abbrev S8192x5632 : Shape := ⟨2, ![8192, 5632]⟩
abbrev S8192x2816 : Shape := ⟨2, ![8192, 2816]⟩
abbrev S1024x2816 : Shape := ⟨2, ![1024, 2816]⟩
abbrev S8192x1024 : Shape := ⟨2, ![8192, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x5632, .f32⟩
  | .hbm, ⟨4, _⟩ => ⟨S1x8192x1024, .f32⟩
  | .hbm, ⟨5, _⟩ => ⟨S1024x5632, .f32⟩
  | .hbm, ⟨6, _⟩ => ⟨S1024x5632, .bf16⟩
  | .hbm, ⟨7, _⟩ => ⟨S8192x5632, .f32⟩
  | .hbm, ⟨8, _⟩ => ⟨S8192x5632, .bf16⟩
  | .hbm, ⟨9, _⟩ => ⟨S8192x2816, .bf16⟩
  | .hbm, ⟨10, _⟩ => ⟨S1024x2816, .bf16⟩
  | .hbm, ⟨11, _⟩ => ⟨S8192x2816, .bf16⟩
  | .hbm, ⟨12, _⟩ => ⟨S1024x2816, .bf16⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S8192 : Shape := ⟨1, ![8192]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x5632, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x5632, .f32⟩
  | .hbm, ⟨27, _⟩ => ⟨S1x8192x5632, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S1x8192x1440 : Shape := ⟨3, ![1, 8192, 1440]⟩
abbrev S1x256 : Shape := ⟨2, ![1, 256]⟩
abbrev S1x256x768 : Shape := ⟨3, ![1, 256, 768]⟩
abbrev S1x8192x8x96 : Shape := ⟨4, ![1, 8192, 8, 96]⟩
abbrev S8192x1440 : Shape := ⟨2, ![8192, 1440]⟩
abbrev S8192x1408 : Shape := ⟨2, ![8192, 1408]⟩
abbrev S_ : Shape := ⟨0, ![]⟩
abbrev S8192x64 : Shape := ⟨2, ![8192, 64]⟩
abbrev S8192x32 : Shape := ⟨2, ![8192, 32]⟩
abbrev S8192x1536 : Shape := ⟨2, ![8192, 1536]⟩
abbrev S8192x8x96 : Shape := ⟨3, ![8192, 8, 96]⟩
abbrev S8192x8x128 : Shape := ⟨3, ![8192, 8, 128]⟩
abbrev S8192x1024 : Shape := ⟨2, ![8192, 1024]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S8192x256 : Shape := ⟨2, ![8192, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 27
  | .vmem => 9
  | .smem => 0
  | _ => 0

abbrev bufTy : (tb : Table) → Fin (tcTables nBuf tb) → BufTy
  | .hbm, ⟨0, _⟩ => ⟨S1x8192x1440, .f32⟩
  | .hbm, ⟨1, _⟩ => ⟨S1x256, .f32⟩
  | .hbm, ⟨2, _⟩ => ⟨S1x256x768, .f32⟩
  | .hbm, ⟨3, _⟩ => ⟨S1x8192x8x96, .f32⟩
  | .hbm, ⟨4, _⟩ => ⟨S8192x1440, .f32⟩
  | .hbm, ⟨5, _⟩ => ⟨S8192x1408, .f32⟩
  | .hbm, ⟨6, _⟩ => ⟨S_, .f32⟩
  | .hbm, ⟨7, _⟩ => ⟨S8192x64, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x1536, .f32⟩
  | .hbm, ⟨12, _⟩ => ⟨S8192x8x96, .f32⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S256x768, .f32⟩
  | .hbm, ⟨19, _⟩ => ⟨S256x768, .bf16⟩
  | .hbm, ⟨20, _⟩ => ⟨S256x8x96, .bf16⟩
  | .hbm, ⟨21, _⟩ => ⟨S_, .i32⟩
  | .hbm, ⟨22, _⟩ => ⟨S_, .bf16⟩
  | .hbm, ⟨23, _⟩ => ⟨S256x8x128, .bf16⟩
  | .hbm, ⟨24, _⟩ => ⟨S256x1024, .bf16⟩
  | .hbm, ⟨25, _⟩ => ⟨S8192x256, .bf16⟩
  | .hbm, ⟨26, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S1x256, .f32⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | _, _ => ⟨S1x8192x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S1x8192x1440 : Shape := ⟨3, ![1, 8192, 1440]⟩
abbrev S1x256 : Shape := ⟨2, ![1, 256]⟩
abbrev S1x256x768 : Shape := ⟨3, ![1, 256, 768]⟩
abbrev S1x8192x8x96 : Shape := ⟨4, ![1, 8192, 8, 96]⟩
abbrev S1x8192x256 : Shape := ⟨3, ![1, 8192, 256]⟩
abbrev S256 : Shape := ⟨1, ![256]⟩
abbrev S_ : Shape := ⟨0, ![]⟩
abbrev S1x8192 : Shape := ⟨2, ![1, 8192]⟩
abbrev S1x8192x1 : Shape := ⟨3, ![1, 8192, 1]⟩
abbrev S1x1x256 : Shape := ⟨3, ![1, 1, 256]⟩
abbrev S256x768 : Shape := ⟨2, ![256, 768]⟩
abbrev S1x8192x768 : Shape := ⟨3, ![1, 8192, 768]⟩
abbrev S8192 : Shape := ⟨1, ![8192]⟩
abbrev S8192x256 : Shape := ⟨2, ![8192, 256]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x1440, .f32⟩
  | .hbm, ⟨1, _⟩ => ⟨S1x256, .f32⟩
  | .hbm, ⟨2, _⟩ => ⟨S1x256x768, .f32⟩
  | .hbm, ⟨3, _⟩ => ⟨S1x8192x8x96, .f32⟩
  | .hbm, ⟨4, _⟩ => ⟨S1x8192x256, .f32⟩
  | .hbm, ⟨5, _⟩ => ⟨S256, .f32⟩
  | .hbm, ⟨6, _⟩ => ⟨S1x8192x256, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x256, .f32⟩
  | .hbm, ⟨22, _⟩ => ⟨S1x8192x256, .f32⟩
  | .hbm, ⟨23, _⟩ => ⟨S1x1x256, .f32⟩
  | .hbm, ⟨24, _⟩ => ⟨S1x8192x256, .f32⟩
  | .hbm, ⟨25, _⟩ => ⟨S1x8192x256, .f32⟩
  | .hbm, ⟨26, _⟩ => ⟨S256x768, .f32⟩
  | .hbm, ⟨27, _⟩ => ⟨S1x8192x768, .f32⟩
  | .hbm, ⟨28, _⟩ => ⟨S1x8192x8x96, .f32⟩
  | .hbm, ⟨29, _⟩ => ⟨S1x8192x768, .f32⟩
  | .hbm, ⟨30, _⟩ => ⟨S1x8192x256, .f32⟩
  | .hbm, ⟨31, _⟩ => ⟨S1x8192x256, .f32⟩
  | .hbm, ⟨32, _⟩ => ⟨S_, .f32⟩
  | .hbm, ⟨33, _⟩ => ⟨S1x256, .f32⟩
  | .hbm, ⟨34, _⟩ => ⟨S1x1x256, .f32⟩
  | .hbm, ⟨35, _⟩ => ⟨S1x8192x256, .f32⟩
  | .hbm, ⟨36, _⟩ => ⟨S1x8192x256, .f32⟩
  | .hbm, ⟨37, _⟩ => ⟨S_, .f32⟩
  | .hbm, ⟨38, _⟩ => ⟨S256, .f32⟩
  | .hbm, ⟨39, _⟩ => ⟨S1x8192x256, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S1x8192x256, .f32⟩
  | .hbm, ⟨44, _⟩ => ⟨S1x8192x256, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S_, .f32⟩
  | .hbm, ⟨50, _⟩ => ⟨S8192, .f32⟩
  | .hbm, ⟨51, _⟩ => ⟨S1x8192, .f32⟩
  | .hbm, ⟨52, _⟩ => ⟨S1x8192x256, .f32⟩
  | .hbm, ⟨53, _⟩ => ⟨S1x8192x256, .f32⟩
  | .hbm, ⟨54, _⟩ => ⟨S1x8192x256, .f32⟩
  | .hbm, ⟨55, _⟩ => ⟨S1x8192x256, .f32⟩
  | .hbm, ⟨56, _⟩ => ⟨S1x8192x256, .f32⟩
  | .hbm, ⟨57, _⟩ => ⟨S1x256, .f32⟩
  | .hbm, ⟨58, _⟩ => ⟨S8192x256, .f32⟩
  | .hbm, ⟨59, _⟩ => ⟨S8192x256, .bf16⟩
  | _, _ => ⟨S1x8192x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x1024 : Shape := ⟨2, ![1, 1024]⟩
abbrev S1x1024x1440 : Shape := ⟨3, ![1, 1024, 1440]⟩
abbrev S1x8192x1440 : Shape := ⟨3, ![1, 8192, 1440]⟩
abbrev S1024x1440 : Shape := ⟨2, ![1024, 1440]⟩
abbrev S8192x1440 : Shape := ⟨2, ![8192, 1440]⟩
abbrev S1024x1408 : Shape := ⟨2, ![1024, 1408]⟩
abbrev S_ : Shape := ⟨0, ![]⟩
abbrev S1024x64 : Shape := ⟨2, ![1024, 64]⟩
abbrev S1024x32 : Shape := ⟨2, ![1024, 32]⟩
abbrev S1024x1536 : Shape := ⟨2, ![1024, 1536]⟩
abbrev S8192x64 : Shape := ⟨2, ![8192, 64]⟩
abbrev S8192x32 : Shape := ⟨2, ![8192, 32]⟩
abbrev S8192x128 : Shape := ⟨2, ![8192, 128]⟩
abbrev S8192x1024 : Shape := ⟨2, ![8192, 1024]⟩
abbrev S1024x1024 : Shape := ⟨2, ![1024, 1024]⟩
abbrev S8192x256 : Shape := ⟨2, ![8192, 256]⟩
abbrev S1024x256 : Shape := ⟨2, ![1024, 256]⟩
abbrev S1024x128 : Shape := ⟨2, ![1024, 128]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1440, .f32⟩
  | .hbm, ⟨3, _⟩ => ⟨S1x8192x1440, .f32⟩
  | .hbm, ⟨4, _⟩ => ⟨S1x8192x1024, .f32⟩
  | .hbm, ⟨5, _⟩ => ⟨S1024x1440, .f32⟩
  | .hbm, ⟨6, _⟩ => ⟨S1024x1440, .bf16⟩
  | .hbm, ⟨7, _⟩ => ⟨S8192x1440, .f32⟩
  | .hbm, ⟨8, _⟩ => ⟨S1024x1408, .bf16⟩
  | .hbm, ⟨9, _⟩ => ⟨S_, .bf16⟩
  | .hbm, ⟨10, _⟩ => ⟨S1024x64, .bf16⟩
  | .hbm, ⟨11, _⟩ => ⟨S1024x32, .bf16⟩
  | .hbm, ⟨12, _⟩ => ⟨S_, .bf16⟩
  | .hbm, ⟨13, _⟩ => ⟨S1024x32, .bf16⟩
  | .hbm, ⟨14, _⟩ => ⟨S1024x1536, .bf16⟩
  | .hbm, ⟨15, _⟩ => ⟨S_, .f32⟩
  | .hbm, ⟨16, _⟩ => ⟨S8192x64, .f32⟩
  | .hbm, ⟨17, _⟩ => ⟨S8192x32, .f32⟩
  | .hbm, ⟨18, _⟩ => ⟨S_, .f32⟩
  | .hbm, ⟨19, _⟩ => ⟨S8192x32, .f32⟩
  | .hbm, ⟨20, _⟩ => ⟨S8192x128, .f32⟩
  | .hbm, ⟨21, _⟩ => ⟨S8192x1024, .f32⟩
  | .hbm, ⟨22, _⟩ => ⟨S8192x1024, .bf16⟩
  | .hbm, ⟨23, _⟩ => ⟨S1024x1024, .bf16⟩
  | .hbm, ⟨24, _⟩ => ⟨S8192x256, .f32⟩
  | .hbm, ⟨25, _⟩ => ⟨S8192x256, .bf16⟩
  | .hbm, ⟨26, _⟩ => ⟨S1024x256, .bf16⟩
  | .hbm, ⟨27, _⟩ => ⟨S8192x128, .f32⟩
  | .hbm, ⟨28, _⟩ => ⟨S8192x128, .bf16⟩
  | .hbm, ⟨29, _⟩ => ⟨S1024x128, .bf16⟩
  | .hbm, ⟨30, _⟩ => ⟨S1024x128, .bf16⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S1024x1024, .bf16⟩
  | .local _ .vmem, ⟨9, _⟩ => ⟨S1024x256, .bf16⟩
  | .local _ .vmem, ⟨10, _⟩ => ⟨S1024x128, .bf16⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S1x8192x1024 : Shape := ⟨3, ![1, 8192, 1024]⟩
abbrev S1x1024 : Shape := ⟨2, ![1, 1024]⟩
abbrev S1x1024x1440 : Shape := ⟨3, ![1, 1024, 1440]⟩
abbrev S1x8192x1440 : Shape := ⟨3, ![1, 8192, 1440]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x1440 : Shape := ⟨2, ![1024, 1440]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1440, .f32⟩
  | .hbm, ⟨3, _⟩ => ⟨S1x8192x1440, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x1440, .f32⟩
  | .hbm, ⟨27, _⟩ => ⟨S1x8192x1440, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S1x8192x1024 : Shape := ⟨3, ![1, 8192, 1024]⟩
abbrev S1x256x2048 : Shape := ⟨3, ![1, 256, 2048]⟩
abbrev S1x256 : Shape := ⟨2, ![1, 256]⟩
abbrev S8192x1024 : Shape := ⟨2, ![8192, 1024]⟩
abbrev S256x2048 : Shape := ⟨2, ![256, 2048]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x256x2048, .f32⟩
  | .hbm, ⟨2, _⟩ => ⟨S1x256, .f32⟩
  | .hbm, ⟨3, _⟩ => ⟨S1x256, .f32⟩
  | .hbm, ⟨4, _⟩ => ⟨S1x8192x1024, .f32⟩
  | .hbm, ⟨5, _⟩ => ⟨S8192x1024, .f32⟩
  | .hbm, ⟨6, _⟩ => ⟨S256x2048, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S256x1024, .f32⟩
  | .hbm, ⟨11, _⟩ => ⟨S256x1024, .f32⟩
  | .hbm, ⟨12, _⟩ => ⟨S1x256, .f32⟩
  | .hbm, ⟨13, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .bf16⟩
  | .local _ .vmem, ⟨7, _⟩ => ⟨S512x256, .bf16⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v102 : BitVec 1 := Scalar.cmpi .eq arg1 c15_i32
  let v103 : BitVec 32 := Scalar.extui v102
  let c0_i32_49 : BitVec 32 := 0#32
  let v104 : BitVec 1 := Scalar.cmpi .ne v103 c0_i32_49
  v104

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S1x8192x1024 : Shape := ⟨3, ![1, 8192, 1024]⟩
abbrev S1x256x2048 : Shape := ⟨3, ![1, 256, 2048]⟩
abbrev S1x256 : Shape := ⟨2, ![1, 256]⟩
abbrev S1x8192x4x256 : Shape := ⟨4, ![1, 8192, 4, 256]⟩
abbrev S1x256x1024 : Shape := ⟨3, ![1, 256, 1024]⟩
abbrev S1x256x4x256 : Shape := ⟨4, ![1, 256, 4, 256]⟩
abbrev S256 : Shape := ⟨1, ![256]⟩
abbrev S_ : Shape := ⟨0, ![]⟩
abbrev S1x8192x4 : Shape := ⟨3, ![1, 8192, 4]⟩
abbrev S1x8192x4x1 : Shape := ⟨4, ![1, 8192, 4, 1]⟩
abbrev S1x1x1x256 : Shape := ⟨4, ![1, 1, 1, 256]⟩
abbrev S1x256x4 : Shape := ⟨3, ![1, 256, 4]⟩
abbrev S1x256x4x1 : Shape := ⟨4, ![1, 256, 4, 1]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S1x4x256x256 : Shape := ⟨4, ![1, 4, 256, 256]⟩
abbrev S4x8192 : Shape := ⟨2, ![4, 8192]⟩
abbrev S256x4 : Shape := ⟨2, ![256, 4]⟩
abbrev S8192x4 : Shape := ⟨2, ![8192, 4]⟩
abbrev S8192x1024 : Shape := ⟨2, ![8192, 1024]⟩
abbrev S256x1024 : Shape := ⟨2, ![256, 1024]⟩

abbrev nBuf : Space → Nat
  | .hbm => 188
  | .vmem => 0
  | .smem => 0
  | _ => 0

abbrev hbmTy0_0 (i : Nat) : BufTy := match i % 128 with
  | 0 => ⟨S1x8192x1024, .f32⟩
  | 1 => ⟨S1x256x2048, .f32⟩
  | 2 => ⟨S1x256, .f32⟩
  | 3 => ⟨S1x256, .f32⟩
  | 4 => ⟨S1x8192x1024, .f32⟩
  | 5 => ⟨S1x8192x4x256, .f32⟩
  | 6 => ⟨S1x256x1024, .f32⟩
  | 7 => ⟨S1x256x1024, .f32⟩
  | 8 => ⟨S1x256x4x256, .f32⟩
  | 9 => ⟨S1x256x4x256, .f32⟩
  | 10 => ⟨S256, .f32⟩
  | 11 => ⟨S1x8192x4x256, .f32⟩
  | 12 => ⟨S_, .f32⟩
  | 13 => ⟨S1x8192x4, .f32⟩
  | 14 => ⟨S1x8192x4x1, .f32⟩
  | 15 => ⟨S_, .f32⟩
  | 16 => ⟨S1x8192x4x1, .f32⟩
  | 17 => ⟨S1x8192x4x1, .f32⟩
  | 18 => ⟨S_, .f32⟩
  | 19 => ⟨S1x8192x4x1, .f32⟩
  | 20 => ⟨S1x8192x4x1, .f32⟩
  | 21 => ⟨S1x8192x4x1, .f32⟩
  | 22 => ⟨S1x8192x4x1, .f32⟩
  | 23 => ⟨S_, .f32⟩
  | 24 => ⟨S1x8192x4x1, .f32⟩
  | 25 => ⟨S1x8192x4x1, .f32⟩
  | 26 => ⟨S1x8192x4x256, .f32⟩
  | 27 => ⟨S1x8192x4x256, .f32⟩
  | 28 => ⟨S1x1x1x256, .f32⟩
  | 29 => ⟨S1x8192x4x256, .f32⟩
  | 30 => ⟨S1x8192x4x256, .f32⟩
  | 31 => ⟨S256, .f32⟩
  | 32 => ⟨S1x256x4x256, .f32⟩
  | 33 => ⟨S_, .f32⟩
  | 34 => ⟨S1x256x4, .f32⟩
  | 35 => ⟨S1x256x4x1, .f32⟩
  | 36 => ⟨S_, .f32⟩
  | 37 => ⟨S1x256x4x1, .f32⟩
  | 38 => ⟨S1x256x4x1, .f32⟩
  | 39 => ⟨S_, .f32⟩
  | 40 => ⟨S1x256x4x1, .f32⟩
  | 41 => ⟨S1x256x4x1, .f32⟩
  | 42 => ⟨S1x256x4x1, .f32⟩
  | 43 => ⟨S1x256x4x1, .f32⟩
  | 44 => ⟨S_, .f32⟩
  | 45 => ⟨S1x256x4x1, .f32⟩
  | 46 => ⟨S1x256x4x1, .f32⟩
  | 47 => ⟨S1x256x4x256, .f32⟩
  | 48 => ⟨S1x256x4x256, .f32⟩
  | 49 => ⟨S1x1x1x256, .f32⟩
  | 50 => ⟨S1x256x4x256, .f32⟩
  | 51 => ⟨S1x256x4x256, .f32⟩
  | 52 => ⟨S1x4x8192x256, .f32⟩
  | 53 => ⟨S_, .f32⟩
  | 54 => ⟨S1x4x8192x256, .f32⟩
  | 55 => ⟨S1x4x8192x256, .f32⟩
  | 56 => ⟨S_, .f32⟩
  | 57 => ⟨S1x4x8192, .f32⟩
  | 58 => ⟨S1x4x8192x1, .f32⟩
  | 59 => ⟨S1x4x8192x256, .f32⟩
  | 60 => ⟨S1x4x8192x256, .i1⟩
  | 61 => ⟨S1x4x8192x256, .f32⟩
  | 62 => ⟨S_, .f32⟩
  | 63 => ⟨S1x4x8192, .f32⟩
  | 64 => ⟨S_, .f32⟩
  | 65 => ⟨S1x4x8192, .f32⟩
  | 66 => ⟨S1x4x8192, .f32⟩
  | 67 => ⟨S_, .f32⟩
  | 68 => ⟨S1x4x8192, .f32⟩
  | 69 => ⟨S1x4x8192, .i1⟩
  | 70 => ⟨S_, .f32⟩
  | 71 => ⟨S1x4x8192, .f32⟩
  | 72 => ⟨S1x4x8192, .i1⟩
  | 73 => ⟨S_, .f32⟩
  | 74 => ⟨S1x4x8192, .f32⟩
  | 75 => ⟨S_, .f32⟩
  | 76 => ⟨S1x4x8192, .f32⟩
  | 77 => ⟨S_, .f32⟩
  | 78 => ⟨S1x4x8192, .f32⟩
  | 79 => ⟨S1x4x8192, .f32⟩
  | 80 => ⟨S1x4x8192, .f32⟩
  | 81 => ⟨S1x4x8192x1, .f32⟩
  | 82 => ⟨S1x4x8192x256, .f32⟩
  | 83 => ⟨S1x4x8192x256, .f32⟩
  | 84 => ⟨S1x4x8192x256, .f32⟩
  | 85 => ⟨S_, .f32⟩
  | 86 => ⟨S1x4x8192, .f32⟩
  | 87 => ⟨S1x4x8192x1, .f32⟩
  | 88 => ⟨S1x4x8192x256, .f32⟩
  | 89 => ⟨S1x4x8192x256, .f32⟩
  | 90 => ⟨S1x4x8192x1, .f32⟩
  | 91 => ⟨S_, .f32⟩
  | 92 => ⟨S1x4x8192x1, .f32⟩
  | 93 => ⟨S1x4x8192x1, .f32⟩
  | 94 => ⟨S1x4x256x8192, .f32⟩
  | 95 => ⟨S1x8192x4x256, .f32⟩
  | 96 => ⟨S1x8192x1024, .f32⟩
  | 97 => ⟨S1x8192x4x256, .f32⟩
  | 98 => ⟨S1x4x256x8192, .f32⟩
  | 99 => ⟨S1x4x8192x256, .f32⟩
  | 100 => ⟨S1x4x256x256, .f32⟩
  | 101 => ⟨S1x256x4x256, .f32⟩
  | 102 => ⟨S1x4x8192x256, .f32⟩
  | 103 => ⟨S1x4x8192x256, .f32⟩
  | 104 => ⟨S1x4x8192x256, .f32⟩
  | 105 => ⟨S_, .f32⟩
  | 106 => ⟨S1x4x8192, .f32⟩
  | 107 => ⟨S1x4x8192x1, .f32⟩
  | 108 => ⟨S1x4x8192x1, .f32⟩
  | 109 => ⟨S1x4x8192x256, .f32⟩
  | 110 => ⟨S1x4x8192x256, .f32⟩
  | 111 => ⟨S_, .f32⟩
  | 112 => ⟨S4x8192, .f32⟩
  | 113 => ⟨S1x4x8192, .f32⟩
  | 114 => ⟨S1x4x8192x256, .f32⟩
  | 115 => ⟨S1x4x8192x256, .f32⟩
  | 116 => ⟨S1x4x8192x256, .f32⟩
  | 117 => ⟨S_, .f32⟩
  | 118 => ⟨S1x4x8192x256, .f32⟩
  | 119 => ⟨S1x4x8192x256, .f32⟩
  | 120 => ⟨S1x4x256x256, .f32⟩
  | 121 => ⟨S1x256x4x256, .f32⟩
  | 122 => ⟨S1x4x8192x256, .f32⟩
  | 123 => ⟨S1x8192x4x256, .f32⟩
  | 124 => ⟨S1x256x4x256, .f32⟩
  | 125 => ⟨S_, .f32⟩
  | 126 => ⟨S1x256, .f32⟩
  | 127 => ⟨S1x1x1x256, .f32⟩
  | _ => ⟨S1x8192x1024, .f32⟩

abbrev hbmTy0_1 (i : Nat) : BufTy := match i % 128 with
  | 0 => ⟨S1x256x4x256, .f32⟩
  | 1 => ⟨S1x256x4x256, .f32⟩
  | 2 => ⟨S_, .f32⟩
  | 3 => ⟨S256, .f32⟩
  | 4 => ⟨S1x256x4x256, .f32⟩
  | 5 => ⟨S_, .f32⟩
  | 6 => ⟨S1x256x4, .f32⟩
  | 7 => ⟨S1x256x4x1, .f32⟩
  | 8 => ⟨S1x256x4x256, .f32⟩
  | 9 => ⟨S1x256x4x256, .f32⟩
  | 10 => ⟨S1x256x4x1, .f32⟩
  | 11 => ⟨S_, .f32⟩
  | 12 => ⟨S1x256x4x1, .f32⟩
  | 13 => ⟨S1x256x4x1, .f32⟩
  | 14 => ⟨S_, .f32⟩
  | 15 => ⟨S256x4, .f32⟩
  | 16 => ⟨S1x256x4, .f32⟩
  | 17 => ⟨S1x256x4x256, .f32⟩
  | 18 => ⟨S1x256x4x256, .f32⟩
  | 19 => ⟨S1x256x4x256, .f32⟩
  | 20 => ⟨S1x256x4x256, .f32⟩
  | 21 => ⟨S1x256x4x256, .f32⟩
  | 22 => ⟨S1x256, .f32⟩
  | 23 => ⟨S1x8192x4x256, .f32⟩
  | 24 => ⟨S_, .f32⟩
  | 25 => ⟨S1x256, .f32⟩
  | 26 => ⟨S1x1x1x256, .f32⟩
  | 27 => ⟨S1x8192x4x256, .f32⟩
  | 28 => ⟨S1x8192x4x256, .f32⟩
  | 29 => ⟨S_, .f32⟩
  | 30 => ⟨S256, .f32⟩
  | 31 => ⟨S1x8192x4x256, .f32⟩
  | 32 => ⟨S_, .f32⟩
  | 33 => ⟨S1x8192x4, .f32⟩
  | 34 => ⟨S1x8192x4x1, .f32⟩
  | 35 => ⟨S1x8192x4x256, .f32⟩
  | 36 => ⟨S1x8192x4x256, .f32⟩
  | 37 => ⟨S1x8192x4x1, .f32⟩
  | 38 => ⟨S_, .f32⟩
  | 39 => ⟨S1x8192x4x1, .f32⟩
  | 40 => ⟨S1x8192x4x1, .f32⟩
  | 41 => ⟨S_, .f32⟩
  | 42 => ⟨S8192x4, .f32⟩
  | 43 => ⟨S1x8192x4, .f32⟩
  | 44 => ⟨S1x8192x4x256, .f32⟩
  | 45 => ⟨S1x8192x4x256, .f32⟩
  | 46 => ⟨S1x8192x4x256, .f32⟩
  | 47 => ⟨S1x8192x4x256, .f32⟩
  | 48 => ⟨S1x8192x4x256, .f32⟩
  | 49 => ⟨S1x256, .f32⟩
  | 50 => ⟨S1x256x1024, .f32⟩
  | 51 => ⟨S1x256x1024, .f32⟩
  | 52 => ⟨S1x256x2048, .f32⟩
  | 53 => ⟨S1x8192x1024, .f32⟩
  | 54 => ⟨S8192x1024, .f32⟩
  | 55 => ⟨S8192x1024, .bf16⟩
  | 56 => ⟨S1x256x1024, .f32⟩
  | 57 => ⟨S256x1024, .f32⟩
  | 58 => ⟨S1x256x1024, .f32⟩
  | 59 => ⟨S256x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_20 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_v103 : Ref sig .tc := ⟨.hbm, 132, rfl⟩
abbrev main_cst_23 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_24 : Ref sig .tc := ⟨.hbm, 139, rfl⟩
abbrev main_v109 : Ref sig .tc := ⟨.hbm, 140, rfl⟩
abbrev main_v110 : Ref sig .tc := ⟨.hbm, 141, rfl⟩
abbrev main_cst_25 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_26 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_27 : Ref sig .tc := ⟨.hbm, 157, rfl⟩
abbrev main_v124 : Ref sig .tc := ⟨.hbm, 158, rfl⟩
abbrev main_v125 : Ref sig .tc := ⟨.hbm, 159, rfl⟩
abbrev main_cst_28 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_29 : Ref sig .tc := ⟨.hbm, 166, rfl⟩
abbrev main_v131 : Ref sig .tc := ⟨.hbm, 167, rfl⟩
abbrev main_v132 : Ref sig .tc := ⟨.hbm, 168, rfl⟩
abbrev main_cst_30 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩

abbrev nD : Nat := 1
abbrev τ : Topo := Topo.v7x

variable {F : FTy → Type} [FloatOps F]
-- ==== Kernel7.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S8192x2816 : Shape := ⟨2, ![8192, 2816]⟩
abbrev S2816x1024 : Shape := ⟨2, ![2816, 1024]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x8192x2816, .f32⟩
  | .hbm, ⟨1, _⟩ => ⟨S1x2816x1024, .f32⟩
  | .hbm, ⟨2, _⟩ => ⟨S1x8192x1024, .f32⟩
  | .hbm, ⟨3, _⟩ => ⟨S1x8192x1024, .f32⟩
  | .hbm, ⟨4, _⟩ => ⟨S8192x2816, .f32⟩
  | .hbm, ⟨5, _⟩ => ⟨S8192x2816, .bf16⟩
  | .hbm, ⟨6, _⟩ => ⟨S2816x1024, .f32⟩
  | .hbm, ⟨7, _⟩ => ⟨S2816x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S1x8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S1x8192x2816 : Shape := ⟨3, ![1, 8192, 2816]⟩
abbrev S1x2816x1024 : Shape := ⟨3, ![1, 2816, 1024]⟩
abbrev S1x8192x1024 : Shape := ⟨3, ![1, 8192, 1024]⟩
abbrev S2816x1024 : Shape := ⟨2, ![2816, 1024]⟩
abbrev S_ : Shape := ⟨0, ![]⟩
abbrev S1x8192 : Shape := ⟨2, ![1, 8192]⟩
abbrev S8192x1024 : Shape := ⟨2, ![8192, 1024]⟩
abbrev S8x128 : Shape := ⟨2, ![8, 128]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x2816, .f32⟩
  | .hbm, ⟨1, _⟩ => ⟨S1x2816x1024, .f32⟩
  | .hbm, ⟨2, _⟩ => ⟨S1x8192x1024, .f32⟩
  | .hbm, ⟨3, _⟩ => ⟨S1x8192x1024, .f32⟩
  | .hbm, ⟨4, _⟩ => ⟨S2816x1024, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x8192x1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S_, .f32⟩
  | .hbm, ⟨15, _⟩ => ⟨S1x8192, .f32⟩
  | .hbm, ⟨16, _⟩ => ⟨S1x8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x8192, .f32⟩
  | .hbm, ⟨25, _⟩ => ⟨S_, .f32⟩
  | .hbm, ⟨26, _⟩ => ⟨S1x8192, .f32⟩
  | .hbm, ⟨27, _⟩ => ⟨S1x8192, .f32⟩
  | .hbm, ⟨28, _⟩ => ⟨S1x8192x1024, .f32⟩
  | .hbm, ⟨29, _⟩ => ⟨S1x8192x1024, .f32⟩
  | .hbm, ⟨30, _⟩ => ⟨S8192x1024, .f32⟩
  | .hbm, ⟨31, _⟩ => ⟨S8192x1024, .bf16⟩
  | .hbm, ⟨32, _⟩ => ⟨S_, .f32⟩
  | .hbm, ⟨33, _⟩ => ⟨S_, .f32⟩
  | .hbm, ⟨34, _⟩ => ⟨S8x128, .f32⟩
  | _, _ => ⟨S1x8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel8.lean ====
abbrev S1x8192x1024 : Shape := ⟨3, ![1, 8192, 1024]⟩
abbrev S1x1024 : Shape := ⟨2, ![1, 1024]⟩
abbrev S1x1024x1024 : Shape := ⟨3, ![1, 1024, 1024]⟩
abbrev S8192x1024 : Shape := ⟨2, ![8192, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1024, .f32⟩
  | .hbm, ⟨3, _⟩ => ⟨S1x8192x1024, .f32⟩
  | .hbm, ⟨4, _⟩ => ⟨S1x8192x1024, .f32⟩
  | .hbm, ⟨5, _⟩ => ⟨S8192x1024, .f32⟩
  | .hbm, ⟨6, _⟩ => ⟨S8192x1024, .bf16⟩
  | .hbm, ⟨7, _⟩ => ⟨S1024x1024, .f32⟩
  | .hbm, ⟨8, _⟩ => ⟨S1024x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S1x8192x1024 : Shape := ⟨3, ![1, 8192, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x1024 : Shape := ⟨2, ![1024, 1024]⟩
abbrev S8192 : Shape := ⟨1, ![8192]⟩
abbrev S8192x1024 : Shape := ⟨2, ![8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1024, .f32⟩
  | .hbm, ⟨3, _⟩ => ⟨S1x8192x1024, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel9.lean ====
abbrev S1x256x1024 : Shape := ⟨3, ![1, 256, 1024]⟩
abbrev S1x1024 : Shape := ⟨2, ![1, 1024]⟩
abbrev S1x1024x2048 : Shape := ⟨3, ![1, 1024, 2048]⟩
abbrev S1x256x2048 : Shape := ⟨3, ![1, 256, 2048]⟩
abbrev S256x2048 : Shape := ⟨2, ![256, 2048]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S1x256x2048, .f32⟩
  | .hbm, ⟨4, _⟩ => ⟨S256x2048, .f32⟩
  | .hbm, ⟨5, _⟩ => ⟨S1024x2048, .f32⟩
  | .hbm, ⟨6, _⟩ => ⟨S1024x2048, .bf16⟩
  | .hbm, ⟨7, _⟩ => ⟨S256x1024, .f32⟩
  | .hbm, ⟨8, _⟩ => ⟨S256x1024, .bf16⟩
  | .hbm, ⟨9, _⟩ => ⟨S1x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S1x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S1x256x1024 : Shape := ⟨3, ![1, 256, 1024]⟩
abbrev S1x1024 : Shape := ⟨2, ![1, 1024]⟩
abbrev S1x1024x2048 : Shape := ⟨3, ![1, 1024, 2048]⟩
abbrev S1x256x2048 : Shape := ⟨3, ![1, 256, 2048]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x2048 : Shape := ⟨2, ![1024, 2048]⟩
abbrev S256 : Shape := ⟨1, ![256]⟩
abbrev S256x1024 : Shape := ⟨2, ![256, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S1x256x2048, .f32⟩
  | .hbm, ⟨4, _⟩ => ⟨S1024, .f32⟩
  | .hbm, ⟨5, _⟩ => ⟨S1x256x1024, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x1, .f32⟩
  | .hbm, ⟨17, _⟩ => ⟨S_, .f32⟩
  | .hbm, ⟨18, _⟩ => ⟨S1x256x1, .f32⟩
  | .hbm, ⟨19, _⟩ => ⟨S1x256x1, .f32⟩
  | .hbm, ⟨20, _⟩ => ⟨S1x256x1024, .f32⟩
  | .hbm, ⟨21, _⟩ => ⟨S1x256x1024, .f32⟩
  | .hbm, ⟨22, _⟩ => ⟨S1x1x1024, .f32⟩
  | .hbm, ⟨23, _⟩ => ⟨S1x256x1024, .f32⟩
  | .hbm, ⟨24, _⟩ => ⟨S1x256x1024, .f32⟩
  | .hbm, ⟨25, _⟩ => ⟨S1024x2048, .f32⟩
  | .hbm, ⟨26, _⟩ => ⟨S1x256x2048, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x1024, .f32⟩
  | .hbm, ⟨31, _⟩ => ⟨S1x1x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1024, .f32⟩
  | .hbm, ⟨36, _⟩ => ⟨S1x256x1024, .f32⟩
  | .hbm, ⟨37, _⟩ => ⟨S_, .f32⟩
  | .hbm, ⟨38, _⟩ => ⟨S1x256, .f32⟩
  | .hbm, ⟨39, _⟩ => ⟨S1x256x1, .f32⟩
  | .hbm, ⟨40, _⟩ => ⟨S1x256x1024, .f32⟩
  | .hbm, ⟨41, _⟩ => ⟨S1x256x1024, .f32⟩
  | .hbm, ⟨42, _⟩ => ⟨S1x256x1, .f32⟩
  | .hbm, ⟨43, _⟩ => ⟨S_, .f32⟩
  | .hbm, ⟨44, _⟩ => ⟨S1x256x1, .f32⟩
  | .hbm, ⟨45, _⟩ => ⟨S1x256x1, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S1x256x1024, .f32⟩
  | .hbm, ⟨50, _⟩ => ⟨S1x256x1024, .f32⟩
  | .hbm, ⟨51, _⟩ => ⟨S1x256x1024, .f32⟩
  | .hbm, ⟨52, _⟩ => ⟨S1x256x1024, .f32⟩
  | .hbm, ⟨53, _⟩ => ⟨S1x256x1024, .f32⟩
  | .hbm, ⟨54, _⟩ => ⟨S1x1024, .f32⟩
  | .hbm, ⟨55, _⟩ => ⟨S256x1024, .f32⟩
  | .hbm, ⟨56, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel10.lean ====
abbrev S1x8192x1440 : Shape := ⟨3, ![1, 8192, 1440]⟩
abbrev S1x128 : Shape := ⟨2, ![1, 128]⟩
abbrev S1x128x1024 : Shape := ⟨3, ![1, 128, 1024]⟩
abbrev S1x8192x1024 : Shape := ⟨3, ![1, 8192, 1024]⟩
abbrev S8192x1440 : Shape := ⟨2, ![8192, 1440]⟩
abbrev S8192x1408 : Shape := ⟨2, ![8192, 1408]⟩
abbrev S_ : Shape := ⟨0, ![]⟩
abbrev S8192x64 : Shape := ⟨2, ![8192, 64]⟩
abbrev S8192x32 : Shape := ⟨2, ![8192, 32]⟩
abbrev S8192x1536 : Shape := ⟨2, ![8192, 1536]⟩
abbrev S8192x1024 : Shape := ⟨2, ![8192, 1024]⟩
abbrev S128x1024 : Shape := ⟨2, ![128, 1024]⟩
abbrev S8192x128 : Shape := ⟨2, ![8192, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 18
  | .vmem => 9
  | .smem => 0
  | _ => 0

abbrev bufTy : (tb : Table) → Fin (tcTables nBuf tb) → BufTy
  | .hbm, ⟨0, _⟩ => ⟨S1x8192x1440, .f32⟩
  | .hbm, ⟨1, _⟩ => ⟨S1x128, .f32⟩
  | .hbm, ⟨2, _⟩ => ⟨S1x128x1024, .f32⟩
  | .hbm, ⟨3, _⟩ => ⟨S1x8192x1024, .f32⟩
  | .hbm, ⟨4, _⟩ => ⟨S8192x1440, .f32⟩
  | .hbm, ⟨5, _⟩ => ⟨S8192x1408, .f32⟩
  | .hbm, ⟨6, _⟩ => ⟨S_, .f32⟩
  | .hbm, ⟨7, _⟩ => ⟨S8192x64, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x1536, .f32⟩
  | .hbm, ⟨12, _⟩ => ⟨S8192x1024, .f32⟩
  | .hbm, ⟨13, _⟩ => ⟨S8192x1024, .bf16⟩
  | .hbm, ⟨14, _⟩ => ⟨S128x1024, .f32⟩
  | .hbm, ⟨15, _⟩ => ⟨S128x1024, .bf16⟩
  | .hbm, ⟨16, _⟩ => ⟨S8192x128, .bf16⟩
  | .hbm, ⟨17, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S512x128, .f32⟩
  | .local _ .vmem, ⟨4, _⟩ => ⟨S512x128, .f32⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | _, _ => ⟨S1x8192x1440, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S1x8192x1440 : Shape := ⟨3, ![1, 8192, 1440]⟩
abbrev S1x128 : Shape := ⟨2, ![1, 128]⟩
abbrev S1x128x1024 : Shape := ⟨3, ![1, 128, 1024]⟩
abbrev S1x8192x1024 : Shape := ⟨3, ![1, 8192, 1024]⟩
abbrev S1x8192x128 : Shape := ⟨3, ![1, 8192, 128]⟩
abbrev S128 : Shape := ⟨1, ![128]⟩
abbrev S_ : Shape := ⟨0, ![]⟩
abbrev S1x8192 : Shape := ⟨2, ![1, 8192]⟩
abbrev S1x8192x1 : Shape := ⟨3, ![1, 8192, 1]⟩
abbrev S1x1x128 : Shape := ⟨3, ![1, 1, 128]⟩
abbrev S128x1024 : Shape := ⟨2, ![128, 1024]⟩
abbrev S8192 : Shape := ⟨1, ![8192]⟩
abbrev S8192x128 : Shape := ⟨2, ![8192, 128]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1440, .f32⟩
  | .hbm, ⟨1, _⟩ => ⟨S1x128, .f32⟩
  | .hbm, ⟨2, _⟩ => ⟨S1x128x1024, .f32⟩
  | .hbm, ⟨3, _⟩ => ⟨S1x8192x1024, .f32⟩
  | .hbm, ⟨4, _⟩ => ⟨S1x8192x128, .f32⟩
  | .hbm, ⟨5, _⟩ => ⟨S128, .f32⟩
  | .hbm, ⟨6, _⟩ => ⟨S1x8192x128, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x128, .f32⟩
  | .hbm, ⟨22, _⟩ => ⟨S1x8192x128, .f32⟩
  | .hbm, ⟨23, _⟩ => ⟨S1x1x128, .f32⟩
  | .hbm, ⟨24, _⟩ => ⟨S1x8192x128, .f32⟩
  | .hbm, ⟨25, _⟩ => ⟨S1x8192x128, .f32⟩
  | .hbm, ⟨26, _⟩ => ⟨S128x1024, .f32⟩
  | .hbm, ⟨27, _⟩ => ⟨S1x8192x1024, .f32⟩
  | .hbm, ⟨28, _⟩ => ⟨S1x8192x128, .f32⟩
  | .hbm, ⟨29, _⟩ => ⟨S1x8192x128, .f32⟩
  | .hbm, ⟨30, _⟩ => ⟨S_, .f32⟩
  | .hbm, ⟨31, _⟩ => ⟨S1x128, .f32⟩
  | .hbm, ⟨32, _⟩ => ⟨S1x1x128, .f32⟩
  | .hbm, ⟨33, _⟩ => ⟨S1x8192x128, .f32⟩
  | .hbm, ⟨34, _⟩ => ⟨S1x8192x128, .f32⟩
  | .hbm, ⟨35, _⟩ => ⟨S_, .f32⟩
  | .hbm, ⟨36, _⟩ => ⟨S128, .f32⟩
  | .hbm, ⟨37, _⟩ => ⟨S1x8192x128, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x128, .f32⟩
  | .hbm, ⟨42, _⟩ => ⟨S1x8192x128, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S1x8192x128, .f32⟩
  | .hbm, ⟨51, _⟩ => ⟨S1x8192x128, .f32⟩
  | .hbm, ⟨52, _⟩ => ⟨S1x8192x128, .f32⟩
  | .hbm, ⟨53, _⟩ => ⟨S1x8192x128, .f32⟩
  | .hbm, ⟨54, _⟩ => ⟨S1x8192x128, .f32⟩
  | .hbm, ⟨55, _⟩ => ⟨S1x128, .f32⟩
  | .hbm, ⟨56, _⟩ => ⟨S8192x128, .f32⟩
  | .hbm, ⟨57, _⟩ => ⟨S8192x128, .bf16⟩
  | _, _ => ⟨S1x8192x1440, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel13.lean ====
abbrev S1x8192x8x96 : Shape := ⟨4, ![1, 8192, 8, 96]⟩
abbrev S1x8192x8x64 : Shape := ⟨4, ![1, 8192, 8, 64]⟩
abbrev S136 : Shape := ⟨1, ![136]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8192x8x64 : Shape := ⟨3, ![8192, 8, 64]⟩
abbrev S512x128 : Shape := ⟨2, ![512, 128]⟩
abbrev S1 : Shape := ⟨1, ![1]⟩
abbrev S512x512 : Shape := ⟨2, ![512, 512]⟩
abbrev S512x1 : Shape := ⟨2, ![512, 1]⟩
abbrev S512 : Shape := ⟨1, ![512]⟩

abbrev nBuf : Space → Nat
  | .hbm => 27
  | .vmem => 15
  | .smem => 2
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S8192x8x96, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S_, .i32⟩
  | .hbm, ⟨8, _⟩ => ⟨S_, .f32⟩
  | .hbm, ⟨9, _⟩ => ⟨S8192x8x128, .f32⟩
  | .hbm, ⟨10, _⟩ => ⟨S8192x1024, .f32⟩
  | .hbm, ⟨11, _⟩ => ⟨S8192x1024, .bf16⟩
  | .hbm, ⟨12, _⟩ => ⟨S8192x8x96, .f32⟩
  | .hbm, ⟨13, _⟩ => ⟨S_, .i32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S8192x8x64, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .smem, ⟨0, _⟩ => ⟨S136, .i32⟩
  | .local _ .smem, ⟨1, _⟩ => ⟨S136, .i32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S1x8192x8x96 : Shape := ⟨4, ![1, 8192, 8, 96]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8192x8x64 : Shape := ⟨3, ![8192, 8, 64]⟩
abbrev S8192x8x128 : Shape := ⟨3, ![8192, 8, 128]⟩
abbrev S8192x1024 : Shape := ⟨2, ![8192, 1024]⟩
abbrev S8x8192x1 : Shape := ⟨3, ![8, 8192, 1]⟩
abbrev S8192x8x1 : Shape := ⟨3, ![8192, 8, 1]⟩

abbrev nBuf : Space → Nat
  | .hbm => 108
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8x8192x8192, .f32⟩
  | .hbm, ⟨4, _⟩ => ⟨S_, .f32⟩
  | .hbm, ⟨5, _⟩ => ⟨S1x8x8192x8192, .f32⟩
  | .hbm, ⟨6, _⟩ => ⟨S1x8x8192x8192, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S1x1x8192x8192, .i1⟩
  | .hbm, ⟨32, _⟩ => ⟨S_, .f32⟩
  | .hbm, ⟨33, _⟩ => ⟨S_, .f32⟩
  | .hbm, ⟨34, _⟩ => ⟨S1x8x8192x8192, .i1⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S1x8x8192, .f32⟩
  | .hbm, ⟨39, _⟩ => ⟨S_, .f32⟩
  | .hbm, ⟨40, _⟩ => ⟨S1x8x8192, .f32⟩
  | .hbm, ⟨41, _⟩ => ⟨S1x8x8192, .f32⟩
  | .hbm, ⟨42, _⟩ => ⟨S1x8x8192x1, .f32⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S_, .f32⟩
  | .hbm, ⟨47, _⟩ => ⟨S1x8x8192, .f32⟩
  | .hbm, ⟨48, _⟩ => ⟨S1x8x8192x1, .f32⟩
  | .hbm, ⟨49, _⟩ => ⟨S1x8x8192x8192, .f32⟩
  | .hbm, ⟨50, _⟩ => ⟨S1x8x8192x8192, .f32⟩
  | .hbm, ⟨51, _⟩ => ⟨S1x8x64x8192, .f32⟩
  | .hbm, ⟨52, _⟩ => ⟨S1x8192x8x64, .f32⟩
  | .hbm, ⟨53, _⟩ => ⟨S8192x8x64, .f32⟩
  | .hbm, ⟨54, _⟩ => ⟨S_, .i32⟩
  | .hbm, ⟨55, _⟩ => ⟨S_, .f32⟩
  | .hbm, ⟨56, _⟩ => ⟨S8192x8x128, .f32⟩
  | .hbm, ⟨57, _⟩ => ⟨S8192x1024, .f32⟩
  | .hbm, ⟨58, _⟩ => ⟨S1x8x8192x8192, .f32⟩
  | .hbm, ⟨59, _⟩ => ⟨S_, .f32⟩
  | .hbm, ⟨60, _⟩ => ⟨S1x8x8192x8192, .f32⟩
  | .hbm, ⟨61, _⟩ => ⟨S1x8x8192x8192, .f32⟩
  | .hbm, ⟨62, _⟩ => ⟨S8192, .i32⟩
  | .hbm, ⟨63, _⟩ => ⟨S_, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S8192, .i32⟩
  | .hbm, ⟨72, _⟩ => ⟨S8192, .i32⟩
  | .hbm, ⟨73, _⟩ => ⟨S_, .i32⟩
  | .hbm, ⟨74, _⟩ => ⟨S8192, .i32⟩
  | .hbm, ⟨75, _⟩ => ⟨S8192, .i1⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S1x8192, .i32⟩
  | .hbm, ⟨82, _⟩ => ⟨S8192x1, .i32⟩
  | .hbm, ⟨83, _⟩ => ⟨S8192x8192, .i32⟩
  | .hbm, ⟨84, _⟩ => ⟨S8192x8192, .i32⟩
  | .hbm, ⟨85, _⟩ => ⟨S8192x8192, .i1⟩
  | .hbm, ⟨86, _⟩ => ⟨S1x1x8192x8192, .i1⟩
  | .hbm, ⟨87, _⟩ => ⟨S_, .f32⟩
  | .hbm, ⟨88, _⟩ => ⟨S_, .f32⟩
  | .hbm, ⟨89, _⟩ => ⟨S1x8x8192x8192, .i1⟩
  | .hbm, ⟨90, _⟩ => ⟨S1x8x8192x8192, .f32⟩
  | .hbm, ⟨91, _⟩ => ⟨S1x8x8192x8192, .f32⟩
  | .hbm, ⟨92, _⟩ => ⟨S_, .f32⟩
  | .hbm, ⟨93, _⟩ => ⟨S1x8x8192, .f32⟩
  | .hbm, ⟨94, _⟩ => ⟨S1x8x8192x1, .f32⟩
  | .hbm, ⟨95, _⟩ => ⟨S1x8x8192x8192, .f32⟩
  | .hbm, ⟨96, _⟩ => ⟨S1x8x8192x8192, .f32⟩
  | .hbm, ⟨97, _⟩ => ⟨S1x8x8192x8192, .f32⟩
  | .hbm, ⟨98, _⟩ => ⟨S_, .f32⟩
  | .hbm, ⟨99, _⟩ => ⟨S1x8x8192, .f32⟩
  | .hbm, ⟨100, _⟩ => ⟨S1x8x8192x1, .f32⟩
  | .hbm, ⟨101, _⟩ => ⟨S1x8x8192x1, .f32⟩
  | .hbm, ⟨102, _⟩ => ⟨S1x8x8192x1, .f32⟩
  | .hbm, ⟨103, _⟩ => ⟨S8x8192x1, .f32⟩
  | .hbm, ⟨104, _⟩ => ⟨S8192x8x1, .f32⟩
  | .hbm, ⟨105, _⟩ => ⟨S8192x8x128, .f32⟩
  | .hbm, ⟨106, _⟩ => ⟨S8192x1024, .f32⟩
  | .hbm, ⟨107, _⟩ => ⟨S8192x1024, .bf16⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_4 : Ref sig .tc := ⟨.hbm, 54, rfl⟩
abbrev main_call2_v0 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v39 : Ref sig .tc := ⟨.hbm, 91, rfl⟩
abbrev main_cst_8 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_9 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩

abbrev nD : Nat := 1
abbrev τ : Topo := Topo.v7x

variable {F : FTy → Type} [FloatOps F]
-- ==== Kernel14.lean ====
abbrev S1x8192x8x96 : Shape := ⟨4, ![1, 8192, 8, 96]⟩
abbrev S1x8192x8x64 : Shape := ⟨4, ![1, 8192, 8, 64]⟩
abbrev S136 : Shape := ⟨1, ![136]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8192x8x64 : Shape := ⟨3, ![8192, 8, 64]⟩
abbrev S1x8x8192x8192 : Shape := ⟨4, ![1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192x1 : Shape := ⟨3, ![8, 8192, 1]⟩
abbrev S8192x8x1 : Shape := ⟨3, ![8192, 8, 1]⟩
abbrev S1x8192x8 : Shape := ⟨3, ![1, 8192, 8]⟩
abbrev S1x8192x8x1 : Shape := ⟨4, ![1, 8192, 8, 1]⟩
abbrev S512x128 : Shape := ⟨2, ![512, 128]⟩
abbrev S1 : Shape := ⟨1, ![1]⟩
abbrev S8192x128 : Shape := ⟨2, ![8192, 128]⟩
abbrev S512x512 : Shape := ⟨2, ![512, 512]⟩
abbrev S512x1 : Shape := ⟨2, ![512, 1]⟩

abbrev nBuf : Space → Nat
  | .hbm => 94
  | .vmem => 18
  | .smem => 2
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S8192x8x96, .f32⟩
  | .hbm, ⟨5, _⟩ => ⟨S_, .f32⟩
  | .hbm, ⟨6, _⟩ => ⟨S8192x8x96, .f32⟩
  | .hbm, ⟨7, _⟩ => ⟨S8192x8x96, .f32⟩
  | .hbm, ⟨8, _⟩ => ⟨S_, .i32⟩
  | .hbm, ⟨9, _⟩ => ⟨S_, .f32⟩
  | .hbm, ⟨10, _⟩ => ⟨S8192x8x128, .f32⟩
  | .hbm, ⟨11, _⟩ => ⟨S8192x1024, .f32⟩
  | .hbm, ⟨12, _⟩ => ⟨S8192x1024, .bf16⟩
  | .hbm, ⟨13, _⟩ => ⟨S8192x8x96, .f32⟩
  | .hbm, ⟨14, _⟩ => ⟨S_, .i32⟩
  | .hbm, ⟨15, _⟩ => ⟨S_, .f32⟩
  | .hbm, ⟨16, _⟩ => ⟨S8192x8x128, .f32⟩
  | .hbm, ⟨17, _⟩ => ⟨S8192x1024, .f32⟩
  | .hbm, ⟨18, _⟩ => ⟨S8192x1024, .bf16⟩
  | .hbm, ⟨19, _⟩ => ⟨S8192x8x64, .f32⟩
  | .hbm, ⟨20, _⟩ => ⟨S_, .i32⟩
  | .hbm, ⟨21, _⟩ => ⟨S_, .f32⟩
  | .hbm, ⟨22, _⟩ => ⟨S8192x8x128, .f32⟩
  | .hbm, ⟨23, _⟩ => ⟨S8192x1024, .f32⟩
  | .hbm, ⟨24, _⟩ => ⟨S8192x1024, .bf16⟩
  | .hbm, ⟨25, _⟩ => ⟨S8192x8x64, .f32⟩
  | .hbm, ⟨26, _⟩ => ⟨S_, .i32⟩
  | .hbm, ⟨27, _⟩ => ⟨S_, .f32⟩
  | .hbm, ⟨28, _⟩ => ⟨S8192x8x128, .f32⟩
  | .hbm, ⟨29, _⟩ => ⟨S8192x1024, .f32⟩
  | .hbm, ⟨30, _⟩ => ⟨S1x8x8192x8192, .f32⟩
  | .hbm, ⟨31, _⟩ => ⟨S_, .f32⟩
  | .hbm, ⟨32, _⟩ => ⟨S1x8x8192x8192, .f32⟩
  | .hbm, ⟨33, _⟩ => ⟨S1x8x8192x8192, .f32⟩
  | .hbm, ⟨34, _⟩ => ⟨S8192, .i32⟩
  | .hbm, ⟨35, _⟩ => ⟨S_, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S1x8192, .i32⟩
  | .hbm, ⟨54, _⟩ => ⟨S8192x1, .i32⟩
  | .hbm, ⟨55, _⟩ => ⟨S8192x8192, .i32⟩
  | .hbm, ⟨56, _⟩ => ⟨S8192x8192, .i32⟩
  | .hbm, ⟨57, _⟩ => ⟨S8192x8192, .i1⟩
  | .hbm, ⟨58, _⟩ => ⟨S1x1x8192x8192, .i1⟩
  | .hbm, ⟨59, _⟩ => ⟨S_, .f32⟩
  | .hbm, ⟨60, _⟩ => ⟨S_, .f32⟩
  | .hbm, ⟨61, _⟩ => ⟨S1x8x8192x8192, .i1⟩
  | .hbm, ⟨62, _⟩ => ⟨S1x8x8192x8192, .f32⟩
  | .hbm, ⟨63, _⟩ => ⟨S1x8x8192x8192, .f32⟩
  | .hbm, ⟨64, _⟩ => ⟨S_, .f32⟩
  | .hbm, ⟨65, _⟩ => ⟨S1x8x8192, .f32⟩
  | .hbm, ⟨66, _⟩ => ⟨S1x8x8192x1, .f32⟩
  | .hbm, ⟨67, _⟩ => ⟨S1x8x8192x8192, .f32⟩
  | .hbm, ⟨68, _⟩ => ⟨S1x8x8192x8192, .f32⟩
  | .hbm, ⟨69, _⟩ => ⟨S1x8x8192x8192, .f32⟩
  | .hbm, ⟨70, _⟩ => ⟨S_, .f32⟩
  | .hbm, ⟨71, _⟩ => ⟨S1x8x8192, .f32⟩
  | .hbm, ⟨72, _⟩ => ⟨S1x8x8192x1, .f32⟩
  | .hbm, ⟨73, _⟩ => ⟨S1x8x8192x8192, .f32⟩
  | .hbm, ⟨74, _⟩ => ⟨S1x8x8192x8192, .f32⟩
  | .hbm, ⟨75, _⟩ => ⟨S1x8x64x8192, .f32⟩
  | .hbm, ⟨76, _⟩ => ⟨S1x8192x8x64, .f32⟩
  | .hbm, ⟨77, _⟩ => ⟨S1x8x8192x1, .f32⟩
  | .hbm, ⟨78, _⟩ => ⟨S1x8x8192x1, .f32⟩
  | .hbm, ⟨79, _⟩ => ⟨S8x8192x1, .f32⟩
  | .hbm, ⟨80, _⟩ => ⟨S8192x8x1, .f32⟩
  | .hbm, ⟨81, _⟩ => ⟨S8192x8x128, .f32⟩
  | .hbm, ⟨82, _⟩ => ⟨S8192x1024, .f32⟩
  | .hbm, ⟨83, _⟩ => ⟨S1x8192x8x64, .f32⟩
  | .hbm, ⟨84, _⟩ => ⟨S_, .f32⟩
  | .hbm, ⟨85, _⟩ => ⟨S1x8192x8, .f32⟩
  | .hbm, ⟨86, _⟩ => ⟨S1x8192x8x1, .f32⟩
  | .hbm, ⟨87, _⟩ => ⟨S8192x8x1, .f32⟩
  | .hbm, ⟨88, _⟩ => ⟨S8192x8x128, .f32⟩
  | .hbm, ⟨89, _⟩ => ⟨S8192x1024, .f32⟩
  | .hbm, ⟨90, _⟩ => ⟨S8192x1024, .bf16⟩
  | .hbm, ⟨91, _⟩ => ⟨S8192x1024, .f32⟩
  | .hbm, ⟨92, _⟩ => ⟨S8192x1024, .f32⟩
  | .hbm, ⟨93, _⟩ => ⟨S8192x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8192x128, .f32⟩
  | .local _ .vmem, ⟨13, _⟩ => ⟨S8192x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .smem, ⟨0, _⟩ => ⟨S136, .i32⟩
  | .local _ .smem, ⟨1, _⟩ => ⟨S136, .i32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_call4_v0 : Ref sig .tc := ⟨.hbm, 36, rfl⟩
abbrev main_call4_v1 : Ref sig .tc := ⟨.hbm, 37, rfl⟩
abbrev main_call4_v2 : Ref sig .tc := ⟨.hbm, 38, rfl⟩
abbrev main_call4_v3 : Ref sig .tc := ⟨.hbm, 39, rfl⟩
abbrev main_call4_v4 : Ref sig .tc := ⟨.hbm, 40, rfl⟩
abbrev main_call4_v5 : Ref sig .tc := ⟨.hbm, 41, rfl⟩
abbrev main_call4_v6 : Ref sig .tc := ⟨.hbm, 42, rfl⟩
abbrev main_call4_v7 : Ref sig .tc := ⟨.hbm, 43, rfl⟩
abbrev main_call4_v8 : Ref sig .tc := ⟨.hbm, 44, rfl⟩
abbrev main_call4_c : Ref sig .tc := ⟨.hbm, 45, rfl⟩
abbrev main_call4_v9 : Ref sig .tc := ⟨.hbm, 46, rfl⟩
abbrev main_call4_v10 : Ref sig .tc := ⟨.hbm, 47, rfl⟩
abbrev main_call4_v11 : Ref sig .tc := ⟨.hbm, 48, rfl⟩
abbrev main_call4_c_0 : Ref sig .tc := ⟨.hbm, 49, rfl⟩
abbrev main_call4_v12 : Ref sig .tc := ⟨.hbm, 50, rfl⟩
abbrev main_call4_v13 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53_0 : Ref sig .tc := ⟨.hbm, 91, rfl⟩
abbrev main_v53_1 : Ref sig .tc := ⟨.hbm, 92, rfl⟩
abbrev main_v53_2 : Ref sig .tc := ⟨.hbm, 93, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v48 : BitVec 32 := Scalar.muli v1 c512_i32
  v48
def k0_cond3 (v1 : BitVec 32) (v3 : BitVec 32) : BitVec 1 :=
  let v10 : BitVec 1 := Scalar.cmpi .slt v3 v1
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v48 : BitVec 32 := Scalar.muli v1 c512_i32
  let v49 : BitVec 32 := v48
  let v50 : Index := Scalar.indexCast v49
  let c0_26 : Index := 0#32
  ![v50.toNat, 0]
def k0_mult2 (v1 : BitVec 32) : BitVec 32 :=
  let c512_i32 : BitVec 32 := 512#32
  let v101 : BitVec 32 := Scalar.muli v1 c512_i32
  v101
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off3 (v1 : BitVec 32) : Fin 2 → Nat :=
  let c512_i32 : BitVec 32 := 512#32
  let v101 : BitVec 32 := Scalar.muli v1 c512_i32
  let v102 : BitVec 32 := v101
  let v103 : Index := Scalar.indexCast v102
  let c0_39 : Index := 0#32
  ![v103.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S8192x128.size a) ∧
  (∀ (k0_h4 : k0_cond4 v1 v3 = 1#1), 512 ∣ (k0_mult2 v1).toNat) ∧
  (∀ (k0_h4 : k0_cond4 v1 v3 = 1#1), ∀ a, (k0_off3 v1) a + S512x128.size a ≤ S8192x128.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S8192x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S512x128.size a ≤ S8192x128.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S1x8192x8x96 : Shape := ⟨4, ![1, 8192, 8, 96]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x96 : Shape := ⟨4, ![1, 8, 8192, 96]⟩
abbrev S8192x8x96 : Shape := ⟨3, ![8192, 8, 96]⟩
abbrev S8192x8x128 : Shape := ⟨3, ![8192, 8, 128]⟩
abbrev S8192x1024 : Shape := ⟨2, ![8192, 1024]⟩
abbrev S8192x8x64 : Shape := ⟨3, ![8192, 8, 64]⟩

abbrev nBuf : Space → Nat
  | .hbm => 127
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S1x1x8192x8192, .i1⟩
  | .hbm, ⟨33, _⟩ => ⟨S_, .f32⟩
  | .hbm, ⟨34, _⟩ => ⟨S_, .f32⟩
  | .hbm, ⟨35, _⟩ => ⟨S1x8x8192x8192, .i1⟩
  | .hbm, ⟨36, _⟩ => ⟨S1x8x8192x8192, .f32⟩
  | .hbm, ⟨37, _⟩ => ⟨S1x8x8192x8192, .f32⟩
  | .hbm, ⟨38, _⟩ => ⟨S_, .f32⟩
  | .hbm, ⟨39, _⟩ => ⟨S1x8x8192x8192, .f32⟩
  | .hbm, ⟨40, _⟩ => ⟨S_, .f32⟩
  | .hbm, ⟨41, _⟩ => ⟨S1x8x8192, .f32⟩
  | .hbm, ⟨42, _⟩ => ⟨S1x8x8192x1, .f32⟩
  | .hbm, ⟨43, _⟩ => ⟨S1x8x8192x8192, .f32⟩
  | .hbm, ⟨44, _⟩ => ⟨S1x8x8192x8192, .i1⟩
  | .hbm, ⟨45, _⟩ => ⟨S1x8x8192x8192, .f32⟩
  | .hbm, ⟨46, _⟩ => ⟨S_, .f32⟩
  | .hbm, ⟨47, _⟩ => ⟨S1x8x8192, .f32⟩
  | .hbm, ⟨48, _⟩ => ⟨S_, .f32⟩
  | .hbm, ⟨49, _⟩ => ⟨S1x8x8192, .f32⟩
  | .hbm, ⟨50, _⟩ => ⟨S1x8x8192, .f32⟩
  | .hbm, ⟨51, _⟩ => ⟨S_, .f32⟩
  | .hbm, ⟨52, _⟩ => ⟨S1x8x8192, .f32⟩
  | .hbm, ⟨53, _⟩ => ⟨S1x8x8192, .i1⟩
  | .hbm, ⟨54, _⟩ => ⟨S_, .f32⟩
  | .hbm, ⟨55, _⟩ => ⟨S1x8x8192, .f32⟩
  | .hbm, ⟨56, _⟩ => ⟨S1x8x8192, .i1⟩
  | .hbm, ⟨57, _⟩ => ⟨S_, .f32⟩
  | .hbm, ⟨58, _⟩ => ⟨S1x8x8192, .f32⟩
  | .hbm, ⟨59, _⟩ => ⟨S_, .f32⟩
  | .hbm, ⟨60, _⟩ => ⟨S1x8x8192, .f32⟩
  | .hbm, ⟨61, _⟩ => ⟨S_, .f32⟩
  | .hbm, ⟨62, _⟩ => ⟨S1x8x8192, .f32⟩
  | .hbm, ⟨63, _⟩ => ⟨S1x8x8192, .f32⟩
  | .hbm, ⟨64, _⟩ => ⟨S1x8x8192, .f32⟩
  | .hbm, ⟨65, _⟩ => ⟨S1x8x8192x1, .f32⟩
  | .hbm, ⟨66, _⟩ => ⟨S1x8x8192x8192, .f32⟩
  | .hbm, ⟨67, _⟩ => ⟨S1x8x8192x8192, .f32⟩
  | .hbm, ⟨68, _⟩ => ⟨S1x8x8192x8192, .f32⟩
  | .hbm, ⟨69, _⟩ => ⟨S_, .f32⟩
  | .hbm, ⟨70, _⟩ => ⟨S1x8x8192, .f32⟩
  | .hbm, ⟨71, _⟩ => ⟨S1x8x8192x1, .f32⟩
  | .hbm, ⟨72, _⟩ => ⟨S1x8x8192x8192, .f32⟩
  | .hbm, ⟨73, _⟩ => ⟨S1x8x8192x8192, .f32⟩
  | .hbm, ⟨74, _⟩ => ⟨S1x8x8192x1, .f32⟩
  | .hbm, ⟨75, _⟩ => ⟨S_, .f32⟩
  | .hbm, ⟨76, _⟩ => ⟨S1x8x8192x1, .f32⟩
  | .hbm, ⟨77, _⟩ => ⟨S1x8x8192x1, .f32⟩
  | .hbm, ⟨78, _⟩ => ⟨S1x8x64x8192, .f32⟩
  | .hbm, ⟨79, _⟩ => ⟨S1x8192x8x64, .f32⟩
  | .hbm, ⟨80, _⟩ => ⟨S1x8x64x8192, .f32⟩
  | .hbm, ⟨81, _⟩ => ⟨S1x8x8192x8192, .f32⟩
  | .hbm, ⟨82, _⟩ => ⟨S1x8x64x8192, .f32⟩
  | .hbm, ⟨83, _⟩ => ⟨S1x8192x8x64, .f32⟩
  | .hbm, ⟨84, _⟩ => ⟨S1x8x8192x8192, .f32⟩
  | .hbm, ⟨85, _⟩ => ⟨S1x8x8192x8192, .f32⟩
  | .hbm, ⟨86, _⟩ => ⟨S1x8x8192x8192, .f32⟩
  | .hbm, ⟨87, _⟩ => ⟨S_, .f32⟩
  | .hbm, ⟨88, _⟩ => ⟨S1x8x8192, .f32⟩
  | .hbm, ⟨89, _⟩ => ⟨S1x8x8192x1, .f32⟩
  | .hbm, ⟨90, _⟩ => ⟨S1x8x8192x1, .f32⟩
  | .hbm, ⟨91, _⟩ => ⟨S1x8x8192x8192, .f32⟩
  | .hbm, ⟨92, _⟩ => ⟨S1x8x8192x8192, .f32⟩
  | .hbm, ⟨93, _⟩ => ⟨S_, .f32⟩
  | .hbm, ⟨94, _⟩ => ⟨S8x8192, .f32⟩
  | .hbm, ⟨95, _⟩ => ⟨S1x8x8192, .f32⟩
  | .hbm, ⟨96, _⟩ => ⟨S1x8x8192x8192, .f32⟩
  | .hbm, ⟨97, _⟩ => ⟨S1x8x8192x8192, .f32⟩
  | .hbm, ⟨98, _⟩ => ⟨S1x8x8192x8192, .f32⟩
  | .hbm, ⟨99, _⟩ => ⟨S_, .f32⟩
  | .hbm, ⟨100, _⟩ => ⟨S1x8x8192x8192, .f32⟩
  | .hbm, ⟨101, _⟩ => ⟨S1x8x8192x8192, .f32⟩
  | .hbm, ⟨102, _⟩ => ⟨S_, .f32⟩
  | .hbm, ⟨103, _⟩ => ⟨S1x8x8192x8192, .f32⟩
  | .hbm, ⟨104, _⟩ => ⟨S1x8x8192x8192, .f32⟩
  | .hbm, ⟨105, _⟩ => ⟨S1x8x8192x96, .f32⟩
  | .hbm, ⟨106, _⟩ => ⟨S1x8192x8x96, .f32⟩
  | .hbm, ⟨107, _⟩ => ⟨S1x8x8192x96, .f32⟩
  | .hbm, ⟨108, _⟩ => ⟨S1x8192x8x96, .f32⟩
  | .hbm, ⟨109, _⟩ => ⟨S8192x8x96, .f32⟩
  | .hbm, ⟨110, _⟩ => ⟨S_, .f32⟩
  | .hbm, ⟨111, _⟩ => ⟨S8192x8x96, .f32⟩
  | .hbm, ⟨112, _⟩ => ⟨S8192x8x96, .f32⟩
  | .hbm, ⟨113, _⟩ => ⟨S_, .i32⟩
  | .hbm, ⟨114, _⟩ => ⟨S_, .f32⟩
  | .hbm, ⟨115, _⟩ => ⟨S8192x8x128, .f32⟩
  | .hbm, ⟨116, _⟩ => ⟨S8192x1024, .f32⟩
  | .hbm, ⟨117, _⟩ => ⟨S8192x8x96, .f32⟩
  | .hbm, ⟨118, _⟩ => ⟨S_, .i32⟩
  | .hbm, ⟨119, _⟩ => ⟨S_, .f32⟩
  | .hbm, ⟨120, _⟩ => ⟨S8192x8x128, .f32⟩
  | .hbm, ⟨121, _⟩ => ⟨S8192x1024, .f32⟩
  | .hbm, ⟨122, _⟩ => ⟨S8192x8x64, .f32⟩
  | .hbm, ⟨123, _⟩ => ⟨S_, .i32⟩
  | .hbm, ⟨124, _⟩ => ⟨S_, .f32⟩
  | .hbm, ⟨125, _⟩ => ⟨S8192x8x128, .f32⟩
  | .hbm, ⟨126, _⟩ => ⟨S8192x1024, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_v67 : Ref sig .tc := ⟨.hbm, 111, rfl⟩
abbrev main_v68 : Ref sig .tc := ⟨.hbm, 112, rfl⟩
abbrev main_c_15 : Ref sig .tc := ⟨.hbm, 113, rfl⟩
abbrev main_call3_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_16 : Ref sig .tc := ⟨.hbm, 118, rfl⟩
abbrev main_call4_v0 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_17 : Ref sig .tc := ⟨.hbm, 123, rfl⟩
abbrev main_call5_v0 : Ref sig .tc := ⟨.hbm, 124, rfl⟩
abbrev main_v75 : Ref sig .tc := ⟨.hbm, 125, rfl⟩
abbrev main_v76 : Ref sig .tc := ⟨.hbm, 126, rfl⟩

abbrev nD : Nat := 1
abbrev τ : Topo := Topo.v7x

variable {F : FTy → Type} [FloatOps F]
-- ==== Kernel15.lean ====
abbrev S1x8192x8x96 : Shape := ⟨4, ![1, 8192, 8, 96]⟩
abbrev S1x8192x8x64 : Shape := ⟨4, ![1, 8192, 8, 64]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S1x8x8192x8192 : Shape := ⟨4, ![1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S512x128 : Shape := ⟨2, ![512, 128]⟩
abbrev S512 : Shape := ⟨1, ![512]⟩
abbrev S512x1 : Shape := ⟨2, ![512, 1]⟩

abbrev nBuf : Space → Nat
  | .hbm => 65
  | .vmem => 6
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S8192x8x64, .f32⟩
  | .hbm, ⟨5, _⟩ => ⟨S_, .i32⟩
  | .hbm, ⟨6, _⟩ => ⟨S_, .f32⟩
  | .hbm, ⟨7, _⟩ => ⟨S8192x8x128, .f32⟩
  | .hbm, ⟨8, _⟩ => ⟨S8192x1024, .f32⟩
  | .hbm, ⟨9, _⟩ => ⟨S1x8x8192x8192, .f32⟩
  | .hbm, ⟨10, _⟩ => ⟨S_, .f32⟩
  | .hbm, ⟨11, _⟩ => ⟨S1x8x8192x8192, .f32⟩
  | .hbm, ⟨12, _⟩ => ⟨S1x8x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x1x8192x8192, .i1⟩
  | .hbm, ⟨38, _⟩ => ⟨S_, .f32⟩
  | .hbm, ⟨39, _⟩ => ⟨S_, .f32⟩
  | .hbm, ⟨40, _⟩ => ⟨S1x8x8192x8192, .i1⟩
  | .hbm, ⟨41, _⟩ => ⟨S1x8x8192x8192, .f32⟩
  | .hbm, ⟨42, _⟩ => ⟨S1x8x8192x8192, .f32⟩
  | .hbm, ⟨43, _⟩ => ⟨S_, .f32⟩
  | .hbm, ⟨44, _⟩ => ⟨S1x8x8192, .f32⟩
  | .hbm, ⟨45, _⟩ => ⟨S_, .f32⟩
  | .hbm, ⟨46, _⟩ => ⟨S1x8x8192, .f32⟩
  | .hbm, ⟨47, _⟩ => ⟨S1x8x8192, .f32⟩
  | .hbm, ⟨48, _⟩ => ⟨S1x8x8192x1, .f32⟩
  | .hbm, ⟨49, _⟩ => ⟨S1x8x8192x8192, .f32⟩
  | .hbm, ⟨50, _⟩ => ⟨S1x8x8192x8192, .f32⟩
  | .hbm, ⟨51, _⟩ => ⟨S1x8x8192x8192, .f32⟩
  | .hbm, ⟨52, _⟩ => ⟨S_, .f32⟩
  | .hbm, ⟨53, _⟩ => ⟨S1x8x8192, .f32⟩
  | .hbm, ⟨54, _⟩ => ⟨S1x8x8192x1, .f32⟩
  | .hbm, ⟨55, _⟩ => ⟨S1x8x8192x8192, .f32⟩
  | .hbm, ⟨56, _⟩ => ⟨S1x8x8192x8192, .f32⟩
  | .hbm, ⟨57, _⟩ => ⟨S1x8x64x8192, .f32⟩
  | .hbm, ⟨58, _⟩ => ⟨S1x8192x8x64, .f32⟩
  | .hbm, ⟨59, _⟩ => ⟨S8192x8x64, .f32⟩
  | .hbm, ⟨60, _⟩ => ⟨S_, .i32⟩
  | .hbm, ⟨61, _⟩ => ⟨S_, .f32⟩
  | .hbm, ⟨62, _⟩ => ⟨S8192x8x128, .f32⟩
  | .hbm, ⟨63, _⟩ => ⟨S8192x1024, .f32⟩
  | .hbm, ⟨64, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_call3_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S1x8192x8x96 : Shape := ⟨4, ![1, 8192, 8, 96]⟩
abbrev S1x8192x8x64 : Shape := ⟨4, ![1, 8192, 8, 64]⟩
abbrev S_ : Shape := ⟨0, ![]⟩
abbrev S1x8192x8 : Shape := ⟨3, ![1, 8192, 8]⟩
abbrev S1x8192x8x1 : Shape := ⟨4, ![1, 8192, 8, 1]⟩
abbrev S1x8x8192x8192 : Shape := ⟨4, ![1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8192x8 : Shape := ⟨2, ![8192, 8]⟩
abbrev S8192x8x1 : Shape := ⟨3, ![8192, 8, 1]⟩
abbrev S8192x8x128 : Shape := ⟨3, ![8192, 8, 128]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x8x64, .f32⟩
  | .hbm, ⟨4, _⟩ => ⟨S_, .f32⟩
  | .hbm, ⟨5, _⟩ => ⟨S1x8192x8, .f32⟩
  | .hbm, ⟨6, _⟩ => ⟨S1x8192x8x1, .f32⟩
  | .hbm, ⟨7, _⟩ => ⟨S1x8x8192x8192, .f32⟩
  | .hbm, ⟨8, _⟩ => ⟨S_, .f32⟩
  | .hbm, ⟨9, _⟩ => ⟨S1x8x8192x8192, .f32⟩
  | .hbm, ⟨10, _⟩ => ⟨S1x8x8192x8192, .f32⟩
  | .hbm, ⟨11, _⟩ => ⟨S8192, .i32⟩
  | .hbm, ⟨12, _⟩ => ⟨S_, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S1x1x8192x8192, .i1⟩
  | .hbm, ⟨36, _⟩ => ⟨S_, .f32⟩
  | .hbm, ⟨37, _⟩ => ⟨S_, .f32⟩
  | .hbm, ⟨38, _⟩ => ⟨S1x8x8192x8192, .i1⟩
  | .hbm, ⟨39, _⟩ => ⟨S1x8x8192x8192, .f32⟩
  | .hbm, ⟨40, _⟩ => ⟨S1x8x8192x8192, .f32⟩
  | .hbm, ⟨41, _⟩ => ⟨S_, .f32⟩
  | .hbm, ⟨42, _⟩ => ⟨S1x8x8192, .f32⟩
  | .hbm, ⟨43, _⟩ => ⟨S_, .f32⟩
  | .hbm, ⟨44, _⟩ => ⟨S1x8x8192, .f32⟩
  | .hbm, ⟨45, _⟩ => ⟨S1x8x8192, .f32⟩
  | .hbm, ⟨46, _⟩ => ⟨S1x8x8192x1, .f32⟩
  | .hbm, ⟨47, _⟩ => ⟨S1x8x8192x8192, .f32⟩
  | .hbm, ⟨48, _⟩ => ⟨S1x8x8192x8192, .f32⟩
  | .hbm, ⟨49, _⟩ => ⟨S1x8x8192x8192, .f32⟩
  | .hbm, ⟨50, _⟩ => ⟨S_, .f32⟩
  | .hbm, ⟨51, _⟩ => ⟨S1x8x8192, .f32⟩
  | .hbm, ⟨52, _⟩ => ⟨S1x8x8192x1, .f32⟩
  | .hbm, ⟨53, _⟩ => ⟨S1x8x8192x8192, .f32⟩
  | .hbm, ⟨54, _⟩ => ⟨S1x8x8192x8192, .f32⟩
  | .hbm, ⟨55, _⟩ => ⟨S1x8x64x8192, .f32⟩
  | .hbm, ⟨56, _⟩ => ⟨S1x8192x8x64, .f32⟩
  | .hbm, ⟨57, _⟩ => ⟨S1x8192x8x64, .f32⟩
  | .hbm, ⟨58, _⟩ => ⟨S1x8192x8x64, .f32⟩
  | .hbm, ⟨59, _⟩ => ⟨S1x8192x8x64, .f32⟩
  | .hbm, ⟨60, _⟩ => ⟨S_, .f32⟩
  | .hbm, ⟨61, _⟩ => ⟨S1x8192x8, .f32⟩
  | .hbm, ⟨62, _⟩ => ⟨S1x8192x8x1, .f32⟩
  | .hbm, ⟨63, _⟩ => ⟨S_, .f32⟩
  | .hbm, ⟨64, _⟩ => ⟨S8192x8, .f32⟩
  | .hbm, ⟨65, _⟩ => ⟨S1x8192x8, .f32⟩
  | .hbm, ⟨66, _⟩ => ⟨S8192x8, .f32⟩
  | .hbm, ⟨67, _⟩ => ⟨S8192x8x1, .f32⟩
  | .hbm, ⟨68, _⟩ => ⟨S8192x8x128, .f32⟩
  | .hbm, ⟨69, _⟩ => ⟨S8192x1024, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]
-- ==== Proof.RealLift.lean ====
/- Arithmetic of extended reals that are real numbers: every operation of a program over the reals, applied to real
operands, is the real operation. The rewriting runs from the leaves to the root, so that an expression over real
entries becomes one real number. -/
module

public import Idealize.ShloMosaic.Lib.Pointwise
public import Idealize.ShloMosaic.Lib.IdealHost
public import Idealize.ShloMosaic.Lib.ReduceAll

@[expose] public section

set_option maxRecDepth 16384

noncomputable section

open Idealize.ShloMosaic

namespace Cert.RealLift

theorem add (a b : ℝ) : (a : EReal) + (b : EReal) = ((a + b : ℝ) : EReal) := (EReal.coe_add a b).symm
theorem sub (a b : ℝ) : (a : EReal) - (b : EReal) = ((a - b : ℝ) : EReal) := (EReal.coe_sub a b).symm
theorem mul (a b : ℝ) : (a : EReal) * (b : EReal) = ((a * b : ℝ) : EReal) := (EReal.coe_mul a b).symm
theorem neg (a : ℝ) : -(a : EReal) = ((-a : ℝ) : EReal) := (EReal.coe_neg a).symm
theorem zero : (0 : EReal) = ((0 : ℝ) : EReal) := rfl
theorem one : (1 : EReal) = ((1 : ℝ) : EReal) := rfl

theorem sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add]

theorem div (a : ℝ) {b : ℝ} (h : b ≠ 0) : Ideal.div (a : EReal) (b : EReal) = ((a / b : ℝ) : EReal) := by
  rw [Ideal.div_coe h, mul, mul_one_div]

theorem rsqrt {a : ℝ} (h : 0 < a) : Ideal.rsqrt (a : EReal) = (((√a)⁻¹ : ℝ) : EReal) := by
  rw [Ideal.rsqrt_coe, if_neg (not_lt.mpr h.le), if_neg h.ne']

theorem exp (a : ℝ) : Ideal.exp (a : EReal) = ((Real.exp a : ℝ) : EReal) := rfl

theorem max_coe (a b : ℝ) : max (a : EReal) (b : EReal) = ((max a b : ℝ) : EReal) := (EReal.coe_strictMono.monotone.map_max).symm

/-- The single-precision word of 512. -/
theorem word_512 : Ideal.ofBits .f32 0x44000000#32 = ((512 : ℝ) : EReal) := by
  simp [Ideal.ofBits, Ideal.ieee, -EReal.coe_mul]; norm_num

/-- The single-precision word of 1024. -/
theorem word_1024 : Ideal.ofBits .f32 0x44800000#32 = ((1024 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_2048 : Ideal.ofBits .f32 0x45000000#32 = ((2048 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_16 : Ideal.ofBits .f32 0x41800000#32 = ((16 : ℝ) : EReal) := by
  simp [Ideal.ofBits, Ideal.ieee, -EReal.coe_mul]; norm_num

theorem word_96 : Ideal.ofBits .f32 0x42C00000#32 = ((96 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

theorem word_sixteenth : Ideal.ofBits .f32 0x3D800000#32 = ((1 / 16 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_neg_inf : Ideal.ofBits .f32 0xFF800000#32 = (⊥ : EReal) := by
  simp [Ideal.ofBits, Ideal.ieee]

theorem word_half : Ideal.ofBits .f32 0x3F000000#32 = ((1 / 2 : ℝ) : EReal) := by
  simp [Ideal.ofBits, Ideal.ieee, -EReal.coe_mul]; norm_num

theorem word_inv1024 : Ideal.ofBits .f32 0x3A800000#32 = ((1 / 1024 : ℝ) : EReal) := by
  simp [Ideal.ofBits, Ideal.ieee, -EReal.coe_mul]; norm_num

/-- The single-precision word of minus one half. -/
theorem word_neg_half : Ideal.ofBits .f32 0xBF000000#32 = ((-(1 / 2) : ℝ) : EReal) := by
  simp [Ideal.ofBits, Ideal.ieee, -EReal.coe_mul]; norm_num

/-- The number the norms add under the square root: the single-precision value nearest `1e-6`. -/
def eps : ℝ := 8796093 * (2 : ℝ) ^ (-43 : ℤ)

theorem eps_pos : 0 < eps := by unfold eps; positivity

theorem word_eps : Ideal.ofBits .f32 0x358637BD#32 = ((eps : ℝ) : EReal) := by
  simp [Ideal.ofBits, Ideal.ieee, eps, -EReal.coe_mul]

/-- An extended real whose absolute value is below infinity is a real number. -/
theorem exists_real {x : EReal} (h : max x (-x) < ⊤) : ∃ r : ℝ, x = (r : EReal) := by
  induction x using EReal.rec with
  | bot => simp at h
  | coe r => exact ⟨r, rfl⟩
  | top => simp at h

theorem word_inf : Ideal.ofBits .f32 0x7F800000#32 = (⊤ : EReal) := by
  simp [Ideal.ofBits, Ideal.ieee]

/-- Every entry of the array is a real number. -/
def IsReal {s : Shape} (x : FVec Ideal s .f32) : Prop := ∃ r : s.Idx → ℝ, ∀ i, x i = ((r i : ℝ) : EReal)

/-- The test "every entry's absolute value is below infinity", passed, makes an array one of real numbers. -/
theorem real_of_test {s t u v : Shape} {axes : List (Fin s.rank)} (x : FVec Ideal s .f32) (init : u.Idx → BitVec 1)
    (dims : Fin v.rank → Fin s.rank) (hb : v.BroadcastsInDim s dims) (h : s.ReducesTo axes t) (hu : 0 < u.numel) [Subsingleton t.Idx] (j : t.Idx)
    (e : Host.reduce IntOp.andi (cmpf .olt (Host.absf x) (broadcastInDim s dims hb (constant v .f32 0x7F800000#32))) init h hu j = 1#1) :
    IsReal x := by
  have hi : ∀ i, ∃ r : ℝ, x i = (r : EReal) := fun i => by
    have := Host.reduce_andi_all _ init h hu j e i
    refine exists_real ?_
    have h2 : Ideal.cmp .olt (max (x i) (-(x i))) (Ideal.ofBits .f32 0x7F800000#32) = 1#1 := this
    rw [word_inf] at h2
    by_contra hn
    have h3 : BitVec.ofBool (decide (max (x i) (-(x i)) < (⊤ : EReal))) = 1#1 := h2
    rw [decide_eq_false hn] at h3
    exact absurd h3 (by decide)
  exact ⟨fun i => (hi i).choose, fun i => (hi i).choose_spec⟩

/-- A host sum over two axes of extent one keeps the one entry: the middle axis stays. -/
theorem reduceAdd_unit_02 {n : ℕ} {u : Shape} (x : FVec Ideal ⟨3, ![1, n, 1]⟩ .f32) (init : FVec Ideal u .f32)
    (h : (⟨3, ![1, n, 1]⟩ : Shape).ReducesTo [0, 2] ⟨1, ![n]⟩) (hu : 0 < u.numel) (j : Fin n) :
    Host.reduceAdd x init h hu (ix1 j) = init (Shape.Idx.first hu) + x (ix3 0 j 0) := by
  have hf : ∀ i : (⟨3, ![1, n, 1]⟩ : Shape).Idx, h.drop i = ix1 j ↔ ∃ k : Unit, (fun _ => ix3 0 j 0) k = i := fun i => by
    constructor
    · intro e
      refine ⟨(), ?_⟩
      funext a; apply Fin.ext
      match a with
      | ⟨0, _⟩ => have h0 : (i 0).val < 1 := (i 0).isLt; show 0 = (i 0).val; omega
      | ⟨1, _⟩ => exact (congrArg Fin.val (congrFun e ⟨0, Nat.one_pos⟩)).symm
      | ⟨2, _⟩ => have h2 : (i 2).val < 1 := (i 2).isLt; show 0 = (i 2).val; omega
    · rintro ⟨k, rfl⟩
      funext b
      match b with
      | ⟨0, _⟩ => rfl
  rw [ValueIdx.hostReduceAdd_apply]
  refine congrArg (init (Shape.Idx.first hu) + ·) ?_
  refine (Finset.sum_filter_eq_sum_of_fiber _ (fun _ : Unit => ix3 0 j 0) (fun _ _ _ => rfl) hf x).trans ?_
  simp

/-- A host sum over two axes of extent one keeps the one entry: the last axis stays. -/
theorem reduceAdd_unit_01 {n : ℕ} {u : Shape} (x : FVec Ideal ⟨3, ![1, 1, n]⟩ .f32) (init : FVec Ideal u .f32)
    (h : (⟨3, ![1, 1, n]⟩ : Shape).ReducesTo [0, 1] ⟨1, ![n]⟩) (hu : 0 < u.numel) (j : Fin n) :
    Host.reduceAdd x init h hu (ix1 j) = init (Shape.Idx.first hu) + x (ix3 0 0 j) := by
  have hf : ∀ i : (⟨3, ![1, 1, n]⟩ : Shape).Idx, h.drop i = ix1 j ↔ ∃ k : Unit, (fun _ => ix3 0 0 j) k = i := fun i => by
    constructor
    · intro e
      refine ⟨(), ?_⟩
      funext a; apply Fin.ext
      match a with
      | ⟨0, _⟩ => have h0 : (i 0).val < 1 := (i 0).isLt; show 0 = (i 0).val; omega
      | ⟨1, _⟩ => have h1 : (i 1).val < 1 := (i 1).isLt; show 0 = (i 1).val; omega
      | ⟨2, _⟩ => exact (congrArg Fin.val (congrFun e ⟨0, Nat.one_pos⟩)).symm
    · rintro ⟨k, rfl⟩
      funext b
      match b with
      | ⟨0, _⟩ => rfl
  rw [ValueIdx.hostReduceAdd_apply]
  refine congrArg (init (Shape.Idx.first hu) + ·) ?_
  refine (Finset.sum_filter_eq_sum_of_fiber _ (fun _ : Unit => ix3 0 0 j) (fun _ _ _ => rfl) hf x).trans ?_
  simp

end Cert.RealLift
-- ==== Proof.ConvLnReal.lean ====
/- The gradient of `silu (layer_norm u)` over the real numbers, one row of 512 entries at a time. -/
module

public import proofs.«01_k».proof.Proof.RealLift

@[expose] public section

noncomputable section

namespace Cert.ConvLn

open Cert.RealLift (eps eps_pos)

variable (x g b d : Fin 512 → ℝ)

/-- The row's mean. -/
def mean : ℝ := (∑ k, x k) / 512
/-- The row less its mean. -/
def cen (l : Fin 512) : ℝ := x l - mean x
/-- The row's variance with the small number added. -/
def vare : ℝ := (∑ k, cen x k * cen x k) / 512 + eps
/-- One over the row's deviation. -/
def rs : ℝ := (√(vare x))⁻¹
/-- The normalised row. -/
def xh (l : Fin 512) : ℝ := cen x l * rs x
/-- The layer norm's value. -/
def pre (l : Fin 512) : ℝ := xh x l * g l + b l
/-- The logistic function of it. -/
def sg (l : Fin 512) : ℝ := (1 + Real.exp (-pre x g b l))⁻¹
/-- The cotangent of the layer norm's value. -/
def dy (l : Fin 512) : ℝ := d l * (sg x g b l * (1 + pre x g b l * (1 - sg x g b l)))
/-- The cotangent of the normalised row. -/
def dxh (l : Fin 512) : ℝ := dy x g b d l * g l
/-- The cotangent of the row. -/
def du (l : Fin 512) : ℝ :=
  rs x * (dxh x g b d l - (∑ k, dxh x g b d k) / 512 - xh x l * ((∑ k, dxh x g b d k * xh x k) / 512))

theorem vare_pos : 0 < vare x :=
  add_pos_of_nonneg_of_pos (div_nonneg (Finset.sum_nonneg fun k _ => mul_self_nonneg _) (by norm_num)) eps_pos

theorem sum_cen : ∑ k, cen x k = 0 := by
  unfold cen mean
  rw [Finset.sum_sub_distrib]
  simp; ring

theorem rs_sq : rs x * rs x * vare x = 1 := by
  have h := vare_pos x
  unfold rs
  rw [← mul_inv, Real.mul_self_sqrt h.le, inv_mul_cancel₀ h.ne']

/-- The cotangent of the row by differentiating mean, variance and quotient in turn. -/
theorem du_eq (l : Fin 512) :
    dxh x g b d l * rs x + cen x l * ((∑ k, cen x k * dxh x g b d k) * (-(1 / 2) * (rs x / vare x)) / 512)
      + (∑ k, cen x k * dxh x g b d k) * (-(1 / 2) * (rs x / vare x)) / 512 * cen x l
      + (∑ k, -(dxh x g b d k * rs x + cen x k * ((∑ k, cen x k * dxh x g b d k) * (-(1 / 2) * (rs x / vare x)) / 512)
      + (∑ k, cen x k * dxh x g b d k) * (-(1 / 2) * (rs x / vare x)) / 512 * cen x k)) / 512 = du x g b d l := by
  have hv := (vare_pos x).ne'
  have hr : rs x / vare x = rs x * (rs x * rs x) := by
    rw [div_eq_iff hv, mul_assoc, rs_sq, mul_one]
  have hc := sum_cen x
  have h1 : ∑ k, dxh x g b d k * xh x k = (∑ k, cen x k * dxh x g b d k) * rs x := by
    rw [Finset.sum_mul]; exact Finset.sum_congr rfl fun k _ => by unfold xh; ring
  unfold du
  rw [h1, hr]
  generalize (∑ k, cen x k * dxh x g b d k) = S
  rw [Finset.sum_neg_distrib, Finset.sum_add_distrib, Finset.sum_add_distrib, ← Finset.sum_mul, ← Finset.sum_mul,
    ← Finset.mul_sum, hc]
  unfold xh
  ring

/-- A row before its norm: the convolution's row with the bias added. -/
def row (c : Fin 8192 → Fin 512 → ℝ) (b : Fin 512 → ℝ) (r : Fin 8192) (l : Fin 512) : ℝ := c r l + b l

end Cert.ConvLn
-- ==== Proof.ConvLnKernel.lean ====
/- The kernel's results, read at an index: every grid point's rows, and the sums the points accumulate. -/
module

public import proofs.«01_k».proof.Proof.ConvLnReal
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvLn

open Cert.KernelIdeal Cert.KernelIdeal.Gen Cert.RealLift

section Payload

variable (v3 v28 : FVec Ideal S256x512 .f32) (v21 v24 : FVec Ideal S1x512 .f32) (x d : Fin 256 → Fin 512 → ℝ) (g h : Fin 512 → ℝ)
  (h3 : ∀ r l, v3 (ix2 r l) = ((x r l : ℝ) : EReal)) (h28 : ∀ r l, v28 (ix2 r l) = ((d r l : ℝ) : EReal))
  (h21 : ∀ l, v21 (ix2 0 l) = ((g l : ℝ) : EReal)) (h24 : ∀ l, v24 (ix2 0 l) = ((h l : ℝ) : EReal))

include h3 in
theorem pay_cen (r : Fin 256) (l : Fin 512) : k0_pay4 (F := Ideal) v3 (ix2 r l) = ((cen (x r) l : ℝ) : EReal) := by
  pointwise [k0_pay4, h3]
  rw [word_512, RealLift.sum, RealLift.div _ (by norm_num), RealLift.sub]; rfl

include h3 in
theorem pay_rs (r : Fin 256) : k0_pay5 (F := Ideal) v3 (ix2 r 0) = ((rs (x r) : ℝ) : EReal) := by
  pointwise [k0_pay5, pay_cen v3 x h3]
  simp only [word_512, word_eps, RealLift.mul, RealLift.sum]
  rw [RealLift.div _ (by norm_num), RealLift.add]
  exact RealLift.rsqrt (vare_pos (x r))

include h3 in
theorem pay_xh (r : Fin 256) (l : Fin 512) : k0_pay6 (F := Ideal) v3 (ix2 r l) = ((xh (x r) l : ℝ) : EReal) := by
  pointwise [k0_pay6, pay_cen v3 x h3, pay_rs v3 x h3]
  rw [RealLift.mul]; rfl

include h3 h28 h21 h24 in
theorem pay_dy (r : Fin 256) (l : Fin 512) :
    k0_pay7 (F := Ideal) v3 v21 v24 v28 (ix2 r l) = ((dy (x r) g h (d r) l : ℝ) : EReal) := by
  pointwise [k0_pay7, pay_xh v3 x h3, h28, h21, h24]
  simp only [RealLift.one, RealLift.sub, RealLift.mul, RealLift.add, Ideal.logistic_coe]
  rfl

include h3 h28 h21 h24 in
theorem pay_du (r : Fin 256) (l : Fin 512) :
    k0_pay11 (F := Ideal) (k0_pay5 v3) (k0_pay6 v3) (k0_pay7 v3 v21 v24 v28) v21 (ix2 r l) = ((du (x r) g h (d r) l : ℝ) : EReal) := by
  pointwise [k0_pay11, pay_rs v3 x h3, pay_xh v3 x h3, pay_dy v3 v28 v21 v24 x d g h h3 h28 h21 h24, h21]
  simp only [word_512, RealLift.mul, RealLift.sum]
  rw [RealLift.div _ (by norm_num), RealLift.div _ (by norm_num)]
  simp only [RealLift.mul, RealLift.sub]
  rfl

variable (acc : FVec Ideal S1x512 .f32)

include h3 h28 h21 h24 in
theorem pay_dg (l : Fin 512) :
    k0_pay9 (F := Ideal) (k0_pay6 v3) (k0_pay7 v3 v21 v24 v28) (k0_pay8 acc) (ix2 0 l)
      = acc (ix2 0 l) + ((∑ r, dy (x r) g h (d r) l * xh (x r) l : ℝ) : EReal) := by
  pointwise [k0_pay9, k0_pay8, pay_xh v3 x h3, pay_dy v3 v28 v21 v24 x d g h h3 h28 h21 h24]
  simp only [RealLift.mul, RealLift.sum]

include h3 h28 h21 h24 in
theorem pay_dh (l : Fin 512) :
    k0_pay10 (F := Ideal) (k0_pay7 v3 v21 v24 v28) acc (ix2 0 l) = acc (ix2 0 l) + ((∑ r, dy (x r) g h (d r) l : ℝ) : EReal) := by
  pointwise [k0_pay10, pay_dy v3 v28 v21 v24 x d g h h3 h28 h21 h24]
  rw [RealLift.sum]

include h3 h28 h21 h24 in
theorem pay_db (l : Fin 512) :
    k0_pay12 (F := Ideal) (k0_pay5 v3) (k0_pay6 v3) (k0_pay7 v3 v21 v24 v28) v21 acc (ix2 0 l)
      = acc (ix2 0 l) + ((∑ r, du (x r) g h (d r) l : ℝ) : EReal) := by
  pointwise [k0_pay12, pay_du v3 v28 v21 v24 x d g h h3 h28 h21 h24]
  rw [RealLift.sum]

theorem fill_dg (i : S1x512.Idx) : k0_pay1 (F := Ideal) i = 0 := by pointwise [k0_pay1]
theorem fill_dh (i : S1x512.Idx) : k0_pay2 (F := Ideal) i = 0 := by pointwise [k0_pay2]
theorem fill_db (i : S1x512.Idx) : k0_pay3 (F := Ideal) i = 0 := by pointwise [k0_pay3]

theorem eq_row (i : S1x512.Idx) : ∃ l : Fin 512, i = ix2 0 l := by
  idx_vars i
  exact ⟨i1, by rw [Subsingleton.elim i0 0]⟩

end Payload

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] :=
  (by decide +kernel : ∀ t : Fin grid0.N, _)

/-- Row `r` of grid point `t` is row `256 t + r` of the arrays. -/
def at256 (t : Fin cfg0.N) (r : Fin 256) : Fin 8192 := ⟨t.val * 256 + r.val, by have h : t.val < 32 := t.isLt; have := r.isLt; omega⟩

/-- The rows of one point after another are all rows. -/
theorem sum_points (f : Fin 8192 → ℝ) : ∑ t : Fin cfg0.N, ∑ r : Fin 256, f (at256 t r) = ∑ r, f r :=
  (Fin.sum_univ_tiles 32 256 rfl f).symm

/-- The points of the one run, counted from its first, are all points. -/
theorem sum_run (P : Fin cfg0.N → FVec Ideal S1x512 .f32) (t : Fin cfg0.N) (i : S1x512.Idx)
    (hlt : ∀ s : Fin 32, 32 * (t.val / 32) + s.val < cfg0.N) :
    ∑ s : Fin 32, P ⟨32 * (t.val / 32) + s.val, hlt s⟩ i = ∑ t, P t i := by
  refine Finset.sum_congr rfl fun s _ => ?_
  have hs : 32 * (t.val / 32) + s.val = s.val := by have h : t.val < 32 := t.isLt; omega
  exact congrArg (fun q => P q i) (Fin.ext hs)

section Launch

variable (dev : Dev nD) (c d : Fin 8192 → Fin 512 → ℝ) (b g h : Fin 512 → ℝ)
  (h0 : ∀ r l, m ((dev : Thread nD τ).loc main_arg0) (ix3 0 r l) = ((c r l : ℝ) : EReal))
  (h1 : ∀ l, m ((dev : Thread nD τ).loc main_arg1) (ix2 0 l) = ((b l : ℝ) : EReal))
  (h2 : ∀ l, m ((dev : Thread nD τ).loc main_arg2) (ix2 0 l) = ((g l : ℝ) : EReal))
  (h3 : ∀ l, m ((dev : Thread nD τ).loc main_arg3) (ix2 0 l) = ((h l : ℝ) : EReal))
  (h4 : ∀ r l, m ((dev : Thread nD τ).loc main_arg4) (ix3 0 r l) = ((d r l : ℝ) : EReal))

include h4 in
theorem blk_d (t : Fin cfg0.N) (r : Fin 256) (l : Fin 512) : iblk m dev 0 t (ix2 r l) = ((d (at256 t r) l : ℝ) : EReal) := by
  rw [← h4]
  blk_simp [iblk, idx t]
  entry_read
  pointwise
  blk_ext [idx t, at256]

include h0 h1 in
theorem blk_u (t : Fin cfg0.N) (r : Fin 256) (l : Fin 512) : iblk m dev 1 t (ix2 r l) = ((row c b (at256 t r) l : ℝ) : EReal) := by
  have hp : ∀ i : S8192x512.Idx, V m dev (Pipeline.arrRef spec0 1) i = ((row c b (i 0) (i 1) : ℝ) : EReal) := fun i => by
    idx_vars i
    entry_read
    pointwise
    exact (congrArg₂ (fun p q : EReal => p + q) (h0 i0 i1) (h1 i1)).trans (RealLift.add _ _)
  have e : (((cfg0.win 1).blk t).view.emb (ix2 r l : S256x512.Idx) : S8192x512.Idx) = ix2 (at256 t r) l := by blk_ext [idx t, at256]
  refine (hp (((cfg0.win 1).blk t).view.emb (ix2 r l : S256x512.Idx))).trans ?_
  rw [e]; rfl

include h2 in
theorem blk_g (t : Fin cfg0.N) (l : Fin 512) : iblk m dev 2 t (ix2 0 l) = ((g l : ℝ) : EReal) := by
  rw [← h2]
  blk_point [iblk, V, idx t]

include h3 in
theorem blk_h (t : Fin cfg0.N) (l : Fin 512) : iblk m dev 3 t (ix2 0 l) = ((h l : ℝ) : EReal) := by
  rw [← h3]
  blk_point [iblk, V, idx t]

theorem emb4 (t : Fin cfg0.N) (r : Fin 256) (l : Fin 512) :
    (((cfg0.win 4).blk t).view.emb (ix2 r l : S256x512.Idx) : S8192x512.Idx) = ix2 (at256 t r) l := by
  blk_ext [idx t, at256]

/-- A sum's block is its whole array. -/
theorem emb5 (t : Fin cfg0.N) (i : S1x512.Idx) : (((cfg0.win 5).blk t).view.emb i : S1x512.Idx) = i := by blk_ext [idx t]
theorem emb6 (t : Fin cfg0.N) (i : S1x512.Idx) : (((cfg0.win 6).blk t).view.emb i : S1x512.Idx) = i := by blk_ext [idx t]
theorem emb7 (t : Fin cfg0.N) (i : S1x512.Idx) : (((cfg0.win 7).blk t).view.emb i : S1x512.Idx) = i := by blk_ext [idx t]

/-- Every row's cotangent. -/
def duArr : FVec Ideal S8192x512 .f32 := fun i => ((du (row c b (i 0)) g h (d (i 0)) (i 1) : ℝ) : EReal)
/-- A point's share of the scale's, the shift's and the bias's cotangent. -/
def dgPart (t : Fin cfg0.N) : FVec Ideal S1x512 .f32 := fun i =>
  ((∑ r, dy (row c b (at256 t r)) g h (d (at256 t r)) (i 1) * xh (row c b (at256 t r)) (i 1) : ℝ) : EReal)
def dhPart (t : Fin cfg0.N) : FVec Ideal S1x512 .f32 := fun i => ((∑ r, dy (row c b (at256 t r)) g h (d (at256 t r)) (i 1) : ℝ) : EReal)
def dbPart (t : Fin cfg0.N) : FVec Ideal S1x512 .f32 := fun i => ((∑ r, du (row c b (at256 t r)) g h (d (at256 t r)) (i 1) : ℝ) : EReal)

include h0 h1 h2 h3 h4 in
/-- The first result: every row's cotangent. -/
theorem out_du : (dats m 0 dev).arrAt 4 cfg0.N = duArr c d b g h := by
  refine (dats m 0 dev).arrAt_eq_of_covers 4 _ (by decide +kernel) fun t hf y => ?_
  blk_simp
  rw [after0_4]
  idx_vars y
  have e := pay_du _ _ _ _ _ _ g h (blk_u m dev c b h0 h1 t) (blk_d m dev d h4 t) (blk_g m dev g h2 t) (blk_h m dev h h3 t)
  have e4 := (e y0 y1).trans (congrArg (duArr c d b g h) (emb4 t y0 y1)).symm
  by_cases ht : t.val % 32 = 0
  · rw [outsAt0_A m dev t ht]; frame_out
    exact e4
  · rw [outsAt0_B m dev t ht]; frame_out
    exact e4

include h0 h1 h2 h3 h4 in
theorem step_dg (t : Fin cfg0.N) (acc : FVec Ideal S1x512 .f32) (i : S1x512.Idx) :
    k0_pay9 (F := Ideal) (k0_pay6 (iblk m dev 1 t)) (k0_pay7 (iblk m dev 1 t) (iblk m dev 2 t) (iblk m dev 3 t) (iblk m dev 0 t)) (k0_pay8 acc) i = acc i + dgPart c d b g h t i := by
  obtain ⟨l, rfl⟩ := eq_row i
  exact pay_dg _ _ _ _ _ _ g h (blk_u m dev c b h0 h1 t) (blk_d m dev d h4 t) (blk_g m dev g h2 t) (blk_h m dev h h3 t) acc l

include h0 h1 h2 h3 h4 in
theorem step_dh (t : Fin cfg0.N) (acc : FVec Ideal S1x512 .f32) (i : S1x512.Idx) :
    k0_pay10 (F := Ideal) (k0_pay7 (iblk m dev 1 t) (iblk m dev 2 t) (iblk m dev 3 t) (iblk m dev 0 t)) acc i = acc i + dhPart c d b g h t i := by
  obtain ⟨l, rfl⟩ := eq_row i
  exact pay_dh _ _ _ _ _ _ g h (blk_u m dev c b h0 h1 t) (blk_d m dev d h4 t) (blk_g m dev g h2 t) (blk_h m dev h h3 t) acc l

include h0 h1 h2 h3 h4 in
theorem step_db (t : Fin cfg0.N) (acc : FVec Ideal S1x512 .f32) (i : S1x512.Idx) :
    k0_pay12 (F := Ideal) (k0_pay5 (iblk m dev 1 t)) (k0_pay6 (iblk m dev 1 t)) (k0_pay7 (iblk m dev 1 t) (iblk m dev 2 t) (iblk m dev 3 t) (iblk m dev 0 t)) (iblk m dev 2 t) acc i = acc i + dbPart c d b g h t i := by
  obtain ⟨l, rfl⟩ := eq_row i
  exact pay_db _ _ _ _ _ _ g h (blk_u m dev c b h0 h1 t) (blk_d m dev d h4 t) (blk_g m dev g h2 t) (blk_h m dev h h3 t) acc l

include h0 h1 h2 h3 h4 in
/-- The scale's cotangent. -/
theorem out_dg (l : Fin 512) : (dats m 0 dev).arrAt 5 cfg0.N (ix2 0 l) = ((∑ r, dy (row c b r) g h (d r) l * xh (row c b r) l : ℝ) : EReal) := by
  have hw : (dats m 0 dev).arrAt 5 cfg0.N = fun i => ∑ t, dgPart c d b g h t i := by
    refine (dats m 0 dev).arrAt_eq_of_covers 5 _ (by decide +kernel) fun t hf y => ?_
    blk_simp
    rw [after0_5, Pipeline.eq_sum_fin_of_reset_step_apply_of_flush (fun n h => (outsAt0 m dev n h).2.1) 32 (fun _ => 0)
      (dgPart c d b g h)
      (fun t ht j => by
        rw [outsAt0_A m dev t ht]; frame_out
        exact (step_dg m dev c d b g h h0 h1 h2 h3 h4 t _ j).trans (congrArg (· + _) (fill_dg j)))
      (fun t ht j => by rw [outsAt0_B m dev t ht]; frame_out; exact step_dg m dev c d b g h h0 h1 h2 h3 h4 t _ j)
      t ((flush0_5 t).mp hf) _, zero_add]
    exact (sum_run (dgPart c d b g h) t y _).trans (congrArg (fun i => ∑ t, dgPart c d b g h t i) (emb5 t y).symm)
  rw [hw]
  exact (RealLift.sum _ _).trans (congrArg _ (sum_points (fun r => dy (row c b r) g h (d r) l * xh (row c b r) l)))

include h0 h1 h2 h3 h4 in
/-- The shift's cotangent. -/
theorem out_dh (l : Fin 512) : (dats m 0 dev).arrAt 6 cfg0.N (ix2 0 l) = ((∑ r, dy (row c b r) g h (d r) l : ℝ) : EReal) := by
  have hw : (dats m 0 dev).arrAt 6 cfg0.N = fun i => ∑ t, dhPart c d b g h t i := by
    refine (dats m 0 dev).arrAt_eq_of_covers 6 _ (by decide +kernel) fun t hf y => ?_
    blk_simp
    rw [after0_6, Pipeline.eq_sum_fin_of_reset_step_apply_of_flush (fun n h => (outsAt0 m dev n h).2.2.1) 32 (fun _ => 0)
      (dhPart c d b g h)
      (fun t ht j => by
        rw [outsAt0_A m dev t ht]; frame_out
        exact (step_dh m dev c d b g h h0 h1 h2 h3 h4 t _ j).trans (congrArg (· + _) (fill_dh j)))
      (fun t ht j => by rw [outsAt0_B m dev t ht]; frame_out; exact step_dh m dev c d b g h h0 h1 h2 h3 h4 t _ j)
      t ((flush0_6 t).mp hf) _, zero_add]
    exact (sum_run (dhPart c d b g h) t y _).trans (congrArg (fun i => ∑ t, dhPart c d b g h t i) (emb6 t y).symm)
  rw [hw]
  exact (RealLift.sum _ _).trans (congrArg _ (sum_points (fun r => dy (row c b r) g h (d r) l)))

include h0 h1 h2 h3 h4 in
/-- The bias's cotangent. -/
theorem out_db (l : Fin 512) : (dats m 0 dev).arrAt 7 cfg0.N (ix2 0 l) = ((∑ r, du (row c b r) g h (d r) l : ℝ) : EReal) := by
  have hw : (dats m 0 dev).arrAt 7 cfg0.N = fun i => ∑ t, dbPart c d b g h t i := by
    refine (dats m 0 dev).arrAt_eq_of_covers 7 _ (by decide +kernel) fun t hf y => ?_
    blk_simp
    rw [after0_7, Pipeline.eq_sum_fin_of_reset_step_apply_of_flush (fun n h => (outsAt0 m dev n h).2.2.2) 32 (fun _ => 0)
      (dbPart c d b g h)
      (fun t ht j => by
        rw [outsAt0_A m dev t ht]; frame_out
        exact (step_db m dev c d b g h h0 h1 h2 h3 h4 t _ j).trans (congrArg (· + _) (fill_db j)))
      (fun t ht j => by rw [outsAt0_B m dev t ht]; frame_out; exact step_db m dev c d b g h h0 h1 h2 h3 h4 t _ j)
      t ((flush0_7 t).mp hf) _, zero_add]
    exact (sum_run (dbPart c d b g h) t y _).trans (congrArg (fun i => ∑ t, dbPart c d b g h t i) (emb7 t y).symm)
  rw [hw]
  exact (RealLift.sum _ _).trans (congrArg _ (sum_points (fun r => du (row c b r) g h (d r) l)))

end Launch

end Cert.ConvLn
-- ==== Proof.ConvLnRef.lean ====
/- The reference's results, read at an index: one row's gradient, and its sums over the rows. -/
module

public import proofs.«01_k».proof.Proof.ConvLnReal
public import proofs.«01_k».proof.Proof.Gen.ReferenceIdeal.Run
public import proofs.«01_k».proof.Proof.Gen.ReferenceIdeal.Read

@[expose] public section

set_option maxRecDepth 16384

noncomputable section

namespace Cert.ConvLn

open Idealize.ShloMosaic Idealize.ShloMosaic.TcCoe Idealize.SL.Sem Idealize.ShloMosaic.StableHlo
open Cert.ReferenceIdeal Cert.ReferenceIdeal.Gen Cert.ReferenceIdeal.Read Cert.RealLift

variable (x0 : (⟨S1x8192x512, .f32⟩ : BufTy).Contents (Elt Ideal)) (x1 x2 x3 : (⟨S1x512, .f32⟩ : BufTy).Contents (Elt Ideal))
  (x4 : (⟨S1x8192x512, .f32⟩ : BufTy).Contents (Elt Ideal))
  (c d : Fin 8192 → Fin 512 → ℝ) (b g h : Fin 512 → ℝ)
  (h0 : ∀ r l, x0 (ix3 0 r l) = ((c r l : ℝ) : EReal)) (h1 : ∀ l, x1 (ix2 0 l) = ((b l : ℝ) : EReal))
  (h2 : ∀ l, x2 (ix2 0 l) = ((g l : ℝ) : EReal)) (h3 : ∀ l, x3 (ix2 0 l) = ((h l : ℝ) : EReal))
  (h4 : ∀ r l, x4 (ix3 0 r l) = ((d r l : ℝ) : EReal))

include h0 h1 in
theorem ref_row (r : Fin 8192) (l : Fin 512) : val_main_v3 (F := Ideal) x0 x1 (ix3 0 r l) = ((row c b r l : ℝ) : EReal) := by
  pointwise [val_main_v3, val_main_v2, val_main_v1, val_main_v0, h0, h1]
  rw [RealLift.add]; rfl

include h0 h1 in
theorem ref_cen (r : Fin 8192) (l : Fin 512) : val_main_v11 (F := Ideal) x0 x1 (ix3 0 r l) = ((cen (row c b r) l : ℝ) : EReal) := by
  pointwise [val_main_v11, val_main_v10, val_main_v9, val_main_v8, val_main_cst, val_main_cst_0, val_main_v7, val_main_v6, ref_row x0 x1 c b h0 h1]
  rw [word_512, RealLift.sum, RealLift.div _ (by norm_num), RealLift.sub]; rfl

include h0 h1 in
theorem ref_vare (r : Fin 8192) : val_main_v18 (F := Ideal) x0 x1 (ix3 0 r 0) = ((vare (row c b r) : ℝ) : EReal) := by
  pointwise [val_main_v18, val_main_v17, val_main_v16, val_main_v15, val_main_v14, val_main_v13, val_main_v12, val_main_cst_1, val_main_cst_2,
    val_main_cst_3, ref_cen x0 x1 c b h0 h1]
  simp only [word_512, word_eps, RealLift.mul, RealLift.sum]
  rw [RealLift.div _ (by norm_num), RealLift.add]; rfl

include h0 h1 in
theorem ref_rs (r : Fin 8192) : val_main_v19 (F := Ideal) x0 x1 (ix3 0 r 0) = ((rs (row c b r) : ℝ) : EReal) := by
  pointwise [val_main_v19, ref_vare x0 x1 c b h0 h1]
  rw [RealLift.rsqrt (vare_pos _)]; rfl

include h0 h1 in
theorem ref_xh (r : Fin 8192) (l : Fin 512) : val_main_v24 (F := Ideal) x0 x1 (ix3 0 r l) = ((xh (row c b r) l : ℝ) : EReal) := by
  pointwise [val_main_v24, val_main_v23, ref_cen x0 x1 c b h0 h1, ref_rs x0 x1 c b h0 h1]
  rw [RealLift.mul]; rfl

include h0 h1 h2 h3 in
theorem ref_pre (r : Fin 8192) (l : Fin 512) :
    val_main_v30 (F := Ideal) x0 x1 x2 x3 (ix3 0 r l) = ((pre (row c b r) g h l : ℝ) : EReal) := by
  pointwise [val_main_v30, val_main_v29, val_main_v28, val_main_v27, val_main_v26, val_main_v25, val_main_v4, val_main_v5,
    ref_xh x0 x1 c b h0 h1, h2, h3]
  rw [RealLift.mul, RealLift.add]; rfl

include h0 h1 h2 h3 in
theorem ref_sg (r : Fin 8192) (l : Fin 512) :
    val_main_v31_2 (F := Ideal) x0 x1 x2 x3 (ix3 0 r l) = ((sg (row c b r) g h l : ℝ) : EReal) := by
  pointwise [val_main_v31_2, val_main_call0_v4, val_main_call0_v3, val_main_call0_v2, val_main_call0_v1, val_main_call0_v0,
    val_main_call0_cst, val_main_call0_cst_0, ref_pre x0 x1 x2 x3 c b g h h0 h1 h2 h3]
  simp only [RealLift.neg, RealLift.exp, RealLift.one, RealLift.add]
  rw [RealLift.div _ (by positivity), one_div]; rfl

include h0 h1 h2 h3 h4 in
theorem ref_dy (r : Fin 8192) (l : Fin 512) :
    val_main_v32 (F := Ideal) x0 x1 x2 x3 x4 (ix3 0 r l) = ((dy (row c b r) g h (d r) l : ℝ) : EReal) := by
  pointwise [val_main_v32, val_main_call1_v0, val_main_call1_v1, val_main_call1_v2, val_main_v31_1, val_main_call0_v7, val_main_call0_v6,
    val_main_call0_cst_1, ref_sg x0 x1 x2 x3 c b g h h0 h1 h2 h3, ref_pre x0 x1 x2 x3 c b g h h0 h1 h2 h3, h4]
  simp only [RealLift.one, RealLift.sub, RealLift.mul, RealLift.add]
  refine congrArg _ ?_
  unfold dy; ring

include h0 h1 h2 h3 h4 in
theorem ref_dxh (r : Fin 8192) (l : Fin 512) :
    val_main_v40 (F := Ideal) x0 x1 x2 x3 x4 (ix3 0 r l) = ((dxh (row c b r) g h (d r) l : ℝ) : EReal) := by
  pointwise [val_main_v40, val_main_v39, val_main_v25, val_main_v4, ref_dy x0 x1 x2 x3 x4 c d b g h h0 h1 h2 h3 h4, h2]
  rw [RealLift.mul]; rfl

include h0 h1 h2 h3 h4 in
/-- The variance's share of the row's cotangent, before it meets the row. -/
theorem ref_dvar (r : Fin 8192) (l : Fin 512) :
    val_main_v52 (F := Ideal) x0 x1 x2 x3 x4 (ix3 0 r l)
      = (((∑ k, cen (row c b r) k * dxh (row c b r) g h (d r) k) * (-(1 / 2) * (rs (row c b r) / vare (row c b r))) / 512 : ℝ) : EReal) := by
  pointwise [val_main_v52, val_main_v51, val_main_v50, reduceAdd_unit_02, val_main_v49, val_main_v48, val_main_v47, val_main_v44, val_main_v43,
    val_main_v42, val_main_v22, val_main_v21, val_main_v20, val_main_cst_4, val_main_cst_9, val_main_cst_10, val_main_cst_11,
    ref_cen x0 x1 c b h0 h1, ref_rs x0 x1 c b h0 h1, ref_vare x0 x1 c b h0 h1, ref_dxh x0 x1 x2 x3 x4 c d b g h h0 h1 h2 h3 h4]
  rw [RealLift.div _ (vare_pos _).ne']
  simp only [word_512, word_neg_half, RealLift.mul, RealLift.sum]
  rw [RealLift.div _ (by norm_num)]

include h0 h1 h2 h3 h4 in
theorem ref_du (r : Fin 8192) (l : Fin 512) :
    val_main_v65 (F := Ideal) x0 x1 x2 x3 x4 (ix3 0 r l) = ((du (row c b r) g h (d r) l : ℝ) : EReal) := by
  pointwise [val_main_v65, val_main_v64, val_main_v63, val_main_v62, reduceAdd_unit_02, val_main_v61, val_main_v60, val_main_v59, val_main_v58,
    val_main_v57, val_main_v56, val_main_v55, val_main_v54, val_main_v53, val_main_v46, val_main_v45, val_main_cst_12, val_main_cst_13,
    val_main_cst_14, ref_cen x0 x1 c b h0 h1, ref_rs x0 x1 c b h0 h1, ref_dxh x0 x1 x2 x3 x4 c d b g h h0 h1 h2 h3 h4,
    ref_dvar x0 x1 x2 x3 x4 c d b g h h0 h1 h2 h3 h4]
  simp only [word_512, RealLift.mul, RealLift.add, RealLift.neg, RealLift.sum]
  rw [RealLift.div _ (by norm_num), RealLift.add]
  exact congrArg _ (du_eq _ _ _ _ _)

include h0 h1 h2 h3 h4 in
/-- The first result, the row's cotangent. -/
theorem ref_du_out (r : Fin 8192) (l : Fin 512) :
    val_main_v72 (F := Ideal) x0 x1 x2 x3 x4 (ix2 r l) = ((du (row c b r) g h (d r) l : ℝ) : EReal) := by
  pointwise [val_main_v72, ref_du x0 x1 x2 x3 x4 c d b g h h0 h1 h2 h3 h4]

include h0 h1 h2 h3 h4 in
/-- The second result, the row's cotangent summed over the rows. -/
theorem ref_du_sum (l : Fin 512) :
    val_main_v71 (F := Ideal) x0 x1 x2 x3 x4 (ix2 0 l) = ((∑ r, du (row c b r) g h (d r) l : ℝ) : EReal) := by
  pointwise [val_main_v71, val_main_v70, reduceAdd_unit_01, val_main_v69, val_main_v68, val_main_cst_15, val_main_cst_16,
    ref_du x0 x1 x2 x3 x4 c d b g h h0 h1 h2 h3 h4]
  rw [RealLift.sum]

include h0 h1 h2 h3 h4 in
/-- The third result, the scale's cotangent. -/
theorem ref_dg (l : Fin 512) :
    val_main_v67 (F := Ideal) x0 x1 x2 x3 x4 (ix2 0 l) = ((∑ r, dy (row c b r) g h (d r) l * xh (row c b r) l : ℝ) : EReal) := by
  pointwise [val_main_v67, val_main_v41, reduceAdd_unit_01, val_main_v38, val_main_v37, val_main_v36, val_main_cst_7, val_main_cst_8,
    ref_dy x0 x1 x2 x3 x4 c d b g h h0 h1 h2 h3 h4, ref_xh x0 x1 c b h0 h1]
  simp only [RealLift.mul, RealLift.sum, mul_comm]

include h0 h1 h2 h3 h4 in
/-- The fourth result, the shift's cotangent. -/
theorem ref_dh (l : Fin 512) :
    val_main_v66 (F := Ideal) x0 x1 x2 x3 x4 (ix2 0 l) = ((∑ r, dy (row c b r) g h (d r) l : ℝ) : EReal) := by
  pointwise [val_main_v66, val_main_v35, reduceAdd_unit_01, val_main_v34, val_main_v33, val_main_cst_5, val_main_cst_6,
    ref_dy x0 x1 x2 x3 x4 c d b g h h0 h1 h2 h3 h4]
  rw [RealLift.sum]

/-- The run, its results the named stages. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v72_eq _), (h c).2.1.trans (val_main_v71_eq _),
    (h c).2.2.1.trans (val_main_v67_eq _), (h c).2.2.2.1.trans (val_main_v66_eq _), (h c).2.2.2.2⟩) (Cert.ReferenceIdeal.Value.run m ρ)

end Cert.ConvLn
-- ==== Proof.ConvLnClaim.lean ====
/- The claim on values: from finite arguments the kernel's four results are the reference's. -/
module

public import proofs.«01_k».proof.Defs
public import Idealize.ShloMosaic.Lib.Quiescent
public import proofs.«01_k».proof.Proof.ConvLnKernel
public import proofs.«01_k».proof.Proof.ConvLnRef
public import proofs.«01_k».proof.Proof.Gen.Pre_finite
public import proofs.«01_k».proof.Proof.Gen.KernelIdeal
public import proofs.«01_k».proof.Proof.Gen.ReferenceIdeal

@[expose] public section

set_option maxRecDepth 16384

noncomputable section

open Idealize.ShloMosaic Idealize.SL.Sem

namespace Cert.ConvLn

open Cert.RealLift

/-- Finite arguments are arrays of real numbers. -/
theorem reals_of_finite (x0 : FVec Ideal Cert.Pre_finite.S1x8192x512 .f32) (x1 x2 x3 : FVec Ideal Cert.Pre_finite.S1x512 .f32)
    (x4 : FVec Ideal Cert.Pre_finite.S1x8192x512 .f32) (e : Cert.Pre_finite.fn (F := Ideal) x0 x1 x2 x3 x4 = fun _ => 1#1) : IsReal x0 ∧ IsReal x1 ∧ IsReal x2 ∧ IsReal x3 ∧ IsReal x4 := by
  have hs : Subsingleton Cert.Pre_finite.S_.Idx := ⟨fun a b => funext fun i => i.elim0⟩
  have e1 := congrFun e ix0
  obtain ⟨e1, h4⟩ := IntOp.andi_eq_one.mp e1
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3, real_of_test _ _ _ _ _ _ _ h4⟩

theorem frame_reference : Cert.quiescent_ReferenceIdeal := fun m g _ =>
  (θ_run _ _ _).mono (fun r h => ⟨fun c => (h c).2.2.2.2, sem_eq_zero_of_no_sems rfl r.2⟩) (ref_run m g)

theorem algebraic : Cert.algebraic_KernelIdeal_ReferenceIdeal_pre_finite := by
  intro m g m' g' hpre hargs
  refine ⟨fun c => (Cert.KernelIdeal.Gen.dats m 0 c).arrAt 4 Cert.KernelIdeal.cfg0.N,
    fun c => (Cert.KernelIdeal.Gen.dats m 0 c).arrAt 7 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    (θ_run _ _ _).mono (fun r h c => ⟨(h c).1, (h c).2.2.2.1, (h c).2.1, (h c).2.2.1, (h c).2.2.2.2⟩) (Cert.KernelIdeal.Value.run_blocks m g),
    (θ_run _ _ _).mono (fun r h c => ?_) (ref_run m' g')⟩
  obtain ⟨⟨a0, h0⟩, ⟨a1, h1⟩, ⟨a2, h2⟩, ⟨a3, h3⟩, ⟨a4, h4⟩⟩ := reals_of_finite _ _ _ _ _ (hpre c)
  obtain ⟨e0, e1, e2, e3, e4⟩ := hargs c
  obtain ⟨r1, r2, r3, r4, rest⟩ := h c
  have k0 := fun (r : Fin 8192) (l : Fin 512) => h0 (ix3 0 r l)
  have k1 := fun l : Fin 512 => h1 (ix2 0 l)
  have k2 := fun l : Fin 512 => h2 (ix2 0 l)
  have k3 := fun l : Fin 512 => h3 (ix2 0 l)
  have k4 := fun (r : Fin 8192) (l : Fin 512) => h4 (ix3 0 r l)
  have l0 := fun (r : Fin 8192) (l : Fin 512) => (congrFun e0 _).trans (k0 r l)
  have l1 := fun l : Fin 512 => (congrFun e1 _).trans (k1 l)
  have l2 := fun l : Fin 512 => (congrFun e2 _).trans (k2 l)
  have l3 := fun l : Fin 512 => (congrFun e3 _).trans (k3 l)
  have l4 := fun (r : Fin 8192) (l : Fin 512) => (congrFun e4 _).trans (k4 r l)
  refine ⟨r1.trans ?_, r2.trans ?_, r3.trans ?_, r4.trans ?_, rest⟩
  · refine Eq.trans ?_ (out_du m c _ _ _ _ _ k0 k1 k2 k3 k4).symm
    funext i
    idx_vars i
    exact ref_du_out _ _ _ _ _ _ _ _ _ _ l0 l1 l2 l3 l4 i0 i1
  · funext i
    obtain ⟨l, rfl⟩ := eq_row i
    exact (ref_du_sum _ _ _ _ _ _ _ _ _ _ l0 l1 l2 l3 l4 l).trans (out_db m c _ _ _ _ _ k0 k1 k2 k3 k4 l).symm
  · funext i
    obtain ⟨l, rfl⟩ := eq_row i
    exact (ref_dg _ _ _ _ _ _ _ _ _ _ l0 l1 l2 l3 l4 l).trans (out_dg m c _ _ _ _ _ k0 k1 k2 k3 k4 l).symm
  · funext i
    obtain ⟨l, rfl⟩ := eq_row i
    exact (ref_dh _ _ _ _ _ _ _ _ _ _ l0 l1 l2 l3 l4 l).trans (out_dh m c _ _ _ _ _ k0 k1 k2 k3 k4 l).symm

end Cert.ConvLn
-- ==== Proof.RmsReal.lean ====
/- The gradient of `rms_norm` over the real numbers, one row of `n` entries at a time; `N` is the divisor of the mean. -/
module

public import proofs.«01_k».proof.Proof.RealLift

@[expose] public section

noncomputable section

namespace Cert.RmsNorm

open Cert.RealLift (eps eps_pos)

variable {n : ℕ} (N : ℝ) (x g e : Fin n → ℝ)

/-- The row's mean square with the small number added. -/
def vare : ℝ := (∑ k, x k * x k) / N + eps
/-- One over its root. -/
def rs : ℝ := (√(vare N x))⁻¹
/-- The normalised row. -/
def xh (l : Fin n) : ℝ := x l * rs N x
/-- The cotangent of the normalised row, from the norm's cotangent `e`. -/
def dxh (l : Fin n) : ℝ := e l * g l
/-- The cotangent of the row. -/
def dx (l : Fin n) : ℝ := rs N x * (dxh g e l - xh N x l * ((∑ k, dxh g e k * xh N x k) / N))
/-- What differentiating the mean square adds to the row's cotangent, before it meets the row. -/
def dsq : ℝ := (∑ k, x k * dxh g e k) * (-(1 / 2) * (rs N x / vare N x)) / N

theorem vare_pos (hN : 0 < N) : 0 < vare N x :=
  add_pos_of_nonneg_of_pos (div_nonneg (Finset.sum_nonneg fun k _ => mul_self_nonneg _) hN.le) eps_pos

theorem rs_sq (hN : 0 < N) : rs N x * rs N x * vare N x = 1 := by
  have h := vare_pos N x hN
  unfold rs
  rw [← mul_inv, Real.mul_self_sqrt h.le, inv_mul_cancel₀ h.ne']

/-- The cotangent of the row by differentiating mean square and quotient in turn. -/
theorem dx_eq (hN : 0 < N) (l : Fin n) :
    dxh g e l * rs N x + x l * dsq N x g e + dsq N x g e * x l = dx N x g e l := by
  have hv := (vare_pos N x hN).ne'
  have hr : rs N x / vare N x = rs N x * (rs N x * rs N x) := by
    rw [div_eq_iff hv, mul_assoc, rs_sq N x hN, mul_one]
  have h1 : ∑ k, dxh g e k * xh N x k = (∑ k, x k * dxh g e k) * rs N x := by
    rw [Finset.sum_mul]; exact Finset.sum_congr rfl fun k _ => by unfold xh; ring
  unfold dx dsq
  rw [h1, hr]
  unfold xh
  ring

end Cert.RmsNorm
-- ==== Proof.RmsHost.lean ====
/- The gradient of `rms_norm` as the derivative of its host lines, for `m` rows of `n` entries: every stage, read at an
index, is the row's number of `RmsReal`. -/
module

public import proofs.«01_k».proof.Proof.RmsReal
public import Idealize.ShloMosaic.Lib.Pointwise
public import Idealize.ShloMosaic.Lib.ValueIdx

@[expose] public section

set_option maxRecDepth 16384

noncomputable section

namespace Cert.RmsHost

open Idealize.ShloMosaic Cert.RealLift

/-- The shape facts that the host lines use. -/
structure Shapes (m n : ℕ) : Prop where
  red2 : (⟨3, ![1, m, n]⟩ : Shape).ReducesTo [2] ⟨2, ![1, m]⟩
  red1 : (⟨3, ![1, m, n]⟩ : Shape).ReducesTo [1] ⟨2, ![1, n]⟩
  red02 : (⟨3, ![1, m, 1]⟩ : Shape).ReducesTo [0, 2] ⟨1, ![m]⟩
  red01 : (⟨3, ![1, 1, n]⟩ : Shape).ReducesTo [0, 1] ⟨1, ![n]⟩
  col : (⟨2, ![1, m]⟩ : Shape).BroadcastsInDim ⟨3, ![1, m, 1]⟩ ![0, 1]
  cst : (⟨0, ![]⟩ : Shape).BroadcastsInDim ⟨3, ![1, m, 1]⟩ ![]
  wide : (⟨3, ![1, m, 1]⟩ : Shape).BroadcastsInDim ⟨3, ![1, m, n]⟩ ![0, 1, 2]
  row : (⟨1, ![n]⟩ : Shape).BroadcastsInDim ⟨3, ![1, 1, n]⟩ ![2]
  tall : (⟨3, ![1, 1, n]⟩ : Shape).BroadcastsInDim ⟨3, ![1, m, n]⟩ ![0, 1, 2]
  back : (⟨1, ![m]⟩ : Shape).BroadcastsInDim ⟨2, ![1, m]⟩ ![1]
  spread : (⟨2, ![1, m]⟩ : Shape).BroadcastsInDim ⟨3, ![1, m, n]⟩ ![0, 1]
  gain : (⟨1, ![n]⟩ : Shape).BroadcastsInDim ⟨2, ![1, n]⟩ ![1]
  flat : (⟨2, ![1, n]⟩ : Shape).ShapeCasts ⟨1, ![n]⟩
  keep2 : (⟨2, ![1, m]⟩ : Shape).ShapeCasts ⟨3, ![1, m, 1]⟩
  keep1 : (⟨2, ![1, n]⟩ : Shape).ShapeCasts ⟨3, ![1, 1, n]⟩
  pos : 0 < (⟨0, ![]⟩ : Shape).numel

variable {m n : ℕ} (S : Shapes m n) (w : BitVec 32) (x e y : FVec Ideal ⟨3, ![1, m, n]⟩ .f32) (g : FVec Ideal ⟨2, ![1, n]⟩ .f32)

section Layout

private theorem unit_or {k : ℕ} (l : Fin k) : l.val = if k = 1 then 0 else l.val := by split <;> omega

variable {α : Type}
/-- A row's number along the row. -/
def wide (v : (⟨3, ![1, m, 1]⟩ : Shape).Idx → α) : (⟨3, ![1, m, n]⟩ : Shape).Idx → α := broadcastInDim _ ![0, 1, 2] S.wide v
/-- A vector of rows as a column. -/
def col (v : (⟨2, ![1, m]⟩ : Shape).Idx → α) : (⟨3, ![1, m, 1]⟩ : Shape).Idx → α := broadcastInDim _ ![0, 1] S.col v
/-- The gain on every row. -/
def tall (v : (⟨2, ![1, n]⟩ : Shape).Idx → α) : (⟨3, ![1, m, n]⟩ : Shape).Idx → α :=
  broadcastInDim _ ![0, 1, 2] S.tall (broadcastInDim _ ![2] S.row (shapeCast _ v S.flat))
/-- A vector of rows along the rows. -/
def spread (v : (⟨1, ![m]⟩ : Shape).Idx → α) : (⟨3, ![1, m, n]⟩ : Shape).Idx → α :=
  broadcastInDim _ ![0, 1] S.spread (broadcastInDim _ ![1] S.back v)
def gain (v : (⟨1, ![n]⟩ : Shape).Idx → α) : (⟨2, ![1, n]⟩ : Shape).Idx → α := broadcastInDim _ ![1] S.gain v
def keep2 (v : (⟨2, ![1, m]⟩ : Shape).Idx → α) : (⟨3, ![1, m, 1]⟩ : Shape).Idx → α := shapeCast _ v S.keep2
def keep1 (v : (⟨2, ![1, n]⟩ : Shape).Idx → α) : (⟨3, ![1, 1, n]⟩ : Shape).Idx → α := shapeCast _ v S.keep1

theorem wide_at (v : (⟨3, ![1, m, 1]⟩ : Shape).Idx → α) (r : Fin m) (l : Fin n) : wide S v (ix3 0 r l) = v (ix3 0 r 0) :=
  broadcastInDim_apply _ _ _ _ _ fun a => by match a with | 0 | 1 | 2 => dsimp [ix3]; try exact unit_or _
theorem col_at (v : (⟨2, ![1, m]⟩ : Shape).Idx → α) (r : Fin m) : col S v (ix3 0 r 0) = v (ix2 0 r) :=
  broadcastInDim_apply _ _ _ _ _ fun a => by match a with | 0 | 1 => dsimp [ix3, ix2]; try exact unit_or _
theorem gain_at (v : (⟨1, ![n]⟩ : Shape).Idx → α) (l : Fin n) : gain S v (ix2 0 l) = v (ix1 l) :=
  broadcastInDim_apply _ _ _ _ _ fun a => by match a with | 0 => dsimp [ix1, ix2]; try exact unit_or _
theorem spread_at (v : (⟨1, ![m]⟩ : Shape).Idx → α) (r : Fin m) (l : Fin n) : spread S v (ix3 0 r l) = v (ix1 r) :=
  (broadcastInDim_apply _ _ _ _ (ix2 0 r) fun a => by match a with | 0 | 1 => dsimp [ix3, ix2]; try exact unit_or _).trans
    (broadcastInDim_apply _ _ _ _ _ fun a => by match a with | 0 => dsimp [ix1, ix2]; try exact unit_or _)
theorem tall_at (v : (⟨2, ![1, n]⟩ : Shape).Idx → α) (r : Fin m) (l : Fin n) : tall S v (ix3 0 r l) = v (ix2 0 l) :=
  (broadcastInDim_apply _ _ _ _ (ix3 0 0 l) fun a => by match a with | 0 | 1 | 2 => dsimp [ix3]; try exact unit_or _).trans
    ((broadcastInDim_apply _ _ _ _ (ix1 l) fun a => by match a with | 0 => dsimp [ix3, ix1]; try exact unit_or _).trans
      (shapeCast_apply _ _ _ _ (by rw [Shape.rowMajor_val_two, Shape.rowMajor_val_one]; show 0 * n + l.val = l.val; omega)))
theorem keep2_at (v : (⟨2, ![1, m]⟩ : Shape).Idx → α) (r : Fin m) : keep2 S v (ix3 0 r 0) = v (ix2 0 r) :=
  shapeCast_apply _ _ _ _ (by rw [Shape.rowMajor_val_two, Shape.rowMajor_val_three]; show 0 * m + r.val = (0 * m + r.val) * 1 + 0; omega)
theorem keep1_at (v : (⟨2, ![1, n]⟩ : Shape).Idx → α) (l : Fin n) : keep1 S v (ix3 0 0 l) = v (ix2 0 l) :=
  shapeCast_apply _ _ _ _ (by rw [Shape.rowMajor_val_two, Shape.rowMajor_val_three]; show 0 * n + l.val = (0 * 1 + 0) * n + l.val; omega)
end Layout

/-- A constant column. -/
def cstCol (w : BitVec 32) : FVec Ideal ⟨3, ![1, m, 1]⟩ .f32 := broadcastInDim _ ![] S.cst (constant ⟨0, ![]⟩ .f32 w)
/-- The zero that sums start from. -/
def zero : FVec Ideal ⟨0, ![]⟩ .f32 := constant ⟨0, ![]⟩ .f32 0x00000000#32

def vare : FVec Ideal ⟨3, ![1, m, 1]⟩ .f32 :=
  addf (Host.divf (col S (Host.reduceAdd (mulf x x) zero S.red2 S.pos)) (cstCol S w)) (cstCol S 0x358637BD#32)
def rs : FVec Ideal ⟨3, ![1, m, 1]⟩ .f32 := Host.rsqrt (vare S w x)
def xh : FVec Ideal ⟨3, ![1, m, n]⟩ .f32 := mulf x (wide S (rs S w x))
def dxh : FVec Ideal ⟨3, ![1, m, n]⟩ .f32 :=
  mulf e (tall S g)
def dsq : FVec Ideal ⟨3, ![1, m, n]⟩ .f32 :=
  spread S (Host.reduceAdd
    (Host.divf (mulf (keep2 S (Host.reduceAdd (mulf x (dxh S e g)) zero S.red2 S.pos))
      (mulf (cstCol S 0xBF000000#32) (Host.divf (rs S w x) (vare S w x)))) (cstCol S w)) zero S.red02 S.pos)
/-- The rows' cotangent, as the derivative writes it. -/
def dx : FVec Ideal ⟨3, ![1, m, n]⟩ .f32 :=
  addf (addf (mulf (dxh S e g) (wide S (rs S w x))) (mulf x (dsq S w x e g))) (mulf (dsq S w x e g) x)
/-- The same, with a residual's cotangent added first. -/
def dxRes : FVec Ideal ⟨3, ![1, m, n]⟩ .f32 :=
  addf (addf (addf y (mulf (dxh S e g) (wide S (rs S w x)))) (mulf x (dsq S w x e g))) (mulf (dsq S w x e g) x)
/-- The gain's cotangent. -/
def dg : FVec Ideal ⟨2, ![1, n]⟩ .f32 :=
  gain S (Host.reduceAdd (keep1 S (Host.reduceAdd (mulf (xh S w x) e) zero S.red1 S.pos)) zero S.red01 S.pos)

variable {N : ℝ} (hN : 0 < N) (hw : Ideal.ofBits .f32 w = ((N : ℝ) : EReal)) (X E Y : Fin m → Fin n → ℝ) (G : Fin n → ℝ)
  (hx : ∀ r l, x (ix3 0 r l) = ((X r l : ℝ) : EReal)) (he : ∀ r l, e (ix3 0 r l) = ((E r l : ℝ) : EReal))
  (hy : ∀ r l, y (ix3 0 r l) = ((Y r l : ℝ) : EReal)) (hg : ∀ l, g (ix2 0 l) = ((G l : ℝ) : EReal))

include hN hw hx in
theorem vare_at (r : Fin m) : vare S w x (ix3 0 r 0) = ((RmsNorm.vare N (X r) : ℝ) : EReal) := by
  pointwise [wide_at, col_at, tall_at, spread_at, gain_at, keep2_at, keep1_at, vare, cstCol, zero, hx, hw]
  simp only [word_eps, RealLift.mul, RealLift.sum]
  rw [RealLift.div _ hN.ne', RealLift.add]; rfl

include hN hw hx in
theorem rs_at (r : Fin m) : rs S w x (ix3 0 r 0) = ((RmsNorm.rs N (X r) : ℝ) : EReal) := by
  pointwise [wide_at, col_at, tall_at, spread_at, gain_at, keep2_at, keep1_at, rs, vare_at S w x hN hw X hx]
  rw [RealLift.rsqrt (RmsNorm.vare_pos _ _ hN)]; rfl

include hN hw hx in
theorem xh_at (r : Fin m) (l : Fin n) : xh S w x (ix3 0 r l) = ((RmsNorm.xh N (X r) l : ℝ) : EReal) := by
  pointwise [wide_at, col_at, tall_at, spread_at, gain_at, keep2_at, keep1_at, xh, hx, rs_at S w x hN hw X hx]
  rw [RealLift.mul]; rfl

include he hg in
theorem dxh_at (r : Fin m) (l : Fin n) : dxh S e g (ix3 0 r l) = ((RmsNorm.dxh G (E r) l : ℝ) : EReal) := by
  pointwise [wide_at, col_at, tall_at, spread_at, gain_at, keep2_at, keep1_at, dxh, he, hg]
  rw [RealLift.mul]; rfl

include hN hw hx he hg in
theorem dsq_at (r : Fin m) (l : Fin n) : dsq S w x e g (ix3 0 r l) = ((RmsNorm.dsq N (X r) G (E r) : ℝ) : EReal) := by
  pointwise [wide_at, col_at, tall_at, spread_at, gain_at, keep2_at, keep1_at, dsq, cstCol, zero, reduceAdd_unit_02, hx, hw, vare_at S w x hN hw X hx, rs_at S w x hN hw X hx, dxh_at S e g E G he hg]
  rw [RealLift.div _ (RmsNorm.vare_pos _ _ hN).ne']
  simp only [word_neg_half, RealLift.mul, RealLift.sum]
  rw [RealLift.div _ hN.ne']; rfl

include hN hw hx he hg in
/-- The rows' cotangent. -/
theorem dx_at (r : Fin m) (l : Fin n) : dx S w x e g (ix3 0 r l) = ((RmsNorm.dx N (X r) G (E r) l : ℝ) : EReal) := by
  pointwise [wide_at, col_at, tall_at, spread_at, gain_at, keep2_at, keep1_at, dx, hx, rs_at S w x hN hw X hx, dxh_at S e g E G he hg, dsq_at S w x e g hN hw X E G hx he hg]
  simp only [RealLift.mul, RealLift.add]
  exact congrArg _ (RmsNorm.dx_eq N (X r) G (E r) hN l)

include hN hw hx he hg hy in
/-- The rows' cotangent with the residual's. -/
theorem dxRes_at (r : Fin m) (l : Fin n) :
    dxRes S w x e y g (ix3 0 r l) = ((Y r l + RmsNorm.dx N (X r) G (E r) l : ℝ) : EReal) := by
  pointwise [wide_at, col_at, tall_at, spread_at, gain_at, keep2_at, keep1_at, dxRes, hx, hy, rs_at S w x hN hw X hx, dxh_at S e g E G he hg, dsq_at S w x e g hN hw X E G hx he hg]
  simp only [RealLift.mul, RealLift.add]
  rw [← RmsNorm.dx_eq N (X r) G (E r) hN l]
  exact congrArg _ (by ring)

include hN hw hx he in
/-- The gain's cotangent. -/
theorem dg_at (l : Fin n) : dg S w x e (ix2 0 l) = ((∑ r, E r l * RmsNorm.xh N (X r) l : ℝ) : EReal) := by
  pointwise [wide_at, col_at, tall_at, spread_at, gain_at, keep2_at, keep1_at, dg, zero, reduceAdd_unit_01, he, xh_at S w x hN hw X hx]
  simp only [RealLift.mul, RealLift.sum, mul_comm]

theorem shapes_1024 : Shapes 8192 1024 := by constructor <;> decide
theorem shapes_1440 : Shapes 8192 1440 := by constructor <;> decide
theorem shapes_256 : Shapes 8192 256 := by constructor <;> decide
theorem shapes_128 : Shapes 8192 128 := by constructor <;> decide
theorem shapes_mem : Shapes 256 1024 := by constructor <;> decide

end Cert.RmsHost
-- ==== Proof.UpRef.lean ====
/- The reference's gradient of `rms_norm x @ w`, with the residual's cotangent added, read at an index. -/
module

public import proofs.«01_k».proof.Proof.RmsHost
public import proofs.«01_k».proof.Proof.Gen.Reference2Ideal.Run
public import proofs.«01_k».proof.Proof.Gen.Reference2Ideal.Read

@[expose] public section

set_option maxRecDepth 16384

noncomputable section

namespace Cert.Up

open Idealize.ShloMosaic Idealize.ShloMosaic.TcCoe Idealize.SL.Sem Idealize.ShloMosaic.StableHlo
open Cert.Reference2Ideal Cert.Reference2Ideal.Gen Cert.Reference2Ideal.Read Cert.RealLift

/-- The norm's cotangent: the product's cotangent times the weight's transpose. -/
def dh (w : Fin 1024 → Fin 5632 → ℝ) (d : Fin 5632 → ℝ) (l : Fin 1024) : ℝ := ∑ k, d k * w l k

variable (x0 : (⟨S1x8192x1024, .f32⟩ : BufTy).Contents (Elt Ideal)) (x1 : (⟨S1x1024, .f32⟩ : BufTy).Contents (Elt Ideal))
  (x2 : (⟨S1x1024x5632, .f32⟩ : BufTy).Contents (Elt Ideal)) (x3 : (⟨S1x8192x5632, .f32⟩ : BufTy).Contents (Elt Ideal))
  (x4 : (⟨S1x8192x1024, .f32⟩ : BufTy).Contents (Elt Ideal))
  (x : Fin 8192 → Fin 1024 → ℝ) (g : Fin 1024 → ℝ) (w : Fin 1024 → Fin 5632 → ℝ) (d : Fin 8192 → Fin 5632 → ℝ)
  (y : Fin 8192 → Fin 1024 → ℝ)
  (h0 : ∀ r l, x0 (ix3 0 r l) = ((x r l : ℝ) : EReal)) (h1 : ∀ l, x1 (ix2 0 l) = ((g l : ℝ) : EReal))
  (h2 : ∀ r l, x2 (ix3 0 r l) = ((w r l : ℝ) : EReal)) (h3 : ∀ r l, x3 (ix3 0 r l) = ((d r l : ℝ) : EReal))
  (h4 : ∀ r l, x4 (ix3 0 r l) = ((y r l : ℝ) : EReal))

include h2 h3 in
theorem ref_dh (r : Fin 8192) (l : Fin 1024) : val_main_v19 (F := Ideal) x2 x3 (ix3 0 r l) = ((dh w (d r) l : ℝ) : EReal) := by
  pointwise [val_main_v19, val_main_v17, h2, h3]
  simp only [RealLift.mul, RealLift.sum]; rfl

include h0 h1 h2 h3 h4 in
theorem ref_sum (r : Fin 8192) (l : Fin 1024) :
    val_main_v41 (F := Ideal) x0 x1 x2 x3 x4 (ix3 0 r l) = ((y r l + RmsNorm.dx 1024 (x r) g (dh w (d r)) l : ℝ) : EReal) :=
  RmsHost.dxRes_at RmsHost.shapes_1024 0x44800000#32 x0 (val_main_v19 x2 x3) x4 x1 (by norm_num) word_1024 x _ y g h0
    (ref_dh x2 x3 w d h2 h3) h4 h1 r l

include h0 h1 h2 h3 h4 in
/-- The first result: the row's cotangent. -/
theorem ref_dx (r : Fin 8192) (l : Fin 1024) :
    val_main_v43 (F := Ideal) x0 x1 x2 x3 x4 (ix2 r l) = ((y r l + RmsNorm.dx 1024 (x r) g (dh w (d r)) l : ℝ) : EReal) := by
  pointwise [val_main_v43, ref_sum x0 x1 x2 x3 x4 x g w d y h0 h1 h2 h3 h4]

include h0 h1 h2 h3 h4 in
/-- The second result: the same in half the width. -/
theorem ref_dxb (r : Fin 8192) (l : Fin 1024) :
    val_main_v45 (F := Ideal) x0 x1 x2 x3 x4 (ix2 r l) = ((y r l + RmsNorm.dx 1024 (x r) g (dh w (d r)) l : ℝ) : EReal) := by
  pointwise [val_main_v45, val_main_v44, ref_sum x0 x1 x2 x3 x4 x g w d y h0 h1 h2 h3 h4]

include h0 h2 h3 in
/-- The third result: the gain's cotangent. -/
theorem ref_dg (l : Fin 1024) :
    val_main_v42 (F := Ideal) x0 x2 x3 (ix2 0 l) = ((∑ r, dh w (d r) l * RmsNorm.xh 1024 (x r) l : ℝ) : EReal) :=
  RmsHost.dg_at RmsHost.shapes_1024 0x44800000#32 x0 (val_main_v19 x2 x3) (by norm_num) word_1024 x _ h0 (ref_dh x2 x3 w d h2 h3) l

end Cert.Up
-- ==== Proof.Tiles.lean ====
/- Rows of a tiled array, and sums that grid points accumulate. -/
module

public import Idealize.ShloMosaic.Lib.Pointwise

@[expose] public section

noncomputable section

open Idealize.ShloMosaic

namespace Cert.Tiles

/-- Row `r` of tile `t` of `n` tiles of `b` rows each. -/
def rowAt {n b m : ℕ} (h : n * b = m) (t : Fin n) (r : Fin b) : Fin m :=
  ⟨t.val * b + r.val, by
    have h1 := r.isLt
    have h2 : (t.val + 1) * b ≤ n * b := Nat.mul_le_mul_right b t.isLt
    rw [Nat.add_mul, Nat.one_mul] at h2
    omega⟩

/-- The rows of one tile after another are all rows. -/
theorem sum_rowAt {n b m : ℕ} {M : Type} [AddCommMonoid M] (h : n * b = m) (f : Fin m → M) : ∑ t : Fin n, ∑ r : Fin b, f (rowAt h t r) = ∑ r, f r := by
  subst h
  exact (Fin.sum_univ_tiles n b rfl f).symm

/-- Of `K` points that make one run, the points counted from the run's first are all points. -/
theorem sum_run {s : Shape} {K : ℕ} (P : Fin K → FVec Ideal s .f32) (t : Fin K) (i : s.Idx)
    (hlt : ∀ q : Fin K, K * (t.val / K) + q.val < K) :
    ∑ q : Fin K, P ⟨K * (t.val / K) + q.val, hlt q⟩ i = ∑ t, P t i := by
  refine Finset.sum_congr rfl fun q _ => ?_
  have hs : K * (t.val / K) + q.val = q.val := by rw [Nat.div_eq_of_lt t.isLt, Nat.mul_zero, Nat.zero_add]
  exact congrArg (fun q => P q i) (Fin.ext hs)

/-- An index of a one-row array is given by its column. -/
theorem eq_row {n : ℕ} (i : (⟨2, ![1, n]⟩ : Shape).Idx) : ∃ l : Fin n, i = ix2 0 l := by
  refine ⟨i 1, funext fun a => Fin.ext ?_⟩
  match a with
  | ⟨0, _⟩ => have h : (i 0).val < 1 := (i 0).isLt; show (i 0).val = 0; omega
  | ⟨1, _⟩ => rfl

/-- A sum over two halves of the columns is the sum over all. -/
theorem sum_halves {n : ℕ} (m : ℕ) (h : n + n = m) (f : Fin m → ℝ) :
    ∑ k : Fin n, f ⟨k.val, by have := k.isLt; omega⟩ + ∑ k : Fin n, f ⟨n + k.val, by have := k.isLt; omega⟩ = ∑ k, f k := by
  subst h
  exact (Fin.sum_univ_add f).symm

end Cert.Tiles
-- ==== Proof.UpKernel.lean ====
/- The product with the weight's transpose fused with the norm's gradient, read at an index: every grid point's rows, and
the sum the points accumulate. -/
module

public import proofs.«01_k».proof.Proof.UpRef
public import proofs.«01_k».proof.Proof.Tiles
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Up

open Cert.Kernel2Ideal Cert.Kernel2Ideal.Gen Cert.RealLift Cert.Tiles

section Payload

variable (v0 v5 : FVec Ideal S256x2816 .bf16) (v2 v7 : FVec Ideal S1024x2816 .bf16) (v11 v46 : FVec Ideal S256x1024 .f32)
  (v33 acc : FVec Ideal S1x1024 .f32)
  (x y : Fin 256 → Fin 1024 → ℝ) (g : Fin 1024 → ℝ) (w : Fin 1024 → Fin 5632 → ℝ) (d : Fin 256 → Fin 5632 → ℝ)
  (h0 : ∀ r (k : Fin 2816), v0 (ix2 r k) = ((d r ⟨k.val, by have := k.isLt; omega⟩ : ℝ) : EReal))
  (h5 : ∀ r (k : Fin 2816), v5 (ix2 r k) = ((d r ⟨2816 + k.val, by have := k.isLt; omega⟩ : ℝ) : EReal))
  (h2 : ∀ r (k : Fin 2816), v2 (ix2 r k) = ((w r ⟨k.val, by have := k.isLt; omega⟩ : ℝ) : EReal))
  (h7 : ∀ r (k : Fin 2816), v7 (ix2 r k) = ((w r ⟨2816 + k.val, by have := k.isLt; omega⟩ : ℝ) : EReal))
  (h11 : ∀ r l, v11 (ix2 r l) = ((x r l : ℝ) : EReal)) (h46 : ∀ r l, v46 (ix2 r l) = ((y r l : ℝ) : EReal))
  (h33 : ∀ l, v33 (ix2 0 l) = ((g l : ℝ) : EReal))

include h0 h5 h2 h7 in
theorem pay_dh (r : Fin 256) (l : Fin 1024) : k0_pay3 (F := Ideal) v0 v2 v5 v7 (ix2 r l) = ((dh w (d r) l : ℝ) : EReal) := by
  pointwise [k0_pay3, h0, h5, h2, h7]
  simp only [RealLift.mul, RealLift.sum, RealLift.add]
  exact congrArg _ (sum_halves 5632 rfl (fun k => d r k * w l k))

include h11 in
theorem pay_rs (r : Fin 256) : k0_pay5 (F := Ideal) v11 (ix2 r 0) = ((RmsNorm.rs 1024 (x r) : ℝ) : EReal) := by
  pointwise [k0_pay5, k0_pay4, h11]
  simp only [word_1024, word_eps, RealLift.mul, RealLift.sum]
  rw [RealLift.div _ (by norm_num), RealLift.add]
  exact RealLift.rsqrt (RmsNorm.vare_pos _ (x r) (by norm_num))

include h11 in
theorem pay_xh (r : Fin 256) (l : Fin 1024) : k0_pay6 (F := Ideal) v11 (ix2 r l) = ((RmsNorm.xh 1024 (x r) l : ℝ) : EReal) := by
  pointwise [k0_pay6, k0_pay4, h11, pay_rs v11 x h11]
  rw [RealLift.mul]; rfl

include h0 h5 h2 h7 h11 h46 h33 in
theorem pay_dx (r : Fin 256) (l : Fin 1024) :
    k0_pay1 (F := Ideal) (k0_pay3 v0 v2 v5 v7) (k0_pay5 v11) (k0_pay6 v11) v33 v46 (ix2 r l)
      = ((y r l + RmsNorm.dx 1024 (x r) g (dh w (d r)) l : ℝ) : EReal) := by
  pointwise [k0_pay1, pay_dh v0 v5 v2 v7 w d h0 h5 h2 h7, pay_rs v11 x h11, pay_xh v11 x h11, h33, h46]
  simp only [word_1024, RealLift.mul, RealLift.sum]
  rw [RealLift.div _ (by norm_num)]
  simp only [RealLift.mul, RealLift.sub, RealLift.add]
  rfl

include h0 h5 h2 h7 h11 h46 h33 in
theorem pay_dxb (r : Fin 256) (l : Fin 1024) :
    k0_pay2 (F := Ideal) (k0_pay3 v0 v2 v5 v7) (k0_pay5 v11) (k0_pay6 v11) v33 v46 (ix2 r l)
      = ((y r l + RmsNorm.dx 1024 (x r) g (dh w (d r)) l : ℝ) : EReal) := by
  pointwise [k0_pay2, pay_dx v0 v5 v2 v7 v11 v46 v33 x y g w d h0 h5 h2 h7 h11 h46 h33]

include h0 h5 h2 h7 h11 in
theorem pay_dg (l : Fin 1024) :
    k0_pay8 (F := Ideal) v0 v2 v5 v7 v11 acc (ix2 0 l)
      = acc (ix2 0 l) + ((∑ r, dh w (d r) l * RmsNorm.xh 1024 (x r) l : ℝ) : EReal) := by
  pointwise [k0_pay8, pay_dh v0 v5 v2 v7 w d h0 h5 h2 h7, pay_xh v11 x h11]
  simp only [RealLift.mul, RealLift.sum]

theorem fill_dg (i : S1x1024.Idx) : k0_pay7 (F := Ideal) i = 0 := by pointwise [k0_pay7]

end Payload

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- Row `r` of grid point `t` is row `256 t + r` of the arrays. -/
def at256 (t : Fin cfg0.N) (r : Fin 256) : Fin 8192 := rowAt (n := 32) rfl t r

section Launch

variable (dev : Dev nD) (x : Fin 8192 → Fin 1024 → ℝ) (g : Fin 1024 → ℝ) (w : Fin 1024 → Fin 5632 → ℝ) (d : Fin 8192 → Fin 5632 → ℝ)
  (y : Fin 8192 → Fin 1024 → ℝ)
  (h0 : ∀ r l, m ((dev : Thread nD τ).loc main_arg0) (ix3 0 r l) = ((x r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r l, m ((dev : Thread nD τ).loc main_arg3) (ix3 0 r l) = ((d r l : ℝ) : EReal))
  (h4 : ∀ r l, m ((dev : Thread nD τ).loc main_arg4) (ix3 0 r l) = ((y r l : ℝ) : EReal))

include h3 in
theorem blk_dg (t : Fin cfg0.N) (r : Fin 256) (k : Fin 2816) :
    iblk m dev 0 t (ix2 r k) = ((d (at256 t r) ⟨k.val, by have := k.isLt; omega⟩ : ℝ) : EReal) := by
  rw [← h3]
  blk_simp [iblk, idx t]
  entry_read
  pointwise
  blk_ext [idx t, at256, rowAt]

include h3 in
theorem blk_dv (t : Fin cfg0.N) (r : Fin 256) (k : Fin 2816) :
    iblk m dev 1 t (ix2 r k) = ((d (at256 t r) ⟨2816 + k.val, by have := k.isLt; omega⟩ : ℝ) : EReal) := by
  rw [← h3]
  blk_simp [iblk, idx t]
  entry_read
  pointwise
  blk_ext [idx t, at256, rowAt]

include h2 in
theorem blk_wg (t : Fin cfg0.N) (r : Fin 1024) (k : Fin 2816) :
    iblk m dev 2 t (ix2 r k) = ((w r ⟨k.val, by have := k.isLt; omega⟩ : ℝ) : EReal) := by
  rw [← h2]
  blk_simp [iblk, idx t]
  entry_read
  pointwise
  blk_ext [idx t]

include h2 in
theorem blk_wv (t : Fin cfg0.N) (r : Fin 1024) (k : Fin 2816) :
    iblk m dev 3 t (ix2 r k) = ((w r ⟨2816 + k.val, by have := k.isLt; omega⟩ : ℝ) : EReal) := by
  rw [← h2]
  blk_simp [iblk, idx t]
  entry_read
  pointwise
  blk_ext [idx t]

include h0 in
theorem blk_x (t : Fin cfg0.N) (r : Fin 256) (l : Fin 1024) : iblk m dev 4 t (ix2 r l) = ((x (at256 t r) l : ℝ) : EReal) := by
  rw [← h0]
  blk_simp [iblk, idx t]
  entry_read
  pointwise
  blk_ext [idx t, at256, rowAt]

include h1 in
theorem blk_g (t : Fin cfg0.N) (l : Fin 1024) : iblk m dev 5 t (ix2 0 l) = ((g l : ℝ) : EReal) := by
  rw [← h1]
  blk_point [iblk, V, idx t]

include h4 in
theorem blk_y (t : Fin cfg0.N) (r : Fin 256) (l : Fin 1024) : iblk m dev 6 t (ix2 r l) = ((y (at256 t r) l : ℝ) : EReal) := by
  rw [← h4]
  blk_simp [iblk, idx t]
  entry_read
  pointwise
  blk_ext [idx t, at256, rowAt]

theorem emb7 (t : Fin cfg0.N) (r : Fin 256) (l : Fin 1024) :
    (((cfg0.win 7).blk t).view.emb (ix2 r l : S256x1024.Idx) : S8192x1024.Idx) = ix2 (at256 t r) l := by
  blk_ext [idx t, at256, rowAt]
theorem emb8 (t : Fin cfg0.N) (r : Fin 256) (l : Fin 1024) :
    (((cfg0.win 8).blk t).view.emb (ix2 r l : S256x1024.Idx) : S8192x1024.Idx) = ix2 (at256 t r) l := by
  blk_ext [idx t, at256, rowAt]
/-- The gain's block is its whole array. -/
theorem emb9 (t : Fin cfg0.N) (i : S1x1024.Idx) : (((cfg0.win 9).blk t).view.emb i : S1x1024.Idx) = i := by blk_ext [idx t]

/-- Every row's cotangent. -/
def dxArr : FVec Ideal S8192x1024 .f32 := fun i =>
  ((y (i 0) (i 1) + RmsNorm.dx 1024 (x (i 0)) g (dh w (d (i 0))) (i 1) : ℝ) : EReal)
def dxbArr : FVec Ideal S8192x1024 .bf16 := fun i =>
  ((y (i 0) (i 1) + RmsNorm.dx 1024 (x (i 0)) g (dh w (d (i 0))) (i 1) : ℝ) : EReal)
/-- A point's share of the gain's cotangent. -/
def dgPart (t : Fin cfg0.N) : FVec Ideal S1x1024 .f32 := fun i =>
  ((∑ r, dh w (d (at256 t r)) (i 1) * RmsNorm.xh 1024 (x (at256 t r)) (i 1) : ℝ) : EReal)

include h0 h1 h2 h3 h4 in
/-- The first result: every row's cotangent. -/
theorem out_dx : (dats m 0 dev).arrAt 7 cfg0.N = dxArr x g w d y := by
  refine (dats m 0 dev).arrAt_eq_of_covers 7 _ (by decide +kernel) fun t hf q => ?_
  blk_simp
  rw [after0_7]
  idx_vars q
  have e := pay_dx _ _ _ _ _ _ _ _ _ g w _ (blk_dg m dev d h3 t) (blk_dv m dev d h3 t) (blk_wg m dev w h2 t) (blk_wv m dev w h2 t)
    (blk_x m dev x h0 t) (blk_y m dev y h4 t) (blk_g m dev g h1 t)
  have e4 := (e q0 q1).trans (congrArg (dxArr x g w d y) (emb7 t q0 q1)).symm
  by_cases ht : t.val % 32 = 0
  · rw [outsAt0_A m dev t ht]; frame_out
    exact e4
  · rw [outsAt0_B m dev t ht]; frame_out
    exact e4

include h0 h1 h2 h3 h4 in
/-- The second result: the same in half the width. -/
theorem out_dxb : (dats m 0 dev).arrAt 8 cfg0.N = dxbArr x g w d y := by
  refine (dats m 0 dev).arrAt_eq_of_covers 8 _ (by decide +kernel) fun t hf q => ?_
  blk_simp
  rw [after0_8]
  idx_vars q
  have e := pay_dxb _ _ _ _ _ _ _ _ _ g w _ (blk_dg m dev d h3 t) (blk_dv m dev d h3 t) (blk_wg m dev w h2 t) (blk_wv m dev w h2 t)
    (blk_x m dev x h0 t) (blk_y m dev y h4 t) (blk_g m dev g h1 t)
  have e4 := (e q0 q1).trans (congrArg (dxbArr x g w d y) (emb8 t q0 q1)).symm
  by_cases ht : t.val % 32 = 0
  · rw [outsAt0_A m dev t ht]; frame_out
    exact e4
  · rw [outsAt0_B m dev t ht]; frame_out
    exact e4

include h0 h2 h3 in
theorem step_dg (t : Fin cfg0.N) (acc : FVec Ideal S1x1024 .f32) (i : S1x1024.Idx) :
    k0_pay8 (F := Ideal) (iblk m dev 0 t) (iblk m dev 2 t) (iblk m dev 1 t) (iblk m dev 3 t) (iblk m dev 4 t) acc i
      = acc i + dgPart x w d t i := by
  obtain ⟨l, rfl⟩ := eq_row i
  exact pay_dg _ _ _ _ _ acc _ w _ (blk_dg m dev d h3 t) (blk_dv m dev d h3 t) (blk_wg m dev w h2 t) (blk_wv m dev w h2 t)
    (blk_x m dev x h0 t) l

include h0 h2 h3 in
/-- The third result: the gain's cotangent. -/
theorem out_dg (l : Fin 1024) :
    (dats m 0 dev).arrAt 9 cfg0.N (ix2 0 l) = ((∑ r, dh w (d r) l * RmsNorm.xh 1024 (x r) l : ℝ) : EReal) := by
  have hw : (dats m 0 dev).arrAt 9 cfg0.N = fun i => ∑ t, dgPart x w d t i := by
    refine (dats m 0 dev).arrAt_eq_of_covers 9 _ (by decide +kernel) fun t hf q => ?_
    blk_simp
    rw [after0_9, Pipeline.eq_sum_fin_of_reset_step_apply_of_flush (fun n h => (outsAt0 m dev n h).2.2) 32 (fun _ => 0)
      (dgPart x w d)
      (fun t ht j => by
        rw [outsAt0_A m dev t ht]; frame_out
        exact (step_dg m dev x w d h0 h2 h3 t _ j).trans (congrArg (· + _) (fill_dg j)))
      (fun t ht j => by rw [outsAt0_B m dev t ht]; frame_out; exact step_dg m dev x w d h0 h2 h3 t _ j)
      t ((flush0_9 t).mp hf) _, zero_add]
    exact (sum_run (K := 32) (dgPart x w d) t q _).trans (congrArg (fun i => ∑ t, dgPart x w d t i) (emb9 t q).symm)
  rw [hw]
  exact (RealLift.sum _ _).trans (congrArg _ (sum_rowAt (n := 32) (b := 256) rfl (fun r => dh w (d r) l * RmsNorm.xh 1024 (x r) l)))

end Launch

end Cert.Up
-- ==== Proof.UpClaim.lean ====
/- The claim on values: from finite arguments the kernel's three results are the reference's. -/
module

public import proofs.«01_k».proof.Defs
public import Idealize.ShloMosaic.Lib.Quiescent
public import proofs.«01_k».proof.Proof.UpKernel
public import proofs.«01_k».proof.Proof.UpRef
public import proofs.«01_k».proof.Proof.Gen.Pre_finite2
public import proofs.«01_k».proof.Proof.Gen.Kernel2Ideal
public import proofs.«01_k».proof.Proof.Gen.Reference2Ideal

@[expose] public section

set_option maxRecDepth 16384

noncomputable section

open Idealize.ShloMosaic Idealize.SL.Sem

namespace Cert.Up

open Cert.RealLift

/-- Finite arguments are arrays of real numbers. -/
theorem reals_of_finite (x0 : FVec Ideal Cert.Pre_finite2.S1x8192x1024 .f32) (x1 : FVec Ideal Cert.Pre_finite2.S1x1024 .f32)
    (x2 : FVec Ideal Cert.Pre_finite2.S1x1024x5632 .f32) (x3 : FVec Ideal Cert.Pre_finite2.S1x8192x5632 .f32)
    (x4 : FVec Ideal Cert.Pre_finite2.S1x8192x1024 .f32) (e : Cert.Pre_finite2.fn (F := Ideal) x0 x1 x2 x3 x4 = fun _ => 1#1) :
    IsReal x0 ∧ IsReal x1 ∧ IsReal x2 ∧ IsReal x3 ∧ IsReal x4 := by
  have hs : Subsingleton Cert.Pre_finite2.S_.Idx := ⟨fun a b => funext fun i => i.elim0⟩
  have e1 := congrFun e ix0
  obtain ⟨e1, h4⟩ := IntOp.andi_eq_one.mp e1
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3, real_of_test _ _ _ _ _ _ _ h4⟩

theorem frame_reference : Cert.quiescent_Reference2Ideal := fun m g _ =>
  (θ_run _ _ _).mono (fun r h => ⟨fun c => (h c).2.2.2, sem_eq_zero_of_no_sems rfl r.2⟩) (Cert.Reference2Ideal.Value.run m g)

theorem algebraic : Cert.algebraic_Kernel2Ideal_Reference2Ideal_pre_finite2 := by
  intro m g m' g' hpre hargs
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    (θ_run _ _ _).mono (fun r h c => h c) (Cert.Kernel2Ideal.Value.run_blocks m g),
    (θ_run _ _ _).mono (fun r h c => ?_) (Cert.Reference2Ideal.Value.run m' g')⟩
  obtain ⟨⟨a0, h0⟩, ⟨a1, h1⟩, ⟨a2, h2⟩, ⟨a3, h3⟩, ⟨a4, h4⟩⟩ := reals_of_finite _ _ _ _ _ (hpre c)
  obtain ⟨e0, e1, e2, e3, e4⟩ := hargs c
  obtain ⟨r1, r2, r3, rest⟩ := h c
  have k0 := fun (r : Fin 8192) (l : Fin 1024) => h0 (ix3 0 r l)
  have k1 := fun l : Fin 1024 => h1 (ix2 0 l)
  have k2 := fun (r : Fin 1024) (l : Fin 5632) => h2 (ix3 0 r l)
  have k3 := fun (r : Fin 8192) (l : Fin 5632) => h3 (ix3 0 r l)
  have k4 := fun (r : Fin 8192) (l : Fin 1024) => h4 (ix3 0 r l)
  have l0 := fun (r : Fin 8192) (l : Fin 1024) => (congrFun e0 _).trans (k0 r l)
  have l1 := fun l : Fin 1024 => (congrFun e1 _).trans (k1 l)
  have l2 := fun (r : Fin 1024) (l : Fin 5632) => (congrFun e2 _).trans (k2 r l)
  have l3 := fun (r : Fin 8192) (l : Fin 5632) => (congrFun e3 _).trans (k3 r l)
  have l4 := fun (r : Fin 8192) (l : Fin 1024) => (congrFun e4 _).trans (k4 r l)
  refine ⟨r1.trans ?_, r2.trans ?_, r3.trans ?_, rest⟩
  · refine (Cert.Reference2Ideal.Read.val_main_v43_eq _ _).trans (Eq.trans ?_ (out_dx m c _ _ _ _ _ k0 k1 k2 k3 k4).symm)
    funext i
    idx_vars i
    exact ref_dx _ _ _ _ _ _ _ _ _ _ l0 l1 l2 l3 l4 i0 i1
  · refine (Cert.Reference2Ideal.Read.val_main_v45_eq _ _).trans (Eq.trans ?_ (out_dxb m c _ _ _ _ _ k0 k1 k2 k3 k4).symm)
    funext i
    idx_vars i
    exact ref_dxb _ _ _ _ _ _ _ _ _ _ l0 l1 l2 l3 l4 i0 i1
  · refine (Cert.Reference2Ideal.Read.val_main_v42_eq _ _ _).trans ?_
    funext i
    obtain ⟨l, rfl⟩ := Cert.Tiles.eq_row i
    exact (ref_dg _ _ _ _ _ _ l0 l2 l3 l).trans (out_dg m c _ _ _ k0 k2 k3 l).symm

end Cert.Up
-- ==== Proof.QUpRef.lean ====
/- The reference's gradient of the query's up-projection `rms_norm c @ w`, read at an index. -/
module

public import proofs.«01_k».proof.Proof.RmsHost
public import proofs.«01_k».proof.Proof.Gen.Reference3Ideal.Run
public import proofs.«01_k».proof.Proof.Gen.Reference3Ideal.Read

@[expose] public section

set_option maxRecDepth 16384

noncomputable section

namespace Cert.QUp

open Idealize.ShloMosaic Idealize.ShloMosaic.TcCoe Idealize.SL.Sem Idealize.ShloMosaic.StableHlo
open Cert.Reference3Ideal Cert.Reference3Ideal.Gen Cert.Reference3Ideal.Read Cert.RealLift

/-- Entry `k` of the heads' cotangents laid side by side. -/
def flat (d : Fin 8 → Fin 96 → ℝ) (k : Fin 768) : ℝ := d ⟨k.val / 96, by omega⟩ ⟨k.val % 96, by omega⟩

/-- The norm's cotangent: the heads' cotangents times the weight's transpose. -/
def dh (w : Fin 256 → Fin 768 → ℝ) (d : Fin 8 → Fin 96 → ℝ) (l : Fin 256) : ℝ := ∑ k, flat d k * w l k

/-- The query's latent: columns 1024 to 1279 of the input projection's output. -/
def latent (z : Fin 8192 → Fin 1440 → ℝ) (r : Fin 8192) (l : Fin 256) : ℝ := z r ⟨1024 + l.val, by omega⟩

variable (x0 : (⟨S1x8192x1440, .f32⟩ : BufTy).Contents (Elt Ideal)) (x1 : (⟨S1x256, .f32⟩ : BufTy).Contents (Elt Ideal))
  (x2 : (⟨S1x256x768, .f32⟩ : BufTy).Contents (Elt Ideal)) (x3 : (⟨S1x8192x8x96, .f32⟩ : BufTy).Contents (Elt Ideal))
  (z : Fin 8192 → Fin 1440 → ℝ) (g : Fin 256 → ℝ) (w : Fin 256 → Fin 768 → ℝ) (d : Fin 8192 → Fin 8 → Fin 96 → ℝ)
  (h0 : ∀ r l, x0 (ix3 0 r l) = ((z r l : ℝ) : EReal)) (h1 : ∀ l, x1 (ix2 0 l) = ((g l : ℝ) : EReal))
  (h2 : ∀ r l, x2 (ix3 0 r l) = ((w r l : ℝ) : EReal)) (h3 : ∀ r k e, x3 (ix4 0 r k e) = ((d r k e : ℝ) : EReal))

include h0 in
theorem ref_latent (r : Fin 8192) (l : Fin 256) : val_main_v0 (F := Ideal) x0 (ix3 0 r l) = ((latent z r l : ℝ) : EReal) := by
  pointwise [val_main_v0, h0]; rfl

include h2 h3 in
theorem ref_dh (r : Fin 8192) (l : Fin 256) : val_main_v22 (F := Ideal) x2 x3 (ix3 0 r l) = ((dh w (d r) l : ℝ) : EReal) := by
  pointwise [val_main_v22, val_main_v21, val_main_v18, h2, h3]
  simp only [RealLift.mul, RealLift.sum]; rfl

include h0 h1 h2 h3 in
theorem ref_sum (r : Fin 8192) (l : Fin 256) :
    val_main_v43 (F := Ideal) x0 x1 x2 x3 (ix3 0 r l) = ((RmsNorm.dx 256 (latent z r) g (dh w (d r)) l : ℝ) : EReal) :=
  RmsHost.dx_at RmsHost.shapes_256 0x43800000#32 (val_main_v0 x0) (val_main_v22 x2 x3) x1 (by norm_num) word_256 (latent z) _ g
    (ref_latent x0 z h0) (ref_dh x2 x3 w d h2 h3) h1 r l

include h0 h1 h2 h3 in
/-- The first result: the row's cotangent. -/
theorem ref_dx (r : Fin 8192) (l : Fin 256) :
    val_main_v46 (F := Ideal) x0 x1 x2 x3 (ix2 r l) = ((RmsNorm.dx 256 (latent z r) g (dh w (d r)) l : ℝ) : EReal) := by
  pointwise [val_main_v46, val_main_v45, ref_sum x0 x1 x2 x3 z g w d h0 h1 h2 h3]

include h0 h2 h3 in
/-- The second result: the gain's cotangent. -/
theorem ref_dg (l : Fin 256) :
    val_main_v44 (F := Ideal) x0 x2 x3 (ix2 0 l) = ((∑ r, dh w (d r) l * RmsNorm.xh 256 (latent z r) l : ℝ) : EReal) :=
  RmsHost.dg_at RmsHost.shapes_256 0x43800000#32 (val_main_v0 x0) (val_main_v22 x2 x3) (by norm_num) word_256 (latent z) _
    (ref_latent x0 z h0) (ref_dh x2 x3 w d h2 h3) l

end Cert.QUp
-- ==== Proof.QUpKernel.lean ====
/- The query's up-projection: the padded product with the weight's transpose fused with the norm's gradient, read at an
index: every grid point's rows, and the sum the points accumulate. -/
module

public import proofs.«01_k».proof.Proof.QUpRef
public import proofs.«01_k».proof.Proof.Tiles
public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.QUp

open Cert.Kernel3Ideal Cert.Kernel3Ideal.Gen Cert.RealLift Cert.Tiles

/-- A head's 96 numbers followed by 32 zeros, the heads side by side. -/
def pad (f : Fin 768 → ℝ) (k : Fin 1024) : ℝ :=
  if h : k.val / 128 < 8 ∧ k.val % 128 < 96 then f ⟨k.val / 128 * 96 + k.val % 128, by omega⟩ else 0

/-- The padded product is the product. -/
theorem sum_pad (f g : Fin 768 → ℝ) : ∑ k, pad f k * pad g k = ∑ k, f k * g k := by
  rw [← sum_rowAt (n := 8) (b := 128) rfl, ← sum_rowAt (n := 8) (b := 96) rfl]
  refine Finset.sum_congr rfl fun c _ => ?_
  have h := Fin.sum_univ_add (a := 96) (b := 32) fun e => pad f (rowAt (n := 8) (b := 128) rfl c e) * pad g (rowAt (n := 8) (b := 128) rfl c e)
  have z : ∀ (q : Fin 768 → ℝ) (e : Fin 32), pad q (rowAt (n := 8) (b := 128) rfl c (Fin.natAdd 96 e)) = 0 := fun q e =>
    dif_neg (by simp [rowAt]; omega)
  have y : ∀ (q : Fin 768 → ℝ) (e : Fin 96),
      pad q (rowAt (n := 8) (b := 128) rfl c (Fin.castAdd 32 e)) = q (rowAt (n := 8) (b := 96) rfl c e) := fun q e =>
    (dif_pos (by simp [rowAt]; omega)).trans (congrArg q (Fin.ext (by simp [rowAt]; omega)))
  simp only [z, y, zero_mul, Finset.sum_const_zero, add_zero] at h
  exact h

section Payload

variable (v0 : FVec Ideal S512x1024 .bf16) (v2 : FVec Ideal S256x1024 .bf16) (v5 : FVec Ideal S512x256 .f32) (v27 acc : FVec Ideal S1x256 .f32)
  (x : Fin 512 → Fin 256 → ℝ) (g : Fin 256 → ℝ) (w : Fin 256 → Fin 768 → ℝ) (d : Fin 512 → Fin 8 → Fin 96 → ℝ)
  (h0 : ∀ r k, v0 (ix2 r k) = ((pad (flat (d r)) k : ℝ) : EReal)) (h2 : ∀ r k, v2 (ix2 r k) = ((pad (w r) k : ℝ) : EReal))
  (h5 : ∀ r l, v5 (ix2 r l) = ((x r l : ℝ) : EReal)) (h27 : ∀ l, v27 (ix2 0 l) = ((g l : ℝ) : EReal))

include h0 h2 in
theorem pay_dh (r : Fin 512) (l : Fin 256) : k0_pay2 (F := Ideal) v0 v2 (ix2 r l) = ((dh w (d r) l : ℝ) : EReal) := by
  pointwise [k0_pay2, h0, h2]
  simp only [RealLift.mul, RealLift.sum]
  exact congrArg _ (sum_pad (flat (d r)) (w l))

include h5 in
theorem pay_rs (r : Fin 512) : k0_pay4 (F := Ideal) v5 (ix2 r 0) = ((RmsNorm.rs 256 (x r) : ℝ) : EReal) := by
  pointwise [k0_pay4, k0_pay3, h5]
  simp only [word_256, word_eps, RealLift.mul, RealLift.sum]
  rw [RealLift.div _ (by norm_num), RealLift.add]
  exact RealLift.rsqrt (RmsNorm.vare_pos _ (x r) (by norm_num))

include h5 in
theorem pay_xh (r : Fin 512) (l : Fin 256) : k0_pay5 (F := Ideal) v5 (ix2 r l) = ((RmsNorm.xh 256 (x r) l : ℝ) : EReal) := by
  pointwise [k0_pay5, k0_pay3, h5, pay_rs v5 x h5]
  rw [RealLift.mul]; rfl

include h0 h2 h27 in
theorem pay_dxh (r : Fin 512) (l : Fin 256) :
    k0_pay8 (F := Ideal) v0 v2 v27 (ix2 r l) = ((RmsNorm.dxh g (dh w (d r)) l : ℝ) : EReal) := by
  pointwise [k0_pay8, pay_dh v0 v2 w d h0 h2, h27]
  rw [RealLift.mul]; rfl

include h0 h2 h5 h27 in
theorem pay_dx (r : Fin 512) (l : Fin 256) :
    k0_pay1 (F := Ideal) (k0_pay4 v5) (k0_pay5 v5) (k0_pay8 v0 v2 v27) (k0_pay9 v0 v2 v5 v27) (ix2 r l)
      = ((RmsNorm.dx 256 (x r) g (dh w (d r)) l : ℝ) : EReal) := by
  pointwise [k0_pay1, k0_pay9, pay_rs v5 x h5, pay_xh v5 x h5, pay_dxh v0 v2 v27 g w d h0 h2 h27]
  simp only [word_256, RealLift.mul, RealLift.sum]
  rw [RealLift.div _ (by norm_num)]
  simp only [RealLift.mul, RealLift.sub]
  rfl

include h0 h2 h5 in
theorem pay_dg (l : Fin 256) :
    k0_pay7 (F := Ideal) v0 v2 v5 acc (ix2 0 l) = acc (ix2 0 l) + ((∑ r, dh w (d r) l * RmsNorm.xh 256 (x r) l : ℝ) : EReal) := by
  pointwise [k0_pay7, pay_dh v0 v2 w d h0 h2, pay_xh v5 x h5]
  simp only [RealLift.mul, RealLift.sum]

theorem fill_dg (i : S1x256.Idx) : k0_pay6 (F := Ideal) i = 0 := by pointwise [k0_pay6]

end Payload

variable (m : (ℓ : Loc nD τ sig) → Buf (Elt Ideal) ℓ)

theorem idx : ∀ t : Fin cfg0.N, win0_0.index t = ![t.val, 0] ∧ win0_1.index t = ![0, 0] ∧ win0_2.index t = ![t.val, 4]
    ∧ win0_3.index t = ![0, 0] ∧ win0_4.index t = ![t.val, 0] ∧ win0_5.index t = ![0, 0] :=
  (by decide +kernel : ∀ t : Fin grid0.N, _)

/-- Row `r` of grid point `t` is row `512 t + r` of the arrays. -/
def at512 (t : Fin cfg0.N) (r : Fin 512) : Fin 8192 := rowAt (n := 16) rfl t r

section Launch

variable (dev : Dev nD) (z : Fin 8192 → Fin 1440 → ℝ) (g : Fin 256 → ℝ) (w : Fin 256 → Fin 768 → ℝ) (d : Fin 8192 → Fin 8 → Fin 96 → ℝ)
  (h0 : ∀ r l, m ((dev : Thread nD τ).loc main_arg0) (ix3 0 r l) = ((z r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r k e, m ((dev : Thread nD τ).loc main_arg3) (ix4 0 r k e) = ((d r k e : ℝ) : EReal))

/-- The integer zero, cast to a float, is zero. -/
theorem cast_zero (φ : FTy) : FloatOps.sitofp (F := Ideal) φ 0#32 = ((0 : ℝ) : EReal) := by
  simp [FloatOps.sitofp]

include h3 in
theorem arr_d (r : Fin 8192) (k : Fin 1024) : V m dev main_v9 (ix2 r k) = ((pad (flat (d r)) k : ℝ) : EReal) := by
  unfold V
  after_reads_at
  unfold pad
  split
  · refine (h3 _ _ _).trans (congrArg _ ?_)
    unfold flat
    congr 1 <;> exact Fin.ext (by simp; omega)
  · exact cast_zero _

include h2 in
theorem arr_w (r : Fin 256) (k : Fin 1024) : V m dev main_v14 (ix2 r k) = ((pad (w r) k : ℝ) : EReal) := by
  unfold V
  after_reads_at
  unfold pad
  split
  · exact h2 _ _
  · exact cast_zero _

include h0 in
theorem arr_z (r : Fin 8192) (l : Fin 256) : V m dev main_v5 (ix2 r ⟨1024 + l.val, by omega⟩) = ((latent z r l : ℝ) : EReal) := by
  after_reads_simp
  pointwise
  rw [dif_pos (by omega)]
  after_reads_simp
  pointwise
  exact h0 _ _

include h3 in
theorem blk_d (t : Fin cfg0.N) (r : Fin 512) (k : Fin 1024) : iblk m dev 0 t (ix2 r k) = ((pad (flat (d (at512 t r))) k : ℝ) : EReal) := by
  rw [← arr_d m dev d h3]
  blk_simp [iblk, idx t]
  exact congrArg _ (by blk_ext [idx t, at512, rowAt])

include h2 in
theorem blk_w (t : Fin cfg0.N) (r : Fin 256) (k : Fin 1024) : iblk m dev 1 t (ix2 r k) = ((pad (w r) k : ℝ) : EReal) := by
  rw [← arr_w m dev w h2]
  blk_simp [iblk, idx t]
  exact congrArg _ (by blk_ext [idx t])

include h0 in
theorem blk_x (t : Fin cfg0.N) (r : Fin 512) (l : Fin 256) : iblk m dev 2 t (ix2 r l) = ((latent z (at512 t r) l : ℝ) : EReal) := by
  rw [← arr_z m dev z h0]
  blk_simp [iblk, idx t]
  exact congrArg _ (by blk_ext [idx t, at512, rowAt])

include h1 in
theorem blk_g (t : Fin cfg0.N) (l : Fin 256) : iblk m dev 3 t (ix2 0 l) = ((g l : ℝ) : EReal) := by
  rw [← h1]
  blk_point [iblk, V, idx t]

theorem emb4 (t : Fin cfg0.N) (r : Fin 512) (l : Fin 256) :
    (((cfg0.win 4).blk t).view.emb (ix2 r l : S512x256.Idx) : S8192x256.Idx) = ix2 (at512 t r) l := by
  blk_ext [idx t, at512, rowAt]
/-- The gain's block is its whole array. -/
theorem emb5 (t : Fin cfg0.N) (i : S1x256.Idx) : (((cfg0.win 5).blk t).view.emb i : S1x256.Idx) = i := by blk_ext [idx t]

/-- Every row's cotangent. -/
def dxArr : FVec Ideal S8192x256 .bf16 := fun i =>
  ((RmsNorm.dx 256 (latent z (i 0)) g (dh w (d (i 0))) (i 1) : ℝ) : EReal)
/-- A point's share of the gain's cotangent. -/
def dgPart (t : Fin cfg0.N) : FVec Ideal S1x256 .f32 := fun i =>
  ((∑ r, dh w (d (at512 t r)) (i 1) * RmsNorm.xh 256 (latent z (at512 t r)) (i 1) : ℝ) : EReal)

include h0 h1 h2 h3 in
/-- The first result: every row's cotangent. -/
theorem out_dx : (dats m 0 dev).arrAt 4 cfg0.N = dxArr z g w d := by
  refine (dats m 0 dev).arrAt_eq_of_covers 4 _ (by decide +kernel) fun t hf q => ?_
  blk_simp
  rw [after0_4]
  idx_vars q
  have e := pay_dx _ _ _ _ _ g w _ (blk_d m dev d h3 t) (blk_w m dev w h2 t) (blk_x m dev z h0 t) (blk_g m dev g h1 t)
  have e4 := (e q0 q1).trans (congrArg (dxArr z g w d) (emb4 t q0 q1)).symm
  by_cases ht : t.val % 16 = 0
  · rw [outsAt0_A m dev t ht]; frame_out
    exact e4
  · rw [outsAt0_B m dev t ht]; frame_out
    exact e4

include h0 h2 h3 in
theorem step_dg (t : Fin cfg0.N) (acc : FVec Ideal S1x256 .f32) (i : S1x256.Idx) :
    k0_pay7 (F := Ideal) (iblk m dev 0 t) (iblk m dev 1 t) (iblk m dev 2 t) acc i = acc i + dgPart z w d t i := by
  obtain ⟨l, rfl⟩ := eq_row i
  exact pay_dg _ _ _ acc _ w _ (blk_d m dev d h3 t) (blk_w m dev w h2 t) (blk_x m dev z h0 t) l

include h0 h2 h3 in
/-- The second result: the gain's cotangent. -/
theorem out_dg (l : Fin 256) :
    (dats m 0 dev).arrAt 5 cfg0.N (ix2 0 l) = ((∑ r, dh w (d r) l * RmsNorm.xh 256 (latent z r) l : ℝ) : EReal) := by
  have hw : (dats m 0 dev).arrAt 5 cfg0.N = fun i => ∑ t, dgPart z w d t i := by
    refine (dats m 0 dev).arrAt_eq_of_covers 5 _ (by decide +kernel) fun t hf q => ?_
    blk_simp
    rw [after0_5, Pipeline.eq_sum_fin_of_reset_step_apply_of_flush (fun n h => (outsAt0 m dev n h).2) 16 (fun _ => 0)
      (dgPart z w d)
      (fun t ht j => by
        rw [outsAt0_A m dev t ht]; frame_out
        exact (step_dg m dev z w d h0 h2 h3 t _ j).trans (congrArg (· + _) (fill_dg j)))
      (fun t ht j => by rw [outsAt0_B m dev t ht]; frame_out; exact step_dg m dev z w d h0 h2 h3 t _ j)
      t ((flush0_5 t).mp hf) _, zero_add]
    exact (sum_run (K := 16) (dgPart z w d) t q _).trans (congrArg (fun i => ∑ t, dgPart z w d t i) (emb5 t q).symm)
  rw [hw]
  exact (RealLift.sum _ _).trans (congrArg _ (sum_rowAt (n := 16) (b := 512) rfl (fun r => dh w (d r) l * RmsNorm.xh 256 (latent z r) l)))

end Launch

end Cert.QUp
-- ==== Proof.QUpClaim.lean ====
/- The claim on values: from finite arguments the kernel's two results are the reference's. -/
module

public import proofs.«01_k».proof.Defs
public import Idealize.ShloMosaic.Lib.Quiescent
public import proofs.«01_k».proof.Proof.QUpKernel
public import proofs.«01_k».proof.Proof.QUpRef
public import proofs.«01_k».proof.Proof.Gen.Pre_finite3
public import proofs.«01_k».proof.Proof.Gen.Kernel3Ideal
public import proofs.«01_k».proof.Proof.Gen.Reference3Ideal

@[expose] public section

set_option maxRecDepth 16384

noncomputable section

open Idealize.ShloMosaic Idealize.SL.Sem

namespace Cert.QUp

open Cert.RealLift

/-- Finite arguments are arrays of real numbers. -/
theorem reals_of_finite (x0 : FVec Ideal Cert.Pre_finite3.S1x8192x1440 .f32) (x1 : FVec Ideal Cert.Pre_finite3.S1x256 .f32)
    (x2 : FVec Ideal Cert.Pre_finite3.S1x256x768 .f32) (x3 : FVec Ideal Cert.Pre_finite3.S1x8192x8x96 .f32)
    (e : Cert.Pre_finite3.fn (F := Ideal) x0 x1 x2 x3 = fun _ => 1#1) :
    IsReal x0 ∧ IsReal x1 ∧ IsReal x2 ∧ IsReal x3 := by
  have hs : Subsingleton Cert.Pre_finite3.S_.Idx := ⟨fun a b => funext fun i => i.elim0⟩
  have e1 := congrFun e ix0
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3⟩

theorem frame_reference : Cert.quiescent_Reference3Ideal := fun m g _ =>
  (θ_run _ _ _).mono (fun r h => ⟨fun c => (h c).2.2, sem_eq_zero_of_no_sems rfl r.2⟩) (Cert.Reference3Ideal.Value.run m g)

theorem algebraic : Cert.algebraic_Kernel3Ideal_Reference3Ideal_pre_finite3 := by
  intro m g m' g' hpre hargs
  refine ⟨fun c => (Cert.Kernel3Ideal.Gen.dats m 0 c).arrAt 4 Cert.Kernel3Ideal.cfg0.N,
    fun c => (Cert.Kernel3Ideal.Gen.dats m 0 c).arrAt 5 Cert.Kernel3Ideal.cfg0.N,
    (θ_run _ _ _).mono (fun r h c => h c) (Cert.Kernel3Ideal.Value.run_blocks m g),
    (θ_run _ _ _).mono (fun r h c => ?_) (Cert.Reference3Ideal.Value.run m' g')⟩
  obtain ⟨⟨a0, h0⟩, ⟨a1, h1⟩, ⟨a2, h2⟩, ⟨a3, h3⟩⟩ := reals_of_finite _ _ _ _ (hpre c)
  obtain ⟨e0, e1, e2, e3⟩ := hargs c
  obtain ⟨r1, r3, rest⟩ := h c
  have k0 := fun (r : Fin 8192) (l : Fin 1440) => h0 (ix3 0 r l)
  have k1 := fun l : Fin 256 => h1 (ix2 0 l)
  have k2 := fun (r : Fin 256) (l : Fin 768) => h2 (ix3 0 r l)
  have k3 := fun (r : Fin 8192) (k : Fin 8) (e : Fin 96) => h3 (ix4 0 r k e)
  have l0 := fun (r : Fin 8192) (l : Fin 1440) => (congrFun e0 _).trans (k0 r l)
  have l1 := fun l : Fin 256 => (congrFun e1 _).trans (k1 l)
  have l2 := fun (r : Fin 256) (l : Fin 768) => (congrFun e2 _).trans (k2 r l)
  have l3 := fun (r : Fin 8192) (k : Fin 8) (e : Fin 96) => (congrFun e3 _).trans (k3 r k e)
  refine ⟨r1.trans ?_, r3.trans ?_, rest⟩
  · refine (Cert.Reference3Ideal.Read.val_main_v46_eq _ _).trans (Eq.trans ?_ (out_dx m c _ _ _ _ k0 k1 k2 k3).symm)
    funext i
    idx_vars i
    exact ref_dx _ _ _ _ _ _ _ _ l0 l1 l2 l3 i0 i1
  · refine (Cert.Reference3Ideal.Read.val_main_v44_eq _ _ _).trans ?_
    funext i
    obtain ⟨l, rfl⟩ := Cert.Tiles.eq_row i
    exact (ref_dg _ _ _ _ _ _ l0 l2 l3 l).trans (out_dg m c _ _ _ k0 k2 k3 l).symm

end Cert.QUp
-- ==== Proof.InRef.lean ====
/- The reference's gradient of the input projection `rms_norm x @ w`, with the residual's cotangent added, read at an index. -/
module

public import proofs.«01_k».proof.Proof.RmsHost
public import proofs.«01_k».proof.Proof.Gen.Reference4Ideal.Run
public import proofs.«01_k».proof.Proof.Gen.Reference4Ideal.Read

@[expose] public section

set_option maxRecDepth 16384

noncomputable section

namespace Cert.In

open Idealize.ShloMosaic Idealize.ShloMosaic.TcCoe Idealize.SL.Sem Idealize.ShloMosaic.StableHlo
open Cert.Reference4Ideal Cert.Reference4Ideal.Gen Cert.Reference4Ideal.Read Cert.RealLift

/-- The norm's cotangent: the product's cotangent times the weight's transpose. -/
def dh (w : Fin 1024 → Fin 1440 → ℝ) (d : Fin 1440 → ℝ) (l : Fin 1024) : ℝ := ∑ k, d k * w l k

variable (x0 : (⟨S1x8192x1024, .f32⟩ : BufTy).Contents (Elt Ideal)) (x1 : (⟨S1x1024, .f32⟩ : BufTy).Contents (Elt Ideal))
  (x2 : (⟨S1x1024x1440, .f32⟩ : BufTy).Contents (Elt Ideal)) (x3 : (⟨S1x8192x1440, .f32⟩ : BufTy).Contents (Elt Ideal))
  (x4 : (⟨S1x8192x1024, .f32⟩ : BufTy).Contents (Elt Ideal))
  (x : Fin 8192 → Fin 1024 → ℝ) (g : Fin 1024 → ℝ) (w : Fin 1024 → Fin 1440 → ℝ) (d : Fin 8192 → Fin 1440 → ℝ)
  (y : Fin 8192 → Fin 1024 → ℝ)
  (h0 : ∀ r l, x0 (ix3 0 r l) = ((x r l : ℝ) : EReal)) (h1 : ∀ l, x1 (ix2 0 l) = ((g l : ℝ) : EReal))
  (h2 : ∀ r l, x2 (ix3 0 r l) = ((w r l : ℝ) : EReal)) (h3 : ∀ r l, x3 (ix3 0 r l) = ((d r l : ℝ) : EReal))
  (h4 : ∀ r l, x4 (ix3 0 r l) = ((y r l : ℝ) : EReal))

include h2 h3 in
theorem ref_dh (r : Fin 8192) (l : Fin 1024) : val_main_v19 (F := Ideal) x2 x3 (ix3 0 r l) = ((dh w (d r) l : ℝ) : EReal) := by
  pointwise [val_main_v19, val_main_v17, h2, h3]
  simp only [RealLift.mul, RealLift.sum]; rfl

include h0 h1 h2 h3 h4 in
theorem ref_sum (r : Fin 8192) (l : Fin 1024) :
    val_main_v41 (F := Ideal) x0 x1 x2 x3 x4 (ix3 0 r l) = ((y r l + RmsNorm.dx 1024 (x r) g (dh w (d r)) l : ℝ) : EReal) :=
  RmsHost.dxRes_at RmsHost.shapes_1024 0x44800000#32 x0 (val_main_v19 x2 x3) x4 x1 (by norm_num) word_1024 x _ y g h0
    (ref_dh x2 x3 w d h2 h3) h4 h1 r l

include h0 h1 h2 h3 h4 in
/-- The first result: the row's cotangent. -/
theorem ref_dx (r : Fin 8192) (l : Fin 1024) :
    val_main_v43 (F := Ideal) x0 x1 x2 x3 x4 (ix2 r l) = ((y r l + RmsNorm.dx 1024 (x r) g (dh w (d r)) l : ℝ) : EReal) := by
  pointwise [val_main_v43, ref_sum x0 x1 x2 x3 x4 x g w d y h0 h1 h2 h3 h4]

include h0 h2 h3 in
/-- The second result: the gain's cotangent. -/
theorem ref_dg (l : Fin 1024) :
    val_main_v42 (F := Ideal) x0 x2 x3 (ix2 0 l) = ((∑ r, dh w (d r) l * RmsNorm.xh 1024 (x r) l : ℝ) : EReal) :=
  RmsHost.dg_at RmsHost.shapes_1024 0x44800000#32 x0 (val_main_v19 x2 x3) (by norm_num) word_1024 x _ h0 (ref_dh x2 x3 w d h2 h3) l

end Cert.In
-- ==== Proof.InKernel.lean ====
/- The input projection's products with the weight's transpose, in four pieces, fused with the norm's gradient, read at an
index: every grid point's rows, and the sum the points accumulate. -/
module

public import proofs.«01_k».proof.Proof.InRef
public import proofs.«01_k».proof.Proof.Tiles
public import proofs.«01_k».proof.Proof.Gen.Kernel4Ideal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.In

open Cert.Kernel4Ideal Cert.Kernel4Ideal.Gen Cert.RealLift Cert.Tiles

/-- The last 32 of 1440 columns, between 64 and 32 columns of zeros. -/
def pad (f : Fin 1440 → ℝ) (k : Fin 128) : ℝ :=
  if h : k.val < 64 then 0 else if h : k.val - 64 < 32 then f ⟨1408 + (k.val - 64), by omega⟩ else 0

/-- Columns `c`, `c + 1`, … of 1440. -/
def piece {n : ℕ} (c : ℕ) (h : c + n ≤ 1440) (f : Fin 1440 → ℝ) (k : Fin n) : ℝ := f ⟨c + k.val, by omega⟩

/-- The four pieces' products are the whole product. -/
theorem sum_pieces (f g : Fin 1440 → ℝ) :
    ∑ k : Fin 1024, piece 0 (by omega) f k * piece 0 (by omega) g k + ∑ k : Fin 256, piece 1024 (by omega) f k * piece 1024 (by omega) g k
      + ∑ k : Fin 128, piece 1280 (by omega) f k * piece 1280 (by omega) g k + ∑ k, pad f k * pad g k = ∑ k, f k * g k := by
  have h1 := Fin.sum_univ_add (a := 1024 + 256 + 128) (b := 32) fun k => f k * g k
  have h2 := Fin.sum_univ_add (a := 1024 + 256) (b := 128) fun k => f (Fin.castAdd 32 k) * g (Fin.castAdd 32 k)
  have h3 := Fin.sum_univ_add (a := 1024) (b := 256) fun k => f (Fin.castAdd 32 (Fin.castAdd 128 k)) * g (Fin.castAdd 32 (Fin.castAdd 128 k))
  have h4 := Fin.sum_univ_add (a := 64 + 32) (b := 32) fun k => pad f k * pad g k
  have h5 := Fin.sum_univ_add (a := 64) (b := 32) fun k => pad f (Fin.castAdd 32 k) * pad g (Fin.castAdd 32 k)
  have z1 : ∀ k : Fin 64, pad f (Fin.castAdd 32 (Fin.castAdd 32 k)) = 0 := fun k => dif_pos (by simp)
  have z2 : ∀ k : Fin 32, pad f (Fin.natAdd (64 + 32) k) = 0 := fun k =>
    (dif_neg (by simp; omega)).trans (dif_neg (by simp; omega))
  have z3 : ∀ (q : Fin 1440 → ℝ) (k : Fin 32), pad q (Fin.castAdd 32 (Fin.natAdd 64 k)) = q (Fin.natAdd (1024 + 256 + 128) k) := fun q k =>
    (dif_neg (by simp)).trans ((dif_pos (by simp)).trans (congrArg q (Fin.ext (by simp))))
  simp only [z1, z2, z3, zero_mul, Finset.sum_const_zero, zero_add, add_zero] at h4 h5
  rw [h4, h5]
  refine Eq.trans ?_ (h1.trans (congrArg (· + _) (h2.trans (congrArg (· + _) h3)))).symm
  refine congrArg₂ (· + ·) (congrArg₂ (· + ·) (congrArg₂ (· + ·) (Finset.sum_congr rfl fun k _ => ?_) rfl) rfl) rfl
  have e : (⟨0 + k.val, by omega⟩ : Fin 1440) = Fin.castAdd 32 (Fin.castAdd 128 (Fin.castAdd 256 k)) := Fin.ext (Nat.zero_add _)
  simp only [piece, e]

section Payload

variable (v0 : FVec Ideal S512x1024 .bf16) (v2 : FVec Ideal S1024x1024 .bf16) (v5 : FVec Ideal S512x256 .bf16)
  (v7 : FVec Ideal S1024x256 .bf16) (v11 : FVec Ideal S512x128 .bf16) (v13 v20 : FVec Ideal S1024x128 .bf16)
  (v17 : FVec Ideal S512x128 .f32) (v24 v59 : FVec Ideal S512x1024 .f32) (v46 acc : FVec Ideal S1x1024 .f32)
  (x y : Fin 512 → Fin 1024 → ℝ) (g : Fin 1024 → ℝ) (w : Fin 1024 → Fin 1440 → ℝ) (d : Fin 512 → Fin 1440 → ℝ)
  (h0 : ∀ r k, v0 (ix2 r k) = ((piece 0 (by omega) (d r) k : ℝ) : EReal)) (h2 : ∀ r k, v2 (ix2 r k) = ((piece 0 (by omega) (w r) k : ℝ) : EReal))
  (h5 : ∀ r k, v5 (ix2 r k) = ((piece 1024 (by omega) (d r) k : ℝ) : EReal))
  (h7 : ∀ r k, v7 (ix2 r k) = ((piece 1024 (by omega) (w r) k : ℝ) : EReal))
  (h11 : ∀ r k, v11 (ix2 r k) = ((piece 1280 (by omega) (d r) k : ℝ) : EReal))
  (h13 : ∀ r k, v13 (ix2 r k) = ((piece 1280 (by omega) (w r) k : ℝ) : EReal))
  (h17 : ∀ r k, v17 (ix2 r k) = ((pad (d r) k : ℝ) : EReal)) (h20 : ∀ r k, v20 (ix2 r k) = ((pad (w r) k : ℝ) : EReal))
  (h24 : ∀ r l, v24 (ix2 r l) = ((x r l : ℝ) : EReal)) (h59 : ∀ r l, v59 (ix2 r l) = ((y r l : ℝ) : EReal))
  (h46 : ∀ l, v46 (ix2 0 l) = ((g l : ℝ) : EReal))

include h0 h2 h5 h7 h11 h13 h17 h20 in
theorem pay_dh (r : Fin 512) (l : Fin 1024) :
    k0_pay5 (F := Ideal) v0 v2 v5 v7 v11 v13 v17 v20 (ix2 r l) = ((dh w (d r) l : ℝ) : EReal) := by
  pointwise [k0_pay5, h0, h2, h5, h7, h11, h13, h17, h20]
  simp only [RealLift.mul, RealLift.sum, RealLift.add]
  exact congrArg _ (sum_pieces (d r) (w l))

include h24 in
theorem pay_rs (r : Fin 512) : k0_pay7 (F := Ideal) v24 (ix2 r 0) = ((RmsNorm.rs 1024 (x r) : ℝ) : EReal) := by
  pointwise [k0_pay7, k0_pay6, h24]
  simp only [word_1024, word_eps, RealLift.mul, RealLift.sum]
  rw [RealLift.div _ (by norm_num), RealLift.add]
  exact RealLift.rsqrt (RmsNorm.vare_pos _ (x r) (by norm_num))

include h24 in
theorem pay_xh (r : Fin 512) (l : Fin 1024) :
    k0_pay1 (F := Ideal) (k0_pay6 v24) (k0_pay7 v24) (ix2 r l) = ((RmsNorm.xh 1024 (x r) l : ℝ) : EReal) := by
  pointwise [k0_pay1, k0_pay6, h24, pay_rs v24 x h24]
  rw [RealLift.mul]; rfl

include h0 h2 h5 h7 h11 h13 h17 h20 h24 h59 h46 in
theorem pay_dx (r : Fin 512) (l : Fin 1024) :
    k0_pay4 (F := Ideal) (k0_pay5 v0 v2 v5 v7 v11 v13 v17 v20) (k0_pay6 v24) (k0_pay7 v24) v46 v59 (ix2 r l)
      = ((y r l + RmsNorm.dx 1024 (x r) g (dh w (d r)) l : ℝ) : EReal) := by
  pointwise [k0_pay4, pay_dh v0 v2 v5 v7 v11 v13 v20 v17 w d h0 h2 h5 h7 h11 h13 h17 h20, pay_rs v24 x h24, pay_xh v24 x h24, h46, h59]
  simp only [word_1024, RealLift.mul, RealLift.sum]
  rw [RealLift.div _ (by norm_num)]
  simp only [RealLift.mul, RealLift.sub, RealLift.add]
  rfl

include h0 h2 h5 h7 h11 h13 h17 h20 h24 in
theorem pay_dg (l : Fin 1024) :
    k0_pay3 (F := Ideal) (k0_pay5 v0 v2 v5 v7 v11 v13 v17 v20) (k0_pay6 v24) (k0_pay7 v24) acc (ix2 0 l)
      = acc (ix2 0 l) + ((∑ r, dh w (d r) l * RmsNorm.xh 1024 (x r) l : ℝ) : EReal) := by
  pointwise [k0_pay3, pay_dh v0 v2 v5 v7 v11 v13 v20 v17 w d h0 h2 h5 h7 h11 h13 h17 h20, pay_xh v24 x h24]
  simp only [RealLift.mul, RealLift.sum]

theorem fill_dg (i : S1x1024.Idx) : k0_pay2 (F := Ideal) i = 0 := by pointwise [k0_pay2]

end Payload

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![t.val, 0]
    ∧ win0_11.index t = ![t.val, 0] ∧ win0_12.index t = ![0, 0] :=
  (by decide +kernel : ∀ t : Fin grid0.N, _)

/-- Row `r` of grid point `t` is row `512 t + r` of the arrays. -/
def at512 (t : Fin cfg0.N) (r : Fin 512) : Fin 8192 := rowAt (n := 16) rfl t r

section Launch

variable (dev : Dev nD) (x : Fin 8192 → Fin 1024 → ℝ) (g : Fin 1024 → ℝ) (w : Fin 1024 → Fin 1440 → ℝ) (d : Fin 8192 → Fin 1440 → ℝ)
  (y : Fin 8192 → Fin 1024 → ℝ)
  (h0 : ∀ r l, m ((dev : Thread nD τ).loc main_arg0) (ix3 0 r l) = ((x r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r l, m ((dev : Thread nD τ).loc main_arg3) (ix3 0 r l) = ((d r l : ℝ) : EReal))
  (h4 : ∀ r l, m ((dev : Thread nD τ).loc main_arg4) (ix3 0 r l) = ((y r l : ℝ) : EReal))

include h3 in
theorem arr_d0 (r : Fin 8192) (k : Fin 1024) : V m dev main_v13 (ix2 r k) = ((piece 0 (by omega) (d r) k : ℝ) : EReal) := by
  after_reads_simp
  pointwise
  simp only [piece, Nat.zero_add]
  exact h3 _ _

include h3 in
theorem blk_d0 (t : Fin cfg0.N) (r : Fin 512) (k : Fin 1024) : iblk m dev 0 t (ix2 r k) = ((piece 0 (by omega) (d (at512 t r)) k : ℝ) : EReal) := by
  rw [← arr_d0 m dev d h3]
  blk_simp [iblk, idx t]
  exact congrArg _ (by blk_ext [idx t, at512, rowAt])

include h3 in
theorem arr_d1 (r : Fin 8192) (k : Fin 256) : V m dev main_v16 (ix2 r k) = ((piece 1024 (by omega) (d r) k : ℝ) : EReal) := by
  after_reads_simp
  pointwise
  exact h3 _ _

include h3 in
theorem blk_d1 (t : Fin cfg0.N) (r : Fin 512) (k : Fin 256) : iblk m dev 1 t (ix2 r k) = ((piece 1024 (by omega) (d (at512 t r)) k : ℝ) : EReal) := by
  rw [← arr_d1 m dev d h3]
  blk_simp [iblk, idx t]
  exact congrArg _ (by blk_ext [idx t, at512, rowAt])

include h3 in
theorem arr_d2 (r : Fin 8192) (k : Fin 128) : V m dev main_v19 (ix2 r k) = ((piece 1280 (by omega) (d r) k : ℝ) : EReal) := by
  after_reads_simp
  pointwise
  exact h3 _ _

include h3 in
theorem blk_d2 (t : Fin cfg0.N) (r : Fin 512) (k : Fin 128) : iblk m dev 2 t (ix2 r k) = ((piece 1280 (by omega) (d (at512 t r)) k : ℝ) : EReal) := by
  rw [← arr_d2 m dev d h3]
  blk_simp [iblk, idx t]
  exact congrArg _ (by blk_ext [idx t, at512, rowAt])

include h3 in
theorem arr_d3 (r : Fin 8192) (k : Fin 128) : V m dev main_v11 (ix2 r k) = ((pad (d r) k : ℝ) : EReal) := by
  after_reads_simp
  pointwise
  after_reads_simp
  pointwise
  unfold pad
  split
  · rfl
  · split
    · exact h3 _ _
    · rfl

include h3 in
theorem blk_d3 (t : Fin cfg0.N) (r : Fin 512) (k : Fin 128) : iblk m dev 3 t (ix2 r k) = ((pad (d (at512 t r)) k : ℝ) : EReal) := by
  rw [← arr_d3 m dev d h3]
  blk_simp [iblk, idx t]
  exact congrArg _ (by blk_ext [idx t, at512, rowAt])

include h2 in
theorem arr_w0 (r : Fin 1024) (k : Fin 1024) : V m dev main_v14 (ix2 r k) = ((piece 0 (by omega) (w r) k : ℝ) : EReal) := by
  after_reads_simp
  pointwise
  after_reads_simp
  pointwise
  rw [dif_pos (by omega)]
  simp only [piece, Nat.zero_add]
  exact h2 _ _

include h2 in
theorem blk_w0 (t : Fin cfg0.N) (r : Fin 1024) (k : Fin 1024) : iblk m dev 4 t (ix2 r k) = ((piece 0 (by omega) (w r) k : ℝ) : EReal) := by
  rw [← arr_w0 m dev w h2]
  blk_simp [iblk, idx t]
  exact congrArg _ (by blk_ext [idx t])

include h2 in
theorem arr_w1 (r : Fin 1024) (k : Fin 256) : V m dev main_v17 (ix2 r k) = ((piece 1024 (by omega) (w r) k : ℝ) : EReal) := by
  after_reads_simp
  pointwise
  after_reads_simp
  pointwise
  rw [dif_pos (by omega)]
  exact h2 _ _

include h2 in
theorem blk_w1 (t : Fin cfg0.N) (r : Fin 1024) (k : Fin 256) : iblk m dev 5 t (ix2 r k) = ((piece 1024 (by omega) (w r) k : ℝ) : EReal) := by
  rw [← arr_w1 m dev w h2]
  blk_simp [iblk, idx t]
  exact congrArg _ (by blk_ext [idx t])

include h2 in
theorem arr_w2 (r : Fin 1024) (k : Fin 128) : V m dev main_v20 (ix2 r k) = ((piece 1280 (by omega) (w r) k : ℝ) : EReal) := by
  after_reads_simp
  pointwise
  after_reads_simp
  pointwise
  rw [dif_pos (by omega)]
  exact h2 _ _

include h2 in
theorem blk_w2 (t : Fin cfg0.N) (r : Fin 1024) (k : Fin 128) : iblk m dev 6 t (ix2 r k) = ((piece 1280 (by omega) (w r) k : ℝ) : EReal) := by
  rw [← arr_w2 m dev w h2]
  blk_simp [iblk, idx t]
  exact congrArg _ (by blk_ext [idx t])

include h2 in
theorem arr_w3 (r : Fin 1024) (k : Fin 128) : V m dev main_v21 (ix2 r k) = ((pad (w r) k : ℝ) : EReal) := by
  after_reads_simp
  pointwise
  after_reads_simp
  pointwise
  unfold pad
  split
  · rfl
  · split
    · exact h2 _ _
    · rfl

include h2 in
theorem blk_w3 (t : Fin cfg0.N) (r : Fin 1024) (k : Fin 128) : iblk m dev 7 t (ix2 r k) = ((pad (w r) k : ℝ) : EReal) := by
  rw [← arr_w3 m dev w h2]
  blk_simp [iblk, idx t]
  exact congrArg _ (by blk_ext [idx t])

include h0 in
theorem blk_x (t : Fin cfg0.N) (r : Fin 512) (l : Fin 1024) : iblk m dev 8 t (ix2 r l) = ((x (at512 t r) l : ℝ) : EReal) := by
  rw [← h0]
  blk_simp [iblk, idx t]
  entry_read
  pointwise
  blk_ext [idx t, at512, rowAt]

include h1 in
theorem blk_g (t : Fin cfg0.N) (l : Fin 1024) : iblk m dev 9 t (ix2 0 l) = ((g l : ℝ) : EReal) := by
  rw [← h1]
  blk_point [iblk, V, idx t]

include h4 in
theorem blk_y (t : Fin cfg0.N) (r : Fin 512) (l : Fin 1024) : iblk m dev 10 t (ix2 r l) = ((y (at512 t r) l : ℝ) : EReal) := by
  rw [← h4]
  blk_simp [iblk, idx t]
  entry_read
  pointwise
  blk_ext [idx t, at512, rowAt]

theorem emb11 (t : Fin cfg0.N) (r : Fin 512) (l : Fin 1024) :
    (((cfg0.win 11).blk t).view.emb (ix2 r l : S512x1024.Idx) : S8192x1024.Idx) = ix2 (at512 t r) l := by
  blk_ext [idx t, at512, rowAt]
/-- The gain's block is its whole array. -/
theorem emb12 (t : Fin cfg0.N) (i : S1x1024.Idx) : (((cfg0.win 12).blk t).view.emb i : S1x1024.Idx) = i := by blk_ext [idx t]

/-- Every row's cotangent. -/
def dxArr : FVec Ideal S8192x1024 .f32 := fun i =>
  ((y (i 0) (i 1) + RmsNorm.dx 1024 (x (i 0)) g (dh w (d (i 0))) (i 1) : ℝ) : EReal)
/-- A point's share of the gain's cotangent. -/
def dgPart (t : Fin cfg0.N) : FVec Ideal S1x1024 .f32 := fun i =>
  ((∑ r, dh w (d (at512 t r)) (i 1) * RmsNorm.xh 1024 (x (at512 t r)) (i 1) : ℝ) : EReal)

include h0 h1 h2 h3 h4 in
/-- The first result: every row's cotangent. -/
theorem out_dx : (dats m 0 dev).arrAt 11 cfg0.N = dxArr x g w d y := by
  refine (dats m 0 dev).arrAt_eq_of_covers 11 _ (by decide +kernel) fun t hf q => ?_
  blk_simp
  rw [after0_11]
  idx_vars q
  have e := pay_dx _ _ _ _ _ _ _ _ _ _ _ _ _ g w _ (blk_d0 m dev d h3 t) (blk_w0 m dev w h2 t)
    (blk_d1 m dev d h3 t) (blk_w1 m dev w h2 t) (blk_d2 m dev d h3 t) (blk_w2 m dev w h2 t) (blk_d3 m dev d h3 t) (blk_w3 m dev w h2 t)
    (blk_x m dev x h0 t) (blk_y m dev y h4 t) (blk_g m dev g h1 t)
  have e4 := (e q0 q1).trans (congrArg (dxArr x g w d y) (emb11 t q0 q1)).symm
  by_cases ht : t.val % 16 = 0
  · rw [outsAt0_A m dev t ht]; frame_out
    exact e4
  · rw [outsAt0_B m dev t ht]; frame_out
    exact e4

include h0 h2 h3 in
theorem step_dg (t : Fin cfg0.N) (acc : FVec Ideal S1x1024 .f32) (i : S1x1024.Idx) :
    k0_pay3 (F := Ideal) (k0_pay5 (iblk m dev 0 t) (iblk m dev 4 t) (iblk m dev 1 t) (iblk m dev 5 t) (iblk m dev 2 t) (iblk m dev 6 t)
      (iblk m dev 3 t) (iblk m dev 7 t)) (k0_pay6 (iblk m dev 8 t)) (k0_pay7 (iblk m dev 8 t)) acc i = acc i + dgPart x w d t i := by
  obtain ⟨l, rfl⟩ := eq_row i
  exact pay_dg _ _ _ _ _ _ _ _ _ acc _ w _ (blk_d0 m dev d h3 t) (blk_w0 m dev w h2 t)
    (blk_d1 m dev d h3 t) (blk_w1 m dev w h2 t) (blk_d2 m dev d h3 t) (blk_w2 m dev w h2 t) (blk_d3 m dev d h3 t) (blk_w3 m dev w h2 t)
    (blk_x m dev x h0 t) l

include h0 h2 h3 in
/-- The second result: the gain's cotangent. -/
theorem out_dg (l : Fin 1024) :
    (dats m 0 dev).arrAt 12 cfg0.N (ix2 0 l) = ((∑ r, dh w (d r) l * RmsNorm.xh 1024 (x r) l : ℝ) : EReal) := by
  have hw : (dats m 0 dev).arrAt 12 cfg0.N = fun i => ∑ t, dgPart x w d t i := by
    refine (dats m 0 dev).arrAt_eq_of_covers 12 _ (by decide +kernel) fun t hf q => ?_
    blk_simp
    rw [after0_12, Pipeline.eq_sum_fin_of_reset_step_apply_of_flush (fun n h => (outsAt0 m dev n h).2) 16 (fun _ => 0)
      (dgPart x w d)
      (fun t ht j => by
        rw [outsAt0_A m dev t ht]; frame_out
        exact (step_dg m dev x w d h0 h2 h3 t _ j).trans (congrArg (· + _) (fill_dg j)))
      (fun t ht j => by rw [outsAt0_B m dev t ht]; frame_out; exact step_dg m dev x w d h0 h2 h3 t _ j)
      t ((flush0_12 t).mp hf) _, zero_add]
    exact (sum_run (K := 16) (dgPart x w d) t q _).trans (congrArg (fun i => ∑ t, dgPart x w d t i) (emb12 t q).symm)
  rw [hw]
  exact (RealLift.sum _ _).trans (congrArg _ (sum_rowAt (n := 16) (b := 512) rfl (fun r => dh w (d r) l * RmsNorm.xh 1024 (x r) l)))

end Launch

end Cert.In
-- ==== Proof.InClaim.lean ====
/- The claim on values: from finite arguments the kernel's two results are the reference's. -/
module

public import proofs.«01_k».proof.Defs
public import Idealize.ShloMosaic.Lib.Quiescent
public import proofs.«01_k».proof.Proof.InKernel
public import proofs.«01_k».proof.Proof.InRef
public import proofs.«01_k».proof.Proof.Gen.Pre_finite4
public import proofs.«01_k».proof.Proof.Gen.Kernel4Ideal
public import proofs.«01_k».proof.Proof.Gen.Reference4Ideal

@[expose] public section

set_option maxRecDepth 16384

noncomputable section

open Idealize.ShloMosaic Idealize.SL.Sem

namespace Cert.In

open Cert.RealLift

/-- Finite arguments are arrays of real numbers. -/
theorem reals_of_finite (x0 : FVec Ideal Cert.Pre_finite4.S1x8192x1024 .f32) (x1 : FVec Ideal Cert.Pre_finite4.S1x1024 .f32)
    (x2 : FVec Ideal Cert.Pre_finite4.S1x1024x1440 .f32) (x3 : FVec Ideal Cert.Pre_finite4.S1x8192x1440 .f32)
    (x4 : FVec Ideal Cert.Pre_finite4.S1x8192x1024 .f32) (e : Cert.Pre_finite4.fn (F := Ideal) x0 x1 x2 x3 x4 = fun _ => 1#1) :
    IsReal x0 ∧ IsReal x1 ∧ IsReal x2 ∧ IsReal x3 ∧ IsReal x4 := by
  have hs : Subsingleton Cert.Pre_finite4.S_.Idx := ⟨fun a b => funext fun i => i.elim0⟩
  have e1 := congrFun e ix0
  obtain ⟨e1, h4⟩ := IntOp.andi_eq_one.mp e1
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3, real_of_test _ _ _ _ _ _ _ h4⟩

theorem frame_reference : Cert.quiescent_Reference4Ideal := fun m g _ =>
  (θ_run _ _ _).mono (fun r h => ⟨fun c => (h c).2.2, sem_eq_zero_of_no_sems rfl r.2⟩) (Cert.Reference4Ideal.Value.run m g)

theorem algebraic : Cert.algebraic_Kernel4Ideal_Reference4Ideal_pre_finite4 := by
  intro m g m' g' hpre hargs
  refine ⟨fun c => (Cert.Kernel4Ideal.Gen.dats m 0 c).arrAt 11 Cert.Kernel4Ideal.cfg0.N,
    fun c => (Cert.Kernel4Ideal.Gen.dats m 0 c).arrAt 12 Cert.Kernel4Ideal.cfg0.N,
    (θ_run _ _ _).mono (fun r h c => h c) (Cert.Kernel4Ideal.Value.run_blocks m g),
    (θ_run _ _ _).mono (fun r h c => ?_) (Cert.Reference4Ideal.Value.run m' g')⟩
  obtain ⟨⟨a0, h0⟩, ⟨a1, h1⟩, ⟨a2, h2⟩, ⟨a3, h3⟩, ⟨a4, h4⟩⟩ := reals_of_finite _ _ _ _ _ (hpre c)
  obtain ⟨e0, e1, e2, e3, e4⟩ := hargs c
  obtain ⟨r1, r3, rest⟩ := h c
  have k0 := fun (r : Fin 8192) (l : Fin 1024) => h0 (ix3 0 r l)
  have k1 := fun l : Fin 1024 => h1 (ix2 0 l)
  have k2 := fun (r : Fin 1024) (l : Fin 1440) => h2 (ix3 0 r l)
  have k3 := fun (r : Fin 8192) (l : Fin 1440) => h3 (ix3 0 r l)
  have k4 := fun (r : Fin 8192) (l : Fin 1024) => h4 (ix3 0 r l)
  have l0 := fun (r : Fin 8192) (l : Fin 1024) => (congrFun e0 _).trans (k0 r l)
  have l1 := fun l : Fin 1024 => (congrFun e1 _).trans (k1 l)
  have l2 := fun (r : Fin 1024) (l : Fin 1440) => (congrFun e2 _).trans (k2 r l)
  have l3 := fun (r : Fin 8192) (l : Fin 1440) => (congrFun e3 _).trans (k3 r l)
  have l4 := fun (r : Fin 8192) (l : Fin 1024) => (congrFun e4 _).trans (k4 r l)
  refine ⟨r1.trans ?_, r3.trans ?_, rest⟩
  · refine (Cert.Reference4Ideal.Read.val_main_v43_eq _ _).trans (Eq.trans ?_ (out_dx m c _ _ _ _ _ k0 k1 k2 k3 k4).symm)
    funext i
    idx_vars i
    exact ref_dx _ _ _ _ _ _ _ _ _ _ l0 l1 l2 l3 l4 i0 i1
  · refine (Cert.Reference4Ideal.Read.val_main_v42_eq _ _ _).trans ?_
    funext i
    obtain ⟨l, rfl⟩ := Cert.Tiles.eq_row i
    exact (ref_dg _ _ _ _ _ _ l0 l2 l3 l).trans (out_dg m c _ _ _ k0 k2 k3 l).symm

end Cert.In
-- ==== Proof.Softmax.lean ====
/- The softmax of a row of real numbers and its gradient: subtracting any number from the row changes nothing, and a row's
maximum, computed from minus infinity, is a real number. -/
module

public import proofs.«01_k».proof.Proof.RealLift
public import Idealize.ShloMosaic.Lib.Pointwise

@[expose] public section

noncomputable section

namespace Cert.Softmax

variable {n : ℕ} (s d : Fin n → ℝ)

/-- The softmax of the row at entry `j`. -/
def prob (j : Fin n) : ℝ := Real.exp (s j) / ∑ i, Real.exp (s i)

/-- The row's cotangent from the softmax's cotangent `d`. -/
def grad (j : Fin n) : ℝ := prob s j * (d j - ∑ i, d i * prob s i)

theorem sum_pos (hn : 0 < n) : 0 < ∑ i, Real.exp (s i) :=
  Finset.sum_pos (fun _ _ => Real.exp_pos _) ⟨⟨0, hn⟩, Finset.mem_univ _⟩

theorem prob_shift (M : ℝ) (j : Fin n) : Real.exp (s j - M) / ∑ i, Real.exp (s i - M) = prob s j := by
  unfold prob
  simp only [Real.exp_sub]
  rw [← Finset.sum_div, div_div_div_cancel_right₀ (Real.exp_pos M).ne']

/-- The gradient as differentiating the quotient writes it. -/
theorem grad_shift (M : ℝ) (j : Fin n) (hn : 0 < n) :
    (d j / (∑ i, Real.exp (s i - M)) + -(∑ i, d i * (1 / ((∑ i, Real.exp (s i - M)) * ∑ i, Real.exp (s i - M))) * Real.exp (s i - M)))
      * Real.exp (s j - M) = grad s d j := by
  have hS := (sum_pos (fun i => s i - M) hn).ne'
  unfold grad
  simp only [← prob_shift s M]
  generalize hT : ∑ i, Real.exp (s i - M) = T at *
  have h1 : ∀ i, d i * (1 / (T * T)) * Real.exp (s i - M) = d i * (Real.exp (s i - M) / T) / T := fun i => by field_simp
  simp only [h1, ← Finset.sum_div]
  generalize ∑ i, d i * (Real.exp (s i - M) / T) = D
  field_simp
  ring

/-- A nonempty row's maximum, started from minus infinity, is a real number. -/
theorem fold_max (hn : 0 < n) : ∃ M : ℝ, (Finset.univ : Finset (Fin n)).fold max (⊥ : EReal) (fun k => ((s k : ℝ) : EReal)) = ((M : ℝ) : EReal) := by
  obtain ⟨k, -, hk⟩ := Finset.exists_mem_eq_sup (Finset.univ : Finset (Fin n)) ⟨⟨0, hn⟩, Finset.mem_univ _⟩ (fun k => ((s k : ℝ) : EReal))
  exact ⟨s k, hk⟩

open Idealize.ShloMosaic in
/-- A host maximum over the last axis, from minus infinity, over a row some of whose entries are minus infinity. -/
theorem reduce_max_visible {a b m : ℕ} {u : Shape} (x : FVec Ideal ⟨4, ![a, b, m, n]⟩ .f32) (init : FVec Ideal u .f32)
    (h : (⟨4, ![a, b, m, n]⟩ : Shape).ReducesTo [3] ⟨3, ![a, b, m]⟩) (hu : 0 < u.numel) (hi : init (Shape.Idx.first hu) = (⊥ : EReal))
    (i : Fin a) (j : Fin b) (k : Fin m) (hx : ∀ l, x (ix4 i j k l) ≠ (⊤ : EReal)) (l₀ : Fin n) (h₀ : x (ix4 i j k l₀) ≠ (⊥ : EReal)) :
    ∃ M : ℝ, Host.reduce FloatOps.maximumf x init h hu (ix3 i j k) = ((M : ℝ) : EReal) := by
  have e := Host.reduce_eq_fold (max : EReal → EReal → EReal) x init h hu (ix3 i j k)
  rw [hi, Shape.ReducesTo.fold_fiber_r4_a3 h] at e
  have e2 : Host.reduce FloatOps.maximumf x init h hu (ix3 i j k) = (Finset.univ : Finset (Fin n)).fold max (⊥ : EReal) fun l => x (ix4 i j k l) :=
    Eq.trans e (congrArg (Finset.fold max (⊥ : EReal) · Finset.univ) (funext fun l => congrArg x (by funext c; match c with | 0 | 1 | 2 | 3 => rfl)))
  obtain ⟨l, -, hl⟩ := Finset.exists_mem_eq_sup (Finset.univ : Finset (Fin n)) ⟨l₀, Finset.mem_univ _⟩ (fun l => (x (ix4 i j k l) : EReal))
  have hl' : (Finset.univ : Finset (Fin n)).fold max (⊥ : EReal) (fun l => x (ix4 i j k l)) = x (ix4 i j k l) := hl
  have hb : x (ix4 i j k l) ≠ (⊥ : EReal) := fun hb => h₀ (le_bot_iff.mp
    ((Finset.le_sup (f := fun l => (x (ix4 i j k l) : EReal)) (Finset.mem_univ l₀)).trans (hl.trans hb).le))
  exact ⟨(x (ix4 i j k l) : EReal).toReal, e2.trans (hl'.trans (EReal.coe_toReal (hx l) hb).symm)⟩

open Idealize.ShloMosaic in
/-- A host maximum over the last axis, from minus infinity, over rows of real numbers. -/
theorem reduce_max {a b m : ℕ} {u : Shape} (x : FVec Ideal ⟨4, ![a, b, m, n]⟩ .f32) (init : FVec Ideal u .f32)
    (h : (⟨4, ![a, b, m, n]⟩ : Shape).ReducesTo [3] ⟨3, ![a, b, m]⟩) (hu : 0 < u.numel) (hi : init (Shape.Idx.first hu) = (⊥ : EReal))
    (i : Fin a) (j : Fin b) (k : Fin m) (hx : ∀ l, x (ix4 i j k l) = ((s l : ℝ) : EReal)) (hn : 0 < n) :
    ∃ M : ℝ, Host.reduce FloatOps.maximumf x init h hu (ix3 i j k) = ((M : ℝ) : EReal) := by
  obtain ⟨M, hM⟩ := fold_max s hn
  refine ⟨M, ?_⟩
  have e := Host.reduce_eq_fold (max : EReal → EReal → EReal) x init h hu (ix3 i j k)
  rw [hi, Shape.ReducesTo.fold_fiber_r4_a3 h] at e
  refine Eq.trans e (Eq.trans ?_ hM)
  exact congrArg (Finset.fold max (⊥ : EReal) · Finset.univ) (funext fun l => (congrArg x (by funext c; match c with | 0 | 1 | 2 | 3 => rfl)).trans (hx l))

open Idealize.ShloMosaic in
/-- A kernel's maximum over the last axis, from minus infinity, over rows of real numbers. -/
theorem multi_max {m : ℕ} (x : FVec Ideal ⟨2, ![m, n]⟩ .f32) (h : (⟨2, ![m, n]⟩ : Shape).Reduces [1] ⟨1, ![m]⟩)
    (hf : FKind.Formats .f32) (hb : (0xFF800000#32 : BitVec 32) = FKind.maximumf.neutral .f32 hf)
    (k : Fin m) (hx : ∀ l, x (ix2 k l) = ((s l : ℝ) : EReal)) (hn : 0 < n) :
    ∃ M : ℝ, multiReduction .maximumf [1] ⟨1, ![m]⟩ x 0xFF800000#32 h hf hb (ix1 k) = ((M : ℝ) : EReal) := by
  obtain ⟨M, hM⟩ := fold_max s hn
  refine ⟨M, ?_⟩
  haveI : Std.Commutative (FloatOps.maximumf (F := Ideal) (φ := .f32)) := inferInstanceAs (Std.Commutative (max : EReal → EReal → EReal))
  haveI : Std.Associative (FloatOps.maximumf (F := Ideal) (φ := .f32)) := inferInstanceAs (Std.Associative (max : EReal → EReal → EReal))
  rw [multiReduction_maximumf_eq_fold, Shape.Reduces.fold_fiber_r2_a1 h]
  refine Eq.trans ?_ hM
  refine congrArg₂ (fun b f => Finset.fold max (b : EReal) f Finset.univ) ?_
    (funext fun l => (congrArg x (by funext c; match c with | 0 | 1 => rfl)).trans (hx l))
  exact RealLift.word_neg_inf

end Cert.Softmax
-- ==== Proof.MemReal.lean ====
/- The attention over the memory and its gradient over the real numbers: `q`, `k`, `v` and the output's cotangent `o` by row,
head and entry, `g` and `c` the gains of the queries' and the keys' norms. -/
module

public import proofs.«01_k».proof.Proof.RmsReal
public import proofs.«01_k».proof.Proof.Softmax

@[expose] public section

noncomputable section

namespace Cert.Mem

variable {m : ℕ} (q o : Fin m → Fin 256 → ℝ) (k v : Fin 256 → Fin 256 → ℝ) (g c : Fin 256 → ℝ)

/-! One head at a time: `m` rows of queries. -/

/-- The normalised rows with the gain. -/
def nrm {a : ℕ} (x : Fin a → Fin 256 → ℝ) (g : Fin 256 → ℝ) (r : Fin a) (l : Fin 256) : ℝ := RmsNorm.xh 256 (x r) l * g l
/-- The scores. -/
def sc (r : Fin m) (j : Fin 256) : ℝ := (∑ l, nrm q g r l * nrm k c j l) / 16
/-- The probabilities. -/
def pr (r : Fin m) (j : Fin 256) : ℝ := Softmax.prob (sc q k g c r) j
/-- The probabilities' cotangent. -/
def dp (r : Fin m) (j : Fin 256) : ℝ := ∑ l, o r l * v j l
/-- The products' cotangent. -/
def ds (r : Fin m) (j : Fin 256) : ℝ := Softmax.grad (sc q k g c r) (dp o v r) j / 16
/-- The cotangent of the normalised queries. -/
def dqn (r : Fin m) (l : Fin 256) : ℝ := ∑ j, ds q o k v g c r j * nrm k c j l
/-- One row's part of the cotangent of the normalised keys. -/
def dknPart (r : Fin m) (j l : Fin 256) : ℝ := ds q o k v g c r j * nrm q g r l
/-- One row's part of the values' cotangent. -/
def dvPart (r : Fin m) (j l : Fin 256) : ℝ := pr q k g c r j * o r l

def dkn (j l : Fin 256) : ℝ := ∑ r, dknPart q o k v g c r j l
def dv (j l : Fin 256) : ℝ := ∑ r, dvPart q o k g c r j l
def dq (r : Fin m) (l : Fin 256) : ℝ := RmsNorm.dx 256 (q r) g (dqn q o k v g c r) l
def dk (j l : Fin 256) : ℝ := RmsNorm.dx 256 (k j) c (dkn q o k v g c j) l
/-- One row's part of the cotangent of the queries' gain. -/
def dgPart (r : Fin m) (l : Fin 256) : ℝ := dqn q o k v g c r l * RmsNorm.xh 256 (q r) l
/-- One key's part of the cotangent of the keys' gain. -/
def dcPart (j l : Fin 256) : ℝ := dkn q o k v g c j l * RmsNorm.xh 256 (k j) l

end Cert.Mem
-- ==== Proof.RmsHeads.lean ====
/- The gradient of `rms_norm` over the last axis of an array of `m` rows and `a` heads of `n` entries, as the derivative of
its host lines: every stage, read at an index, is the number of `RmsReal` for that row and head. -/
module

public import proofs.«01_k».proof.Proof.RmsReal
public import Idealize.ShloMosaic.Lib.Pointwise
public import Idealize.ShloMosaic.Lib.ValueIdx

@[expose] public section

set_option maxRecDepth 16384

noncomputable section

namespace Cert.RmsHeads

open Idealize.ShloMosaic Cert.RealLift

/-- The shape facts that the host lines use. -/
structure Shapes (m a n : ℕ) : Prop where
  red3 : (⟨4, ![1, m, a, n]⟩ : Shape).ReducesTo [3] ⟨3, ![1, m, a]⟩
  red12 : (⟨4, ![1, m, a, n]⟩ : Shape).ReducesTo [1, 2] ⟨2, ![1, n]⟩
  red03 : (⟨4, ![1, m, a, 1]⟩ : Shape).ReducesTo [0, 3] ⟨2, ![m, a]⟩
  red012 : (⟨4, ![1, 1, 1, n]⟩ : Shape).ReducesTo [0, 1, 2] ⟨1, ![n]⟩
  col : (⟨3, ![1, m, a]⟩ : Shape).BroadcastsInDim ⟨4, ![1, m, a, 1]⟩ ![0, 1, 2]
  cst : (⟨0, ![]⟩ : Shape).BroadcastsInDim ⟨4, ![1, m, a, 1]⟩ ![]
  wide : (⟨4, ![1, m, a, 1]⟩ : Shape).BroadcastsInDim ⟨4, ![1, m, a, n]⟩ ![0, 1, 2, 3]
  row : (⟨1, ![n]⟩ : Shape).BroadcastsInDim ⟨4, ![1, 1, 1, n]⟩ ![3]
  tall : (⟨4, ![1, 1, 1, n]⟩ : Shape).BroadcastsInDim ⟨4, ![1, m, a, n]⟩ ![0, 1, 2, 3]
  back : (⟨2, ![m, a]⟩ : Shape).BroadcastsInDim ⟨3, ![1, m, a]⟩ ![1, 2]
  spread : (⟨3, ![1, m, a]⟩ : Shape).BroadcastsInDim ⟨4, ![1, m, a, n]⟩ ![0, 1, 2]
  gain : (⟨1, ![n]⟩ : Shape).BroadcastsInDim ⟨2, ![1, n]⟩ ![1]
  flat : (⟨2, ![1, n]⟩ : Shape).ShapeCasts ⟨1, ![n]⟩
  keep3 : (⟨3, ![1, m, a]⟩ : Shape).ShapeCasts ⟨4, ![1, m, a, 1]⟩
  keep1 : (⟨2, ![1, n]⟩ : Shape).ShapeCasts ⟨4, ![1, 1, 1, n]⟩
  pos : 0 < (⟨0, ![]⟩ : Shape).numel

variable {m a n : ℕ} (S : Shapes m a n) (w : BitVec 32) (x e : FVec Ideal ⟨4, ![1, m, a, n]⟩ .f32) (g : FVec Ideal ⟨2, ![1, n]⟩ .f32)

section Layout

private theorem unit_or {k : ℕ} (l : Fin k) : l.val = if k = 1 then 0 else l.val := by split <;> omega

variable {α : Type}
/-- A row's number along the row. -/
def wide (v : (⟨4, ![1, m, a, 1]⟩ : Shape).Idx → α) : (⟨4, ![1, m, a, n]⟩ : Shape).Idx → α := broadcastInDim _ ![0, 1, 2, 3] S.wide v
/-- The rows' numbers as a column. -/
def col (v : (⟨3, ![1, m, a]⟩ : Shape).Idx → α) : (⟨4, ![1, m, a, 1]⟩ : Shape).Idx → α := broadcastInDim _ ![0, 1, 2] S.col v
/-- The gain on every row. -/
def tall (v : (⟨2, ![1, n]⟩ : Shape).Idx → α) : (⟨4, ![1, m, a, n]⟩ : Shape).Idx → α :=
  broadcastInDim _ ![0, 1, 2, 3] S.tall (broadcastInDim _ ![3] S.row (shapeCast _ v S.flat))
/-- The rows' numbers along the rows. -/
def spread (v : (⟨2, ![m, a]⟩ : Shape).Idx → α) : (⟨4, ![1, m, a, n]⟩ : Shape).Idx → α :=
  broadcastInDim _ ![0, 1, 2] S.spread (broadcastInDim _ ![1, 2] S.back v)
def gain (v : (⟨1, ![n]⟩ : Shape).Idx → α) : (⟨2, ![1, n]⟩ : Shape).Idx → α := broadcastInDim _ ![1] S.gain v
def keep3 (v : (⟨3, ![1, m, a]⟩ : Shape).Idx → α) : (⟨4, ![1, m, a, 1]⟩ : Shape).Idx → α := shapeCast _ v S.keep3
def keep1 (v : (⟨2, ![1, n]⟩ : Shape).Idx → α) : (⟨4, ![1, 1, 1, n]⟩ : Shape).Idx → α := shapeCast _ v S.keep1

theorem wide_at (v : (⟨4, ![1, m, a, 1]⟩ : Shape).Idx → α) (r : Fin m) (h : Fin a) (l : Fin n) : wide S v (ix4 0 r h l) = v (ix4 0 r h 0) :=
  broadcastInDim_apply _ _ _ _ _ fun b => by match b with | 0 | 1 | 2 | 3 => dsimp [ix4]; try exact unit_or _
theorem col_at (v : (⟨3, ![1, m, a]⟩ : Shape).Idx → α) (r : Fin m) (h : Fin a) : col S v (ix4 0 r h 0) = v (ix3 0 r h) :=
  broadcastInDim_apply _ _ _ _ _ fun b => by match b with | 0 | 1 | 2 => dsimp [ix3, ix4]; try exact unit_or _
theorem gain_at (v : (⟨1, ![n]⟩ : Shape).Idx → α) (l : Fin n) : gain S v (ix2 0 l) = v (ix1 l) :=
  broadcastInDim_apply _ _ _ _ _ fun b => by match b with | 0 => dsimp [ix1, ix2]; try exact unit_or _
theorem spread_at (v : (⟨2, ![m, a]⟩ : Shape).Idx → α) (r : Fin m) (h : Fin a) (l : Fin n) : spread S v (ix4 0 r h l) = v (ix2 r h) :=
  (broadcastInDim_apply _ _ _ _ (ix3 0 r h) fun b => by match b with | 0 | 1 | 2 => dsimp [ix3, ix4]; try exact unit_or _).trans
    (broadcastInDim_apply _ _ _ _ _ fun b => by match b with | 0 | 1 => dsimp [ix3, ix2]; try exact unit_or _)
theorem tall_at (v : (⟨2, ![1, n]⟩ : Shape).Idx → α) (r : Fin m) (h : Fin a) (l : Fin n) : tall S v (ix4 0 r h l) = v (ix2 0 l) :=
  (broadcastInDim_apply _ _ _ _ (ix4 0 0 0 l) fun b => by match b with | 0 | 1 | 2 | 3 => dsimp [ix4]; try exact unit_or _).trans
    ((broadcastInDim_apply _ _ _ _ (ix1 l) fun b => by match b with | 0 => dsimp [ix4, ix1]; try exact unit_or _).trans
      (shapeCast_apply _ _ _ _ (by rw [Shape.rowMajor_val_two, Shape.rowMajor_val_one]; show 0 * n + l.val = l.val; omega)))
theorem keep3_at (v : (⟨3, ![1, m, a]⟩ : Shape).Idx → α) (r : Fin m) (h : Fin a) : keep3 S v (ix4 0 r h 0) = v (ix3 0 r h) :=
  shapeCast_apply _ _ _ _ (by
    rw [Shape.rowMajor_val_three, Shape.rowMajor_val_four]
    show (0 * m + r.val) * a + h.val = ((0 * m + r.val) * a + h.val) * 1 + 0; omega)
theorem keep1_at (v : (⟨2, ![1, n]⟩ : Shape).Idx → α) (l : Fin n) : keep1 S v (ix4 0 0 0 l) = v (ix2 0 l) :=
  shapeCast_apply _ _ _ _ (by
    rw [Shape.rowMajor_val_two, Shape.rowMajor_val_four]; show 0 * n + l.val = ((0 * 1 + 0) * 1 + 0) * n + l.val; omega)
end Layout

section Sums
variable {u : Shape}

/-- A host sum over rows and heads. -/
theorem reduceAdd_12 (v : FVec Ideal ⟨4, ![1, m, a, n]⟩ .f32) (init : FVec Ideal u .f32)
    (h : (⟨4, ![1, m, a, n]⟩ : Shape).ReducesTo [1, 2] ⟨2, ![1, n]⟩) (hu : 0 < u.numel) (l : Fin n) :
    Host.reduceAdd v init h hu (ix2 0 l) = init (Shape.Idx.first hu) + ∑ r, ∑ b, v (ix4 0 r b l) := by
  have hf : ∀ i : (⟨4, ![1, m, a, n]⟩ : Shape).Idx, h.drop i = ix2 0 l ↔ ∃ k : Fin m × Fin a, (fun k : Fin m × Fin a => ix4 0 k.1 k.2 l) k = i := fun i => by
    constructor
    · intro e
      refine ⟨(i 1, i 2), ?_⟩
      funext b; apply Fin.ext
      match b with
      | ⟨0, _⟩ => have h0 : (i 0).val < 1 := (i 0).isLt; show 0 = (i 0).val; omega
      | ⟨1, _⟩ => rfl
      | ⟨2, _⟩ => rfl
      | ⟨3, _⟩ => exact (congrArg Fin.val (congrFun e ⟨1, Nat.one_lt_two⟩)).symm
    · rintro ⟨k, rfl⟩
      funext b
      match b with
      | ⟨0, _⟩ => rfl
      | ⟨1, _⟩ => rfl
  rw [ValueIdx.hostReduceAdd_apply]
  refine congrArg (init (Shape.Idx.first hu) + ·) ?_
  refine (Finset.sum_filter_eq_sum_of_fiber _ (fun k : Fin m × Fin a => ix4 0 k.1 k.2 l) (fun p q hpq => ?_) hf v).trans ?_
  · exact Prod.ext (congrFun hpq 1) (congrFun hpq 2)
  · exact Fintype.sum_prod_type _

/-- A host sum over two axes of extent one keeps the one entry: the middle axes stay. -/
theorem reduceAdd_03 (v : FVec Ideal ⟨4, ![1, m, a, 1]⟩ .f32) (init : FVec Ideal u .f32)
    (h : (⟨4, ![1, m, a, 1]⟩ : Shape).ReducesTo [0, 3] ⟨2, ![m, a]⟩) (hu : 0 < u.numel) (r : Fin m) (k : Fin a) :
    Host.reduceAdd v init h hu (ix2 r k) = init (Shape.Idx.first hu) + v (ix4 0 r k 0) := by
  have hf : ∀ i : (⟨4, ![1, m, a, 1]⟩ : Shape).Idx, h.drop i = ix2 r k ↔ ∃ z : Unit, (fun _ => ix4 0 r k 0) z = i := fun i => by
    constructor
    · intro e
      refine ⟨(), ?_⟩
      funext b; apply Fin.ext
      match b with
      | ⟨0, _⟩ => have h0 : (i 0).val < 1 := (i 0).isLt; show 0 = (i 0).val; omega
      | ⟨1, _⟩ => exact (congrArg Fin.val (congrFun e ⟨0, Nat.two_pos⟩)).symm
      | ⟨2, _⟩ => exact (congrArg Fin.val (congrFun e ⟨1, Nat.one_lt_two⟩)).symm
      | ⟨3, _⟩ => have h3 : (i 3).val < 1 := (i 3).isLt; show 0 = (i 3).val; omega
    · rintro ⟨z, rfl⟩
      funext b
      match b with
      | ⟨0, _⟩ => rfl
      | ⟨1, _⟩ => rfl
  rw [ValueIdx.hostReduceAdd_apply]
  refine congrArg (init (Shape.Idx.first hu) + ·) ?_
  refine (Finset.sum_filter_eq_sum_of_fiber _ (fun _ : Unit => ix4 0 r k 0) (fun _ _ _ => rfl) hf v).trans ?_
  simp

/-- A host sum over three axes of extent one keeps the one entry: the last axis stays. -/
theorem reduceAdd_012 (v : FVec Ideal ⟨4, ![1, 1, 1, n]⟩ .f32) (init : FVec Ideal u .f32)
    (h : (⟨4, ![1, 1, 1, n]⟩ : Shape).ReducesTo [0, 1, 2] ⟨1, ![n]⟩) (hu : 0 < u.numel) (l : Fin n) :
    Host.reduceAdd v init h hu (ix1 l) = init (Shape.Idx.first hu) + v (ix4 0 0 0 l) := by
  have hf : ∀ i : (⟨4, ![1, 1, 1, n]⟩ : Shape).Idx, h.drop i = ix1 l ↔ ∃ z : Unit, (fun _ => ix4 0 0 0 l) z = i := fun i => by
    constructor
    · intro e
      refine ⟨(), ?_⟩
      funext b; apply Fin.ext
      match b with
      | ⟨0, _⟩ => have h0 : (i 0).val < 1 := (i 0).isLt; show 0 = (i 0).val; omega
      | ⟨1, _⟩ => have h1 : (i 1).val < 1 := (i 1).isLt; show 0 = (i 1).val; omega
      | ⟨2, _⟩ => have h2 : (i 2).val < 1 := (i 2).isLt; show 0 = (i 2).val; omega
      | ⟨3, _⟩ => exact (congrArg Fin.val (congrFun e ⟨0, Nat.one_pos⟩)).symm
    · rintro ⟨z, rfl⟩
      funext b
      match b with
      | ⟨0, _⟩ => rfl
  rw [ValueIdx.hostReduceAdd_apply]
  refine congrArg (init (Shape.Idx.first hu) + ·) ?_
  refine (Finset.sum_filter_eq_sum_of_fiber _ (fun _ : Unit => ix4 0 0 0 l) (fun _ _ _ => rfl) hf v).trans ?_
  simp

end Sums

/-- A constant column. -/
def cstCol (w : BitVec 32) : FVec Ideal ⟨4, ![1, m, a, 1]⟩ .f32 := broadcastInDim _ ![] S.cst (constant ⟨0, ![]⟩ .f32 w)
/-- The zero that sums start from. -/
def zero : FVec Ideal ⟨0, ![]⟩ .f32 := constant ⟨0, ![]⟩ .f32 0x00000000#32

def vare : FVec Ideal ⟨4, ![1, m, a, 1]⟩ .f32 :=
  addf (Host.divf (col S (Host.reduceAdd (mulf x x) zero S.red3 S.pos)) (cstCol S w)) (cstCol S 0x358637BD#32)
def rs : FVec Ideal ⟨4, ![1, m, a, 1]⟩ .f32 := Host.rsqrt (vare S w x)
def xh : FVec Ideal ⟨4, ![1, m, a, n]⟩ .f32 := mulf x (wide S (rs S w x))
/-- The norm itself. -/
def xn : FVec Ideal ⟨4, ![1, m, a, n]⟩ .f32 := mulf (xh S w x) (tall S g)
def dxh : FVec Ideal ⟨4, ![1, m, a, n]⟩ .f32 := mulf e (tall S g)
def dsq : FVec Ideal ⟨4, ![1, m, a, n]⟩ .f32 :=
  spread S (Host.reduceAdd
    (Host.divf (mulf (keep3 S (Host.reduceAdd (mulf x (dxh S e g)) zero S.red3 S.pos))
      (mulf (cstCol S 0xBF000000#32) (Host.divf (rs S w x) (vare S w x)))) (cstCol S w)) zero S.red03 S.pos)
/-- The rows' cotangent, as the derivative writes it. -/
def dx : FVec Ideal ⟨4, ![1, m, a, n]⟩ .f32 :=
  addf (addf (mulf (dxh S e g) (wide S (rs S w x))) (mulf x (dsq S w x e g))) (mulf (dsq S w x e g) x)
/-- The gain's cotangent. -/
def dg : FVec Ideal ⟨2, ![1, n]⟩ .f32 :=
  gain S (Host.reduceAdd (keep1 S (Host.reduceAdd (mulf (xh S w x) e) zero S.red12 S.pos)) zero S.red012 S.pos)

variable {N : ℝ} (hN : 0 < N) (hw : Ideal.ofBits .f32 w = ((N : ℝ) : EReal)) (X E : Fin m → Fin a → Fin n → ℝ) (G : Fin n → ℝ)
  (hx : ∀ r h l, x (ix4 0 r h l) = ((X r h l : ℝ) : EReal)) (he : ∀ r h l, e (ix4 0 r h l) = ((E r h l : ℝ) : EReal))
  (hg : ∀ l, g (ix2 0 l) = ((G l : ℝ) : EReal))

include hN hw hx in
theorem vare_at (r : Fin m) (h : Fin a) : vare S w x (ix4 0 r h 0) = ((RmsNorm.vare N (X r h) : ℝ) : EReal) := by
  pointwise [wide_at, col_at, tall_at, spread_at, gain_at, keep3_at, keep1_at, vare, cstCol, zero, hx, hw]
  simp only [word_eps, RealLift.mul, RealLift.sum]
  rw [RealLift.div _ hN.ne', RealLift.add]; rfl

include hN hw hx in
theorem rs_at (r : Fin m) (h : Fin a) : rs S w x (ix4 0 r h 0) = ((RmsNorm.rs N (X r h) : ℝ) : EReal) := by
  pointwise [rs, vare_at S w x hN hw X hx]
  rw [RealLift.rsqrt (RmsNorm.vare_pos _ _ hN)]; rfl

include hN hw hx in
theorem xh_at (r : Fin m) (h : Fin a) (l : Fin n) : xh S w x (ix4 0 r h l) = ((RmsNorm.xh N (X r h) l : ℝ) : EReal) := by
  pointwise [wide_at, xh, hx, rs_at S w x hN hw X hx]
  rw [RealLift.mul]; rfl

include hN hw hx hg in
theorem xn_at (r : Fin m) (h : Fin a) (l : Fin n) : xn S w x g (ix4 0 r h l) = ((RmsNorm.xh N (X r h) l * G l : ℝ) : EReal) := by
  pointwise [tall_at, xn, hg, xh_at S w x hN hw X hx]
  rw [RealLift.mul]

include he hg in
theorem dxh_at (r : Fin m) (h : Fin a) (l : Fin n) : dxh S e g (ix4 0 r h l) = ((RmsNorm.dxh G (E r h) l : ℝ) : EReal) := by
  pointwise [tall_at, dxh, he, hg]
  rw [RealLift.mul]; rfl

include hN hw hx he hg in
theorem dsq_at (r : Fin m) (h : Fin a) (l : Fin n) : dsq S w x e g (ix4 0 r h l) = ((RmsNorm.dsq N (X r h) G (E r h) : ℝ) : EReal) := by
  pointwise [spread_at, keep3_at, dsq, cstCol, zero, reduceAdd_03, hx, hw, vare_at S w x hN hw X hx, rs_at S w x hN hw X hx, dxh_at S e g E G he hg]
  rw [RealLift.div _ (RmsNorm.vare_pos _ _ hN).ne']
  simp only [word_neg_half, RealLift.mul, RealLift.sum]
  rw [RealLift.div _ hN.ne']; rfl

include hN hw hx he hg in
/-- The rows' cotangent. -/
theorem dx_at (r : Fin m) (h : Fin a) (l : Fin n) : dx S w x e g (ix4 0 r h l) = ((RmsNorm.dx N (X r h) G (E r h) l : ℝ) : EReal) := by
  pointwise [wide_at, dx, hx, rs_at S w x hN hw X hx, dxh_at S e g E G he hg, dsq_at S w x e g hN hw X E G hx he hg]
  simp only [RealLift.mul, RealLift.add]
  exact congrArg _ (RmsNorm.dx_eq N (X r h) G (E r h) hN l)

include hN hw hx he in
/-- The gain's cotangent. -/
theorem dg_at (l : Fin n) : dg S w x e (ix2 0 l) = ((∑ r, ∑ h, E r h l * RmsNorm.xh N (X r h) l : ℝ) : EReal) := by
  pointwise [gain_at, keep1_at, dg, zero, reduceAdd_12, reduceAdd_012, he, xh_at S w x hN hw X hx]
  simp only [RealLift.mul, RealLift.sum, mul_comm]

theorem shapes_q : Shapes 8192 4 256 := by constructor <;> decide
theorem shapes_k : Shapes 256 4 256 := by constructor <;> decide
theorem shapes_mla : Shapes 8192 8 96 := by constructor <;> decide

end Cert.RmsHeads
-- ==== Proof.MemRef.lean ====
/- The memory attention's gradient as the derivative of its host lines, read at an index: the results are the real numbers
of `MemReal`, one head after another. -/
module

public import proofs.«01_k».proof.Proof.MemReal
public import proofs.«01_k».proof.Proof.RmsHeads
public import proofs.«01_k».proof.Proof.Tiles
public import proofs.«01_k».proof.Proof.Gen.Reference5Ideal.Run
public import proofs.«01_k».proof.Proof.Gen.Reference5Ideal.Read
public import Idealize.ShloMosaic.Lib.Pointwise
public import Idealize.ShloMosaic.Lib.ValueIdx

@[expose] public section

set_option maxRecDepth 16384

noncomputable section

namespace Cert.Mem

open Idealize.ShloMosaic Idealize.ShloMosaic.TcCoe Idealize.SL.Sem Idealize.ShloMosaic.StableHlo
open Cert.Reference5Ideal Cert.Reference5Ideal.Gen Cert.Reference5Ideal.Read Cert.RealLift Cert.Tiles

/-- Head `h`'s entries of rows of 1024. -/
def head {a : ℕ} (x : Fin a → Fin 1024 → ℝ) (h : Fin 4) (r : Fin a) (l : Fin 256) : ℝ := x r (rowAt (n := 4) rfl h l)
/-- The keys are the first half of the memory's columns, the values the second. -/
def keys (x : Fin 256 → Fin 2048 → ℝ) (r : Fin 256) (l : Fin 1024) : ℝ := x r ⟨l.val, by omega⟩
def vals (x : Fin 256 → Fin 2048 → ℝ) (r : Fin 256) (l : Fin 1024) : ℝ := x r ⟨1024 + l.val, by omega⟩

variable (x0 : (⟨S1x8192x1024, .f32⟩ : BufTy).Contents (Elt Ideal)) (x1 : (⟨S1x256x2048, .f32⟩ : BufTy).Contents (Elt Ideal))
  (x2 x3 : (⟨S1x256, .f32⟩ : BufTy).Contents (Elt Ideal)) (x4 : (⟨S1x8192x1024, .f32⟩ : BufTy).Contents (Elt Ideal))
  (q o : Fin 8192 → Fin 1024 → ℝ) (kv : Fin 256 → Fin 2048 → ℝ) (g c : Fin 256 → ℝ)
  (h0 : ∀ r l, x0 (ix3 0 r l) = ((q r l : ℝ) : EReal)) (h1 : ∀ r l, x1 (ix3 0 r l) = ((kv r l : ℝ) : EReal))
  (h2 : ∀ l, x2 (ix2 0 l) = ((g l : ℝ) : EReal)) (h3 : ∀ l, x3 (ix2 0 l) = ((c l : ℝ) : EReal))
  (h4 : ∀ r l, x4 (ix3 0 r l) = ((o r l : ℝ) : EReal))

include h0 in
theorem ref_q (r : Fin 8192) (h : Fin 4) (l : Fin 256) : val_main_v0 (F := Ideal) x0 (ix4 0 r h l) = ((head q h r l : ℝ) : EReal) := by
  refine (shapeCast_apply _ _ _ (ix3 0 r (rowAt (n := 4) rfl h l)) ?_).trans (h0 _ _)
  rw [Shape.rowMajor_val_three, Shape.rowMajor_val_four]
  show (0 * 8192 + r.val) * 1024 + (h.val * 256 + l.val) = ((0 * 8192 + r.val) * 4 + h.val) * 256 + l.val; omega

include h1 in
theorem ref_k (r : Fin 256) (h : Fin 4) (l : Fin 256) : val_main_v3 (F := Ideal) x1 (ix4 0 r h l) = ((head (keys kv) h r l : ℝ) : EReal) := by
  refine (shapeCast_apply _ _ _ (ix3 0 r (rowAt (n := 4) rfl h l)) ?_).trans ?_
  · rw [Shape.rowMajor_val_three, Shape.rowMajor_val_four]
    show (0 * 256 + r.val) * 1024 + (h.val * 256 + l.val) = ((0 * 256 + r.val) * 4 + h.val) * 256 + l.val; omega
  · pointwise [val_main_v1]
    exact h1 _ _

include h1 in
theorem ref_v (r : Fin 256) (h : Fin 4) (l : Fin 256) : val_main_v4 (F := Ideal) x1 (ix4 0 r h l) = ((head (vals kv) h r l : ℝ) : EReal) := by
  refine (shapeCast_apply _ _ _ (ix3 0 r (rowAt (n := 4) rfl h l)) ?_).trans ?_
  · rw [Shape.rowMajor_val_three, Shape.rowMajor_val_four]
    show (0 * 256 + r.val) * 1024 + (h.val * 256 + l.val) = ((0 * 256 + r.val) * 4 + h.val) * 256 + l.val; omega
  · pointwise [val_main_v2]
    exact h1 _ _

include h4 in
theorem ref_o (r : Fin 8192) (h : Fin 4) (l : Fin 256) : val_main_v73 (F := Ideal) x4 (ix4 0 r h l) = ((head o h r l : ℝ) : EReal) := by
  refine (shapeCast_apply _ _ _ (ix3 0 r (rowAt (n := 4) rfl h l)) ?_).trans (h4 _ _)
  rw [Shape.rowMajor_val_three, Shape.rowMajor_val_four]
  show (0 * 8192 + r.val) * 1024 + (h.val * 256 + l.val) = ((0 * 8192 + r.val) * 4 + h.val) * 256 + l.val; omega

include h0 h2 in
theorem ref_qn (r : Fin 8192) (h : Fin 4) (l : Fin 256) : val_main_v21 (F := Ideal) x0 x2 (ix4 0 r h l) = ((nrm (head q h) g r l : ℝ) : EReal) :=
  RmsHeads.xn_at RmsHeads.shapes_q 0x43800000#32 (val_main_v0 x0) x2 (by norm_num) word_256 (fun r h => head q h r) g (ref_q x0 q h0) h2 r h l

include h1 h3 in
theorem ref_kn (r : Fin 256) (h : Fin 4) (l : Fin 256) : val_main_v38 (F := Ideal) x1 x3 (ix4 0 r h l) = ((nrm (head (keys kv) h) c r l : ℝ) : EReal) :=
  RmsHeads.xn_at RmsHeads.shapes_k 0x43800000#32 (val_main_v3 x1) x3 (by norm_num) word_256 (fun r h => head (keys kv) h r) c (ref_k x1 kv h1) h3 r h l

include h0 h1 h2 h3 in
theorem ref_sc (h : Fin 4) (r : Fin 8192) (j : Fin 256) :
    val_main_v41 (F := Ideal) x0 x1 x2 x3 (ix4 0 h r j) = ((sc (head q h) (head (keys kv) h) g c r j : ℝ) : EReal) := by
  pointwise [val_main_v41, val_main_v40, val_main_cst_7, val_main_v39, ref_qn x0 x2 q g h0 h2, ref_kn x1 x3 kv c h1 h3]
  simp only [RealLift.mul, RealLift.sum]
  rw [word_16, RealLift.div _ (by norm_num)]
  rfl

include h0 h1 h2 h3 in
theorem ref_max (h : Fin 4) (r : Fin 8192) : ∃ M : ℝ, val_main_v49 (F := Ideal) x0 x1 x2 x3 (ix3 0 h r) = ((M : ℝ) : EReal) := by
  obtain ⟨M, hM⟩ := Softmax.reduce_max (sc (head q h) (head (keys kv) h) g c r) (val_main_v41 (F := Ideal) x0 x1 x2 x3) (val_main_cst_8 (F := Ideal))
    reducesTo_S1x4x8192x256_S1x4x8192_d3 h_S_ word_neg_inf 0 h r (ref_sc x0 x1 x2 x3 q kv g c h0 h1 h2 h3 h r) (by norm_num)
  have e42 : val_main_v42 (F := Ideal) x0 x1 x2 x3 (ix3 0 h r) = ((M : ℝ) : EReal) := hM
  have e48 : val_main_v48 (F := Ideal) (ix3 0 h r) = (⊥ : EReal) := by
    rw [val_main_v48_apply]; exact word_neg_inf
  refine ⟨M, ?_⟩
  rw [val_main_v49_apply, e42, e48]
  exact max_eq_right bot_le

section Shift

variable (h : Fin 4) (r : Fin 8192) (M : ℝ) (hM : val_main_v49 (F := Ideal) x0 x1 x2 x3 (ix3 0 h r) = ((M : ℝ) : EReal))

include h0 h1 h2 h3 hM

theorem ref_exp (j : Fin 256) :
    val_main_v62 (F := Ideal) x0 x1 x2 x3 (ix4 0 h r j) = ((Real.exp (sc (head q h) (head (keys kv) h) g c r j - M) : ℝ) : EReal) := by
  pointwise [val_main_v62, val_main_v61, val_main_v60, val_main_v59, hM, ref_sc x0 x1 x2 x3 q kv g c h0 h1 h2 h3]
  rw [RealLift.sub]; rfl

theorem ref_total : val_main_v64 (F := Ideal) x0 x1 x2 x3 (ix4 0 h r 0)
    = ((∑ i, Real.exp (sc (head q h) (head (keys kv) h) g c r i - M) : ℝ) : EReal) := by
  pointwise [val_main_v64, val_main_v63, val_main_cst_16, ref_exp x0 x1 x2 x3 q kv g c h0 h1 h2 h3 h r M hM]
  simp only [RealLift.sum]

theorem total_ne : (∑ i, Real.exp (sc (head q h) (head (keys kv) h) g c r i - M)) ≠ 0 :=
  (Softmax.sum_pos (fun i => sc (head q h) (head (keys kv) h) g c r i - M) (by norm_num)).ne'

end Shift

include h0 h1 h2 h3 in
theorem ref_pr (h : Fin 4) (r : Fin 8192) (j : Fin 256) :
    val_main_v66 (F := Ideal) x0 x1 x2 x3 (ix4 0 h r j) = ((pr (head q h) (head (keys kv) h) g c r j : ℝ) : EReal) := by
  obtain ⟨M, hM⟩ := ref_max x0 x1 x2 x3 q kv g c h0 h1 h2 h3 h r
  pointwise [val_main_v66, val_main_v65, ref_exp x0 x1 x2 x3 q kv g c h0 h1 h2 h3 h r M hM, ref_total x0 x1 x2 x3 q kv g c h0 h1 h2 h3 h r M hM]
  rw [RealLift.div _ (total_ne x0 x1 x2 x3 q kv g c h0 h1 h2 h3 h r M hM), Softmax.prob_shift]; rfl

include h1 h4 in
theorem ref_dp (h : Fin 4) (r : Fin 8192) (j : Fin 256) :
    val_main_v75 (F := Ideal) x1 x4 (ix4 0 h r j) = ((dp (head o h) (head (vals kv) h) r j : ℝ) : EReal) := by
  pointwise [val_main_v75, val_main_v74, ref_o x4 o h4, ref_v x1 kv h1]
  simp only [RealLift.mul, RealLift.sum]
  rfl

include h0 h1 h2 h3 h4 in
theorem ref_ds (h : Fin 4) (r : Fin 8192) (j : Fin 256) :
    val_main_v92 (F := Ideal) x0 x1 x2 x3 x4 (ix4 0 h r j)
      = ((ds (head q h) (head o h) (head (keys kv) h) (head (vals kv) h) g c r j : ℝ) : EReal) := by
  obtain ⟨M, hM⟩ := ref_max x0 x1 x2 x3 q kv g c h0 h1 h2 h3 h r
  have hT := total_ne x0 x1 x2 x3 q kv g c h0 h1 h2 h3 h r M hM
  pointwise [RmsHeads.reduceAdd_03, val_main_v92, val_main_v91, val_main_cst_20, val_main_v90, val_main_v89, val_main_v88, val_main_v87, val_main_v86, val_main_cst_19,
    val_main_v85, val_main_v84, val_main_v83, val_main_v82, val_main_v81, val_main_cst_18, val_main_v80, val_main_v79, val_main_v78, val_main_v69,
    val_main_v68, val_main_cst_17, val_main_v67, ref_dp x1 x4 o kv h1 h4, ref_exp x0 x1 x2 x3 q kv g c h0 h1 h2 h3 h r M hM, ref_total x0 x1 x2 x3 q kv g c h0 h1 h2 h3 h r M hM]
  simp only [word_16, RealLift.one, RealLift.mul]
  simp only [RealLift.div _ hT, RealLift.div _ (mul_ne_zero hT hT), RealLift.mul, RealLift.sum, RealLift.neg, RealLift.add]
  rw [Softmax.grad_shift _ _ M j (by norm_num), RealLift.div _ (by norm_num)]
  rfl

include h0 h1 h2 h3 h4 in
theorem ref_dkn (r : Fin 256) (h : Fin 4) (l : Fin 256) :
    val_main_v94 (F := Ideal) x0 x1 x2 x3 x4 (ix4 0 r h l)
      = ((dkn (head q h) (head o h) (head (keys kv) h) (head (vals kv) h) g c r l : ℝ) : EReal) := by
  pointwise [val_main_v94, val_main_v93, ref_ds x0 x1 x2 x3 x4 q o kv g c h0 h1 h2 h3 h4, ref_qn x0 x2 q g h0 h2]
  simp only [RealLift.mul, RealLift.sum]
  rfl

include h0 h1 h2 h3 h4 in
theorem ref_dqn (r : Fin 8192) (h : Fin 4) (l : Fin 256) :
    val_main_v96 (F := Ideal) x0 x1 x2 x3 x4 (ix4 0 r h l)
      = ((dqn (head q h) (head o h) (head (keys kv) h) (head (vals kv) h) g c r l : ℝ) : EReal) := by
  pointwise [val_main_v96, val_main_v95, ref_ds x0 x1 x2 x3 x4 q o kv g c h0 h1 h2 h3 h4, ref_kn x1 x3 kv c h1 h3]
  simp only [RealLift.mul, RealLift.sum]
  rfl

include h0 h1 h2 h3 h4 in
theorem ref_dv (r : Fin 256) (h : Fin 4) (l : Fin 256) :
    val_main_v77 (F := Ideal) x0 x1 x2 x3 x4 (ix4 0 r h l) = ((dv (head q h) (head o h) (head (keys kv) h) g c r l : ℝ) : EReal) := by
  pointwise [val_main_v77, val_main_v76, val_main_v74, ref_o x4 o h4, ref_pr x0 x1 x2 x3 q kv g c h0 h1 h2 h3]
  simp only [RealLift.mul, RealLift.sum]
  exact congrArg _ (Finset.sum_congr rfl fun i _ => mul_comm _ _)

/-! The results. -/

include h0 h1 h2 h3 h4 in
theorem ref_dq (r : Fin 8192) (h : Fin 4) (l : Fin 256) :
    val_main_v146 (F := Ideal) x0 x1 x2 x3 x4 (ix2 r (rowAt (n := 4) rfl h l))
      = ((dq (head q h) (head o h) (head (keys kv) h) (head (vals kv) h) g c r l : ℝ) : EReal) := by
  have e := RmsHeads.dx_at RmsHeads.shapes_q 0x43800000#32 (val_main_v0 x0) (val_main_v96 (F := Ideal) x0 x1 x2 x3 x4) x2 (by norm_num) word_256
    (fun r h => head q h r) (fun r h => dqn (head q h) (head o h) (head (keys kv) h) (head (vals kv) h) g c r) g
    (ref_q x0 q h0) (ref_dqn x0 x1 x2 x3 x4 q o kv g c h0 h1 h2 h3 h4) h2 r h l
  refine Eq.trans ?_ e
  pointwise [val_main_v146, val_main_v145]
  refine shapeCast_apply _ _ _ (ix4 0 r h l) ?_
  rw [Shape.rowMajor_val_three, Shape.rowMajor_val_four]
  show ((0 * 8192 + r.val) * 4 + h.val) * 256 + l.val = (0 * 8192 + r.val) * 1024 + (h.val * 256 + l.val); omega

include h0 h1 h2 h3 h4 in
theorem ref_dk (r : Fin 256) (h : Fin 4) (l : Fin 256) :
    val_main_v148 (F := Ideal) x0 x1 x2 x3 x4 (ix2 r (rowAt (n := 4) rfl h l))
      = ((dk (head q h) (head o h) (head (keys kv) h) (head (vals kv) h) g c r l : ℝ) : EReal) := by
  have e := RmsHeads.dx_at RmsHeads.shapes_k 0x43800000#32 (val_main_v3 x1) (val_main_v94 (F := Ideal) x0 x1 x2 x3 x4) x3 (by norm_num) word_256
    (fun r h => head (keys kv) h r) (fun r h => dkn (head q h) (head o h) (head (keys kv) h) (head (vals kv) h) g c r) c
    (ref_k x1 kv h1) (ref_dkn x0 x1 x2 x3 x4 q o kv g c h0 h1 h2 h3 h4) h3 r h l
  refine Eq.trans ?_ e
  pointwise [val_main_v148, val_main_v147, val_main_v143]
  refine shapeCast_apply _ _ _ (ix4 0 r h l) ?_
  rw [Shape.rowMajor_val_three, Shape.rowMajor_val_four]
  show ((0 * 256 + r.val) * 4 + h.val) * 256 + l.val = (0 * 256 + r.val) * 1024 + (h.val * 256 + l.val); omega

include h0 h1 h2 h3 h4 in
theorem ref_dvs (r : Fin 256) (h : Fin 4) (l : Fin 256) :
    val_main_v150 (F := Ideal) x0 x1 x2 x3 x4 (ix2 r (rowAt (n := 4) rfl h l))
      = ((dv (head q h) (head o h) (head (keys kv) h) g c r l : ℝ) : EReal) := by
  refine Eq.trans ?_ (ref_dv x0 x1 x2 x3 x4 q o kv g c h0 h1 h2 h3 h4 r h l)
  pointwise [val_main_v150, val_main_v149, val_main_v143]
  refine shapeCast_apply _ _ _ (ix4 0 r h l) ?_
  rw [Shape.rowMajor_val_three, Shape.rowMajor_val_four]
  show ((0 * 256 + r.val) * 4 + h.val) * 256 + l.val = (0 * 256 + r.val) * 1024 + (h.val * 256 + l.val); omega

include h0 h1 h2 h3 h4 in
theorem ref_dg (l : Fin 256) :
    val_main_v140 (F := Ideal) x0 x1 x2 x3 x4 (ix2 0 l)
      = ((∑ r, ∑ h, dgPart (head q h) (head o h) (head (keys kv) h) (head (vals kv) h) g c r l : ℝ) : EReal) :=
  RmsHeads.dg_at RmsHeads.shapes_q 0x43800000#32 (val_main_v0 x0) (val_main_v96 (F := Ideal) x0 x1 x2 x3 x4) (by norm_num) word_256
    (fun r h => head q h r) (fun r h => dqn (head q h) (head o h) (head (keys kv) h) (head (vals kv) h) g c r)
    (ref_q x0 q h0) (ref_dqn x0 x1 x2 x3 x4 q o kv g c h0 h1 h2 h3 h4) l

include h0 h1 h2 h3 h4 in
theorem ref_dc (l : Fin 256) :
    val_main_v118 (F := Ideal) x0 x1 x2 x3 x4 (ix2 0 l)
      = ((∑ r, ∑ h, dcPart (head q h) (head o h) (head (keys kv) h) (head (vals kv) h) g c r l : ℝ) : EReal) :=
  RmsHeads.dg_at RmsHeads.shapes_k 0x43800000#32 (val_main_v3 x1) (val_main_v94 (F := Ideal) x0 x1 x2 x3 x4) (by norm_num) word_256
    (fun r h => head (keys kv) h r) (fun r h => dkn (head q h) (head o h) (head (keys kv) h) (head (vals kv) h) g c r)
    (ref_k x1 kv h1) (ref_dkn x0 x1 x2 x3 x4 q o kv g c h0 h1 h2 h3 h4) l

end Cert.Mem
-- ==== Proof.MemKernel.lean ====
/- The attention over the memory with its gradient, read at an index: every grid point's rows of one head, and the sums that a
head's points, or all points, accumulate. -/
module

public import proofs.«01_k».proof.Proof.MemReal
public import proofs.«01_k».proof.Proof.MemRef
public import proofs.«01_k».proof.Proof.Tiles
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mem

open Cert.Kernel5Ideal Cert.Kernel5Ideal.Gen Cert.RealLift Cert.Tiles

section Payload

variable (v8 : FVec Ideal S512x256 .f32) (v10 v25 acc1 : FVec Ideal S1x256 .f32) (v23 v54 acc : FVec Ideal S256x256 .f32)
  (v52 : FVec Ideal S512x256 .bf16)
  (q o : Fin 512 → Fin 256 → ℝ) (k v : Fin 256 → Fin 256 → ℝ) (g c : Fin 256 → ℝ)
  (h8 : ∀ r l, v8 (ix2 r l) = ((q r l : ℝ) : EReal)) (h10 : ∀ l, v10 (ix2 0 l) = ((g l : ℝ) : EReal))
  (h23 : ∀ r l, v23 (ix2 r l) = ((k r l : ℝ) : EReal)) (h25 : ∀ l, v25 (ix2 0 l) = ((c l : ℝ) : EReal))
  (h52 : ∀ r l, v52 (ix2 r l) = ((o r l : ℝ) : EReal)) (h54 : ∀ r l, v54 (ix2 r l) = ((v r l : ℝ) : EReal))

include h8 in
theorem pay_rq (r : Fin 512) : k0_pay11 (F := Ideal) v8 (ix2 r 0) = ((RmsNorm.rs 256 (q r) : ℝ) : EReal) := by
  pointwise [k0_pay11, k0_pay10, h8]
  simp only [word_256, word_eps, RealLift.mul, RealLift.sum]
  rw [RealLift.div _ (by norm_num), RealLift.add]
  exact RealLift.rsqrt (RmsNorm.vare_pos _ (q r) (by norm_num))

include h8 in
theorem pay_qh (r : Fin 512) (l : Fin 256) : k0_pay12 (F := Ideal) v8 (ix2 r l) = ((RmsNorm.xh 256 (q r) l : ℝ) : EReal) := by
  pointwise [k0_pay12, k0_pay10, h8, pay_rq v8 q h8]
  rw [RealLift.mul]; rfl

include h8 h10 in
theorem pay_qn (r : Fin 512) (l : Fin 256) : k0_pay13 (F := Ideal) v8 v10 (ix2 r l) = ((nrm q g r l : ℝ) : EReal) := by
  pointwise [k0_pay13, pay_qh v8 q h8, h10]
  rw [RealLift.mul]; rfl

include h23 in
theorem pay_rk (r : Fin 256) : k0_pay15 (F := Ideal) v23 (ix2 r 0) = ((RmsNorm.rs 256 (k r) : ℝ) : EReal) := by
  pointwise [k0_pay15, k0_pay14, h23]
  simp only [word_256, word_eps, RealLift.mul, RealLift.sum]
  rw [RealLift.div _ (by norm_num), RealLift.add]
  exact RealLift.rsqrt (RmsNorm.vare_pos _ (k r) (by norm_num))

include h23 in
theorem pay_kh (r : Fin 256) (l : Fin 256) : k0_pay16 (F := Ideal) v23 (ix2 r l) = ((RmsNorm.xh 256 (k r) l : ℝ) : EReal) := by
  pointwise [k0_pay16, k0_pay14, h23, pay_rk v23 k h23]
  rw [RealLift.mul]; rfl

include h23 h25 in
theorem pay_kn (r : Fin 256) (l : Fin 256) :
    k0_pay19 (F := Ideal) (k0_pay16 v23) (k0_pay17 v25) (ix2 r l) = ((nrm k c r l : ℝ) : EReal) := by
  pointwise [k0_pay19, k0_pay17, pay_kh v23 k h23, h25]
  rw [RealLift.mul]; rfl

/-- The scores of a block. -/
def scores (v22 : FVec Ideal S512x256 .f32) (v35 v36 : FVec Ideal S256x256 .f32) : FVec Ideal S512x256 .f32 :=
  mulf (matmul dot_S512x256_S256x256_S512x256_1_1_0_0_n_n none (k0_pay18 v22) (k0_pay19 v35 v36) (constant S512x256 .f32 0x00000000#32))
    (broadcast S512x256 (Scalar.ofBits .f32 0x3D800000#32))

/-- A block's quotient of exponentials, each row shifted by `b`. -/
def quot (s : FVec Ideal S512x256 .f32) (b : FVec Ideal S512 .f32) : FVec Ideal S512x256 .f32 :=
  divf (exp (subf s (broadcastTo S512x256 (shapeCast S512x1 b shapeCasts_S512_S512x1) broadcasts_S512x1_S512x256)))
    (broadcastTo S512x256 (shapeCast S512x1 (multiReduction .add [1] S512
      (exp (subf s (broadcastTo S512x256 (shapeCast S512x1 b shapeCasts_S512_S512x1) broadcasts_S512x1_S512x256)))
      0x00000000#32 reduces_S512x256_S512 (.inl rfl) rfl) shapeCasts_S512_S512x1) broadcasts_S512x1_S512x256)

theorem pay_pr_eq (v22 : FVec Ideal S512x256 .f32) (v35 v36 : FVec Ideal S256x256 .f32) : k0_pay20 (F := Ideal) v22 v35 v36
    = quot (scores v22 v35 v36) (multiReduction .maximumf [1] S512 (scores v22 v35 v36) 0xFF800000#32 reduces_S512x256_S512 (.inl rfl) rfl) := rfl

include h8 h10 h23 h25 in
theorem scores_at (r : Fin 512) (j : Fin 256) :
    scores (k0_pay13 v8 v10) (k0_pay16 v23) (k0_pay17 v25) (ix2 r j) = ((sc q k g c r j : ℝ) : EReal) := by
  pointwise [scores, k0_pay18, pay_qn v8 v10 q g h8 h10, pay_kn v25 v23 k c h23 h25]
  simp only [word_sixteenth, RealLift.mul, RealLift.sum]
  exact congrArg _ (by unfold sc; ring)

include h8 h10 h23 h25 in
theorem pay_pr (r : Fin 512) (j : Fin 256) :
    k0_pay20 (F := Ideal) (k0_pay13 v8 v10) (k0_pay16 v23) (k0_pay17 v25) (ix2 r j) = ((pr q k g c r j : ℝ) : EReal) := by
  obtain ⟨M, hM⟩ := Softmax.multi_max (sc q k g c r) (scores (k0_pay13 v8 v10) (k0_pay16 v23) (k0_pay17 v25)) reduces_S512x256_S512
    (.inl rfl) rfl r (scores_at v8 v10 v25 v23 q k g c h8 h10 h23 h25 r) (by norm_num)
  rw [pay_pr_eq]
  generalize multiReduction .maximumf [1] S512 (scores (k0_pay13 v8 v10) (k0_pay16 v23) (k0_pay17 v25)) 0xFF800000#32 reduces_S512x256_S512
    (.inl rfl) rfl = b at hM ⊢
  have hb : b (ix1 r) = ((M : ℝ) : EReal) := hM
  pointwise [quot, hb, scores_at v8 v10 v25 v23 q k g c h8 h10 h23 h25]
  simp only [RealLift.sub, RealLift.exp, RealLift.sum]
  rw [RealLift.div _ (Softmax.sum_pos (fun i => sc q k g c r i - M) (by norm_num)).ne']
  exact congrArg _ (Softmax.prob_shift _ M j)

include h8 h10 h23 h25 h52 h54 in
theorem pay_ds (r : Fin 512) (j : Fin 256) :
    k0_pay23 (F := Ideal) (k0_pay13 v8 v10) (k0_pay16 v23) (k0_pay17 v25) v52 v54 (ix2 r j) = ((ds q o k v g c r j : ℝ) : EReal) := by
  pointwise [k0_pay23, k0_pay21, pay_pr v8 v10 v25 v23 q k g c h8 h10 h23 h25, h52, h54]
  simp only [word_sixteenth, RealLift.mul, RealLift.sum, RealLift.sub]
  exact congrArg _ (by unfold ds Softmax.grad; simp only [dp, pr]; ring)

include h8 h10 h23 h25 h52 h54 in
theorem pay_dqn (r : Fin 512) (l : Fin 256) :
    k0_pay24 (F := Ideal) (k0_pay13 v8 v10) (k0_pay16 v23) (k0_pay17 v25) v52 v54 (ix2 r l) = ((dqn q o k v g c r l : ℝ) : EReal) := by
  pointwise [k0_pay24, pay_ds v8 v10 v25 v23 v54 v52 q o k v g c h8 h10 h23 h25 h52 h54, pay_kn v25 v23 k c h23 h25]
  simp only [RealLift.mul, RealLift.sum]; rfl

include h8 h10 h23 h25 h52 h54 in
theorem pay_dq (r : Fin 512) (l : Fin 256) :
    k0_pay3 (F := Ideal) (k0_pay11 v8) (k0_pay12 v8) (k0_pay24 (k0_pay13 v8 v10) (k0_pay16 v23) (k0_pay17 v25) v52 v54) v10 (ix2 r l)
      = ((dq q o k v g c r l : ℝ) : EReal) := by
  pointwise [k0_pay3, pay_rq v8 q h8, pay_qh v8 q h8, pay_dqn v8 v10 v25 v23 v54 v52 q o k v g c h8 h10 h23 h25 h52 h54, h10]
  simp only [word_256, RealLift.mul, RealLift.sum]
  rw [RealLift.div _ (by norm_num)]
  simp only [RealLift.mul, RealLift.sub]
  rfl

include h8 h10 h23 h25 h52 h54 in
theorem pay_dg (l : Fin 256) :
    k0_pay2 (F := Ideal) (k0_pay12 v8) (k0_pay24 (k0_pay13 v8 v10) (k0_pay16 v23) (k0_pay17 v25) v52 v54) acc1 (ix2 0 l)
      = acc1 (ix2 0 l) + ((∑ r, dgPart q o k v g c r l : ℝ) : EReal) := by
  pointwise [k0_pay2, pay_qh v8 q h8, pay_dqn v8 v10 v25 v23 v54 v52 q o k v g c h8 h10 h23 h25 h52 h54]
  simp only [RealLift.mul, RealLift.sum]; rfl

include h8 h10 h23 h25 h52 in
theorem pay_dv (j l : Fin 256) :
    k0_pay22 (F := Ideal) (k0_pay13 v8 v10) (k0_pay16 v23) (k0_pay17 v25) v52 acc (ix2 j l)
      = acc (ix2 j l) + ((∑ r, dvPart q o k g c r j l : ℝ) : EReal) := by
  pointwise [k0_pay22, k0_pay21, pay_pr v8 v10 v25 v23 q k g c h8 h10 h23 h25, h52]
  simp only [RealLift.mul, RealLift.sum]; rfl

include h8 h10 h23 h25 h52 h54 in
theorem pay_dkn (j l : Fin 256) :
    k0_pay1 (F := Ideal) acc (k0_pay25 (k0_pay13 v8 v10) (k0_pay16 v23) (k0_pay17 v25) v52 v54) (ix2 j l)
      = acc (ix2 j l) + ((∑ r, dknPart q o k v g c r j l : ℝ) : EReal) := by
  pointwise [k0_pay1, k0_pay25, k0_pay18, pay_qn v8 v10 q g h8 h10, pay_ds v8 v10 v25 v23 v54 v52 q o k v g c h8 h10 h23 h25 h52 h54]
  simp only [RealLift.mul, RealLift.sum]; rfl

variable (e : Fin 256 → Fin 256 → ℝ) (he : ∀ j l, acc (ix2 j l) = ((e j l : ℝ) : EReal))

include h23 he in
theorem pay_dc (l : Fin 256) : k0_pay4 (F := Ideal) (k0_pay16 v23) acc acc1 (ix2 0 l)
    = acc1 (ix2 0 l) + ((∑ j, e j l * RmsNorm.xh 256 (k j) l : ℝ) : EReal) := by
  pointwise [k0_pay4, pay_kh v23 k h23, he]
  simp only [RealLift.mul, RealLift.sum]

include h23 h25 he in
theorem pay_dk (j l : Fin 256) : k0_pay5 (F := Ideal) (k0_pay15 v23) (k0_pay16 v23) acc v25 (ix2 j l)
    = ((RmsNorm.dx 256 (k j) c (e j) l : ℝ) : EReal) := by
  pointwise [k0_pay5, pay_rk v23 k h23, pay_kh v23 k h23, he, h25]
  simp only [word_256, RealLift.mul, RealLift.sum]
  rw [RealLift.div _ (by norm_num)]
  simp only [RealLift.mul, RealLift.sub]
  rfl

theorem fill_dg (i : S1x256.Idx) : k0_pay6 (F := Ideal) i = 0 := by pointwise [k0_pay6]
theorem fill_dc (i : S1x256.Idx) : k0_pay7 (F := Ideal) i = 0 := by pointwise [k0_pay7]
theorem fill_dv (i : S256x256.Idx) : k0_pay8 (F := Ideal) i = 0 := by pointwise [k0_pay8]
theorem fill_dkn (i : S256x256.Idx) : k0_pay9 (F := Ideal) i = 0 := by pointwise [k0_pay9]

end Payload

variable (m : (ℓ : Loc nD τ sig) → Buf (Elt Ideal) ℓ)

/-- A grid point's head. -/
def hd (t : Fin cfg0.N) : Fin 4 := ⟨t.val / 16, by have h : t.val < 64 := t.isLt; omega⟩
/-- A grid point's block of rows. -/
def blkOf (t : Fin cfg0.N) : Fin 16 := ⟨t.val % 16, by omega⟩
/-- Row `r` of grid point `t` as a row of the arrays. -/
def at512 (t : Fin cfg0.N) (r : Fin 512) : Fin 8192 := rowAt (n := 16) rfl (blkOf t) r
/-- A head's column `l`. -/
def col (t : Fin cfg0.N) (l : Fin 256) : Fin 1024 := rowAt (n := 4) rfl (hd t) l

theorem idx : ∀ t : Fin cfg0.N, win0_0.index t = ![t.val % 16, t.val / 16] ∧ win0_1.index t = ![0, t.val / 16]
    ∧ win0_2.index t = ![0, 4 + t.val / 16] ∧ win0_3.index t = ![t.val % 16, t.val / 16] ∧ win0_4.index t = ![0, 0] ∧ win0_5.index t = ![0, 0]
    ∧ win0_6.index t = ![t.val % 16, t.val / 16] ∧ win0_7.index t = ![0, t.val / 16] ∧ win0_8.index t = ![0, t.val / 16]
    ∧ win0_9.index t = ![0, 0] ∧ win0_10.index t = ![0, 0] :=
  (by decide +kernel : ∀ t : Fin grid0.N, _)

/-- A head's points together hold all rows. -/
theorem sum_head (f : Fin 4 → Fin 8192 → ℝ) (t : Fin cfg0.N) (hlt : ∀ s : Fin 16, 16 * (t.val / 16) + s.val < cfg0.N) :
    ∑ s : Fin 16, ∑ r, f (hd ⟨16 * (t.val / 16) + s.val, hlt s⟩) (at512 ⟨16 * (t.val / 16) + s.val, hlt s⟩ r) = ∑ r, f (hd t) r := by
  refine Eq.trans (Finset.sum_congr rfl fun s _ => ?_) (sum_rowAt (n := 16) (b := 512) rfl (f (hd t)))
  have e1 : hd ⟨16 * (t.val / 16) + s.val, hlt s⟩ = hd t := Fin.ext (by show (16 * (t.val / 16) + s.val) / 16 = t.val / 16; omega)
  have e2 : blkOf ⟨16 * (t.val / 16) + s.val, hlt s⟩ = s := Fin.ext (by show (16 * (t.val / 16) + s.val) % 16 = s.val; omega)
  unfold at512
  rw [e1, e2]

/-- A sum over all points is one over heads and blocks. -/
theorem sum_points (f : Fin 4 → Fin 16 → ℝ) : ∑ t : Fin cfg0.N, f (hd t) (blkOf t) = ∑ h, ∑ b, f h b := by
  refine (sum_rowAt (n := 4) (b := 16) (m := 64) rfl fun t : Fin cfg0.N => f (hd t) (blkOf t)).symm.trans ?_
  refine Finset.sum_congr rfl fun h _ => Finset.sum_congr rfl fun b _ => ?_
  have e1 : hd (rowAt (n := 4) (b := 16) (m := 64) rfl h b) = h := Fin.ext (by show (h.val * 16 + b.val) / 16 = h.val; omega)
  have e2 : blkOf (rowAt (n := 4) (b := 16) (m := 64) rfl h b) = b := Fin.ext (by show (h.val * 16 + b.val) % 16 = b.val; omega)
  rw [e1, e2]

section Launch

variable (dev : Dev nD) (q o : Fin 8192 → Fin 1024 → ℝ) (kv : Fin 256 → Fin 2048 → ℝ) (g c : Fin 256 → ℝ)
  (h0 : ∀ r l, m ((dev : Thread nD τ).loc main_arg0) (ix3 0 r l) = ((q r l : ℝ) : EReal))
  (h1 : ∀ r l, m ((dev : Thread nD τ).loc main_arg1) (ix3 0 r l) = ((kv r l : ℝ) : EReal))
  (h2 : ∀ l, m ((dev : Thread nD τ).loc main_arg2) (ix2 0 l) = ((g l : ℝ) : EReal))
  (h3 : ∀ l, m ((dev : Thread nD τ).loc main_arg3) (ix2 0 l) = ((c l : ℝ) : EReal))
  (h4 : ∀ r l, m ((dev : Thread nD τ).loc main_arg4) (ix3 0 r l) = ((o r l : ℝ) : EReal))

include h0 in
theorem blk_q (t : Fin cfg0.N) (r : Fin 512) (l : Fin 256) : iblk m dev 0 t (ix2 r l) = ((head q (hd t) (at512 t r) l : ℝ) : EReal) := by
  unfold head
  rw [← h0]
  blk_simp [iblk, idx t]
  entry_read
  pointwise
  blk_ext [idx t, at512, rowAt, hd, blkOf]

include h1 in
theorem blk_k (t : Fin cfg0.N) (r : Fin 256) (l : Fin 256) : iblk m dev 1 t (ix2 r l) = ((head (keys kv) (hd t) r l : ℝ) : EReal) := by
  unfold head keys
  rw [← h1]
  blk_simp [iblk, idx t]
  entry_read
  pointwise
  blk_ext [idx t, rowAt, hd]

include h1 in
theorem blk_v (t : Fin cfg0.N) (r : Fin 256) (l : Fin 256) : iblk m dev 2 t (ix2 r l) = ((head (vals kv) (hd t) r l : ℝ) : EReal) := by
  unfold head vals
  rw [← h1]
  blk_simp [iblk, idx t]
  entry_read
  pointwise
  blk_ext [idx t, rowAt, hd]

include h4 in
theorem blk_o (t : Fin cfg0.N) (r : Fin 512) (l : Fin 256) : iblk m dev 3 t (ix2 r l) = ((head o (hd t) (at512 t r) l : ℝ) : EReal) := by
  unfold head
  rw [← h4]
  blk_simp [iblk, idx t]
  entry_read
  pointwise
  blk_ext [idx t, at512, rowAt, hd, blkOf]

include h2 in
theorem blk_g (t : Fin cfg0.N) (l : Fin 256) : iblk m dev 4 t (ix2 0 l) = ((g l : ℝ) : EReal) := by
  rw [← h2]
  blk_point [iblk, V, idx t]

include h3 in
theorem blk_c (t : Fin cfg0.N) (l : Fin 256) : iblk m dev 5 t (ix2 0 l) = ((c l : ℝ) : EReal) := by
  rw [← h3]
  blk_point [iblk, V, idx t]

theorem emb6 (t : Fin cfg0.N) (r : Fin 512) (l : Fin 256) :
    (((cfg0.win 6).blk t).view.emb (ix2 r l : S512x256.Idx) : S8192x1024.Idx) = ix2 (at512 t r) (col t l) := by
  blk_ext [idx t, at512, rowAt, hd, blkOf, col]
theorem emb7 (t : Fin cfg0.N) (r l : Fin 256) :
    (((cfg0.win 7).blk t).view.emb (ix2 r l : S256x256.Idx) : S256x1024.Idx) = ix2 r (col t l) := by
  blk_ext [idx t, rowAt, hd, col]
theorem emb8 (t : Fin cfg0.N) (r l : Fin 256) :
    (((cfg0.win 8).blk t).view.emb (ix2 r l : S256x256.Idx) : S256x1024.Idx) = ix2 r (col t l) := by
  blk_ext [idx t, rowAt, hd, col]
/-- A gain's block is its whole array. -/
theorem emb9 (t : Fin cfg0.N) (i : S1x256.Idx) : (((cfg0.win 9).blk t).view.emb i : S1x256.Idx) = i := by blk_ext [idx t]
theorem emb10 (t : Fin cfg0.N) (i : S1x256.Idx) : (((cfg0.win 10).blk t).view.emb i : S1x256.Idx) = i := by blk_ext [idx t]

/-- The head of a column of the arrays. -/
def hdOf (i : Fin 1024) : Fin 4 := ⟨i.val / 256, by omega⟩
/-- The column within its head. -/
def inHd (i : Fin 1024) : Fin 256 := ⟨i.val % 256, by omega⟩

theorem hdOf_col (t : Fin cfg0.N) (l : Fin 256) : hdOf (col t l) = hd t :=
  Fin.ext (by show (t.val / 16 * 256 + l.val) / 256 = t.val / 16; omega)
theorem inHd_col (t : Fin cfg0.N) (l : Fin 256) : inHd (col t l) = l :=
  Fin.ext (by show (t.val / 16 * 256 + l.val) % 256 = l.val; omega)

/-- An array of heads side by side. -/
def headArr {n : ℕ} {φ : FTy} (f : Fin 4 → Fin n → Fin 256 → ℝ) : FVec Ideal ⟨2, ![n, 1024]⟩ φ := fun i =>
  ((f (hdOf (i 1)) (i 0) (inHd (i 1)) : ℝ) : EReal)

theorem headArr_col {n : ℕ} {φ : FTy} (f : Fin 4 → Fin n → Fin 256 → ℝ) (t : Fin cfg0.N) (r : Fin n) (l : Fin 256) :
    headArr (φ := φ) f (ix2 r (col t l)) = ((f (hd t) r l : ℝ) : EReal) := by
  show ((f (hdOf (col t l)) r (inHd (col t l)) : ℝ) : EReal) = _
  rw [hdOf_col, inHd_col]

/-- The queries' cotangents, head by head. -/
def dqs (h : Fin 4) : Fin 8192 → Fin 256 → ℝ := dq (head q h) (head o h) (head (keys kv) h) (head (vals kv) h) g c
/-- The keys' cotangents. -/
def dks (h : Fin 4) : Fin 256 → Fin 256 → ℝ := dk (head q h) (head o h) (head (keys kv) h) (head (vals kv) h) g c
/-- The values' cotangents. -/
def dvs (h : Fin 4) : Fin 256 → Fin 256 → ℝ := dv (head q h) (head o h) (head (keys kv) h) g c
/-- The normed keys' cotangents. -/
def dkns (h : Fin 4) : Fin 256 → Fin 256 → ℝ := dkn (head q h) (head o h) (head (keys kv) h) (head (vals kv) h) g c

include h0 h1 h2 h3 h4 in
/-- The first result: every query row's cotangent. -/
theorem out_dq : (dats m 0 dev).arrAt 6 cfg0.N = headArr (φ := .bf16) (dqs q o kv g c) := by
  refine (dats m 0 dev).arrAt_eq_of_covers 6 _ (by decide +kernel) fun t hf i => ?_
  blk_simp
  rw [after0_6]
  idx_vars i
  have e := pay_dq _ _ _ _ _ _ _ _ _ _ g c (blk_q m dev q h0 t) (blk_g m dev g h2 t) (blk_k m dev kv h1 t) (blk_c m dev c h3 t)
    (blk_o m dev o h4 t) (blk_v m dev kv h1 t) i0 i1
  have e6 := e.trans ((congrArg (headArr (φ := .bf16) (dqs q o kv g c)) (emb6 t i0 i1)).trans (headArr_col _ t _ i1)).symm
  by_cases ht : t.val % 16 = 0
  · have ht2 : ¬ t.val % 16 = 15 := by omega
    by_cases ht0 : t.val % 64 = 0
    · rw [outsAt0_A m dev t ht0 ht ht2]; frame_out
      exact e6
    · rw [outsAt0_D m dev t ht0 ht ht2]; frame_out
      exact e6
  · have ht0 : ¬ t.val % 64 = 0 := by omega
    by_cases ht2 : t.val % 16 = 15
    · rw [outsAt0_C m dev t ht0 ht ht2]; frame_out
      exact e6
    · rw [outsAt0_B m dev t ht0 ht ht2]; frame_out
      exact e6

/-- A point's share of its head's normed keys' cotangents. -/
def knPart (t : Fin cfg0.N) : FVec Ideal S256x256 .f32 := fun i =>
  ((∑ r, dknPart (head q (hd t)) (head o (hd t)) (head (keys kv) (hd t)) (head (vals kv) (hd t)) g c (at512 t r) (i 0) (i 1) : ℝ) : EReal)
/-- A point's share of its head's values' cotangents. -/
def vPart (t : Fin cfg0.N) : FVec Ideal S256x256 .f32 := fun i =>
  ((∑ r, dvPart (head q (hd t)) (head o (hd t)) (head (keys kv) (hd t)) g c (at512 t r) (i 0) (i 1) : ℝ) : EReal)
/-- A point's share of the queries' gain's cotangent. -/
def gPart (t : Fin cfg0.N) : FVec Ideal S1x256 .f32 := fun i =>
  ((∑ r, dgPart (head q (hd t)) (head o (hd t)) (head (keys kv) (hd t)) (head (vals kv) (hd t)) g c (at512 t r) (i 1) : ℝ) : EReal)
/-- A point's share of the keys' gain's cotangent: its head's last point has it. -/
def cPart (t : Fin cfg0.N) : FVec Ideal S1x256 .f32 := fun i =>
  (((if t.val % 16 = 15 then
    ∑ j, dcPart (head q (hd t)) (head o (hd t)) (head (keys kv) (hd t)) (head (vals kv) (hd t)) g c j (i 1) else 0) : ℝ) : EReal)

include h0 h1 h2 h3 h4 in
theorem step_kn (t : Fin cfg0.N) (acc : FVec Ideal S256x256 .f32) (i : S256x256.Idx) :
    k0_pay1 (F := Ideal) acc (k0_pay25 (k0_pay13 (iblk m dev 0 t) (iblk m dev 4 t)) (k0_pay16 (iblk m dev 1 t)) (k0_pay17 (iblk m dev 5 t))
      (iblk m dev 3 t) (iblk m dev 2 t)) i = acc i + knPart q o kv g c t i := by
  idx_vars i
  exact pay_dkn _ _ _ _ _ acc _ _ _ _ _ g c (blk_q m dev q h0 t) (blk_g m dev g h2 t) (blk_k m dev kv h1 t) (blk_c m dev c h3 t)
    (blk_o m dev o h4 t) (blk_v m dev kv h1 t) i0 i1

include h0 h1 h2 h3 h4 in
theorem step_v (t : Fin cfg0.N) (acc : FVec Ideal S256x256 .f32) (i : S256x256.Idx) :
    k0_pay22 (F := Ideal) (k0_pay13 (iblk m dev 0 t) (iblk m dev 4 t)) (k0_pay16 (iblk m dev 1 t)) (k0_pay17 (iblk m dev 5 t))
      (iblk m dev 3 t) acc i = acc i + vPart q o kv g c t i := by
  idx_vars i
  exact pay_dv _ _ _ _ acc _ _ _ _ g c (blk_q m dev q h0 t) (blk_g m dev g h2 t) (blk_k m dev kv h1 t) (blk_c m dev c h3 t)
    (blk_o m dev o h4 t) i0 i1

include h0 h1 h2 h3 h4 in
theorem step_g (t : Fin cfg0.N) (acc : FVec Ideal S1x256 .f32) (i : S1x256.Idx) :
    k0_pay2 (F := Ideal) (k0_pay12 (iblk m dev 0 t)) (k0_pay24 (k0_pay13 (iblk m dev 0 t) (iblk m dev 4 t)) (k0_pay16 (iblk m dev 1 t))
      (k0_pay17 (iblk m dev 5 t)) (iblk m dev 3 t) (iblk m dev 2 t)) acc i = acc i + gPart q o kv g c t i := by
  obtain ⟨l, rfl⟩ := eq_row i
  exact pay_dg _ _ _ acc _ _ _ _ _ _ _ g c (blk_q m dev q h0 t) (blk_g m dev g h2 t) (blk_k m dev kv h1 t) (blk_c m dev c h3 t)
    (blk_o m dev o h4 t) (blk_v m dev kv h1 t) l

include h0 h1 h2 h3 h4 in
/-- After a head's last point its normed keys' cotangents are summed. -/
theorem kn_at (t : Fin cfg0.N) (ht : t.val % 16 = 15) (j l : Fin 256) :
    (outsAt0 m dev t.val t.isLt).2.2.2.2.2 (ix2 j l) = ((dkns q o kv g c (hd t) j l : ℝ) : EReal) := by
  refine (Pipeline.eq_sum_fin_of_reset_step_apply_of_flush (fun n h => (outsAt0 m dev n h).2.2.2.2.2) 16 (fun _ => 0) (knPart q o kv g c)
    (fun t ht i => ?_) (fun t ht i => ?_) t ht (ix2 j l)).trans ?_
  · have ht2 : ¬ t.val % 16 = 15 := by omega
    by_cases ht0 : t.val % 64 = 0
    · rw [outsAt0_A m dev t ht0 ht ht2]; frame_out
      exact (step_kn m dev q o kv g c h0 h1 h2 h3 h4 t _ i).trans (congrArg (· + _) (fill_dkn i))
    · rw [outsAt0_D m dev t ht0 ht ht2]; frame_out
      exact (step_kn m dev q o kv g c h0 h1 h2 h3 h4 t _ i).trans (congrArg (· + _) (fill_dkn i))
  · have ht0 : ¬ t.val % 64 = 0 := by omega
    by_cases ht2 : t.val % 16 = 15
    · rw [outsAt0_C m dev t ht0 ht ht2]; frame_out; rw [read_unread_whole]
      exact step_kn m dev q o kv g c h0 h1 h2 h3 h4 t _ i
    · rw [outsAt0_B m dev t ht0 ht ht2]; frame_out; rw [read_unread_whole]
      exact step_kn m dev q o kv g c h0 h1 h2 h3 h4 t _ i
  · rw [zero_add]
    exact (RealLift.sum _ _).trans (congrArg _ (sum_head
      (fun h r => dknPart (head q h) (head o h) (head (keys kv) h) (head (vals kv) h) g c r j l) t _))

include h0 h1 h2 h3 h4 in
/-- After a head's last point its values' cotangents are summed. -/
theorem v_at (t : Fin cfg0.N) (ht : t.val % 16 = 15) (j l : Fin 256) :
    (outsAt0 m dev t.val t.isLt).2.2.1 (ix2 j l) = ((dvs q o kv g c (hd t) j l : ℝ) : EReal) := by
  refine (Pipeline.eq_sum_fin_of_reset_step_apply_of_flush (fun n h => (outsAt0 m dev n h).2.2.1) 16 (fun _ => 0) (vPart q o kv g c)
    (fun t ht i => ?_) (fun t ht i => ?_) t ht (ix2 j l)).trans ?_
  · have ht2 : ¬ t.val % 16 = 15 := by omega
    by_cases ht0 : t.val % 64 = 0
    · rw [outsAt0_A m dev t ht0 ht ht2]; frame_out
      exact (step_v m dev q o kv g c h0 h1 h2 h3 h4 t _ i).trans (congrArg (· + _) (fill_dv i))
    · rw [outsAt0_D m dev t ht0 ht ht2]; frame_out
      exact (step_v m dev q o kv g c h0 h1 h2 h3 h4 t _ i).trans (congrArg (· + _) (fill_dv i))
  · have ht0 : ¬ t.val % 64 = 0 := by omega
    by_cases ht2 : t.val % 16 = 15
    · rw [outsAt0_C m dev t ht0 ht ht2]; frame_out
      exact step_v m dev q o kv g c h0 h1 h2 h3 h4 t _ i
    · rw [outsAt0_B m dev t ht0 ht ht2]; frame_out
      exact step_v m dev q o kv g c h0 h1 h2 h3 h4 t _ i
  · rw [zero_add]
    exact (RealLift.sum _ _).trans (congrArg _ (sum_head
      (fun h r => dvPart (head q h) (head o h) (head (keys kv) h) g c r j l) t _))

/-- A head's last point writes the keys' cotangents from the sum it has just completed. -/
theorem dk_last (t : Fin cfg0.N) (h0 : ¬ t.val % 64 = 0) (h1 : ¬ t.val % 16 = 0) (h2 : t.val % 16 = 15) :
    (outsAt0 m dev t.val t.isLt).2.1 = k0_pay5 (k0_pay15 (iblk m dev 1 t)) (k0_pay16 (iblk m dev 1 t))
      (outsAt0 m dev t.val t.isLt).2.2.2.2.2 (iblk m dev 5 t) := by
  rw [outsAt0_C m dev t h0 h1 h2]
  frame_out

/-- And adds the keys' gain's cotangent from it. -/
theorem dc_last (t : Fin cfg0.N) (h0 : ¬ t.val % 64 = 0) (h1 : ¬ t.val % 16 = 0) (h2 : t.val % 16 = 15) :
    (outsAt0 m dev t.val t.isLt).2.2.2.2.1 = k0_pay4 (k0_pay16 (iblk m dev 1 t)) (outsAt0 m dev t.val t.isLt).2.2.2.2.2
      (outsAt0 m dev (t.val - 1) (Nat.lt_of_le_of_lt (Nat.sub_le _ _) t.isLt)).2.2.2.2.1 := by
  rw [outsAt0_C m dev t h0 h1 h2]
  frame_out

include h0 h1 h2 h3 h4 in
/-- The second result: the keys' cotangents. -/
theorem out_dk : (dats m 0 dev).arrAt 7 cfg0.N = headArr (φ := .f32) (dks q o kv g c) := by
  refine (dats m 0 dev).arrAt_eq_of_covers 7 _ (by decide +kernel) fun t hf i => ?_
  have ht2 : t.val % 16 = 15 := (flush0_7 t).mp hf
  have ht : ¬ t.val % 16 = 0 := by omega
  have ht0 : ¬ t.val % 64 = 0 := by omega
  blk_simp
  rw [after0_7, dk_last m dev t ht0 ht ht2]
  idx_vars i
  refine Eq.trans ?_ ((congrArg (headArr (φ := .f32) (dks q o kv g c)) (emb7 t i0 i1)).trans (headArr_col _ t _ i1)).symm
  exact pay_dk _ _ _ _ c (blk_k m dev kv h1 t) (blk_c m dev c h3 t) _ (kn_at m dev q o kv g c h0 h1 h2 h3 h4 t ht2) i0 i1

include h0 h1 h2 h3 h4 in
/-- The third result: the values' cotangents. -/
theorem out_dv : (dats m 0 dev).arrAt 8 cfg0.N = headArr (φ := .f32) (dvs q o kv g c) := by
  refine (dats m 0 dev).arrAt_eq_of_covers 8 _ (by decide +kernel) fun t hf i => ?_
  have hv := v_at m dev q o kv g c h0 h1 h2 h3 h4 t ((flush0_8 t).mp hf)
  blk_simp
  rw [after0_8]
  idx_vars i
  exact (hv i0 i1).trans ((congrArg (headArr (φ := .f32) (dvs q o kv g c)) (emb8 t i0 i1)).trans (headArr_col _ t _ i1)).symm

include h0 h1 h2 h3 h4 in
/-- The fourth result: the queries' gain's cotangent. -/
theorem out_dg (l : Fin 256) : (dats m 0 dev).arrAt 9 cfg0.N (ix2 0 l)
    = ((∑ r, ∑ h, dgPart (head q h) (head o h) (head (keys kv) h) (head (vals kv) h) g c r l : ℝ) : EReal) := by
  have hw : (dats m 0 dev).arrAt 9 cfg0.N = fun i => ∑ t, gPart q o kv g c t i := by
    refine (dats m 0 dev).arrAt_eq_of_covers 9 _ (by decide +kernel) fun t hf i => ?_
    blk_simp
    rw [after0_9, Pipeline.eq_sum_fin_of_reset_step_apply_of_flush (fun n h => (outsAt0 m dev n h).2.2.2.1) 64 (fun _ => 0)
      (gPart q o kv g c)
      (fun t ht0 i => by
        have ht : t.val % 16 = 0 := by omega
        have ht2 : ¬ t.val % 16 = 15 := by omega
        rw [outsAt0_A m dev t ht0 ht ht2]; frame_out
        exact (step_g m dev q o kv g c h0 h1 h2 h3 h4 t _ i).trans (congrArg (· + _) (fill_dg i)))
      (fun t ht0 i => by
        by_cases ht : t.val % 16 = 0
        · have ht2 : ¬ t.val % 16 = 15 := by omega
          rw [outsAt0_D m dev t ht0 ht ht2]; frame_out
          exact step_g m dev q o kv g c h0 h1 h2 h3 h4 t _ i
        · by_cases ht2 : t.val % 16 = 15
          · rw [outsAt0_C m dev t ht0 ht ht2]; frame_out
            exact step_g m dev q o kv g c h0 h1 h2 h3 h4 t _ i
          · rw [outsAt0_B m dev t ht0 ht ht2]; frame_out
            exact step_g m dev q o kv g c h0 h1 h2 h3 h4 t _ i)
      t ((flush0_9 t).mp hf) _, zero_add]
    exact (sum_run (K := 64) (gPart q o kv g c) t i _).trans (congrArg (fun i => ∑ t, gPart q o kv g c t i) (emb9 t i).symm)
  rw [hw]
  refine (RealLift.sum _ _).trans (congrArg _ ?_)
  refine Eq.trans ?_ Finset.sum_comm
  refine (sum_points fun h b => ∑ r, dgPart (head q h) (head o h) (head (keys kv) h) (head (vals kv) h) g c
    (rowAt (n := 16) (b := 512) rfl b r) l).trans ?_
  exact Finset.sum_congr rfl fun h _ => sum_rowAt (n := 16) (b := 512) rfl
    fun r => dgPart (head q h) (head o h) (head (keys kv) h) (head (vals kv) h) g c r l

include h0 h1 h2 h3 h4 in
/-- The fifth result: the keys' gain's cotangent. -/
theorem out_dc (l : Fin 256) : (dats m 0 dev).arrAt 10 cfg0.N (ix2 0 l)
    = ((∑ r, ∑ h, dcPart (head q h) (head o h) (head (keys kv) h) (head (vals kv) h) g c r l : ℝ) : EReal) := by
  have hc (t : Fin cfg0.N) (ht : ¬ t.val % 16 = 15) (i : S1x256.Idx) : cPart q o kv g c t i = 0 := by
    unfold cPart
    rw [if_neg ht, EReal.coe_zero]
  have hw : (dats m 0 dev).arrAt 10 cfg0.N = fun i => ∑ t, cPart q o kv g c t i := by
    refine (dats m 0 dev).arrAt_eq_of_covers 10 _ (by decide +kernel) fun t hf i => ?_
    blk_simp
    rw [after0_10, Pipeline.eq_sum_fin_of_reset_step_apply_of_flush (fun n h => (outsAt0 m dev n h).2.2.2.2.1) 64 (fun _ => 0)
      (cPart q o kv g c)
      (fun t ht0 i => by
        have ht : t.val % 16 = 0 := by omega
        have ht2 : ¬ t.val % 16 = 15 := by omega
        rw [hc t ht2, outsAt0_A m dev t ht0 ht ht2]; frame_out
        exact (fill_dc i).trans (add_zero _).symm)
      (fun t ht0 i => by
        by_cases ht : t.val % 16 = 0
        · have ht2 : ¬ t.val % 16 = 15 := by omega
          rw [hc t ht2, outsAt0_D m dev t ht0 ht ht2]; frame_out
          exact (add_zero _).symm
        · by_cases ht2 : t.val % 16 = 15
          · rw [dc_last m dev t ht0 ht ht2]
            obtain ⟨l, rfl⟩ := eq_row i
            unfold cPart
            rw [if_pos ht2]
            exact pay_dc _ _ _ _ (blk_k m dev kv h1 t) _ (kn_at m dev q o kv g c h0 h1 h2 h3 h4 t ht2) l
          · rw [hc t ht2, outsAt0_B m dev t ht0 ht ht2]; frame_out
            exact (add_zero _).symm)
      t ((flush0_10 t).mp hf) _, zero_add]
    exact (sum_run (K := 64) (cPart q o kv g c) t i _).trans (congrArg (fun i => ∑ t, cPart q o kv g c t i) (emb10 t i).symm)
  rw [hw]
  refine (RealLift.sum _ _).trans (congrArg _ ?_)
  refine Eq.trans ?_ Finset.sum_comm
  refine (sum_points fun h b => if b.val = 15 then ∑ j, dcPart (head q h) (head o h) (head (keys kv) h) (head (vals kv) h) g c j l else 0).trans ?_
  refine Finset.sum_congr rfl fun h _ => ?_
  refine (Finset.sum_eq_single (15 : Fin 16) (fun b _ hb => if_neg fun h => hb (Fin.ext h)) (fun h => absurd (Finset.mem_univ _) h)).trans (if_pos rfl)

end Launch

end Cert.Mem
-- ==== Proof.MemClaim.lean ====
/- The claim on values: from finite arguments the kernel's five results are the reference's. -/
module

public import proofs.«01_k».proof.Defs
public import Idealize.ShloMosaic.Lib.Quiescent
public import proofs.«01_k».proof.Proof.MemKernel
public import proofs.«01_k».proof.Proof.MemRef
public import proofs.«01_k».proof.Proof.Gen.Pre_finite5
public import proofs.«01_k».proof.Proof.Gen.Kernel5Ideal
public import proofs.«01_k».proof.Proof.Gen.Reference5Ideal

@[expose] public section

set_option maxRecDepth 16384

noncomputable section

open Idealize.ShloMosaic Idealize.SL.Sem

namespace Cert.Mem

open Cert.RealLift

/-- Finite arguments are arrays of real numbers. -/
theorem reals_of_finite (x0 : FVec Ideal Cert.Pre_finite5.S1x8192x1024 .f32) (x1 : FVec Ideal Cert.Pre_finite5.S1x256x2048 .f32)
    (x2 : FVec Ideal Cert.Pre_finite5.S1x256 .f32) (x3 : FVec Ideal Cert.Pre_finite5.S1x256 .f32)
    (x4 : FVec Ideal Cert.Pre_finite5.S1x8192x1024 .f32) (e : Cert.Pre_finite5.fn (F := Ideal) x0 x1 x2 x3 x4 = fun _ => 1#1) :
    IsReal x0 ∧ IsReal x1 ∧ IsReal x2 ∧ IsReal x3 ∧ IsReal x4 := by
  have hs : Subsingleton Cert.Pre_finite5.S_.Idx := ⟨fun a b => funext fun i => i.elim0⟩
  have e1 := congrFun e ix0
  obtain ⟨e1, h4⟩ := IntOp.andi_eq_one.mp e1
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3, real_of_test _ _ _ _ _ _ _ h4⟩

theorem frame_reference : Cert.quiescent_Reference5Ideal := fun m g _ =>
  (θ_run _ _ _).mono (fun r h => ⟨fun c => (h c).2.2.2.2.2, sem_eq_zero_of_no_sems rfl r.2⟩) (Cert.Reference5Ideal.Value.run m g)

/-- Two arrays of heads side by side agree if they do at every head's columns. -/
theorem heads_ext {n : ℕ} {φ : FTy} (x : FVec Ideal ⟨2, ![n, 1024]⟩ φ) (f : Fin 4 → Fin n → Fin 256 → ℝ)
    (h : ∀ r k l, x (ix2 r (Tiles.rowAt (n := 4) rfl k l)) = ((f k r l : ℝ) : EReal)) : x = headArr f := by
  funext i
  have e : i = ix2 (i 0) (Tiles.rowAt (n := 4) rfl (hdOf (i 1)) (inHd (i 1))) := by
    refine funext fun a => Fin.ext ?_
    match a with
    | ⟨0, _⟩ => rfl
    | ⟨1, _⟩ => exact (Nat.div_add_mod' (i 1).val 256).symm
  exact (congrArg x e).trans (h (i 0) _ _)

theorem algebraic : Cert.algebraic_Kernel5Ideal_Reference5Ideal_pre_finite5 := by
  intro m g m' g' hpre hargs
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    (θ_run _ _ _).mono (fun r h c => h c) (Cert.Kernel5Ideal.Value.run_blocks m g),
    (θ_run _ _ _).mono (fun r h c => ?_) (Cert.Reference5Ideal.Value.run m' g')⟩
  obtain ⟨⟨a0, h0⟩, ⟨a1, h1⟩, ⟨a2, h2⟩, ⟨a3, h3⟩, ⟨a4, h4⟩⟩ := reals_of_finite _ _ _ _ _ (hpre c)
  obtain ⟨e0, e1, e2, e3, e4⟩ := hargs c
  obtain ⟨r1, r2, r3, r4, r5, rest⟩ := h c
  have k0 := fun (r : Fin 8192) (l : Fin 1024) => h0 (ix3 0 r l)
  have k1 := fun (r : Fin 256) (l : Fin 2048) => h1 (ix3 0 r l)
  have k2 := fun l : Fin 256 => h2 (ix2 0 l)
  have k3 := fun l : Fin 256 => h3 (ix2 0 l)
  have k4 := fun (r : Fin 8192) (l : Fin 1024) => h4 (ix3 0 r l)
  have l0 := fun (r : Fin 8192) (l : Fin 1024) => (congrFun e0 _).trans (k0 r l)
  have l1 := fun (r : Fin 256) (l : Fin 2048) => (congrFun e1 _).trans (k1 r l)
  have l2 := fun l : Fin 256 => (congrFun e2 _).trans (k2 l)
  have l3 := fun l : Fin 256 => (congrFun e3 _).trans (k3 l)
  have l4 := fun (r : Fin 8192) (l : Fin 1024) => (congrFun e4 _).trans (k4 r l)
  refine ⟨r1.trans ?_, r2.trans ?_, r3.trans ?_, r4.trans ?_, r5.trans ?_, rest⟩
  · refine (Cert.Reference5Ideal.Read.val_main_v146_eq _).trans (Eq.trans ?_ (out_dq m c _ _ _ _ _ k0 k1 k2 k3 k4).symm)
    exact heads_ext _ _ fun r k l => ref_dq _ _ _ _ _ _ _ _ _ _ l0 l1 l2 l3 l4 r k l
  · refine (Cert.Reference5Ideal.Read.val_main_v148_eq _).trans (Eq.trans ?_ (out_dk m c _ _ _ _ _ k0 k1 k2 k3 k4).symm)
    exact heads_ext _ _ fun r k l => ref_dk _ _ _ _ _ _ _ _ _ _ l0 l1 l2 l3 l4 r k l
  · refine (Cert.Reference5Ideal.Read.val_main_v150_eq _).trans (Eq.trans ?_ (out_dv m c _ _ _ _ _ k0 k1 k2 k3 k4).symm)
    exact heads_ext _ _ fun r k l => ref_dvs _ _ _ _ _ _ _ _ _ _ l0 l1 l2 l3 l4 r k l
  · refine (Cert.Reference5Ideal.Read.val_main_v140_eq _).trans ?_
    funext i
    obtain ⟨l, rfl⟩ := Cert.Tiles.eq_row i
    exact (ref_dg _ _ _ _ _ _ _ _ _ _ l0 l1 l2 l3 l4 l).trans (out_dg m c _ _ _ _ _ k0 k1 k2 k3 k4 l).symm
  · refine (Cert.Reference5Ideal.Read.val_main_v118_eq _).trans ?_
    funext i
    obtain ⟨l, rfl⟩ := Cert.Tiles.eq_row i
    exact (ref_dc _ _ _ _ _ _ _ _ _ _ l0 l1 l2 l3 l4 l).trans (out_dc m c _ _ _ _ _ k0 k1 k2 k3 k4 l).symm

end Cert.Mem
-- ==== Proof.LossRef.lean ====
/- The loss and its gradient, read at an index: half the rows' mean squared error, with no assumption on the arguments. -/
module

public import proofs.«01_k».proof.Proof.RealLift
public import proofs.«01_k».proof.Proof.Tiles
public import proofs.«01_k».proof.Proof.Gen.Reference7Ideal.Run
public import proofs.«01_k».proof.Proof.Gen.Reference7Ideal.Read
public import Idealize.ShloMosaic.Lib.Pointwise
public import Idealize.ShloMosaic.Lib.ValueIdx

@[expose] public section

set_option maxRecDepth 16384

noncomputable section

namespace Cert.Loss

open Idealize.ShloMosaic Idealize.ShloMosaic.TcCoe Idealize.SL.Sem Idealize.ShloMosaic.StableHlo
open Cert.Reference7Ideal Cert.Reference7Ideal.Gen Cert.Reference7Ideal.Read Cert.RealLift

variable (x0 : (⟨S1x8192x2816, .f32⟩ : BufTy).Contents (Elt Ideal)) (x1 : (⟨S1x2816x1024, .f32⟩ : BufTy).Contents (Elt Ideal))
  (x2 x3 : (⟨S1x8192x1024, .f32⟩ : BufTy).Contents (Elt Ideal))

/-- The error of row `r` at column `l`. -/
def err (r : Fin 8192) (l : Fin 1024) : EReal :=
  x2 (ix3 0 r l) + ∑ k : Fin 2816, x0 (ix3 0 r k) * x1 (ix3 0 k l) - x3 (ix3 0 r l)

theorem ref_err (r : Fin 8192) (l : Fin 1024) : val_main_v3 (F := Ideal) x0 x1 x2 x3 (ix3 0 r l) = err x0 x1 x2 x3 r l := by
  pointwise [val_main_v3, val_main_v2, val_main_v1, val_main_v0]
  rfl

theorem ref_dx (r : Fin 8192) (l : Fin 1024) : val_main_v18 (F := Ideal) x0 x1 x2 x3 (ix2 r l) = err x0 x1 x2 x3 r l * ((1 / 1024 : ℝ) : EReal) := by
  pointwise [val_main_v18, val_main_v17, val_main_v16, val_main_v15, val_main_v14, val_main_v13, val_main_v12, val_main_v6, val_main_v5, val_main_cst,
    val_main_cst_4, val_main_cst_5, val_main_cst_6, ref_err]
  rw [word_half, word_1024, word_two, RealLift.div _ (by norm_num), ← mul_assoc, RealLift.mul, mul_comm]
  exact congrArg _ (congrArg _ (by norm_num))

theorem ref_dxb (r : Fin 8192) (l : Fin 1024) : val_main_v19 (F := Ideal) x0 x1 x2 x3 (ix2 r l) = err x0 x1 x2 x3 r l * ((1 / 1024 : ℝ) : EReal) := by
  pointwise [val_main_v19, ref_dx]

/-- A nonnegative number distributes over any sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

theorem ref_loss (i : Fin 8) (j : Fin 128) : val_main_v21 (F := Ideal) x0 x1 x2 x3 (ix2 i j) = ∑ r, ∑ l, err x0 x1 x2 x3 r l * err x0 x1 x2 x3 r l := by
  pointwise [val_main_v21, val_main_v20, val_main_v11, val_main_v10, val_main_v9, val_main_v8, val_main_v7, val_main_v4, val_main_cst_0, val_main_cst_1,
    val_main_cst_2, val_main_cst_3, val_main_cst_7, ref_err]
  rw [word_half, word_1024, word_2048]
  simp only [Ideal.div_coe (show (1024 : ℝ) ≠ 0 by norm_num), Fin.sum_univ_one]
  rw [← mul_assoc, RealLift.mul, mul_sum _ _ (by norm_num)]
  refine Finset.sum_congr rfl fun r _ => ?_
  rw [mul_comm, mul_assoc, RealLift.mul]
  exact (congrArg _ (EReal.coe_eq_one.mpr (by norm_num))).trans (mul_one _)

end Cert.Loss
-- ==== Proof.LossKernel.lean ====
/- The layer's last product with the loss and its gradient, read at an index: every grid point's rows, and the squared
errors the points sum up. -/
module

public import proofs.«01_k».proof.Proof.LossRef
public import proofs.«01_k».proof.Proof.Tiles
public import proofs.«01_k».proof.Proof.Gen.Kernel7Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Loss

open Cert.Kernel7Ideal Cert.Kernel7Ideal.Gen Cert.RealLift Cert.Tiles

section Payload

variable (v3 v11 : FVec Ideal S512x1024 .f32) (v5 : FVec Ideal S512x2816 .bf16) (v7 : FVec Ideal S2816x1024 .bf16)
  (acc : FVec Ideal S8x128 .f32) (x t : Fin 512 → Fin 1024 → EReal) (a : Fin 512 → Fin 2816 → EReal) (w : Fin 2816 → Fin 1024 → EReal)
  (h3 : ∀ r l, v3 (ix2 r l) = x r l) (h11 : ∀ r l, v11 (ix2 r l) = t r l) (h5 : ∀ r k, v5 (ix2 r k) = a r k) (h7 : ∀ k l, v7 (ix2 k l) = w k l)

include h3 h5 h7 h11 in
theorem pay_err (r : Fin 512) (l : Fin 1024) : k0_pay2 (F := Ideal) v3 v5 v7 v11 (ix2 r l) = x r l + ∑ k, a r k * w k l - t r l := by
  pointwise [k0_pay2, h3, h5, h7, h11]

include h3 h5 h7 h11 in
theorem pay_dx (r : Fin 512) (l : Fin 1024) :
    k0_pay4 (F := Ideal) v3 v5 v7 v11 (ix2 r l) = (x r l + ∑ k, a r k * w k l - t r l) * ((1 / 1024 : ℝ) : EReal) := by
  pointwise [k0_pay4, pay_err v3 v11 v5 v7 x t a w h3 h11 h5 h7]
  rw [word_inv1024]

include h3 h5 h7 h11 in
theorem pay_dxb (r : Fin 512) (l : Fin 1024) :
    k0_pay5 (F := Ideal) v3 v5 v7 v11 (ix2 r l) = (x r l + ∑ k, a r k * w k l - t r l) * ((1 / 1024 : ℝ) : EReal) := by
  pointwise [k0_pay5, pay_dx v3 v11 v5 v7 x t a w h3 h11 h5 h7]

include h3 h5 h7 h11 in
theorem pay_loss (i : Fin 8) (j : Fin 128) :
    k0_pay3 (F := Ideal) v3 v5 v7 v11 acc (ix2 i j)
      = acc (ix2 i j) + ∑ r, ∑ l, (x r l + ∑ k, a r k * w k l - t r l) * (x r l + ∑ k, a r k * w k l - t r l) := by
  pointwise [k0_pay3, pay_err v3 v11 v5 v7 x t a w h3 h11 h5 h7]

theorem fill_loss (i : S8x128.Idx) : k0_pay1 (F := Ideal) i = 0 := by pointwise [k0_pay1]

end Payload

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `r` of grid point `t` is row `512 t + r` of the arrays. -/
def at512 (t : Fin cfg0.N) (r : Fin 512) : Fin 8192 := rowAt (n := 16) rfl t r

section Launch

variable (dev : Dev nD) (x0 : FVec Ideal S1x8192x2816 .f32) (x1 : FVec Ideal S1x2816x1024 .f32) (x2 x3 : FVec Ideal S1x8192x1024 .f32)
  (h0 : m ((dev : Thread nD τ).loc main_arg0) = x0) (h1 : m ((dev : Thread nD τ).loc main_arg1) = x1)
  (h2 : m ((dev : Thread nD τ).loc main_arg2) = x2) (h3 : m ((dev : Thread nD τ).loc main_arg3) = x3)

include h0 in
theorem blk_a (t : Fin cfg0.N) (r : Fin 512) (l : Fin 2816) : iblk m dev 0 t (ix2 r l) = x0 (ix3 0 (at512 t r) l) := by
  rw [← h0]
  blk_simp [iblk, idx t]
  entry_read
  pointwise
  blk_ext [idx t, at512, rowAt]

include h1 in
theorem blk_w (t : Fin cfg0.N) (r : Fin 2816) (l : Fin 1024) : iblk m dev 1 t (ix2 r l) = x1 (ix3 0 r l) := by
  rw [← h1]
  blk_simp [iblk, idx t]
  entry_read
  pointwise
  blk_ext [idx t]

include h2 in
theorem blk_x (t : Fin cfg0.N) (r : Fin 512) (l : Fin 1024) : iblk m dev 2 t (ix2 r l) = x2 (ix3 0 (at512 t r) l) := by
  rw [← h2]
  blk_simp [iblk, idx t]
  entry_read
  pointwise
  blk_ext [idx t, at512, rowAt]

include h3 in
theorem blk_t (t : Fin cfg0.N) (r : Fin 512) (l : Fin 1024) : iblk m dev 3 t (ix2 r l) = x3 (ix3 0 (at512 t r) l) := by
  rw [← h3]
  blk_simp [iblk, idx t]
  entry_read
  pointwise
  blk_ext [idx t, at512, rowAt]

theorem emb4 (t : Fin cfg0.N) (r : Fin 512) (l : Fin 1024) :
    (((cfg0.win 4).blk t).view.emb (ix2 r l : S512x1024.Idx) : S8192x1024.Idx) = ix2 (at512 t r) l := by
  blk_ext [idx t, at512, rowAt]
theorem emb5 (t : Fin cfg0.N) (r : Fin 512) (l : Fin 1024) :
    (((cfg0.win 5).blk t).view.emb (ix2 r l : S512x1024.Idx) : S8192x1024.Idx) = ix2 (at512 t r) l := by
  blk_ext [idx t, at512, rowAt]
/-- The loss's block is its whole array. -/
theorem emb6 (t : Fin cfg0.N) (i : S8x128.Idx) : (((cfg0.win 6).blk t).view.emb i : S8x128.Idx) = i := by blk_ext [idx t]

/-- The gradient: the error, divided by the width. -/
def dxArr : FVec Ideal S8192x1024 .f32 := fun i => err x0 x1 x2 x3 (i 0) (i 1) * ((1 / 1024 : ℝ) : EReal)
def dxbArr : FVec Ideal S8192x1024 .bf16 := fun i => err x0 x1 x2 x3 (i 0) (i 1) * ((1 / 1024 : ℝ) : EReal)
/-- A point's share of the squared errors. -/
def part (t : Fin cfg0.N) : FVec Ideal S8x128 .f32 := fun _ =>
  ∑ r, ∑ l, err x0 x1 x2 x3 (at512 t r) l * err x0 x1 x2 x3 (at512 t r) l

include h0 h1 h2 h3 in
/-- The first result: the error's gradient. -/
theorem out_dx : (dats m 0 dev).arrAt 4 cfg0.N = dxArr x0 x1 x2 x3 := by
  refine (dats m 0 dev).arrAt_eq_of_covers 4 _ (by decide +kernel) fun t hf q => ?_
  blk_simp
  rw [after0_4]
  idx_vars q
  have e := pay_dx _ _ _ _ _ _ _ _ (blk_x m dev x2 h2 t) (blk_t m dev x3 h3 t)
    (blk_a m dev x0 h0 t) (blk_w m dev x1 h1 t)
  have e4 := (e q0 q1).trans (congrArg (dxArr x0 x1 x2 x3) (emb4 t q0 q1)).symm
  by_cases ht : t.val % 16 = 0
  · rw [outsAt0_A m dev t ht]; frame_out
    exact e4
  · rw [outsAt0_B m dev t ht]; frame_out
    exact e4

include h0 h1 h2 h3 in
/-- The second result: the same in half the width. -/
theorem out_dxb : (dats m 0 dev).arrAt 5 cfg0.N = dxbArr x0 x1 x2 x3 := by
  refine (dats m 0 dev).arrAt_eq_of_covers 5 _ (by decide +kernel) fun t hf q => ?_
  blk_simp
  rw [after0_5]
  idx_vars q
  have e := pay_dxb _ _ _ _ _ _ _ _ (blk_x m dev x2 h2 t) (blk_t m dev x3 h3 t)
    (blk_a m dev x0 h0 t) (blk_w m dev x1 h1 t)
  have e4 := (e q0 q1).trans (congrArg (dxbArr x0 x1 x2 x3) (emb5 t q0 q1)).symm
  by_cases ht : t.val % 16 = 0
  · rw [outsAt0_A m dev t ht]; frame_out
    exact e4
  · rw [outsAt0_B m dev t ht]; frame_out
    exact e4

include h0 h1 h2 h3 in
theorem step (t : Fin cfg0.N) (acc : FVec Ideal S8x128 .f32) (i : S8x128.Idx) :
    k0_pay3 (F := Ideal) (iblk m dev 2 t) (iblk m dev 0 t) (iblk m dev 1 t) (iblk m dev 3 t) acc i = acc i + part x0 x1 x2 x3 t i := by
  idx_vars i
  exact pay_loss _ _ _ _ acc _ _ _ _ (blk_x m dev x2 h2 t) (blk_t m dev x3 h3 t)
    (blk_a m dev x0 h0 t) (blk_w m dev x1 h1 t) i0 i1

include h0 h1 h2 h3 in
/-- The third result: the sum of all squared errors. -/
theorem out_loss (i : S8x128.Idx) :
    (dats m 0 dev).arrAt 6 cfg0.N i = ∑ r, ∑ l, err x0 x1 x2 x3 r l * err x0 x1 x2 x3 r l := by
  have hw : (dats m 0 dev).arrAt 6 cfg0.N = fun i => ∑ t, part x0 x1 x2 x3 t i := by
    refine (dats m 0 dev).arrAt_eq_of_covers 6 _ (by decide +kernel) fun t hf q => ?_
    blk_simp
    rw [after0_6, Pipeline.eq_sum_fin_of_reset_step_apply_of_flush (fun n h => (outsAt0 m dev n h).2.2) 16 (fun _ => 0)
      (part x0 x1 x2 x3)
      (fun t ht j => by
        rw [outsAt0_A m dev t ht]; frame_out
        exact (step m dev x0 x1 x2 x3 h0 h1 h2 h3 t _ j).trans (congrArg (· + _) (fill_loss j)))
      (fun t ht j => by rw [outsAt0_B m dev t ht]; frame_out; exact step m dev x0 x1 x2 x3 h0 h1 h2 h3 t _ j)
      t ((flush0_6 t).mp hf) _, zero_add]
    exact (sum_run (K := 16) (part x0 x1 x2 x3) t q _).trans (congrArg (fun i => ∑ t, part x0 x1 x2 x3 t i) (emb6 t q).symm)
  rw [hw]
  exact sum_rowAt (n := 16) (b := 512) rfl (fun r => ∑ l, err x0 x1 x2 x3 r l * err x0 x1 x2 x3 r l)

end Launch

end Cert.Loss
-- ==== Proof.LossClaim.lean ====
/- The claim on values: for any arguments the loss kernel's three results are the reference's. -/
module

public import proofs.«01_k».proof.Defs
public import Idealize.ShloMosaic.Lib.Quiescent
public import proofs.«01_k».proof.Proof.LossKernel
public import proofs.«01_k».proof.Proof.LossRef
public import proofs.«01_k».proof.Proof.Gen.Kernel7Ideal
public import proofs.«01_k».proof.Proof.Gen.Reference7Ideal

@[expose] public section

set_option maxRecDepth 16384

noncomputable section

open Idealize.ShloMosaic Idealize.SL.Sem

namespace Cert.Loss

theorem frame_reference : Cert.quiescent_Reference7Ideal := fun m g _ =>
  (θ_run _ _ _).mono (fun r h => ⟨fun c => (h c).2.2.2, sem_eq_zero_of_no_sems rfl r.2⟩) (Cert.Reference7Ideal.Value.run m g)

theorem algebraic : Cert.algebraic_Kernel7Ideal_Reference7Ideal := by
  intro m g m' g' _ hargs
  refine ⟨fun c => (Cert.Kernel7Ideal.Gen.dats m 0 c).arrAt 4 Cert.Kernel7Ideal.cfg0.N,
    fun c => (Cert.Kernel7Ideal.Gen.dats m 0 c).arrAt 5 Cert.Kernel7Ideal.cfg0.N,
    fun c => (Cert.Kernel7Ideal.Gen.dats m 0 c).arrAt 6 Cert.Kernel7Ideal.cfg0.N,
    (θ_run _ _ _).mono (fun r h c => h c) (Cert.Kernel7Ideal.Value.run_blocks m g),
    (θ_run _ _ _).mono (fun r h c => ?_) (Cert.Reference7Ideal.Value.run m' g')⟩
  obtain ⟨e0, e1, e2, e3⟩ := hargs c
  obtain ⟨r1, r2, r3, rest⟩ := h c
  refine ⟨r1.trans ?_, r2.trans ?_, r3.trans ?_, rest⟩
  · refine (Cert.Reference7Ideal.Read.val_main_v18_eq _ _ _ _).trans (Eq.trans ?_ (out_dx m c _ _ _ _ e0.symm e1.symm e2.symm e3.symm).symm)
    funext i
    idx_vars i
    exact ref_dx _ _ _ _ i0 i1
  · refine (Cert.Reference7Ideal.Read.val_main_v19_eq _ _ _ _).trans (Eq.trans ?_ (out_dxb m c _ _ _ _ e0.symm e1.symm e2.symm e3.symm).symm)
    funext i
    idx_vars i
    exact ref_dxb _ _ _ _ i0 i1
  · refine (Cert.Reference7Ideal.Read.val_main_v21_eq _ _ _ _).trans ?_
    funext i
    refine Eq.trans ?_ (out_loss m c _ _ _ _ e0.symm e1.symm e2.symm e3.symm i).symm
    idx_vars i
    exact ref_loss _ _ _ _ i0 i1

end Cert.Loss
-- ==== Proof.MemQRef.lean ====
/- The reference's gradient of the memory queries, `rms_norm x @ w`, with the residual's cotangent added, read at an index. -/
module

public import proofs.«01_k».proof.Proof.RmsHost
public import proofs.«01_k».proof.Proof.Gen.Reference8Ideal.Run
public import proofs.«01_k».proof.Proof.Gen.Reference8Ideal.Read

@[expose] public section

set_option maxRecDepth 16384

noncomputable section

namespace Cert.MemQ

open Idealize.ShloMosaic Idealize.ShloMosaic.TcCoe Idealize.SL.Sem Idealize.ShloMosaic.StableHlo
open Cert.Reference8Ideal Cert.Reference8Ideal.Gen Cert.Reference8Ideal.Read Cert.RealLift

/-- The norm's cotangent: the product's cotangent times the weight's transpose. -/
def dh (w : Fin 1024 → Fin 1024 → ℝ) (d : Fin 1024 → ℝ) (l : Fin 1024) : ℝ := ∑ k, d k * w l k

variable (x0 : (⟨S1x8192x1024, .f32⟩ : BufTy).Contents (Elt Ideal)) (x1 : (⟨S1x1024, .f32⟩ : BufTy).Contents (Elt Ideal))
  (x2 : (⟨S1x1024x1024, .f32⟩ : BufTy).Contents (Elt Ideal)) (x3 : (⟨S1x8192x1024, .f32⟩ : BufTy).Contents (Elt Ideal))
  (x4 : (⟨S1x8192x1024, .f32⟩ : BufTy).Contents (Elt Ideal))
  (x : Fin 8192 → Fin 1024 → ℝ) (g : Fin 1024 → ℝ) (w : Fin 1024 → Fin 1024 → ℝ) (d : Fin 8192 → Fin 1024 → ℝ)
  (y : Fin 8192 → Fin 1024 → ℝ)
  (h0 : ∀ r l, x0 (ix3 0 r l) = ((x r l : ℝ) : EReal)) (h1 : ∀ l, x1 (ix2 0 l) = ((g l : ℝ) : EReal))
  (h2 : ∀ r l, x2 (ix3 0 r l) = ((w r l : ℝ) : EReal)) (h3 : ∀ r l, x3 (ix3 0 r l) = ((d r l : ℝ) : EReal))
  (h4 : ∀ r l, x4 (ix3 0 r l) = ((y r l : ℝ) : EReal))

include h2 h3 in
theorem ref_dh (r : Fin 8192) (l : Fin 1024) : val_main_v19 (F := Ideal) x2 x3 (ix3 0 r l) = ((dh w (d r) l : ℝ) : EReal) := by
  pointwise [val_main_v19, val_main_v17, h2, h3]
  simp only [RealLift.mul, RealLift.sum]; rfl

include h0 h1 h2 h3 h4 in
theorem ref_sum (r : Fin 8192) (l : Fin 1024) :
    val_main_v41 (F := Ideal) x0 x1 x2 x3 x4 (ix3 0 r l) = ((y r l + RmsNorm.dx 1024 (x r) g (dh w (d r)) l : ℝ) : EReal) :=
  RmsHost.dxRes_at RmsHost.shapes_1024 0x44800000#32 x0 (val_main_v19 x2 x3) x4 x1 (by norm_num) word_1024 x _ y g h0
    (ref_dh x2 x3 w d h2 h3) h4 h1 r l

include h0 h1 h2 h3 h4 in
/-- The first result: the row's cotangent. -/
theorem ref_dx (r : Fin 8192) (l : Fin 1024) :
    val_main_v43 (F := Ideal) x0 x1 x2 x3 x4 (ix2 r l) = ((y r l + RmsNorm.dx 1024 (x r) g (dh w (d r)) l : ℝ) : EReal) := by
  pointwise [val_main_v43, ref_sum x0 x1 x2 x3 x4 x g w d y h0 h1 h2 h3 h4]

include h0 h1 h2 h3 h4 in
/-- The second result: the same in half the width. -/
theorem ref_dxb (r : Fin 8192) (l : Fin 1024) :
    val_main_v45 (F := Ideal) x0 x1 x2 x3 x4 (ix2 r l) = ((y r l + RmsNorm.dx 1024 (x r) g (dh w (d r)) l : ℝ) : EReal) := by
  pointwise [val_main_v45, val_main_v44, ref_sum x0 x1 x2 x3 x4 x g w d y h0 h1 h2 h3 h4]

include h0 h2 h3 in
/-- The third result: the gain's cotangent. -/
theorem ref_dg (l : Fin 1024) :
    val_main_v42 (F := Ideal) x0 x2 x3 (ix2 0 l) = ((∑ r, dh w (d r) l * RmsNorm.xh 1024 (x r) l : ℝ) : EReal) :=
  RmsHost.dg_at RmsHost.shapes_1024 0x44800000#32 x0 (val_main_v19 x2 x3) (by norm_num) word_1024 x _ h0 (ref_dh x2 x3 w d h2 h3) l

end Cert.MemQ
-- ==== Proof.MemQKernel.lean ====
/- The memory queries: the product with the weight's transpose fused with the norm's gradient, read at an index: every grid point's rows, and
the sum the points accumulate. -/
module

public import proofs.«01_k».proof.Proof.MemQRef
public import proofs.«01_k».proof.Proof.Tiles
public import proofs.«01_k».proof.Proof.Gen.Kernel8Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemQ

open Cert.Kernel8Ideal Cert.Kernel8Ideal.Gen Cert.RealLift Cert.Tiles

section Payload

variable (v0 : FVec Ideal S512x1024 .bf16) (v2 : FVec Ideal S1024x1024 .bf16) (v5 v40 : FVec Ideal S512x1024 .f32)
  (v27 acc : FVec Ideal S1x1024 .f32)
  (x y : Fin 512 → Fin 1024 → ℝ) (g : Fin 1024 → ℝ) (w : Fin 1024 → Fin 1024 → ℝ) (d : Fin 512 → Fin 1024 → ℝ)
  (h0 : ∀ r k, v0 (ix2 r k) = ((d r k : ℝ) : EReal)) (h2 : ∀ r k, v2 (ix2 r k) = ((w r k : ℝ) : EReal))
  (h5 : ∀ r l, v5 (ix2 r l) = ((x r l : ℝ) : EReal)) (h40 : ∀ r l, v40 (ix2 r l) = ((y r l : ℝ) : EReal))
  (h27 : ∀ l, v27 (ix2 0 l) = ((g l : ℝ) : EReal))

include h0 h2 in
theorem pay_dh (r : Fin 512) (l : Fin 1024) : k0_pay3 (F := Ideal) v0 v2 (ix2 r l) = ((dh w (d r) l : ℝ) : EReal) := by
  pointwise [k0_pay3, h0, h2]
  simp only [RealLift.mul, RealLift.sum]; rfl

include h5 in
theorem pay_rs (r : Fin 512) : k0_pay5 (F := Ideal) v5 (ix2 r 0) = ((RmsNorm.rs 1024 (x r) : ℝ) : EReal) := by
  pointwise [k0_pay5, k0_pay4, h5]
  simp only [word_1024, word_eps, RealLift.mul, RealLift.sum]
  rw [RealLift.div _ (by norm_num), RealLift.add]
  exact RealLift.rsqrt (RmsNorm.vare_pos _ (x r) (by norm_num))

include h5 in
theorem pay_xh (r : Fin 512) (l : Fin 1024) : k0_pay6 (F := Ideal) v5 (ix2 r l) = ((RmsNorm.xh 1024 (x r) l : ℝ) : EReal) := by
  pointwise [k0_pay6, k0_pay4, h5, pay_rs v5 x h5]
  rw [RealLift.mul]; rfl

include h0 h2 h27 in
theorem pay_dxh (r : Fin 512) (l : Fin 1024) :
    k0_pay9 (F := Ideal) v0 v2 v27 (ix2 r l) = ((RmsNorm.dxh g (dh w (d r)) l : ℝ) : EReal) := by
  pointwise [k0_pay9, pay_dh v0 v2 w d h0 h2, h27]
  rw [RealLift.mul]; rfl

include h0 h2 h5 h27 h40 in
theorem pay_dx (r : Fin 512) (l : Fin 1024) :
    k0_pay1 (F := Ideal) (k0_pay5 v5) (k0_pay6 v5) (k0_pay9 v0 v2 v27) (k0_pay10 v0 v2 v5 v27) v40 (ix2 r l)
      = ((y r l + RmsNorm.dx 1024 (x r) g (dh w (d r)) l : ℝ) : EReal) := by
  pointwise [k0_pay1, k0_pay10, pay_rs v5 x h5, pay_xh v5 x h5, pay_dxh v0 v2 v27 g w d h0 h2 h27, h40]
  simp only [word_1024, RealLift.mul, RealLift.sum]
  rw [RealLift.div _ (by norm_num)]
  simp only [RealLift.mul, RealLift.sub, RealLift.add]
  rfl

include h0 h2 h5 h27 h40 in
theorem pay_dxb (r : Fin 512) (l : Fin 1024) :
    k0_pay2 (F := Ideal) (k0_pay5 v5) (k0_pay6 v5) (k0_pay9 v0 v2 v27) (k0_pay10 v0 v2 v5 v27) v40 (ix2 r l)
      = ((y r l + RmsNorm.dx 1024 (x r) g (dh w (d r)) l : ℝ) : EReal) := by
  pointwise [k0_pay2, pay_dx v0 v2 v5 v40 v27 x y g w d h0 h2 h5 h40 h27]

include h0 h2 h5 in
theorem pay_dg (l : Fin 1024) :
    k0_pay8 (F := Ideal) v0 v2 v5 acc (ix2 0 l)
      = acc (ix2 0 l) + ((∑ r, dh w (d r) l * RmsNorm.xh 1024 (x r) l : ℝ) : EReal) := by
  pointwise [k0_pay8, pay_dh v0 v2 w d h0 h2, pay_xh v5 x h5]
  simp only [RealLift.mul, RealLift.sum]

theorem fill_dg (i : S1x1024.Idx) : k0_pay7 (F := Ideal) i = 0 := by pointwise [k0_pay7]

end Payload

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- Row `r` of grid point `t` is row `512 t + r` of the arrays. -/
def at512 (t : Fin cfg0.N) (r : Fin 512) : Fin 8192 := rowAt (n := 16) rfl t r

section Launch

variable (dev : Dev nD) (x : Fin 8192 → Fin 1024 → ℝ) (g : Fin 1024 → ℝ) (w : Fin 1024 → Fin 1024 → ℝ) (d : Fin 8192 → Fin 1024 → ℝ)
  (y : Fin 8192 → Fin 1024 → ℝ)
  (h0 : ∀ r l, m ((dev : Thread nD τ).loc main_arg0) (ix3 0 r l) = ((x r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r l, m ((dev : Thread nD τ).loc main_arg3) (ix3 0 r l) = ((d r l : ℝ) : EReal))
  (h4 : ∀ r l, m ((dev : Thread nD τ).loc main_arg4) (ix3 0 r l) = ((y r l : ℝ) : EReal))

include h3 in
theorem blk_d (t : Fin cfg0.N) (r : Fin 512) (k : Fin 1024) : iblk m dev 0 t (ix2 r k) = ((d (at512 t r) k : ℝ) : EReal) := by
  rw [← h3]
  blk_simp [iblk, idx t]
  entry_read
  pointwise
  blk_ext [idx t, at512, rowAt]

include h2 in
theorem blk_w (t : Fin cfg0.N) (r : Fin 1024) (k : Fin 1024) : iblk m dev 1 t (ix2 r k) = ((w r k : ℝ) : EReal) := by
  rw [← h2]
  blk_simp [iblk, idx t]
  entry_read
  pointwise
  blk_ext [idx t]

include h0 in
theorem blk_x (t : Fin cfg0.N) (r : Fin 512) (l : Fin 1024) : iblk m dev 2 t (ix2 r l) = ((x (at512 t r) l : ℝ) : EReal) := by
  rw [← h0]
  blk_simp [iblk, idx t]
  entry_read
  pointwise
  blk_ext [idx t, at512, rowAt]

include h1 in
theorem blk_g (t : Fin cfg0.N) (l : Fin 1024) : iblk m dev 3 t (ix2 0 l) = ((g l : ℝ) : EReal) := by
  rw [← h1]
  blk_point [iblk, V, idx t]

include h4 in
theorem blk_y (t : Fin cfg0.N) (r : Fin 512) (l : Fin 1024) : iblk m dev 4 t (ix2 r l) = ((y (at512 t r) l : ℝ) : EReal) := by
  rw [← h4]
  blk_simp [iblk, idx t]
  entry_read
  pointwise
  blk_ext [idx t, at512, rowAt]

theorem emb5 (t : Fin cfg0.N) (r : Fin 512) (l : Fin 1024) :
    (((cfg0.win 5).blk t).view.emb (ix2 r l : S512x1024.Idx) : S8192x1024.Idx) = ix2 (at512 t r) l := by
  blk_ext [idx t, at512, rowAt]
theorem emb6 (t : Fin cfg0.N) (r : Fin 512) (l : Fin 1024) :
    (((cfg0.win 6).blk t).view.emb (ix2 r l : S512x1024.Idx) : S8192x1024.Idx) = ix2 (at512 t r) l := by
  blk_ext [idx t, at512, rowAt]
/-- The gain's block is its whole array. -/
theorem emb7 (t : Fin cfg0.N) (i : S1x1024.Idx) : (((cfg0.win 7).blk t).view.emb i : S1x1024.Idx) = i := by blk_ext [idx t]

/-- Every row's cotangent. -/
def dxArr : FVec Ideal S8192x1024 .f32 := fun i =>
  ((y (i 0) (i 1) + RmsNorm.dx 1024 (x (i 0)) g (dh w (d (i 0))) (i 1) : ℝ) : EReal)
def dxbArr : FVec Ideal S8192x1024 .bf16 := fun i =>
  ((y (i 0) (i 1) + RmsNorm.dx 1024 (x (i 0)) g (dh w (d (i 0))) (i 1) : ℝ) : EReal)
/-- A point's share of the gain's cotangent. -/
def dgPart (t : Fin cfg0.N) : FVec Ideal S1x1024 .f32 := fun i =>
  ((∑ r, dh w (d (at512 t r)) (i 1) * RmsNorm.xh 1024 (x (at512 t r)) (i 1) : ℝ) : EReal)

include h0 h1 h2 h3 h4 in
/-- The first result: every row's cotangent. -/
theorem out_dx : (dats m 0 dev).arrAt 5 cfg0.N = dxArr x g w d y := by
  refine (dats m 0 dev).arrAt_eq_of_covers 5 _ (by decide +kernel) fun t hf q => ?_
  blk_simp
  rw [after0_5]
  idx_vars q
  have e := pay_dx _ _ _ _ _ _ _ g w _ (blk_d m dev d h3 t) (blk_w m dev w h2 t)
    (blk_x m dev x h0 t) (blk_y m dev y h4 t) (blk_g m dev g h1 t)
  have e4 := (e q0 q1).trans (congrArg (dxArr x g w d y) (emb5 t q0 q1)).symm
  by_cases ht : t.val % 16 = 0
  · rw [outsAt0_A m dev t ht]; frame_out
    exact e4
  · rw [outsAt0_B m dev t ht]; frame_out
    exact e4

include h0 h1 h2 h3 h4 in
/-- The second result: the same in half the width. -/
theorem out_dxb : (dats m 0 dev).arrAt 6 cfg0.N = dxbArr x g w d y := by
  refine (dats m 0 dev).arrAt_eq_of_covers 6 _ (by decide +kernel) fun t hf q => ?_
  blk_simp
  rw [after0_6]
  idx_vars q
  have e := pay_dxb _ _ _ _ _ _ _ g w _ (blk_d m dev d h3 t) (blk_w m dev w h2 t)
    (blk_x m dev x h0 t) (blk_y m dev y h4 t) (blk_g m dev g h1 t)
  have e4 := (e q0 q1).trans (congrArg (dxbArr x g w d y) (emb6 t q0 q1)).symm
  by_cases ht : t.val % 16 = 0
  · rw [outsAt0_A m dev t ht]; frame_out
    exact e4
  · rw [outsAt0_B m dev t ht]; frame_out
    exact e4

include h0 h2 h3 in
theorem step_dg (t : Fin cfg0.N) (acc : FVec Ideal S1x1024 .f32) (i : S1x1024.Idx) :
    k0_pay8 (F := Ideal) (iblk m dev 0 t) (iblk m dev 1 t) (iblk m dev 2 t) acc i
      = acc i + dgPart x w d t i := by
  obtain ⟨l, rfl⟩ := eq_row i
  exact pay_dg _ _ _ acc _ w _ (blk_d m dev d h3 t) (blk_w m dev w h2 t)
    (blk_x m dev x h0 t) l

include h0 h2 h3 in
/-- The third result: the gain's cotangent. -/
theorem out_dg (l : Fin 1024) :
    (dats m 0 dev).arrAt 7 cfg0.N (ix2 0 l) = ((∑ r, dh w (d r) l * RmsNorm.xh 1024 (x r) l : ℝ) : EReal) := by
  have hw : (dats m 0 dev).arrAt 7 cfg0.N = fun i => ∑ t, dgPart x w d t i := by
    refine (dats m 0 dev).arrAt_eq_of_covers 7 _ (by decide +kernel) fun t hf q => ?_
    blk_simp
    rw [after0_7, Pipeline.eq_sum_fin_of_reset_step_apply_of_flush (fun n h => (outsAt0 m dev n h).2.2) 16 (fun _ => 0)
      (dgPart x w d)
      (fun t ht j => by
        rw [outsAt0_A m dev t ht]; frame_out
        exact (step_dg m dev x w d h0 h2 h3 t _ j).trans (congrArg (· + _) (fill_dg j)))
      (fun t ht j => by rw [outsAt0_B m dev t ht]; frame_out; exact step_dg m dev x w d h0 h2 h3 t _ j)
      t ((flush0_7 t).mp hf) _, zero_add]
    exact (sum_run (K := 16) (dgPart x w d) t q _).trans (congrArg (fun i => ∑ t, dgPart x w d t i) (emb7 t q).symm)
  rw [hw]
  exact (RealLift.sum _ _).trans (congrArg _ (sum_rowAt (n := 16) (b := 512) rfl (fun r => dh w (d r) l * RmsNorm.xh 1024 (x r) l)))

end Launch

end Cert.MemQ
-- ==== Proof.MemQClaim.lean ====
/- The claim on values: from finite arguments the kernel's three results are the reference's. -/
module

public import proofs.«01_k».proof.Defs
public import Idealize.ShloMosaic.Lib.Quiescent
public import proofs.«01_k».proof.Proof.MemQKernel
public import proofs.«01_k».proof.Proof.MemQRef
public import proofs.«01_k».proof.Proof.Gen.Pre_finite8
public import proofs.«01_k».proof.Proof.Gen.Kernel8Ideal
public import proofs.«01_k».proof.Proof.Gen.Reference8Ideal

@[expose] public section

set_option maxRecDepth 16384

noncomputable section

open Idealize.ShloMosaic Idealize.SL.Sem

namespace Cert.MemQ

open Cert.RealLift

/-- Finite arguments are arrays of real numbers. -/
theorem reals_of_finite (x0 : FVec Ideal Cert.Pre_finite8.S1x8192x1024 .f32) (x1 : FVec Ideal Cert.Pre_finite8.S1x1024 .f32)
    (x2 : FVec Ideal Cert.Pre_finite8.S1x1024x1024 .f32) (x3 : FVec Ideal Cert.Pre_finite8.S1x8192x1024 .f32)
    (x4 : FVec Ideal Cert.Pre_finite8.S1x8192x1024 .f32) (e : Cert.Pre_finite8.fn (F := Ideal) x0 x1 x2 x3 x4 = fun _ => 1#1) :
    IsReal x0 ∧ IsReal x1 ∧ IsReal x2 ∧ IsReal x3 ∧ IsReal x4 := by
  have hs : Subsingleton Cert.Pre_finite8.S_.Idx := ⟨fun a b => funext fun i => i.elim0⟩
  have e1 := congrFun e ix0
  obtain ⟨e1, h4⟩ := IntOp.andi_eq_one.mp e1
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3, real_of_test _ _ _ _ _ _ _ h4⟩

theorem frame_reference : Cert.quiescent_Reference8Ideal := fun m g _ =>
  (θ_run _ _ _).mono (fun r h => ⟨fun c => (h c).2.2.2, sem_eq_zero_of_no_sems rfl r.2⟩) (Cert.Reference8Ideal.Value.run m g)

theorem algebraic : Cert.algebraic_Kernel8Ideal_Reference8Ideal_pre_finite8 := by
  intro m g m' g' hpre hargs
  refine ⟨fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    (θ_run _ _ _).mono (fun r h c => h c) (Cert.Kernel8Ideal.Value.run_blocks m g),
    (θ_run _ _ _).mono (fun r h c => ?_) (Cert.Reference8Ideal.Value.run m' g')⟩
  obtain ⟨⟨a0, h0⟩, ⟨a1, h1⟩, ⟨a2, h2⟩, ⟨a3, h3⟩, ⟨a4, h4⟩⟩ := reals_of_finite _ _ _ _ _ (hpre c)
  obtain ⟨e0, e1, e2, e3, e4⟩ := hargs c
  obtain ⟨r1, r2, r3, rest⟩ := h c
  have k0 := fun (r : Fin 8192) (l : Fin 1024) => h0 (ix3 0 r l)
  have k1 := fun l : Fin 1024 => h1 (ix2 0 l)
  have k2 := fun (r : Fin 1024) (l : Fin 1024) => h2 (ix3 0 r l)
  have k3 := fun (r : Fin 8192) (l : Fin 1024) => h3 (ix3 0 r l)
  have k4 := fun (r : Fin 8192) (l : Fin 1024) => h4 (ix3 0 r l)
  have l0 := fun (r : Fin 8192) (l : Fin 1024) => (congrFun e0 _).trans (k0 r l)
  have l1 := fun l : Fin 1024 => (congrFun e1 _).trans (k1 l)
  have l2 := fun (r : Fin 1024) (l : Fin 1024) => (congrFun e2 _).trans (k2 r l)
  have l3 := fun (r : Fin 8192) (l : Fin 1024) => (congrFun e3 _).trans (k3 r l)
  have l4 := fun (r : Fin 8192) (l : Fin 1024) => (congrFun e4 _).trans (k4 r l)
  refine ⟨r1.trans ?_, r2.trans ?_, r3.trans ?_, rest⟩
  · refine (Cert.Reference8Ideal.Read.val_main_v43_eq _ _).trans (Eq.trans ?_ (out_dx m c _ _ _ _ _ k0 k1 k2 k3 k4).symm)
    funext i
    idx_vars i
    exact ref_dx _ _ _ _ _ _ _ _ _ _ l0 l1 l2 l3 l4 i0 i1
  · refine (Cert.Reference8Ideal.Read.val_main_v45_eq _ _).trans (Eq.trans ?_ (out_dxb m c _ _ _ _ _ k0 k1 k2 k3 k4).symm)
    funext i
    idx_vars i
    exact ref_dxb _ _ _ _ _ _ _ _ _ _ l0 l1 l2 l3 l4 i0 i1
  · refine (Cert.Reference8Ideal.Read.val_main_v42_eq _ _ _).trans ?_
    funext i
    obtain ⟨l, rfl⟩ := Cert.Tiles.eq_row i
    exact (ref_dg _ _ _ _ _ _ l0 l2 l3 l).trans (out_dg m c _ _ _ k0 k2 k3 l).symm

end Cert.MemQ
-- ==== Proof.MemKvRef.lean ====
/- The reference's gradient of the memory's keys and values, `rms_norm x @ w`, read at an index. -/
module

public import proofs.«01_k».proof.Proof.RmsHost
public import proofs.«01_k».proof.Proof.Gen.Reference9Ideal.Run
public import proofs.«01_k».proof.Proof.Gen.Reference9Ideal.Read

@[expose] public section

set_option maxRecDepth 16384

noncomputable section

namespace Cert.MemKv

open Idealize.ShloMosaic Idealize.ShloMosaic.TcCoe Idealize.SL.Sem Idealize.ShloMosaic.StableHlo
open Cert.Reference9Ideal Cert.Reference9Ideal.Gen Cert.Reference9Ideal.Read Cert.RealLift

/-- The norm's cotangent: the product's cotangent times the weight's transpose. -/
def dh (w : Fin 1024 → Fin 2048 → ℝ) (d : Fin 2048 → ℝ) (l : Fin 1024) : ℝ := ∑ k, d k * w l k

variable (x0 : (⟨S1x256x1024, .f32⟩ : BufTy).Contents (Elt Ideal)) (x1 : (⟨S1x1024, .f32⟩ : BufTy).Contents (Elt Ideal))
  (x2 : (⟨S1x1024x2048, .f32⟩ : BufTy).Contents (Elt Ideal)) (x3 : (⟨S1x256x2048, .f32⟩ : BufTy).Contents (Elt Ideal))
  (x : Fin 256 → Fin 1024 → ℝ) (g : Fin 1024 → ℝ) (w : Fin 1024 → Fin 2048 → ℝ) (d : Fin 256 → Fin 2048 → ℝ)
  (h0 : ∀ r l, x0 (ix3 0 r l) = ((x r l : ℝ) : EReal)) (h1 : ∀ l, x1 (ix2 0 l) = ((g l : ℝ) : EReal))
  (h2 : ∀ r l, x2 (ix3 0 r l) = ((w r l : ℝ) : EReal)) (h3 : ∀ r k, x3 (ix3 0 r k) = ((d r k : ℝ) : EReal))

include h2 h3 in
theorem ref_dh (r : Fin 256) (l : Fin 1024) : val_main_v19 (F := Ideal) x2 x3 (ix3 0 r l) = ((dh w (d r) l : ℝ) : EReal) := by
  pointwise [val_main_v19, val_main_v17, h2, h3]
  simp only [RealLift.mul, RealLift.sum]; rfl

include h0 h1 h2 h3 in
theorem ref_sum (r : Fin 256) (l : Fin 1024) :
    val_main_v40 (F := Ideal) x0 x1 x2 x3 (ix3 0 r l) = ((RmsNorm.dx 1024 (x r) g (dh w (d r)) l : ℝ) : EReal) :=
  RmsHost.dx_at RmsHost.shapes_mem 0x44800000#32 x0 (val_main_v19 x2 x3) x1 (by norm_num) word_1024 x _ g
    h0 (ref_dh x2 x3 w d h2 h3) h1 r l

include h0 h1 h2 h3 in
/-- The first result: the row's cotangent. -/
theorem ref_dx (r : Fin 256) (l : Fin 1024) :
    val_main_v43 (F := Ideal) x0 x1 x2 x3 (ix2 r l) = ((RmsNorm.dx 1024 (x r) g (dh w (d r)) l : ℝ) : EReal) := by
  pointwise [val_main_v43, val_main_v42, ref_sum x0 x1 x2 x3 x g w d h0 h1 h2 h3]

include h0 h2 h3 in
/-- The second result: the gain's cotangent. -/
theorem ref_dg (l : Fin 1024) :
    val_main_v41 (F := Ideal) x0 x2 x3 (ix2 0 l) = ((∑ r, dh w (d r) l * RmsNorm.xh 1024 (x r) l : ℝ) : EReal) :=
  RmsHost.dg_at RmsHost.shapes_mem 0x44800000#32 x0 (val_main_v19 x2 x3) (by norm_num) word_1024 x _
    h0 (ref_dh x2 x3 w d h2 h3) l

end Cert.MemKv
-- ==== Proof.MemKvKernel.lean ====
/- The memory's keys and values: the product with the weight's transpose fused with the norm's gradient, read at an
index: every row, and their sum. -/
module

public import proofs.«01_k».proof.Proof.MemKvRef
public import proofs.«01_k».proof.Proof.Tiles
public import proofs.«01_k».proof.Proof.Gen.Kernel9Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKv

open Cert.Kernel9Ideal Cert.Kernel9Ideal.Gen Cert.RealLift Cert.Tiles

section Payload

variable (v0 : FVec Ideal S256x2048 .f32) (v2 : FVec Ideal S1024x2048 .bf16) (v5 : FVec Ideal S256x1024 .f32) (v27 acc : FVec Ideal S1x1024 .f32)
  (x : Fin 256 → Fin 1024 → ℝ) (g : Fin 1024 → ℝ) (w : Fin 1024 → Fin 2048 → ℝ) (d : Fin 256 → Fin 2048 → ℝ)
  (h0 : ∀ r k, v0 (ix2 r k) = ((d r k : ℝ) : EReal)) (h2 : ∀ r k, v2 (ix2 r k) = ((w r k : ℝ) : EReal))
  (h5 : ∀ r l, v5 (ix2 r l) = ((x r l : ℝ) : EReal)) (h27 : ∀ l, v27 (ix2 0 l) = ((g l : ℝ) : EReal))

include h0 h2 in
theorem pay_dh (r : Fin 256) (l : Fin 1024) : k0_pay2 (F := Ideal) v0 v2 (ix2 r l) = ((dh w (d r) l : ℝ) : EReal) := by
  pointwise [k0_pay2, h0, h2]
  simp only [RealLift.mul, RealLift.sum]
  rfl

include h5 in
theorem pay_rs (r : Fin 256) : k0_pay4 (F := Ideal) v5 (ix2 r 0) = ((RmsNorm.rs 1024 (x r) : ℝ) : EReal) := by
  pointwise [k0_pay4, k0_pay3, h5]
  simp only [word_1024, word_eps, RealLift.mul, RealLift.sum]
  rw [RealLift.div _ (by norm_num), RealLift.add]
  exact RealLift.rsqrt (RmsNorm.vare_pos _ (x r) (by norm_num))

include h5 in
theorem pay_xh (r : Fin 256) (l : Fin 1024) : k0_pay5 (F := Ideal) v5 (ix2 r l) = ((RmsNorm.xh 1024 (x r) l : ℝ) : EReal) := by
  pointwise [k0_pay5, k0_pay3, h5, pay_rs v5 x h5]
  rw [RealLift.mul]; rfl

include h0 h2 h27 in
theorem pay_dxh (r : Fin 256) (l : Fin 1024) :
    k0_pay8 (F := Ideal) v0 v2 v27 (ix2 r l) = ((RmsNorm.dxh g (dh w (d r)) l : ℝ) : EReal) := by
  pointwise [k0_pay8, pay_dh v0 v2 w d h0 h2, h27]
  rw [RealLift.mul]; rfl

include h0 h2 h5 h27 in
theorem pay_dx (r : Fin 256) (l : Fin 1024) :
    k0_pay1 (F := Ideal) (k0_pay4 v5) (k0_pay5 v5) (k0_pay8 v0 v2 v27) (k0_pay9 v0 v2 v5 v27) (ix2 r l)
      = ((RmsNorm.dx 1024 (x r) g (dh w (d r)) l : ℝ) : EReal) := by
  pointwise [k0_pay1, k0_pay9, pay_rs v5 x h5, pay_xh v5 x h5, pay_dxh v0 v2 v27 g w d h0 h2 h27]
  simp only [word_1024, RealLift.mul, RealLift.sum]
  rw [RealLift.div _ (by norm_num)]
  simp only [RealLift.mul, RealLift.sub]
  rfl

include h0 h2 h5 in
theorem pay_dg (l : Fin 1024) :
    k0_pay7 (F := Ideal) v0 v2 v5 acc (ix2 0 l) = acc (ix2 0 l) + ((∑ r, dh w (d r) l * RmsNorm.xh 1024 (x r) l : ℝ) : EReal) := by
  pointwise [k0_pay7, pay_dh v0 v2 w d h0 h2, pay_xh v5 x h5]
  simp only [RealLift.mul, RealLift.sum]

theorem fill_dg (i : S1x1024.Idx) : k0_pay6 (F := Ideal) i = 0 := by pointwise [k0_pay6]

end Payload

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

section Launch

variable (dev : Dev nD) (x : Fin 256 → Fin 1024 → ℝ) (g : Fin 1024 → ℝ) (w : Fin 1024 → Fin 2048 → ℝ) (d : Fin 256 → Fin 2048 → ℝ)
  (h0 : ∀ r l, m ((dev : Thread nD τ).loc main_arg0) (ix3 0 r l) = ((x r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r k, m ((dev : Thread nD τ).loc main_arg3) (ix3 0 r k) = ((d r k : ℝ) : EReal))

include h3 in
theorem blk_d (t : Fin cfg0.N) (r : Fin 256) (k : Fin 2048) : iblk m dev 0 t (ix2 r k) = ((d r k : ℝ) : EReal) := by
  rw [← h3]
  blk_simp [iblk, idx t]
  entry_read
  pointwise
  blk_ext [idx t]

include h2 in
theorem blk_w (t : Fin cfg0.N) (r : Fin 1024) (k : Fin 2048) : iblk m dev 1 t (ix2 r k) = ((w r k : ℝ) : EReal) := by
  rw [← h2]
  blk_simp [iblk, idx t]
  entry_read
  pointwise
  blk_ext [idx t]

include h0 in
theorem blk_x (t : Fin cfg0.N) (r : Fin 256) (l : Fin 1024) : iblk m dev 2 t (ix2 r l) = ((x r l : ℝ) : EReal) := by
  rw [← h0]
  blk_simp [iblk, idx t]
  entry_read
  pointwise
  blk_ext [idx t]

include h1 in
theorem blk_g (t : Fin cfg0.N) (l : Fin 1024) : iblk m dev 3 t (ix2 0 l) = ((g l : ℝ) : EReal) := by
  rw [← h1]
  blk_point [iblk, V, idx t]

theorem emb4 (t : Fin cfg0.N) (r : Fin 256) (l : Fin 1024) :
    (((cfg0.win 4).blk t).view.emb (ix2 r l : S256x1024.Idx) : S256x1024.Idx) = ix2 (r) l := by
  blk_ext [idx t]
/-- The gain's block is its whole array. -/
theorem emb5 (t : Fin cfg0.N) (i : S1x1024.Idx) : (((cfg0.win 5).blk t).view.emb i : S1x1024.Idx) = i := by blk_ext [idx t]

/-- Every row's cotangent. -/
def dxArr : FVec Ideal S256x1024 .bf16 := fun i =>
  ((RmsNorm.dx 1024 (x (i 0)) g (dh w (d (i 0))) (i 1) : ℝ) : EReal)
/-- The gain's cotangent. -/
def dgArr : FVec Ideal S1x1024 .f32 := fun i => ((∑ r, dh w (d r) (i 1) * RmsNorm.xh 1024 (x r) (i 1) : ℝ) : EReal)

include h0 h1 h2 h3 in
/-- The first result: every row's cotangent. -/
theorem out_dx : (dats m 0 dev).arrAt 4 cfg0.N = dxArr x g w d := by
  refine (dats m 0 dev).arrAt_eq_of_covers 4 _ (by decide +kernel) fun t hf q => ?_
  blk_simp
  rw [after0_4]
  idx_vars q
  have e := pay_dx _ _ _ _ _ g w _ (blk_d m dev d h3 t) (blk_w m dev w h2 t) (blk_x m dev x h0 t) (blk_g m dev g h1 t)
  have e4 := (e q0 q1).trans (congrArg (dxArr x g w d) (emb4 t q0 q1)).symm
  unfold outsAt0
  frame_out
  exact e4

include h0 h2 h3 in
/-- The second result: the gain's cotangent. -/
theorem out_dg : (dats m 0 dev).arrAt 5 cfg0.N = dgArr x w d := by
  refine (dats m 0 dev).arrAt_eq_of_covers 5 _ (by decide +kernel) fun t hf q => ?_
  blk_simp
  rw [after0_5]
  obtain ⟨l, rfl⟩ := eq_row q
  have e := pay_dg _ _ _ (k0_pay6 (F := Ideal)) _ w _ (blk_d m dev d h3 t) (blk_w m dev w h2 t) (blk_x m dev x h0 t) l
  rw [fill_dg, zero_add] at e
  unfold outsAt0
  frame_out
  exact e.trans (congrArg (dgArr x w d) (emb5 t (ix2 0 l))).symm

end Launch

end Cert.MemKv
-- ==== Proof.MemKvClaim.lean ====
/- The claim on values: from finite arguments the kernel's two results are the reference's. -/
module

public import proofs.«01_k».proof.Defs
public import Idealize.ShloMosaic.Lib.Quiescent
public import proofs.«01_k».proof.Proof.MemKvKernel
public import proofs.«01_k».proof.Proof.MemKvRef
public import proofs.«01_k».proof.Proof.Gen.Pre_finite9
public import proofs.«01_k».proof.Proof.Gen.Kernel9Ideal
public import proofs.«01_k».proof.Proof.Gen.Reference9Ideal

@[expose] public section

set_option maxRecDepth 16384

noncomputable section

open Idealize.ShloMosaic Idealize.SL.Sem

namespace Cert.MemKv

open Cert.RealLift

/-- Finite arguments are arrays of real numbers. -/
theorem reals_of_finite (x0 : FVec Ideal Cert.Pre_finite9.S1x256x1024 .f32) (x1 : FVec Ideal Cert.Pre_finite9.S1x1024 .f32)
    (x2 : FVec Ideal Cert.Pre_finite9.S1x1024x2048 .f32) (x3 : FVec Ideal Cert.Pre_finite9.S1x256x2048 .f32)
    (e : Cert.Pre_finite9.fn (F := Ideal) x0 x1 x2 x3 = fun _ => 1#1) :
    IsReal x0 ∧ IsReal x1 ∧ IsReal x2 ∧ IsReal x3 := by
  have hs : Subsingleton Cert.Pre_finite9.S_.Idx := ⟨fun a b => funext fun i => i.elim0⟩
  have e1 := congrFun e ix0
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3⟩

theorem frame_reference : Cert.quiescent_Reference9Ideal := fun m g _ =>
  (θ_run _ _ _).mono (fun r h => ⟨fun c => (h c).2.2, sem_eq_zero_of_no_sems rfl r.2⟩) (Cert.Reference9Ideal.Value.run m g)

theorem algebraic : Cert.algebraic_Kernel9Ideal_Reference9Ideal_pre_finite9 := by
  intro m g m' g' hpre hargs
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    (θ_run _ _ _).mono (fun r h c => h c) (Cert.Kernel9Ideal.Value.run_blocks m g),
    (θ_run _ _ _).mono (fun r h c => ?_) (Cert.Reference9Ideal.Value.run m' g')⟩
  obtain ⟨⟨a0, h0⟩, ⟨a1, h1⟩, ⟨a2, h2⟩, ⟨a3, h3⟩⟩ := reals_of_finite _ _ _ _ (hpre c)
  obtain ⟨e0, e1, e2, e3⟩ := hargs c
  obtain ⟨r1, r3, rest⟩ := h c
  have k0 := fun (r : Fin 256) (l : Fin 1024) => h0 (ix3 0 r l)
  have k1 := fun l : Fin 1024 => h1 (ix2 0 l)
  have k2 := fun (r : Fin 1024) (l : Fin 2048) => h2 (ix3 0 r l)
  have k3 := fun (r : Fin 256) (k : Fin 2048) => h3 (ix3 0 r k)
  have l0 := fun (r : Fin 256) (l : Fin 1024) => (congrFun e0 _).trans (k0 r l)
  have l1 := fun l : Fin 1024 => (congrFun e1 _).trans (k1 l)
  have l2 := fun (r : Fin 1024) (l : Fin 2048) => (congrFun e2 _).trans (k2 r l)
  have l3 := fun (r : Fin 256) (k : Fin 2048) => (congrFun e3 _).trans (k3 r k)
  refine ⟨r1.trans ?_, r3.trans ?_, rest⟩
  · refine (Cert.Reference9Ideal.Read.val_main_v43_eq _ _).trans (Eq.trans ?_ (out_dx m c _ _ _ _ k0 k1 k2 k3).symm)
    funext i
    idx_vars i
    exact ref_dx _ _ _ _ _ _ _ _ l0 l1 l2 l3 i0 i1
  · refine (Cert.Reference9Ideal.Read.val_main_v41_eq _ _ _).trans ?_
    funext i
    obtain ⟨l, rfl⟩ := Cert.Tiles.eq_row i
    exact (ref_dg _ _ _ _ _ _ l0 l2 l3 l).trans (congrFun (out_dg m c _ _ _ k0 k2 k3) (ix2 0 l)).symm

end Cert.MemKv
-- ==== Proof.KvUpRef.lean ====
/- The reference's gradient of the keys' and values' up-projection `rms_norm c @ w`, read at an index. -/
module

public import proofs.«01_k».proof.Proof.RmsHost
public import proofs.«01_k».proof.Proof.Gen.Reference10Ideal.Run
public import proofs.«01_k».proof.Proof.Gen.Reference10Ideal.Read

@[expose] public section

set_option maxRecDepth 16384

noncomputable section

namespace Cert.KvUp

open Idealize.ShloMosaic Idealize.ShloMosaic.TcCoe Idealize.SL.Sem Idealize.ShloMosaic.StableHlo
open Cert.Reference10Ideal Cert.Reference10Ideal.Gen Cert.Reference10Ideal.Read Cert.RealLift

/-- The norm's cotangent: the product's cotangent times the weight's transpose. -/
def dh (w : Fin 128 → Fin 1024 → ℝ) (d : Fin 1024 → ℝ) (l : Fin 128) : ℝ := ∑ k, d k * w l k

/-- The latent of the keys and values: columns 1280 to 1407 of the input projection's output. -/
def latent (z : Fin 8192 → Fin 1440 → ℝ) (r : Fin 8192) (l : Fin 128) : ℝ := z r ⟨1280 + l.val, by omega⟩

variable (x0 : (⟨S1x8192x1440, .f32⟩ : BufTy).Contents (Elt Ideal)) (x1 : (⟨S1x128, .f32⟩ : BufTy).Contents (Elt Ideal))
  (x2 : (⟨S1x128x1024, .f32⟩ : BufTy).Contents (Elt Ideal)) (x3 : (⟨S1x8192x1024, .f32⟩ : BufTy).Contents (Elt Ideal))
  (z : Fin 8192 → Fin 1440 → ℝ) (g : Fin 128 → ℝ) (w : Fin 128 → Fin 1024 → ℝ) (d : Fin 8192 → Fin 1024 → ℝ)
  (h0 : ∀ r l, x0 (ix3 0 r l) = ((z r l : ℝ) : EReal)) (h1 : ∀ l, x1 (ix2 0 l) = ((g l : ℝ) : EReal))
  (h2 : ∀ r l, x2 (ix3 0 r l) = ((w r l : ℝ) : EReal)) (h3 : ∀ r k, x3 (ix3 0 r k) = ((d r k : ℝ) : EReal))

include h0 in
theorem ref_latent (r : Fin 8192) (l : Fin 128) : val_main_v0 (F := Ideal) x0 (ix3 0 r l) = ((latent z r l : ℝ) : EReal) := by
  pointwise [val_main_v0, h0]; rfl

include h2 h3 in
theorem ref_dh (r : Fin 8192) (l : Fin 128) : val_main_v20 (F := Ideal) x2 x3 (ix3 0 r l) = ((dh w (d r) l : ℝ) : EReal) := by
  pointwise [val_main_v20, val_main_v18, h2, h3]
  simp only [RealLift.mul, RealLift.sum]; rfl

include h0 h1 h2 h3 in
theorem ref_sum (r : Fin 8192) (l : Fin 128) :
    val_main_v41 (F := Ideal) x0 x1 x2 x3 (ix3 0 r l) = ((RmsNorm.dx 128 (latent z r) g (dh w (d r)) l : ℝ) : EReal) :=
  RmsHost.dx_at RmsHost.shapes_128 0x43000000#32 (val_main_v0 x0) (val_main_v20 x2 x3) x1 (by norm_num) word_128 (latent z) _ g
    (ref_latent x0 z h0) (ref_dh x2 x3 w d h2 h3) h1 r l

include h0 h1 h2 h3 in
/-- The first result: the row's cotangent. -/
theorem ref_dx (r : Fin 8192) (l : Fin 128) :
    val_main_v44 (F := Ideal) x0 x1 x2 x3 (ix2 r l) = ((RmsNorm.dx 128 (latent z r) g (dh w (d r)) l : ℝ) : EReal) := by
  pointwise [val_main_v44, val_main_v43, ref_sum x0 x1 x2 x3 z g w d h0 h1 h2 h3]

include h0 h2 h3 in
/-- The second result: the gain's cotangent. -/
theorem ref_dg (l : Fin 128) :
    val_main_v42 (F := Ideal) x0 x2 x3 (ix2 0 l) = ((∑ r, dh w (d r) l * RmsNorm.xh 128 (latent z r) l : ℝ) : EReal) :=
  RmsHost.dg_at RmsHost.shapes_128 0x43000000#32 (val_main_v0 x0) (val_main_v20 x2 x3) (by norm_num) word_128 (latent z) _
    (ref_latent x0 z h0) (ref_dh x2 x3 w d h2 h3) l

end Cert.KvUp
-- ==== Proof.KvUpKernel.lean ====
/- The keys' and values' up-projection: the product with the weight's transpose fused with the norm's gradient, read at an
index: every grid point's rows, and the sum the points accumulate. -/
module

public import proofs.«01_k».proof.Proof.KvUpRef
public import proofs.«01_k».proof.Proof.Tiles
public import proofs.«01_k».proof.Proof.Gen.Kernel10Ideal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KvUp

open Cert.Kernel10Ideal Cert.Kernel10Ideal.Gen Cert.RealLift Cert.Tiles

section Payload

variable (v0 : FVec Ideal S512x1024 .bf16) (v2 : FVec Ideal S128x1024 .bf16) (v5 : FVec Ideal S512x128 .f32) (v27 acc : FVec Ideal S1x128 .f32)
  (x : Fin 512 → Fin 128 → ℝ) (g : Fin 128 → ℝ) (w : Fin 128 → Fin 1024 → ℝ) (d : Fin 512 → Fin 1024 → ℝ)
  (h0 : ∀ r k, v0 (ix2 r k) = ((d r k : ℝ) : EReal)) (h2 : ∀ r k, v2 (ix2 r k) = ((w r k : ℝ) : EReal))
  (h5 : ∀ r l, v5 (ix2 r l) = ((x r l : ℝ) : EReal)) (h27 : ∀ l, v27 (ix2 0 l) = ((g l : ℝ) : EReal))

include h0 h2 in
theorem pay_dh (r : Fin 512) (l : Fin 128) : k0_pay2 (F := Ideal) v0 v2 (ix2 r l) = ((dh w (d r) l : ℝ) : EReal) := by
  pointwise [k0_pay2, h0, h2]
  simp only [RealLift.mul, RealLift.sum]
  rfl

include h5 in
theorem pay_rs (r : Fin 512) : k0_pay4 (F := Ideal) v5 (ix2 r 0) = ((RmsNorm.rs 128 (x r) : ℝ) : EReal) := by
  pointwise [k0_pay4, k0_pay3, h5]
  simp only [word_128, word_eps, RealLift.mul, RealLift.sum]
  rw [RealLift.div _ (by norm_num), RealLift.add]
  exact RealLift.rsqrt (RmsNorm.vare_pos _ (x r) (by norm_num))

include h5 in
theorem pay_xh (r : Fin 512) (l : Fin 128) : k0_pay5 (F := Ideal) v5 (ix2 r l) = ((RmsNorm.xh 128 (x r) l : ℝ) : EReal) := by
  pointwise [k0_pay5, k0_pay3, h5, pay_rs v5 x h5]
  rw [RealLift.mul]; rfl

include h0 h2 h27 in
theorem pay_dxh (r : Fin 512) (l : Fin 128) :
    k0_pay8 (F := Ideal) v0 v2 v27 (ix2 r l) = ((RmsNorm.dxh g (dh w (d r)) l : ℝ) : EReal) := by
  pointwise [k0_pay8, pay_dh v0 v2 w d h0 h2, h27]
  rw [RealLift.mul]; rfl

include h0 h2 h5 h27 in
theorem pay_dx (r : Fin 512) (l : Fin 128) :
    k0_pay1 (F := Ideal) (k0_pay4 v5) (k0_pay5 v5) (k0_pay8 v0 v2 v27) (k0_pay9 v0 v2 v5 v27) (ix2 r l)
      = ((RmsNorm.dx 128 (x r) g (dh w (d r)) l : ℝ) : EReal) := by
  pointwise [k0_pay1, k0_pay9, pay_rs v5 x h5, pay_xh v5 x h5, pay_dxh v0 v2 v27 g w d h0 h2 h27]
  simp only [word_128, RealLift.mul, RealLift.sum]
  rw [RealLift.div _ (by norm_num)]
  simp only [RealLift.mul, RealLift.sub]
  rfl

include h0 h2 h5 in
theorem pay_dg (l : Fin 128) :
    k0_pay7 (F := Ideal) v0 v2 v5 acc (ix2 0 l) = acc (ix2 0 l) + ((∑ r, dh w (d r) l * RmsNorm.xh 128 (x r) l : ℝ) : EReal) := by
  pointwise [k0_pay7, pay_dh v0 v2 w d h0 h2, pay_xh v5 x h5]
  simp only [RealLift.mul, RealLift.sum]

theorem fill_dg (i : S1x128.Idx) : k0_pay6 (F := Ideal) i = 0 := by pointwise [k0_pay6]

end Payload

variable (m : (ℓ : Loc nD τ sig) → Buf (Elt Ideal) ℓ)

theorem idx : ∀ t : Fin cfg0.N, win0_0.index t = ![t.val, 0] ∧ win0_1.index t = ![0, 0] ∧ win0_2.index t = ![t.val, 10]
    ∧ win0_3.index t = ![0, 0] ∧ win0_4.index t = ![t.val, 0] ∧ win0_5.index t = ![0, 0] :=
  (by decide +kernel : ∀ t : Fin grid0.N, _)

/-- Row `r` of grid point `t` is row `512 t + r` of the arrays. -/
def at512 (t : Fin cfg0.N) (r : Fin 512) : Fin 8192 := rowAt (n := 16) rfl t r

section Launch

variable (dev : Dev nD) (z : Fin 8192 → Fin 1440 → ℝ) (g : Fin 128 → ℝ) (w : Fin 128 → Fin 1024 → ℝ) (d : Fin 8192 → Fin 1024 → ℝ)
  (h0 : ∀ r l, m ((dev : Thread nD τ).loc main_arg0) (ix3 0 r l) = ((z r l : ℝ) : EReal))
  (h1 : ∀ l, m ((dev : Thread nD τ).loc main_arg1) (ix2 0 l) = ((g l : ℝ) : EReal))
  (h2 : ∀ r l, m ((dev : Thread nD τ).loc main_arg2) (ix3 0 r l) = ((w r l : ℝ) : EReal))
  (h3 : ∀ r k, m ((dev : Thread nD τ).loc main_arg3) (ix3 0 r k) = ((d r k : ℝ) : EReal))

include h0 in
theorem arr_z (r : Fin 8192) (l : Fin 128) : V m dev main_v5 (ix2 r ⟨1280 + l.val, by omega⟩) = ((latent z r l : ℝ) : EReal) := by
  after_reads_simp
  pointwise
  rw [dif_pos (by omega)]
  after_reads_simp
  pointwise
  exact h0 _ _

include h3 in
theorem blk_d (t : Fin cfg0.N) (r : Fin 512) (k : Fin 1024) : iblk m dev 0 t (ix2 r k) = ((d (at512 t r) k : ℝ) : EReal) := by
  rw [← h3]
  blk_simp [iblk, idx t]
  entry_read
  pointwise
  blk_ext [idx t, at512, rowAt]

include h2 in
theorem blk_w (t : Fin cfg0.N) (r : Fin 128) (k : Fin 1024) : iblk m dev 1 t (ix2 r k) = ((w r k : ℝ) : EReal) := by
  rw [← h2]
  blk_simp [iblk, idx t]
  entry_read
  pointwise
  blk_ext [idx t]

include h0 in
theorem blk_x (t : Fin cfg0.N) (r : Fin 512) (l : Fin 128) : iblk m dev 2 t (ix2 r l) = ((latent z (at512 t r) l : ℝ) : EReal) := by
  rw [← arr_z m dev z h0]
  blk_simp [iblk, idx t]
  exact congrArg _ (by blk_ext [idx t, at512, rowAt])

include h1 in
theorem blk_g (t : Fin cfg0.N) (l : Fin 128) : iblk m dev 3 t (ix2 0 l) = ((g l : ℝ) : EReal) := by
  rw [← h1]
  blk_point [iblk, V, idx t]

theorem emb4 (t : Fin cfg0.N) (r : Fin 512) (l : Fin 128) :
    (((cfg0.win 4).blk t).view.emb (ix2 r l : S512x128.Idx) : S8192x128.Idx) = ix2 (at512 t r) l := by
  blk_ext [idx t, at512, rowAt]
/-- The gain's block is its whole array. -/
theorem emb5 (t : Fin cfg0.N) (i : S1x128.Idx) : (((cfg0.win 5).blk t).view.emb i : S1x128.Idx) = i := by blk_ext [idx t]

/-- Every row's cotangent. -/
def dxArr : FVec Ideal S8192x128 .bf16 := fun i =>
  ((RmsNorm.dx 128 (latent z (i 0)) g (dh w (d (i 0))) (i 1) : ℝ) : EReal)
/-- A point's share of the gain's cotangent. -/
def dgPart (t : Fin cfg0.N) : FVec Ideal S1x128 .f32 := fun i =>
  ((∑ r, dh w (d (at512 t r)) (i 1) * RmsNorm.xh 128 (latent z (at512 t r)) (i 1) : ℝ) : EReal)

include h0 h1 h2 h3 in
/-- The first result: every row's cotangent. -/
theorem out_dx : (dats m 0 dev).arrAt 4 cfg0.N = dxArr z g w d := by
  refine (dats m 0 dev).arrAt_eq_of_covers 4 _ (by decide +kernel) fun t hf q => ?_
  blk_simp
  rw [after0_4]
  idx_vars q
  have e := pay_dx _ _ _ _ _ g w _ (blk_d m dev d h3 t) (blk_w m dev w h2 t) (blk_x m dev z h0 t) (blk_g m dev g h1 t)
  have e4 := (e q0 q1).trans (congrArg (dxArr z g w d) (emb4 t q0 q1)).symm
  by_cases ht : t.val % 16 = 0
  · rw [outsAt0_A m dev t ht]; frame_out
    exact e4
  · rw [outsAt0_B m dev t ht]; frame_out
    exact e4

include h0 h2 h3 in
theorem step_dg (t : Fin cfg0.N) (acc : FVec Ideal S1x128 .f32) (i : S1x128.Idx) :
    k0_pay7 (F := Ideal) (iblk m dev 0 t) (iblk m dev 1 t) (iblk m dev 2 t) acc i = acc i + dgPart z w d t i := by
  obtain ⟨l, rfl⟩ := eq_row i
  exact pay_dg _ _ _ acc _ w _ (blk_d m dev d h3 t) (blk_w m dev w h2 t) (blk_x m dev z h0 t) l

include h0 h2 h3 in
/-- The second result: the gain's cotangent. -/
theorem out_dg (l : Fin 128) :
    (dats m 0 dev).arrAt 5 cfg0.N (ix2 0 l) = ((∑ r, dh w (d r) l * RmsNorm.xh 128 (latent z r) l : ℝ) : EReal) := by
  have hw : (dats m 0 dev).arrAt 5 cfg0.N = fun i => ∑ t, dgPart z w d t i := by
    refine (dats m 0 dev).arrAt_eq_of_covers 5 _ (by decide +kernel) fun t hf q => ?_
    blk_simp
    rw [after0_5, Pipeline.eq_sum_fin_of_reset_step_apply_of_flush (fun n h => (outsAt0 m dev n h).2) 16 (fun _ => 0)
      (dgPart z w d)
      (fun t ht j => by
        rw [outsAt0_A m dev t ht]; frame_out
        exact (step_dg m dev z w d h0 h2 h3 t _ j).trans (congrArg (· + _) (fill_dg j)))
      (fun t ht j => by rw [outsAt0_B m dev t ht]; frame_out; exact step_dg m dev z w d h0 h2 h3 t _ j)
      t ((flush0_5 t).mp hf) _, zero_add]
    exact (sum_run (K := 16) (dgPart z w d) t q _).trans (congrArg (fun i => ∑ t, dgPart z w d t i) (emb5 t q).symm)
  rw [hw]
  exact (RealLift.sum _ _).trans (congrArg _ (sum_rowAt (n := 16) (b := 512) rfl (fun r => dh w (d r) l * RmsNorm.xh 128 (latent z r) l)))

end Launch

end Cert.KvUp
-- ==== Proof.KvUpClaim.lean ====
/- The claim on values: from finite arguments the kernel's two results are the reference's. -/
module

public import proofs.«01_k».proof.Defs
public import Idealize.ShloMosaic.Lib.Quiescent
public import proofs.«01_k».proof.Proof.KvUpKernel
public import proofs.«01_k».proof.Proof.KvUpRef
public import proofs.«01_k».proof.Proof.Gen.Pre_finite10
public import proofs.«01_k».proof.Proof.Gen.Kernel10Ideal
public import proofs.«01_k».proof.Proof.Gen.Reference10Ideal

@[expose] public section

set_option maxRecDepth 16384

noncomputable section

open Idealize.ShloMosaic Idealize.SL.Sem

namespace Cert.KvUp

open Cert.RealLift

/-- Finite arguments are arrays of real numbers. -/
theorem reals_of_finite (x0 : FVec Ideal Cert.Pre_finite10.S1x8192x1440 .f32) (x1 : FVec Ideal Cert.Pre_finite10.S1x128 .f32)
    (x2 : FVec Ideal Cert.Pre_finite10.S1x128x1024 .f32) (x3 : FVec Ideal Cert.Pre_finite10.S1x8192x1024 .f32)
    (e : Cert.Pre_finite10.fn (F := Ideal) x0 x1 x2 x3 = fun _ => 1#1) :
    IsReal x0 ∧ IsReal x1 ∧ IsReal x2 ∧ IsReal x3 := by
  have hs : Subsingleton Cert.Pre_finite10.S_.Idx := ⟨fun a b => funext fun i => i.elim0⟩
  have e1 := congrFun e ix0
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2,
    real_of_test _ _ _ _ _ _ _ h3⟩

theorem frame_reference : Cert.quiescent_Reference10Ideal := fun m g _ =>
  (θ_run _ _ _).mono (fun r h => ⟨fun c => (h c).2.2, sem_eq_zero_of_no_sems rfl r.2⟩) (Cert.Reference10Ideal.Value.run m g)

theorem algebraic : Cert.algebraic_Kernel10Ideal_Reference10Ideal_pre_finite10 := by
  intro m g m' g' hpre hargs
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    (θ_run _ _ _).mono (fun r h c => h c) (Cert.Kernel10Ideal.Value.run_blocks m g),
    (θ_run _ _ _).mono (fun r h c => ?_) (Cert.Reference10Ideal.Value.run m' g')⟩
  obtain ⟨⟨a0, h0⟩, ⟨a1, h1⟩, ⟨a2, h2⟩, ⟨a3, h3⟩⟩ := reals_of_finite _ _ _ _ (hpre c)
  obtain ⟨e0, e1, e2, e3⟩ := hargs c
  obtain ⟨r1, r3, rest⟩ := h c
  have k0 := fun (r : Fin 8192) (l : Fin 1440) => h0 (ix3 0 r l)
  have k1 := fun l : Fin 128 => h1 (ix2 0 l)
  have k2 := fun (r : Fin 128) (l : Fin 1024) => h2 (ix3 0 r l)
  have k3 := fun (r : Fin 8192) (k : Fin 1024) => h3 (ix3 0 r k)
  have l0 := fun (r : Fin 8192) (l : Fin 1440) => (congrFun e0 _).trans (k0 r l)
  have l1 := fun l : Fin 128 => (congrFun e1 _).trans (k1 l)
  have l2 := fun (r : Fin 128) (l : Fin 1024) => (congrFun e2 _).trans (k2 r l)
  have l3 := fun (r : Fin 8192) (k : Fin 1024) => (congrFun e3 _).trans (k3 r k)
  refine ⟨r1.trans ?_, r3.trans ?_, rest⟩
  · refine (Cert.Reference10Ideal.Read.val_main_v44_eq _ _).trans (Eq.trans ?_ (out_dx m c _ _ _ _ k0 k1 k2 k3).symm)
    funext i
    idx_vars i
    exact ref_dx _ _ _ _ _ _ _ _ l0 l1 l2 l3 i0 i1
  · refine (Cert.Reference10Ideal.Read.val_main_v42_eq _ _ _).trans ?_
    funext i
    obtain ⟨l, rfl⟩ := Cert.Tiles.eq_row i
    exact (ref_dg _ _ _ _ _ _ l0 l2 l3 l).trans (out_dg m c _ _ _ k0 k2 k3 l).symm

end Cert.KvUp
-- ==== Proof.AttnFwdEntry.lean ====
module

public import proofs.«01_k».proof.Proof.Gen.Kernel13Ideal.Skeleton
public import proofs.«01_k».proof.Proof.Gen.Kernel13Ideal.Launch
public import Idealize.ShloMosaic.Lib.Pipeline.Kit
public import Idealize.ShloMosaic.Lib.Pipeline.Frame
public import Idealize.ShloMosaic.Lib.Pipeline.TableIdle
public import Idealize.ShloMosaic.Lib.Tactic
public import Idealize.ShloMosaic.Lib.StableHlo.RunRead

@[expose] public section

set_option maxRecDepth 16384

/-! # The attention forward region as it is entered

What the host operations before the kernel leave in its arrays and in the two tables of block indices: pair `t`
of the tables is the query block `lit0 t` and the key block `lit1 t`, and the kernel meets exactly one of
`key = query` and `key < query` at every pair. -/

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel13Ideal Cert.Kernel13Ideal.Gen

variable {F : FTy → Type} [FloatOps F]

local notation "𝕄" => MT nD τ sig Unit (Elt F) ℕ (UR sig nD τ) ℕ

variable (m : (ℓ : Loc nD τ sig) → Buf (Elt F) ℓ)

/-- The host operations before the kernel, stretch by stretch. -/
abbrev stretches : List (List (HloOp τ sig (Elt F))) :=
  [hostOps0, hostOps0_1, hostOps0_2, hostOps0_3, hostOps0_4, hostOps0_5, hostOps0_6]

/-- What a buffer of device `c` holds when the kernel starts. -/
def V (c : Dev nD) (b : Ref sig .tc) : Buf (Elt F) ((c : Thread nD τ).loc b) :=
  StableHlo.after (List.flatten (stretches (F := F))) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]
  repeat' constructor

set_option maxHeartbeats 1600000 in
/-- The program is those stretches, then the kernel. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefixes pcfgs 0 defs₀ 𝒱₀ m main stretches stretches_sub stretches_fresh main_chain

/-- The host leaves an argument alone. -/
theorem V_arg (c : Dev nD) (b : Ref sig .tc) (h : b = main_arg0 ∨ b = main_arg1 ∨ b = main_arg2) :
    V m c b = m ((c : Thread nD τ).loc b) := by
  refine StableHlo.after_of_forall_not_mem (b := Proc.devRef .tc b) _ _ (List.forall_iff_forall_mem.mp ?_)
  simp only [stretches, hostOps0, hostOps0_1, hostOps0_2, hostOps0_3, hostOps0_4, hostOps0_5, hostOps0_6, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals
    rcases h with rfl | rfl | rfl <;> exact StableHlo.devRef_ne_of_ne (by decide)

/-- The tables as the kernel finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The pair that an index of a table names. -/
abbrev pairOf (x : S136.Idx) : Fin 136 := ⟨(x 0).val, (x 0).isLt⟩

/-- The table of query blocks. -/
theorem tbl_query (x : S136.Idx) : (tbl m 0 : S136.Idx → BitVec 32) x = lit0 (pairOf x) := by
  show (V m 0 main_c : S136.Idx → BitVec 32) x = lit0 (pairOf x)
  unfold V stretches
  after_reads_simp
  exact congrArg _ (Fin.ext (Shape.rowMajor_val_one x))

/-- The table of key blocks. -/
theorem tbl_key (x : S136.Idx) : (tbl m 1 : S136.Idx → BitVec 32) x = lit1 (pairOf x) := by
  show (V m 0 main_c_0 : S136.Idx → BitVec 32) x = lit1 (pairOf x)
  unfold V stretches
  after_reads_simp
  exact congrArg _ (Fin.ext (Shape.rowMajor_val_one x))

/-! ## The pairs -/

/-- The query block and the key block of a pair. -/
def qb (t : Fin 136) : ℕ := (lit0 t).toNat

@[inherit_doc qb] def kb (t : Fin 136) : ℕ := (lit1 t).toNat

theorem qb_lt : ∀ t, qb t < 16 := by decide +kernel
theorem kb_le : ∀ t, kb t ≤ qb t := by decide +kernel
theorem kb_lt (t : Fin 136) : kb t < 16 := (kb_le t).trans_lt (qb_lt t)

/-- The pair of a grid point. -/
abbrev pair (i : grid0.Coords) : Fin 136 := ⟨(i 1).val, (i 1).isLt⟩

theorem off1_eq (i : grid0.Coords) : k0_off1 i = ![(i 1).val] := by
  have h : (i 1).val < 136 := (i 1).isLt
  have h' : (BitVec.ofNat 32 (i 1).val).toNat = (i 1).val := by
    rw [BitVec.toNat_ofNat]; exact Nat.mod_eq_of_lt (h.trans (by decide))
  show ![_] = ![_]
  exact congrArg (fun n => ![n]) h'

/-- The element of a table that a grid point reads. -/
def wordIdx (i : grid0.Coords) : S136.Idx :=
  (Rect.unit (s := S136) (k0_off1 i) S1.size (k0_off1_inb i)).emb (Shape.Idx.first (numel1_S1.symm ▸ Nat.one_pos))

theorem pairOf_wordIdx (i : grid0.Coords) : pairOf (wordIdx i) = pair i := by
  refine Fin.ext ?_
  show k0_off1 i 0 + 0 * 1 = (i 1).val
  rw [off1_eq]; rfl

theorem word_query (i : grid0.Coords) :
    Pipeline.Prefetch.Contents.at (tbl m) 0 (Rect.unit (s := S136) (k0_off1 i) S1.size (k0_off1_inb i)) numel1_S1 = lit0 (pair i) :=
  (tbl_query m (wordIdx i)).trans (congrArg lit0 (pairOf_wordIdx i))

theorem word_key (i : grid0.Coords) :
    Pipeline.Prefetch.Contents.at (tbl m) 1 (Rect.unit (s := S136) (k0_off1 i) S1.size (k0_off1_inb i)) numel1_S1 = lit1 (pair i) :=
  (tbl_key m (wordIdx i)).trans (congrArg lit1 (pairOf_wordIdx i))

theorem tr_query (i : grid0.Coords) : cc0_transform_0 k0_off1_inb numel1_S1 (tbl m) i = ![qb (pair i), (i 0).val] := by
  have h : (i 0).val < 8 := (i 0).isLt
  have h' : (BitVec.ofNat 32 (i 0).val).toNat = (i 0).val := by
    rw [BitVec.toNat_ofNat]; exact Nat.mod_eq_of_lt (h.trans (by decide))
  exact congrArg₂ (fun a b => ![a, b]) (congrArg BitVec.toNat (word_query m i)) h'

theorem tr_key (i : grid0.Coords) : cc0_transform_1 k0_off1_inb numel1_S1 (tbl m) i = ![kb (pair i), (i 0).val] := by
  have h : (i 0).val < 8 := (i 0).isLt
  have h' : (BitVec.ofNat 32 (i 0).val).toNat = (i 0).val := by
    rw [BitVec.toNat_ofNat]; exact Nat.mod_eq_of_lt (h.trans (by decide))
  exact congrArg₂ (fun a b => ![a, b]) (congrArg BitVec.toNat (word_key m i)) h'

theorem block_inside {a b : ℕ} (ha : a < 16) (hb : b < 8) : ∀ x, ((![a, b] : Fin 2 → ℕ) x + 1) * S512x128.size x ≤ S8192x1024.size x := by
  intro x
  match x with
  | 0 => show (a + 1) * 512 ≤ 8192; omega
  | 1 => show (b + 1) * 128 ≤ 1024; omega

theorem query_inside (i : grid0.Coords) :
    ∀ a, (cc0_transform_0 k0_off1_inb numel1_S1 (tbl m) i a + 1) * S512x128.size a ≤ S8192x1024.size a := by
  rw [tr_query]; exact block_inside (qb_lt _) (i 0).isLt

theorem key_inside (i : grid0.Coords) :
    ∀ a, (cc0_transform_1 k0_off1_inb numel1_S1 (tbl m) i a + 1) * S512x128.size a ≤ S8192x1024.size a := by
  rw [tr_key]; exact block_inside (kb_lt _) (i 0).isLt

/-- Every block that the tables name lies in its array. -/
theorem ok : ok0 (F := F) (tbl m) :=
  ⟨fun i => ⟨query_inside m i, .inr (Affine.block_words_dvd (of_decide_eq_true rfl) (by decide))⟩,
    fun i => ⟨key_inside m i, .inr (Affine.block_words_dvd (of_decide_eq_true rfl) (by decide))⟩,
    fun i => ⟨key_inside m i, .inr (Affine.block_words_dvd (of_decide_eq_true rfl) (by decide))⟩,
    fun i => ⟨query_inside m i, .inl rfl⟩,
    fun i => ⟨query_inside m i, .inr (Affine.block_words_dvd (of_decide_eq_true rfl) (by decide))⟩,
    fun i => ⟨query_inside m i, .inl rfl⟩⟩

/-- The kernel's pipeline over these tables. -/
abbrev adm : (pcfg0 (F := F)).Adm := ⟨tbl m, ok m⟩
@[inherit_doc adm] abbrev cfgM : Pipeline.Cfg sig Λ₀ := cfg0 (adm m)

/-! ## The conditions of the body -/

/-- The tests of the body on a pair `a, b`: `b = 0`, and `b < a`. -/
abbrev condFirst (b : BitVec 32) : Prop := Scalar.cmpi .ne (Scalar.extui (Scalar.cmpi .eq b 0#32) : BitVec 32) 0#32 = 1#1
@[inherit_doc condFirst] abbrev condBelow (a b : BitVec 32) : Prop :=
  Scalar.cmpi .ne (Scalar.extui (Scalar.cmpi .slt b a) : BitVec 32) 0#32 = 1#1

theorem first_iff : ∀ t : Fin 136, condFirst (lit1 t) ↔ kb t = 0 := by decide +kernel
theorem below_iff : ∀ t : Fin 136, condBelow (lit0 t) (lit1 t) ↔ kb t < qb t := by decide +kernel
theorem diag_iff : ∀ t : Fin 136, k0_cond3 (lit0 t) (lit1 t) = 1#1 ↔ kb t = qb t := by decide +kernel

/-- After the first key block the pair before has the same query block and the key block before. -/
theorem pair_prev : ∀ t : Fin 136, kb t ≠ 0 → ∃ h : 0 < t.val,
    qb ⟨t.val - 1, (Nat.sub_le _ _).trans_lt t.isLt⟩ = qb t ∧ kb ⟨t.val - 1, (Nat.sub_le _ _).trans_lt t.isLt⟩ + 1 = kb t := by
  decide +kernel

/-- Below the diagonal the pair after has the same query block. -/
theorem pair_next : ∀ t : Fin 136, kb t ≠ qb t → ∃ h : t.val + 1 < 136, qb ⟨t.val + 1, h⟩ = qb t := by
  decide +kernel

end Cert.AttnFwd

end
-- ==== Proof.AttnFwdRun.lean ====
module

public import proofs.«01_k».proof.Proof.AttnFwdEntry
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384

/-! # The attention forward body

One triple per case of the pair that a point reads: below the diagonal or on it, at the first key block or after.
What a point leaves is written over the three blocks it reads and what the running maximum, the running sum and the
running product held. -/

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel13Ideal Cert.Kernel13Ideal.Gen

variable {F : FTy → Type} [FloatOps F]

local notation "𝕄" => MT nD τ sig Unit (Elt F) ℕ (UR sig nD τ) ℕ

/-- The two tables as the body is handed them. -/
abbrev tbQ : Memref sig .tc .smem S136 .i32 := Memref.whole main_c
@[inherit_doc tbQ] abbrev tbK : Memref sig .tc .smem S136 .i32 := Memref.whole main_c_0
abbrev htbQ : tbQ.IsWhole := Memref.isWhole_whole _
abbrev htbK : tbK.IsWhole := Memref.isWhole_whole _
/-- The contents of a table, and the table held (by half). -/
abbrev TbBuf (c : Dev nD) (M : Memref sig .tc .smem S136 .i32) : Type := Buf (Elt F) (M.view.loc (c : Thread nD τ))
@[inherit_doc TbBuf] abbrev tbPt (c : Dev nD) (M : Memref sig .tc .smem S136 .i32) (f : TbBuf (F := F) c M) : sProp 𝕄 :=
  M.view.loc (c : Thread nD τ) ↦{fullShare.right} f

/-- The word that point `i` reads of a table. -/
abbrev rd (c : Dev nD) (M : Memref sig .tc .smem S136 .i32) (i : grid0.Coords) (f : TbBuf (F := F) c M) : BitVec 32 :=
  View.readAt (Elt F) M.view (Rect.unit (s := S136) (k0_off1 i) S1.size (k0_off1_inb i)).toLoadRect f
    (Shape.Idx.first (numel1_S1.symm ▸ Nat.one_pos))

/-! ## What a point computes -/

/-- The running maximum, the running sum and the running product. -/
abbrev State (F : FTy → Type) [FloatOps F] : Type := Vec F S512x128 .f32 × Vec F S512x128 .f32 × Vec F S512x128 .f32

/-- What they start from. -/
def start : State F := (k0_pay1, k0_pay2, k0_pay3)

/-- The first column of a running value, repeated over the lanes. -/
def lane (x : Vec F S512x128 .f32) : Vec F S512x1 .f32 :=
  VecWindow.window x ![0, 0] S512x1.size inb_S512x128_S512x1_0_0

section
variable (x0 x1 x2 : Vec F S512x128 .bf16) (s : State F)

/-- Below the diagonal: every score is met. -/
def below : State F :=
  (k0_pay15 x0 x1 (lane s.1), k0_pay4 (k0_pay16 x0 x1 (lane s.1) (lane s.2.1)), k0_pay14 x0 x1 (lane s.1) s.2.2 x2)

/-- The masked scores of the diagonal. -/
def masked : FVec F S512x512 .f32 :=
  k0_pay21 (k0_pay17 x0 x1) (iota .tc S512x512 32 [0] iota_S512x512_d0_w32) k0_pay18 64#32 k0_pay19 k0_pay20
    (Scalar.extui (Scalar.cmpi .sgt 64#32 0#32)) (Scalar.cmpi .slt 64#32 0#32)

/-- On the diagonal: the scores that the chunk mask lets through. -/
def diag : State F :=
  (k0_pay5 (k0_pay27 (k0_pay17 x0 x1) (iota .tc S512x512 32 [0] iota_S512x512_d0_w32) k0_pay18 64#32 k0_pay19 k0_pay20
      (Scalar.extui (Scalar.cmpi .sgt 64#32 0#32)) (Scalar.cmpi .slt 64#32 0#32) (lane s.1)),
    k0_pay6 (k0_pay25 (k0_pay17 x0 x1) (iota .tc S512x512 32 [0] iota_S512x512_d0_w32) k0_pay18 64#32 k0_pay19 k0_pay20
      (Scalar.extui (Scalar.cmpi .sgt 64#32 0#32)) (Scalar.cmpi .slt 64#32 0#32) (lane s.1) (lane s.2.1)),
    k0_pay26 (k0_pay17 x0 x1) (iota .tc S512x512 32 [0] iota_S512x512_d0_w32) k0_pay18 64#32 k0_pay19 k0_pay20
      (Scalar.extui (Scalar.cmpi .sgt 64#32 0#32)) (Scalar.cmpi .slt 64#32 0#32) (lane s.1) s.2.2 x2)
end

theorem rd_blk {e : EltTy} {M : Memref sig .tc .vmem S512x128 e} (h : M.IsWhole) (x : Vec F S512x128 e) :
    View.readAt (Elt F) M.view (Rect.unit (s := S512x128) ![0, 0] ![512, 128] inb_S512x128_S512x128_0_0).toLoadRect (h.unread x) = x :=
  (View.readAt_full _ _ _).trans (h.read_unread x)

theorem rd_lane {M : Memref sig .tc .vmem S512x128 .f32} (h : M.IsWhole) (x : Vec F S512x128 .f32) :
    View.readAt (Elt F) M.view (Rect.unit (s := S512x128) ![0, 0] ![512, 1] inb_S512x128_S512x1_0_0).toLoadRect (h.unread x) = lane x :=
  funext fun _ => congrFun (h.read_unread x) _

theorem rd_set (M : Memref sig .tc .vmem S512x128 .f32) (x : Vec F S512x128 .f32) (L : List (View.Piece (Elt F) S512x128 .f32)) :
    M.view.readCov (⟨Rect.unit (s := S512x128) ![0, 0] ![512, 128] inb_S512x128_S512x128_0_0, x⟩ :: L)
      (Rect.unit (s := S512x128) ![0, 0] ![512, 128] inb_S512x128_S512x128_0_0).toLoadRect = x :=
  View.readCov_full _ _ _ _ _

theorem rd_lane_set (M : Memref sig .tc .vmem S512x128 .f32) (x : Vec F S512x128 .f32) (L : List (View.Piece (Elt F) S512x128 .f32)) :
    M.view.readCov (⟨Rect.unit (s := S512x128) ![0, 0] ![512, 128] inb_S512x128_S512x128_0_0, x⟩ :: L)
      (Rect.unit (s := S512x128) ![0, 0] ![512, 1] inb_S512x128_S512x1_0_0).toLoadRect = lane x :=
  funext fun _ => congrFun (View.read_writes_full M.view M.view.junk inb_S512x128_S512x128_0_0 x L) _

/-! ## The runs -/

set_option maxHeartbeats 4000000 in
/-- A pair below the diagonal, after the first key block. -/
theorem run_below (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (xt0 : TbBuf (F := F) c tbQ) (xt1 : TbBuf (F := F) c tbK)
    (h1 : ¬condFirst (rd c tbK i xt1)) (h2 : condBelow (rd c tbQ i xt0) (rd c tbK i xt1))
    (h3 : ¬k0_cond3 (rd c tbQ i xt0) (rd c tbK i xt1) = 1#1)
    (x0 x1 x2 : Vec F S512x128 .bf16) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg10 fullShare s.1
        ∗ owns (c : Thread nD τ) arg11 fullShare s.2.1
        ∗ owns (c : Thread nD τ) arg12 fullShare s.2.2
        ∗ tbPt c tbQ xt0 ∗ tbPt c tbK xt1
        ∗ (iprop(owns (c : Thread nD τ) arg4 fullShare x0
            ∗ owns (c : Thread nD τ) arg5 fullShare x1
            ∗ owns (c : Thread nD τ) arg6 fullShare x2
            ∗ owns (c : Thread nD τ) arg10 fullShare (below x0 x1 x2 s).1
            ∗ owns (c : Thread nD τ) arg11 fullShare (below x0 x1 x2 s).2.1
            ∗ owns (c : Thread nD τ) arg12 fullShare (below x0 x1 x2 s).2.2
            ∗ tbPt c tbQ xt0 ∗ tbPt c tbK xt1) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  simp only [cc0_attn_fwd_eq_skeleton]; unfold cc0_attn_fwd_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f10, %hf10, H10⟩, ⟨%f11, %hf11, H11⟩, ⟨%f12, %hf12, H12⟩, HT0, HT1, Hk⟩
  obtain rfl := harg4.eq_unread hf4; obtain rfl := harg5.eq_unread hf5; obtain rfl := harg6.eq_unread hf6; obtain rfl := harg10.eq_unread hf10; obtain rfl := harg11.eq_unread hf11; obtain rfl := harg12.eq_unread hf12
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr
    rotate_left
    · iexact H10
    ipureintro
    refine (View.read_writes_full _ _ _ _ _).trans ?_
    try delta run_below.sl.r_2
    simp only [rd_blk, rd_lane, rd_set, rd_lane_set]
    rfl
  isplitl [H11]
  · iexists _; isplitr
    rotate_left
    · iexact H11
    ipureintro
    refine (View.read_writes_full _ _ _ _ _).trans ?_
    try delta run_below.sl.r_2
    simp only [rd_blk, rd_lane, rd_set, rd_lane_set]
    rfl
  isplitl [H12]
  · iexists _; isplitr
    rotate_left
    · iexact H12
    ipureintro
    refine (View.read_writes_full _ _ _ _ _).trans ?_
    try delta run_below.sl.r_2
    simp only [rd_blk, rd_lane, rd_set, rd_lane_set]
    rfl
  isplitl [HT0]; · iexact HT0
  iexact HT1

set_option maxHeartbeats 4000000 in
/-- A pair on the diagonal, after the first key block. -/
theorem run_diag (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (xt0 : TbBuf (F := F) c tbQ) (xt1 : TbBuf (F := F) c tbK)
    (h1 : ¬condFirst (rd c tbK i xt1)) (h2 : ¬condBelow (rd c tbQ i xt0) (rd c tbK i xt1))
    (h3 : k0_cond3 (rd c tbQ i xt0) (rd c tbK i xt1) = 1#1)
    (x0 x1 x2 : Vec F S512x128 .bf16) (a7 : Vec F S512x128 .f32) (a8 : Vec F S512x128 .bf16) (a9 : Vec F S512x128 .f32) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare a7
        ∗ owns (c : Thread nD τ) arg8 fullShare a8
        ∗ owns (c : Thread nD τ) arg9 fullShare a9
        ∗ owns (c : Thread nD τ) arg10 fullShare s.1
        ∗ owns (c : Thread nD τ) arg11 fullShare s.2.1
        ∗ owns (c : Thread nD τ) arg12 fullShare s.2.2
        ∗ tbPt c tbQ xt0 ∗ tbPt c tbK xt1
        ∗ (iprop(owns (c : Thread nD τ) arg4 fullShare x0
            ∗ owns (c : Thread nD τ) arg5 fullShare x1
            ∗ owns (c : Thread nD τ) arg6 fullShare x2
            ∗ owns (c : Thread nD τ) arg7 fullShare (k0_pay7 (diag x0 x1 x2 s).2.1 (diag x0 x1 x2 s).2.2)
            ∗ owns (c : Thread nD τ) arg8 fullShare (k0_pay8 (diag x0 x1 x2 s).2.1 (diag x0 x1 x2 s).2.2)
            ∗ owns (c : Thread nD τ) arg9 fullShare (k0_pay9 (diag x0 x1 x2 s).2.1 (diag x0 x1 x2 s).1)
            ∗ owns (c : Thread nD τ) arg10 fullShare (diag x0 x1 x2 s).1
            ∗ owns (c : Thread nD τ) arg11 fullShare (diag x0 x1 x2 s).2.1
            ∗ owns (c : Thread nD τ) arg12 fullShare (diag x0 x1 x2 s).2.2
            ∗ tbPt c tbQ xt0 ∗ tbPt c tbK xt1) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  simp only [cc0_attn_fwd_eq_skeleton]; unfold cc0_attn_fwd_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [H8]
  · iexists _; isplitr
    rotate_left
    · iexact H8
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [H9]
  · iexists _; isplitr
    rotate_left
    · iexact H9
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [H10]
  · iexists _; isplitr
    rotate_left
    · iexact H10
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [H11]
  · iexists _; isplitr
    rotate_left
    · iexact H11
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [H12]
  · iexists _; isplitr
    rotate_left
    · iexact H12
    ipureintro
    refine (View.read_writes_full _ _ _ _ _).trans ?_
    delta run_diag.sl.r_2 run_diag.sl.r_3 run_diag.sl.r_4 run_diag.sl.v106 run_diag.sl.v107 run_diag.sl.v112 run_diag.sl.v18 run_diag.sl.H10_1 run_diag.sl.H11_1 run_diag.sl.H12_1
    simp only [rd_blk, rd_lane, rd_set, rd_lane_set]
    rfl
  isplitl [HT0]; · iexact HT0
  iexact HT1

set_option maxHeartbeats 4000000 in
/-- A pair below the diagonal, at the first key block. -/
theorem run_start_below (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (xt0 : TbBuf (F := F) c tbQ) (xt1 : TbBuf (F := F) c tbK)
    (h1 : condFirst (rd c tbK i xt1)) (h2 : condBelow (rd c tbQ i xt0) (rd c tbK i xt1))
    (h3 : ¬k0_cond3 (rd c tbQ i xt0) (rd c tbK i xt1) = 1#1)
    (x0 x1 x2 : Vec F S512x128 .bf16) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg10 fullShare s.1
        ∗ owns (c : Thread nD τ) arg11 fullShare s.2.1
        ∗ owns (c : Thread nD τ) arg12 fullShare s.2.2
        ∗ tbPt c tbQ xt0 ∗ tbPt c tbK xt1
        ∗ (iprop(owns (c : Thread nD τ) arg4 fullShare x0
            ∗ owns (c : Thread nD τ) arg5 fullShare x1
            ∗ owns (c : Thread nD τ) arg6 fullShare x2
            ∗ owns (c : Thread nD τ) arg10 fullShare (below x0 x1 x2 start).1
            ∗ owns (c : Thread nD τ) arg11 fullShare (below x0 x1 x2 start).2.1
            ∗ owns (c : Thread nD τ) arg12 fullShare (below x0 x1 x2 start).2.2
            ∗ tbPt c tbQ xt0 ∗ tbPt c tbK xt1) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  simp only [cc0_attn_fwd_eq_skeleton]; unfold cc0_attn_fwd_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f10, %hf10, H10⟩, ⟨%f11, %hf11, H11⟩, ⟨%f12, %hf12, H12⟩, HT0, HT1, Hk⟩
  obtain rfl := harg4.eq_unread hf4; obtain rfl := harg5.eq_unread hf5; obtain rfl := harg6.eq_unread hf6; obtain rfl := harg10.eq_unread hf10; obtain rfl := harg11.eq_unread hf11; obtain rfl := harg12.eq_unread hf12
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H10]
  · iexists _; isplitr
    rotate_left
    · iexact H10
    ipureintro
    refine (View.read_writes_full _ _ _ _ _).trans ?_
    delta run_start_below.sl.r_2 run_start_below.sl.v18 run_start_below.sl.v27 run_start_below.sl.v32 run_start_below.sl.H10_1 run_start_below.sl.H11_1 run_start_below.sl.H12_1
    simp only [rd_blk, rd_lane, rd_set, rd_lane_set]
    rfl
  isplitl [H11]
  · iexists _; isplitr
    rotate_left
    · iexact H11
    ipureintro
    refine (View.read_writes_full _ _ _ _ _).trans ?_
    delta run_start_below.sl.r_2 run_start_below.sl.v18 run_start_below.sl.v27 run_start_below.sl.v32 run_start_below.sl.H10_1 run_start_below.sl.H11_1 run_start_below.sl.H12_1
    simp only [rd_blk, rd_lane, rd_set, rd_lane_set]
    rfl
  isplitl [H12]
  · iexists _; isplitr
    rotate_left
    · iexact H12
    ipureintro
    refine (View.read_writes_full _ _ _ _ _).trans ?_
    delta run_start_below.sl.r_2 run_start_below.sl.v18 run_start_below.sl.v27 run_start_below.sl.v32 run_start_below.sl.H10_1 run_start_below.sl.H11_1 run_start_below.sl.H12_1
    simp only [rd_blk, rd_lane, rd_set, rd_lane_set]
    rfl
  isplitl [HT0]; · iexact HT0
  iexact HT1

set_option maxHeartbeats 4000000 in
/-- The first pair: on the diagonal, at the first key block. -/
theorem run_start_diag (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (xt0 : TbBuf (F := F) c tbQ) (xt1 : TbBuf (F := F) c tbK)
    (h1 : condFirst (rd c tbK i xt1)) (h2 : ¬condBelow (rd c tbQ i xt0) (rd c tbK i xt1))
    (h3 : k0_cond3 (rd c tbQ i xt0) (rd c tbK i xt1) = 1#1)
    (x0 x1 x2 : Vec F S512x128 .bf16) (a7 : Vec F S512x128 .f32) (a8 : Vec F S512x128 .bf16) (a9 : Vec F S512x128 .f32) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare a7
        ∗ owns (c : Thread nD τ) arg8 fullShare a8
        ∗ owns (c : Thread nD τ) arg9 fullShare a9
        ∗ owns (c : Thread nD τ) arg10 fullShare s.1
        ∗ owns (c : Thread nD τ) arg11 fullShare s.2.1
        ∗ owns (c : Thread nD τ) arg12 fullShare s.2.2
        ∗ tbPt c tbQ xt0 ∗ tbPt c tbK xt1
        ∗ (iprop(owns (c : Thread nD τ) arg4 fullShare x0
            ∗ owns (c : Thread nD τ) arg5 fullShare x1
            ∗ owns (c : Thread nD τ) arg6 fullShare x2
            ∗ owns (c : Thread nD τ) arg7 fullShare (k0_pay7 (diag x0 x1 x2 start).2.1 (diag x0 x1 x2 start).2.2)
            ∗ owns (c : Thread nD τ) arg8 fullShare (k0_pay8 (diag x0 x1 x2 start).2.1 (diag x0 x1 x2 start).2.2)
            ∗ owns (c : Thread nD τ) arg9 fullShare (k0_pay9 (diag x0 x1 x2 start).2.1 (diag x0 x1 x2 start).1)
            ∗ owns (c : Thread nD τ) arg10 fullShare (diag x0 x1 x2 start).1
            ∗ owns (c : Thread nD τ) arg11 fullShare (diag x0 x1 x2 start).2.1
            ∗ owns (c : Thread nD τ) arg12 fullShare (diag x0 x1 x2 start).2.2
            ∗ tbPt c tbQ xt0 ∗ tbPt c tbK xt1) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  simp only [cc0_attn_fwd_eq_skeleton]; unfold cc0_attn_fwd_skel
  simp only [k0_part1_eq_skeleton, k0_part2_eq_skeleton, k0_part3_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    rotate_left
    · iexact H7
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [H8]
  · iexists _; isplitr
    rotate_left
    · iexact H8
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [H9]
  · iexists _; isplitr
    rotate_left
    · iexact H9
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [H10]
  · iexists _; isplitr
    rotate_left
    · iexact H10
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [H11]
  · iexists _; isplitr
    rotate_left
    · iexact H11
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [H12]
  · iexists _; isplitr
    rotate_left
    · iexact H12
    ipureintro
    refine (View.read_writes_full _ _ _ _ _).trans ?_
    delta run_start_diag.sl.r_2 run_start_diag.sl.r_3 run_start_diag.sl.r_4 run_start_diag.sl.v106 run_start_diag.sl.v107 run_start_diag.sl.v112 run_start_diag.sl.v18 run_start_diag.sl.v71 run_start_diag.sl.v80 run_start_diag.sl.v85 run_start_diag.sl.H10_1 run_start_diag.sl.H11_1 run_start_diag.sl.H12_1 run_start_diag.sl.H10_2 run_start_diag.sl.H11_2 run_start_diag.sl.H12_2
    simp only [rd_blk, rd_lane, rd_set, rd_lane_set]
    rfl
  isplitl [HT0]; · iexact HT0
  iexact HT1

end Cert.AttnFwd

end
-- ==== Proof.AttnBwdEntry.lean ====
module

public import proofs.«01_k».proof.Proof.Gen.Kernel14Ideal.Skeleton
public import proofs.«01_k».proof.Proof.Gen.Kernel14Ideal.Launch
public import Idealize.ShloMosaic.Lib.Pipeline.Kit
public import Idealize.ShloMosaic.Lib.Pipeline.Frame
public import Idealize.ShloMosaic.Lib.Pipeline.TableIdle
public import Idealize.ShloMosaic.Lib.Tactic
public import Idealize.ShloMosaic.Lib.StableHlo.RunRead

@[expose] public section

set_option maxRecDepth 16384

/-! # The attention gradient's region as it is entered

What the host operations before the kernel leave in its arrays and in the two tables of block indices: pair `t`
of the tables is the query block `lit0 t` and the key block `lit1 t`, and the kernel meets exactly one of
`key = query` and `key < query` at every pair. -/

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel14Ideal Cert.Kernel14Ideal.Gen

variable {F : FTy → Type} [FloatOps F]

local notation "𝕄" => MT nD τ sig Unit (Elt F) ℕ (UR sig nD τ) ℕ

variable (m : (ℓ : Loc nD τ sig) → Buf (Elt F) ℓ)

/-- The host operations before the kernel, stretch by stretch. -/
abbrev stretches : List (List (HloOp τ sig (Elt F))) :=
  [hostOps0, hostOps0_1, hostOps0_2, hostOps0_3, hostOps0_4, hostOps0_5, hostOps0_6, hostOps0_7, hostOps0_8,
    hostOps0_9, hostOps0_10, hostOps0_11, hostOps0_12]

/-- What a buffer of device `c` holds when the kernel starts. -/
def V (c : Dev nD) (b : Ref sig .tc) : Buf (Elt F) ((c : Thread nD τ).loc b) :=
  StableHlo.after (List.flatten (stretches (F := F))) (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub⟩

theorem stretches_fresh : (stretches (F := F)).Forall fun ops => ops.Forall fun op => op.fresh = ∅ := by
  simp only [List.Forall]
  repeat' constructor

set_option maxHeartbeats 1600000 in
/-- The program is those stretches, then the kernel. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefixes pcfgs 0 defs₀ 𝒱₀ m main stretches stretches_sub stretches_fresh main_chain

/-- The host leaves an argument alone. -/
theorem V_arg (c : Dev nD) (b : Ref sig .tc) (h : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  simp only [stretches, hostOps0, hostOps0_1, hostOps0_2, hostOps0_3, hostOps0_4, hostOps0_5, hostOps0_6, hostOps0_7,
    hostOps0_8, hostOps0_9, hostOps0_10, hostOps0_11, hostOps0_12, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals
    rcases h with rfl | rfl | rfl | rfl <;> exact StableHlo.devRef_ne_of_ne (by decide)

/-- The tables as the kernel finds them. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The pair that an index of a table names. -/
abbrev pairOf (x : S136.Idx) : Fin 136 := ⟨(x 0).val, (x 0).isLt⟩

/-- The table of query blocks. -/
theorem tbl_query (x : S136.Idx) : (tbl m 0 : S136.Idx → BitVec 32) x = lit0 (pairOf x) := by
  show (V m 0 main_c : S136.Idx → BitVec 32) x = lit0 (pairOf x)
  unfold V stretches
  after_reads_simp
  exact congrArg _ (Fin.ext (Shape.rowMajor_val_one x))

/-- The table of key blocks. -/
theorem tbl_key (x : S136.Idx) : (tbl m 1 : S136.Idx → BitVec 32) x = lit1 (pairOf x) := by
  show (V m 0 main_c_0 : S136.Idx → BitVec 32) x = lit1 (pairOf x)
  unfold V stretches
  after_reads_simp
  exact congrArg _ (Fin.ext (Shape.rowMajor_val_one x))

/-! ## The pairs -/

/-- The query block and the key block of a pair. -/
def qb (t : Fin 136) : ℕ := (lit0 t).toNat

@[inherit_doc qb] def kb (t : Fin 136) : ℕ := (lit1 t).toNat

theorem qb_lt : ∀ t, qb t < 16 := by decide +kernel
theorem kb_le : ∀ t, kb t ≤ qb t := by decide +kernel
theorem kb_lt (t : Fin 136) : kb t < 16 := (kb_le t).trans_lt (qb_lt t)

/-- The pair of a grid point. -/
abbrev pair (i : grid0.Coords) : Fin 136 := ⟨(i 1).val, (i 1).isLt⟩

theorem off1_eq (i : grid0.Coords) : k0_off1 i = ![(i 1).val] := by
  have h : (i 1).val < 136 := (i 1).isLt
  have h' : (BitVec.ofNat 32 (i 1).val).toNat = (i 1).val := by
    rw [BitVec.toNat_ofNat]; exact Nat.mod_eq_of_lt (h.trans (by decide))
  show ![_] = ![_]
  exact congrArg (fun n => ![n]) h'

/-- The element of a table that a grid point reads. -/
def wordIdx (i : grid0.Coords) : S136.Idx :=
  (Rect.unit (s := S136) (k0_off1 i) S1.size (k0_off1_inb i)).emb (Shape.Idx.first (numel1_S1.symm ▸ Nat.one_pos))

theorem pairOf_wordIdx (i : grid0.Coords) : pairOf (wordIdx i) = pair i := by
  refine Fin.ext ?_
  show k0_off1 i 0 + 0 * 1 = (i 1).val
  rw [off1_eq]; rfl

theorem word_query (i : grid0.Coords) :
    Pipeline.Prefetch.Contents.at (tbl m) 0 (Rect.unit (s := S136) (k0_off1 i) S1.size (k0_off1_inb i)) numel1_S1 = lit0 (pair i) :=
  (tbl_query m (wordIdx i)).trans (congrArg lit0 (pairOf_wordIdx i))

theorem word_key (i : grid0.Coords) :
    Pipeline.Prefetch.Contents.at (tbl m) 1 (Rect.unit (s := S136) (k0_off1 i) S1.size (k0_off1_inb i)) numel1_S1 = lit1 (pair i) :=
  (tbl_key m (wordIdx i)).trans (congrArg lit1 (pairOf_wordIdx i))

theorem tr_query (i : grid0.Coords) : cc0_transform_0 k0_off1_inb numel1_S1 (tbl m) i = ![qb (pair i), (i 0).val] := by
  have h : (i 0).val < 8 := (i 0).isLt
  have h' : (BitVec.ofNat 32 (i 0).val).toNat = (i 0).val := by
    rw [BitVec.toNat_ofNat]; exact Nat.mod_eq_of_lt (h.trans (by decide))
  exact congrArg₂ (fun a b => ![a, b]) (congrArg BitVec.toNat (word_query m i)) h'

theorem tr_key (i : grid0.Coords) : cc0_transform_1 k0_off1_inb numel1_S1 (tbl m) i = ![kb (pair i), (i 0).val] := by
  have h : (i 0).val < 8 := (i 0).isLt
  have h' : (BitVec.ofNat 32 (i 0).val).toNat = (i 0).val := by
    rw [BitVec.toNat_ofNat]; exact Nat.mod_eq_of_lt (h.trans (by decide))
  exact congrArg₂ (fun a b => ![a, b]) (congrArg BitVec.toNat (word_key m i)) h'

theorem block_inside {a b : ℕ} (ha : a < 16) (hb : b < 8) : ∀ x, ((![a, b] : Fin 2 → ℕ) x + 1) * S512x128.size x ≤ S8192x1024.size x := by
  intro x
  match x with
  | 0 => show (a + 1) * 512 ≤ 8192; omega
  | 1 => show (b + 1) * 128 ≤ 1024; omega

theorem query_inside (i : grid0.Coords) :
    ∀ a, (cc0_transform_0 k0_off1_inb numel1_S1 (tbl m) i a + 1) * S512x128.size a ≤ S8192x1024.size a := by
  rw [tr_query]; exact block_inside (qb_lt _) (i 0).isLt

theorem key_inside (i : grid0.Coords) :
    ∀ a, (cc0_transform_1 k0_off1_inb numel1_S1 (tbl m) i a + 1) * S512x128.size a ≤ S8192x1024.size a := by
  rw [tr_key]; exact block_inside (kb_lt _) (i 0).isLt

/-- Every block that the tables name lies in its array. -/
theorem ok : ok0 (F := F) (tbl m) :=
  ⟨fun i => ⟨query_inside m i, .inr (Affine.block_words_dvd (of_decide_eq_true rfl) (by decide))⟩,
    fun i => ⟨key_inside m i, .inr (Affine.block_words_dvd (of_decide_eq_true rfl) (by decide))⟩,
    fun i => ⟨key_inside m i, .inr (Affine.block_words_dvd (of_decide_eq_true rfl) (by decide))⟩,
    fun i => ⟨query_inside m i, .inr (Affine.block_words_dvd (of_decide_eq_true rfl) (by decide))⟩,
    fun i => ⟨query_inside m i, .inl rfl⟩, fun i => ⟨query_inside m i, .inl rfl⟩,
    fun i => ⟨key_inside m i, .inl rfl⟩, fun i => ⟨key_inside m i, .inl rfl⟩⟩

/-- The kernel's pipeline over these tables. -/
abbrev adm : (pcfg0 (F := F)).Adm := ⟨tbl m, ok m⟩
@[inherit_doc adm] abbrev cfgM : Pipeline.Cfg sig Λ₀ := cfg0 (adm m)

/-! ## The conditions of the body -/

theorem first_iff (i : grid0.Coords) : k0_cond1 i = 1#1 ↔ (i 1).val = 0 := by
  have h : ∀ a : Fin 136, (Scalar.cmpi .ne (Scalar.extui (Scalar.cmpi .eq (BitVec.ofNat 32 a.val) 0#32) : BitVec 32) 0#32 = 1#1) ↔ a.val = 0 := by
    decide +kernel
  exact h (pair i)

theorem diag_iff : ∀ t : Fin 136, k0_cond2 (lit0 t) (lit1 t) = 1#1 ↔ kb t = qb t := by decide +kernel
theorem below_iff : ∀ t : Fin 136, k0_cond3 (lit0 t) (lit1 t) = 1#1 ↔ kb t < qb t := by decide +kernel
theorem diag_iff' : ∀ t : Fin 136, k0_cond4 (lit0 t) (lit1 t) = 1#1 ↔ kb t = qb t := by decide +kernel
theorem rows_off2 : ∀ t : Fin 136, k0_off2 (lit0 t) 0 = 512 * qb t := by decide +kernel
theorem rows_off3 : ∀ t : Fin 136, k0_off3 (lit0 t) 0 = 512 * qb t := by decide +kernel
theorem rows_mult1 : ∀ t : Fin 136, 512 ∣ (k0_mult1 (lit0 t)).toNat := by decide +kernel
theorem rows_mult2 : ∀ t : Fin 136, 512 ∣ (k0_mult2 (lit0 t)).toNat := by decide +kernel

theorem rows_inside {o : Fin 2 → ℕ} {t : Fin 136} (h : o 0 = 512 * qb t) (h1 : o 1 = 0) :
    ∀ a, o a + S512x128.size a ≤ S8192x128.size a := by
  intro a
  match a with
  | 0 => show o 0 + 512 ≤ 8192; have := qb_lt t; omega
  | 1 => show o 1 + 128 ≤ 128; omega

/-- What the body assumes of a pair it reads. -/
theorem chk (t : Fin 136) : k0_chk1 (lit0 t) (lit1 t) :=
  ⟨fun _ => rows_mult1 t, fun _ => rows_inside (rows_off2 t) rfl, fun _ => rows_mult2 t, fun _ => rows_inside (rows_off3 t) rfl⟩

end Cert.AttnBwd

end
-- ==== Proof.AttnBwdRun.lean ====
module

public import proofs.«01_k».proof.Proof.AttnBwdEntry
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384

/-! # The attention gradient's body

One triple per case of the pair that a point reads: below the diagonal, on it, and the first pair. What a point
leaves is written over the six blocks it reads and what the three results' buffers held. -/

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel14Ideal Cert.Kernel14Ideal.Gen

variable {F : FTy → Type} [FloatOps F]

local notation "𝕄" => MT nD τ sig Unit (Elt F) ℕ (UR sig nD τ) ℕ

/-- The two tables as the body is handed them. -/
abbrev tbQ : Memref sig .tc .smem S136 .i32 := Memref.whole main_c
@[inherit_doc tbQ] abbrev tbK : Memref sig .tc .smem S136 .i32 := Memref.whole main_c_0
abbrev htbQ : tbQ.IsWhole := Memref.isWhole_whole _
abbrev htbK : tbK.IsWhole := Memref.isWhole_whole _
/-- The contents of a table, and the table held (by half). -/
abbrev TbBuf (c : Dev nD) (M : Memref sig .tc .smem S136 .i32) : Type := Buf (Elt F) (M.view.loc (c : Thread nD τ))
@[inherit_doc TbBuf] abbrev tbPt (c : Dev nD) (M : Memref sig .tc .smem S136 .i32) (f : TbBuf (F := F) c M) : sProp 𝕄 :=
  M.view.loc (c : Thread nD τ) ↦{fullShare.right} f

/-- The word that point `i` reads of a table. -/
abbrev rd (c : Dev nD) (M : Memref sig .tc .smem S136 .i32) (i : grid0.Coords) (f : TbBuf (F := F) c M) : BitVec 32 :=
  View.readAt (Elt F) M.view (Rect.unit (s := S136) (k0_off1 i) S1.size (k0_off1_inb i)).toLoadRect f
    (Shape.Idx.first (numel1_S1.symm ▸ Nat.one_pos))

/-! ## What a point computes -/

/-- The first column of a block: the log-sum or the row sum, repeated over the lanes. -/
def lane (x : Vec F S512x128 .f32) : Vec F S512x1 .f32 :=
  VecWindow.window x ![0, 0] S512x1.size inb_S512x128_S512x1_0_0

theorem rows_fit {n : ℕ} (h : n < 16) : ∀ a, (![512 * n, 0] : Fin 2 → ℕ) a + S512x128.size a ≤ S8192x128.size a := by
  intro a
  match a with
  | 0 => show 512 * n + 512 ≤ 8192; omega
  | 1 => show 0 + 128 ≤ 128; omega

section
variable (x0 x1 x2 x3 : Vec F S512x128 .bf16) (x4 x5 : Vec F S512x128 .f32) (a6 : Vec F S8192x128 .f32) (a7 a8 : Vec F S512x128 .f32)
variable (n : ℕ) (hn : n < 16)

/-- Below the diagonal: the score gradient, and the three results with their terms added. -/
def dsBelow : FVec F S512x512 .bf16 := k0_pay12 x0 x1 x3 (lane x4) x2 (lane x5)
@[inherit_doc dsBelow] def dvBelow : Vec F S512x128 .f32 := k0_pay11 x0 x1 x3 (lane x4) a8
@[inherit_doc dsBelow] def dkBelow : Vec F S512x128 .f32 := k0_pay13 x0 x1 x3 (lane x4) x2 (lane x5) a7
@[inherit_doc dsBelow] def dqBelow : Vec F S8192x128 .f32 :=
  VecWindow.put a6 ![512 * n, 0] S512x128.size
    (k0_pay4 (k0_pay8 x1) (dsBelow x0 x1 x2 x3 x4 x5) (VecWindow.window a6 ![512 * n, 0] S512x128.size (rows_fit hn)))

/-- On the diagonal: the same under the chunk mask, the key side starting from zero. -/
def dsDiag : FVec F S512x512 .bf16 :=
  k0_pay23 (k0_pay16 x3) (k0_pay17 x0 x1 (lane x4)) (iota .tc S512x512 32 [0] iota_S512x512_d0_w32) k0_pay18 64#32 k0_pay19 k0_pay20 x2 (lane x5)
@[inherit_doc dsDiag] def dvDiag : Vec F S512x128 .f32 :=
  k0_pay22 (k0_pay16 x3) (k0_pay17 x0 x1 (lane x4)) (iota .tc S512x512 32 [0] iota_S512x512_d0_w32) k0_pay18 64#32 k0_pay19 k0_pay20 k0_pay3
@[inherit_doc dsDiag] def dkDiag : Vec F S512x128 .f32 :=
  k0_pay5 (k0_pay14 x0) (dsDiag x0 x1 x2 x3 x4 x5) (k0_pay24 k0_pay2) (constant S512x128 .f32 0x00000000#32)
@[inherit_doc dsDiag] def dqDiag : Vec F S8192x128 .f32 :=
  VecWindow.put a6 ![512 * n, 0] S512x128.size
    (k0_pay6 (k0_pay15 x1) (dsDiag x0 x1 x2 x3 x4 x5) (VecWindow.window a6 ![512 * n, 0] S512x128.size (rows_fit hn)))
end

theorem rd_blk {e : EltTy} {M : Memref sig .tc .vmem S512x128 e} (h : M.IsWhole) (x : Vec F S512x128 e) :
    View.readAt (Elt F) M.view (Rect.unit (s := S512x128) ![0, 0] ![512, 128] inb_S512x128_S512x128_0_0).toLoadRect (h.unread x) = x :=
  (View.readAt_full _ _ _).trans (h.read_unread x)

theorem rd_lane {M : Memref sig .tc .vmem S512x128 .f32} (h : M.IsWhole) (x : Vec F S512x128 .f32) :
    View.readAt (Elt F) M.view (Rect.unit (s := S512x128) ![0, 0] ![512, 1] inb_S512x128_S512x1_0_0).toLoadRect (h.unread x) = lane x :=
  funext fun _ => congrFun (h.read_unread x) _

theorem rd_set (M : Memref sig .tc .vmem S512x128 .f32) (x : Vec F S512x128 .f32) :
    M.view.readCov [⟨Rect.unit (s := S512x128) ![0, 0] ![512, 128] inb_S512x128_S512x128_0_0, x⟩]
      (Rect.unit (s := S512x128) ![0, 0] ![512, 128] inb_S512x128_S512x128_0_0).toLoadRect = x :=
  View.readCov_full _ _ _ _ _

theorem rd_setq (M : Memref sig .tc .vmem S8192x128 .f32) (f : M.view.ty.Contents (Elt F)) (x : Vec F S8192x128 .f32) :
    M.view.read (Elt F) (M.view.writes (Elt F) f [⟨Rect.unit (s := S8192x128) ![0, 0] ![8192, 128] inb_S8192x128_S8192x128_0_0, x⟩]) = x :=
  View.read_writes_full _ _ _ _ _

/-! ## The runs -/

set_option maxHeartbeats 4000000 in
/-- A pair below the diagonal. -/
theorem run_below (c : Dev nD) (i : grid0.Coords) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S8192x128 .f32) (harg10 : arg10.IsWhole)
    (arg11 : Memref sig .tc .vmem S512x128 .f32) (harg11 : arg11.IsWhole) (arg12 : Memref sig .tc .vmem S512x128 .f32) (harg12 : arg12.IsWhole)
    (xt0 : TbBuf (F := F) c tbQ) (xt1 : TbBuf (F := F) c tbK)
    (hk : k0_chk1 (rd c tbQ i xt0) (rd c tbK i xt1))
    (h1 : ¬k0_cond1 i = 1#1) (h2 : ¬k0_cond2 (rd c tbQ i xt0) (rd c tbK i xt1) = 1#1)
    (h3 : k0_cond3 (rd c tbQ i xt0) (rd c tbK i xt1) = 1#1) (h4 : ¬k0_cond4 (rd c tbQ i xt0) (rd c tbK i xt1) = 1#1)
    {n : ℕ} (hn : n < 16) (ho : k0_off2 (rd c tbQ i xt0) = ![512 * n, 0])
    (x0 x1 x2 x3 : Vec F S512x128 .bf16) (x4 x5 : Vec F S512x128 .f32)
    (a6 : Vec F S8192x128 .f32) (a7 a8 : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare a6 ∗ owns (c : Thread nD τ) arg11 fullShare a7 ∗ owns (c : Thread nD τ) arg12 fullShare a8
        ∗ tbPt c tbQ xt0 ∗ tbPt c tbK xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (dqBelow x0 x1 x2 x3 x4 x5 a6 n hn)
            ∗ owns (c : Thread nD τ) arg11 fullShare (dkBelow x0 x1 x2 x3 x4 x5 a7)
            ∗ owns (c : Thread nD τ) arg12 fullShare (dvBelow x0 x1 x3 x4 a8)
            ∗ tbPt c tbQ xt0 ∗ tbPt c tbK xt1) -∗ K ⟨⟩))
      ⊢ wp frame (wpE (defs₀ (F := F)) Variants.none c none) E (cc0_attn_bwd i tbQ htbQ tbK htbK arg4 harg4 arg5 harg5 arg6 harg6 arg7 harg7 arg8 harg8 arg9 harg9 arg10 harg10 arg11 harg11 arg12 harg12) K := by
  simp only [cc0_attn_bwd_eq_skeleton]; unfold cc0_attn_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  obtain rfl := harg11.eq_unread hf7; obtain rfl := harg12.eq_unread hf8
  sl_exec (disch := first | sl_exact hk | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    rotate_left
    · iexact H6
    ipureintro
    refine (View.read_writes_cons_put _ _ _ _ _ ho).trans ?_
    delta run_below.sl.r run_below.sl.r_2 run_below.sl.r_3
    simp only [rd_blk, rd_lane]
    erw [View.readAt_unit arg10.view _ _ ho (rows_fit hn)]
    simp only [View.writes_nil, harg10.read_unread]
    rfl

  isplitl [H7]
  · iexists _; isplitr
    rotate_left
    · iexact H7
    ipureintro
    refine (View.read_writes_full _ _ _ _ _).trans ?_
    simp only [rd_blk, rd_lane, rd_set]
    rfl

  isplitl [H8]
  · iexists _; isplitr
    rotate_left
    · iexact H8
    ipureintro
    refine (View.read_writes_full _ _ _ _ _).trans ?_
    simp only [rd_blk, rd_lane, rd_set]
    rfl

  isplitl [HT0]; · iexact HT0
  iexact HT1

set_option maxHeartbeats 4000000 in
/-- A pair on the diagonal, not the first. -/
theorem run_diag (c : Dev nD) (i : grid0.Coords) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S8192x128 .f32) (harg10 : arg10.IsWhole)
    (arg11 : Memref sig .tc .vmem S512x128 .f32) (harg11 : arg11.IsWhole) (arg12 : Memref sig .tc .vmem S512x128 .f32) (harg12 : arg12.IsWhole)
    (xt0 : TbBuf (F := F) c tbQ) (xt1 : TbBuf (F := F) c tbK)
    (hk : k0_chk1 (rd c tbQ i xt0) (rd c tbK i xt1))
    (h1 : ¬k0_cond1 i = 1#1) (h2 : k0_cond2 (rd c tbQ i xt0) (rd c tbK i xt1) = 1#1)
    (h3 : ¬k0_cond3 (rd c tbQ i xt0) (rd c tbK i xt1) = 1#1) (h4 : k0_cond4 (rd c tbQ i xt0) (rd c tbK i xt1) = 1#1)
    {n : ℕ} (hn : n < 16) (ho : k0_off3 (rd c tbQ i xt0) = ![512 * n, 0])
    (x0 x1 x2 x3 : Vec F S512x128 .bf16) (x4 x5 : Vec F S512x128 .f32)
    (a6 : Vec F S8192x128 .f32) (a7 a8 : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare a6 ∗ owns (c : Thread nD τ) arg11 fullShare a7 ∗ owns (c : Thread nD τ) arg12 fullShare a8
        ∗ tbPt c tbQ xt0 ∗ tbPt c tbK xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (dqDiag x0 x1 x2 x3 x4 x5 a6 n hn)
            ∗ owns (c : Thread nD τ) arg11 fullShare (dkDiag x0 x1 x2 x3 x4 x5)
            ∗ owns (c : Thread nD τ) arg12 fullShare (dvDiag x0 x1 x3 x4)
            ∗ tbPt c tbQ xt0 ∗ tbPt c tbK xt1) -∗ K ⟨⟩))
      ⊢ wp frame (wpE (defs₀ (F := F)) Variants.none c none) E (cc0_attn_bwd i tbQ htbQ tbK htbK arg4 harg4 arg5 harg5 arg6 harg6 arg7 harg7 arg8 harg8 arg9 harg9 arg10 harg10 arg11 harg11 arg12 harg12) K := by
  simp only [cc0_attn_bwd_eq_skeleton]; unfold cc0_attn_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  obtain rfl := harg11.eq_unread hf7; obtain rfl := harg12.eq_unread hf8
  sl_exec (disch := first | sl_exact hk | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    rotate_left
    · iexact H6
    ipureintro
    refine (View.read_writes_cons_put _ _ _ _ _ ho).trans ?_
    delta run_diag.sl.r run_diag.sl.r_1 run_diag.sl.r_2 run_diag.sl.r_3 run_diag.sl.r_4 run_diag.sl.r_5 run_diag.sl.r_6 run_diag.sl.r_7 run_diag.sl.v28 run_diag.sl.v81 run_diag.sl.v96 run_diag.sl.cst_36 run_diag.sl.H7_1 run_diag.sl.H8_1
    simp only [rd_blk, rd_lane]
    erw [View.readAt_unit arg10.view _ _ ho (rows_fit hn)]
    simp only [View.writes_nil, harg10.read_unread]
    rfl

  isplitl [H7]
  · iexists _; isplitr
    rotate_left
    · iexact H7
    ipureintro
    refine (View.read_writes_full _ _ _ _ _).trans ?_
    delta run_diag.sl.r run_diag.sl.r_1 run_diag.sl.r_2 run_diag.sl.r_3 run_diag.sl.r_4 run_diag.sl.r_5 run_diag.sl.r_6 run_diag.sl.r_7 run_diag.sl.v28 run_diag.sl.v81 run_diag.sl.v96 run_diag.sl.cst_36 run_diag.sl.H7_1 run_diag.sl.H8_1
    simp only [rd_blk, rd_lane, rd_set]
    rfl

  isplitl [H8]
  · iexists _; isplitr
    rotate_left
    · iexact H8
    ipureintro
    refine (View.read_writes_full _ _ _ _ _).trans ?_
    delta run_diag.sl.r run_diag.sl.r_1 run_diag.sl.r_2 run_diag.sl.r_3 run_diag.sl.r_4 run_diag.sl.r_5 run_diag.sl.r_6 run_diag.sl.r_7 run_diag.sl.v28 run_diag.sl.v81 run_diag.sl.v96 run_diag.sl.cst_36 run_diag.sl.H7_1 run_diag.sl.H8_1
    simp only [rd_blk, rd_lane, rd_set]
    rfl

  isplitl [HT0]; · iexact HT0
  iexact HT1

set_option maxHeartbeats 4000000 in
/-- The first pair. -/
theorem run_first (c : Dev nD) (i : grid0.Coords) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S8192x128 .f32) (harg10 : arg10.IsWhole)
    (arg11 : Memref sig .tc .vmem S512x128 .f32) (harg11 : arg11.IsWhole) (arg12 : Memref sig .tc .vmem S512x128 .f32) (harg12 : arg12.IsWhole)
    (xt0 : TbBuf (F := F) c tbQ) (xt1 : TbBuf (F := F) c tbK)
    (hk : k0_chk1 (rd c tbQ i xt0) (rd c tbK i xt1))
    (h1 : k0_cond1 i = 1#1) (h2 : k0_cond2 (rd c tbQ i xt0) (rd c tbK i xt1) = 1#1)
    (h3 : ¬k0_cond3 (rd c tbQ i xt0) (rd c tbK i xt1) = 1#1) (h4 : k0_cond4 (rd c tbQ i xt0) (rd c tbK i xt1) = 1#1)
    {n : ℕ} (hn : n < 16) (ho : k0_off3 (rd c tbQ i xt0) = ![512 * n, 0])
    (x0 x1 x2 x3 : Vec F S512x128 .bf16) (x4 x5 : Vec F S512x128 .f32)
    (a6 : Vec F S8192x128 .f32) (a7 a8 : Vec F S512x128 .f32) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare a6 ∗ owns (c : Thread nD τ) arg11 fullShare a7 ∗ owns (c : Thread nD τ) arg12 fullShare a8
        ∗ tbPt c tbQ xt0 ∗ tbPt c tbK xt1
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (dqDiag x0 x1 x2 x3 x4 x5 k0_pay1 n hn)
            ∗ owns (c : Thread nD τ) arg11 fullShare (dkDiag x0 x1 x2 x3 x4 x5)
            ∗ owns (c : Thread nD τ) arg12 fullShare (dvDiag x0 x1 x3 x4)
            ∗ tbPt c tbQ xt0 ∗ tbPt c tbK xt1) -∗ K ⟨⟩))
      ⊢ wp frame (wpE (defs₀ (F := F)) Variants.none c none) E (cc0_attn_bwd i tbQ htbQ tbK htbK arg4 harg4 arg5 harg5 arg6 harg6 arg7 harg7 arg8 harg8 arg9 harg9 arg10 harg10 arg11 harg11 arg12 harg12) K := by
  simp only [cc0_attn_bwd_eq_skeleton]; unfold cc0_attn_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  obtain rfl := harg11.eq_unread hf7; obtain rfl := harg12.eq_unread hf8
  sl_exec (disch := first | sl_exact hk | sl_exact h1 | sl_exact h2 | sl_exact h3 | sl_exact h4)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    rotate_left
    · iexact H6
    ipureintro
    refine (View.read_writes_cons_put _ _ _ _ _ ho).trans ?_
    delta run_first.sl.r run_first.sl.r_1 run_first.sl.r_2 run_first.sl.r_3 run_first.sl.r_4 run_first.sl.r_5 run_first.sl.r_6 run_first.sl.r_7 run_first.sl.v28 run_first.sl.v81 run_first.sl.v96 run_first.sl.v104 run_first.sl.cst_36 run_first.sl.H6_1 run_first.sl.H7_1 run_first.sl.H8_1
    simp only [rd_blk, rd_lane]
    erw [View.readAt_unit arg10.view _ _ ho (rows_fit hn)]
    simp only [rd_setq]
    rfl

  isplitl [H7]
  · iexists _; isplitr
    rotate_left
    · iexact H7
    ipureintro
    refine (View.read_writes_full _ _ _ _ _).trans ?_
    delta run_first.sl.r run_first.sl.r_1 run_first.sl.r_2 run_first.sl.r_3 run_first.sl.r_4 run_first.sl.r_5 run_first.sl.r_6 run_first.sl.r_7 run_first.sl.v28 run_first.sl.v81 run_first.sl.v96 run_first.sl.v104 run_first.sl.cst_36 run_first.sl.H6_1 run_first.sl.H7_1 run_first.sl.H8_1
    simp only [rd_blk, rd_lane, rd_set]
    rfl

  isplitl [H8]
  · iexists _; isplitr
    rotate_left
    · iexact H8
    ipureintro
    refine (View.read_writes_full _ _ _ _ _).trans ?_
    delta run_first.sl.r run_first.sl.r_1 run_first.sl.r_2 run_first.sl.r_3 run_first.sl.r_4 run_first.sl.r_5 run_first.sl.r_6 run_first.sl.r_7 run_first.sl.v28 run_first.sl.v81 run_first.sl.v96 run_first.sl.v104 run_first.sl.cst_36 run_first.sl.H6_1 run_first.sl.H7_1 run_first.sl.H8_1
    simp only [rd_blk, rd_lane, rd_set]
    rfl

  isplitl [HT0]; · iexact HT0
  iexact HT1

end Cert.AttnBwd

end
-- ==== Proof.AttnBwdFrame.lean ====
module

public import proofs.«01_k».proof.Proof.AttnBwdRun
public import Idealize.ShloMosaic.Lib.Pipeline.Kit
public import Idealize.ShloMosaic.Lib.Pipeline.Frame

@[expose] public section

set_option maxRecDepth 16384

/-! # The attention gradient's run

What the three results' buffers hold after every grid point, as a recursion over the points; the launch from the
per-point triples; and the frame. -/

noncomputable section

namespace Cert.AttnBwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel14Ideal Cert.Kernel14Ideal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The words of a point -/

theorem rd_query (c : Dev nD) (i : grid0.Coords) : rd (F := F) c tbQ i (tbl m 0) = lit0 (pair i) := word_query m i
theorem rd_key (c : Dev nD) (i : grid0.Coords) : rd (F := F) c tbK i (tbl m 1) = lit1 (pair i) := word_key m i

theorem off1_in (i : grid0.Coords) : ∀ a, k0_off1 i a + 1 ≤ S136.size a
  | 0 => k0_off1_inb i 0

theorem off1_idx (i : grid0.Coords) : (fun a => (⟨k0_off1 i a, off1_in i a⟩ : Fin (S136.size a))) = wordIdx i :=
  funext fun a => Fin.ext (by show k0_off1 i a = k0_off1 i a + 0 * 1; omega)

theorem atD_word (pf : pre0.Contents (Elt F)) (i : grid0.Coords) :
    pf.atD 0 (k0_off1 i) = pf 0 (wordIdx i) ∧ pf.atD 1 (k0_off1 i) = pf 1 (wordIdx i) :=
  ⟨(dif_pos (off1_in i)).trans (congrArg (pf 0) (off1_idx i)), (dif_pos (off1_in i)).trans (congrArg (pf 1) (off1_idx i))⟩

theorem atD_query (i : grid0.Coords) : (tbl m).atD 0 (k0_off1 i) = lit0 (pair i) := (atD_word (tbl m) i).1.trans (word_query m i)
theorem atD_key (i : grid0.Coords) : (tbl m).atD 1 (k0_off1 i) = lit1 (pair i) := (atD_word (tbl m) i).2.trans (word_key m i)

theorem off2_eq (t : Fin 136) : k0_off2 (lit0 t) = ![512 * qb t, 0] :=
  funext fun a => match a with
    | 0 => rows_off2 t
    | 1 => rfl
theorem off3_eq (t : Fin 136) : k0_off3 (lit0 t) = ![512 * qb t, 0] :=
  funext fun a => match a with
    | 0 => rows_off3 t
    | 1 => rfl

/-- A pair is below the diagonal or on it: the body writes all three results at every point. -/
theorem below_of_ne {t : Fin 136} (h : kb t ≠ qb t) : k0_cond3 (lit0 t) (lit1 t) = 1#1 :=
  (below_iff t).mpr ((kb_le t).lt_of_ne h)

theorem live_of {a b c : Bool} (h : b = true ∨ c = true) : (!a && !b && !c) = false := by
  rcases h with rfl | rfl
  · exact (congrArg (· && !c) (Bool.and_false _)).trans (Bool.false_and _)
  · exact Bool.and_false _

theorem writes (i : grid0.Coords) : (k0_cond3 ((tbl m).atD 0 (k0_off1 i)) ((tbl m).atD 1 (k0_off1 i)) == 1#1) = true
    ∨ (k0_cond4 ((tbl m).atD 0 (k0_off1 i)) ((tbl m).atD 1 (k0_off1 i)) == 1#1) = true := by
  rw [atD_query, atD_key]
  by_cases h : kb (pair i) = qb (pair i)
  · exact .inr (beq_iff_eq.mpr ((diag_iff' _).mpr h))
  · exact .inl (beq_iff_eq.mpr (below_of_ne h))

theorem live_query (i : grid0.Coords) : idle0 (tbl m) 6 i = false := live_of (writes m i)
theorem live_key (i : grid0.Coords) : idle0 (tbl m) 7 i = false := live_of (writes m i)
theorem live_value (i : grid0.Coords) : idle0 (tbl m) 8 i = false := live_of (writes m i)

/-! ## A point of the grid -/

theorem N_eq : (cfgM m).N = 1088 := N_0

/-- The pair and the head of a point. -/
abbrev pt (t : Fin (cfgM m).N) : Fin 136 := pair (grid0.coords t)
theorem pt_val (t : Fin (cfgM m).N) : (pt m t).val = t.val % 136 := by
  have e : (grid0.coords t 1).val = t.val / 1 % 136 := Pipeline.Grid.coords_val (G := grid0) t 1 (by decide) rfl
  rw [Nat.div_one] at e; exact e
theorem head_val (t : Fin (cfgM m).N) : (grid0.coords t 0).val = t.val / 136 := by
  have e : (grid0.coords t 0).val = t.val / 136 % 8 := Pipeline.Grid.coords_val (G := grid0) t 0 (by decide) rfl
  have := lt_of_lt_of_eq t.isLt (N_eq m)
  omega

/-- Below the diagonal the pair before is one of the same key block. -/
theorem below_prev : ∀ t : Fin 136, kb t ≠ qb t → ∃ h : 0 < t.val, kb ⟨t.val - 1, (Nat.sub_le _ _).trans_lt t.isLt⟩ = kb t := by
  decide +kernel

/-- A window is not written back where the next point has its block. -/
theorem flush_same (ix : grid0.Coords → Fin 2 → ℕ) (t : Fin grid0.N) (h : t.val + 1 < grid0.N)
    (e : ix (grid0.coords ⟨t.val + 1, h⟩) = ix (grid0.coords t)) : Pipeline.Window.flushOf grid0 true ix t = false := by
  have h1 : ¬t.val + 1 = grid0.N := h.ne
  have h2 : ¬∃ h : t.val + 1 < grid0.N, ix (grid0.coords ⟨t.val + 1, h⟩) ≠ ix (grid0.coords t) := fun ⟨_, h'⟩ => h' e
  unfold Pipeline.Window.flushOf
  rw [decide_eq_false h1, decide_eq_false h2]
  rfl

/-- The point before. -/
abbrev prev (t : Fin (cfgM m).N) : Fin (cfgM m).N := ⟨t.val - 1, Nat.lt_of_le_of_lt (Nat.sub_le _ _) t.isLt⟩

theorem head_prev (t : Fin (cfgM m).N) (h : (pt m t).val ≠ 0) : grid0.coords (prev m t) 0 = grid0.coords t 0 := by
  refine Fin.ext ?_
  rw [head_val, head_val]
  rw [pt_val] at h
  show (t.val - 1) / 136 = t.val / 136
  omega

theorem succ_prev (t : Fin (cfgM m).N) (h : t.val ≠ 0) (h') : (⟨(prev m t).val + 1, h'⟩ : Fin (cfgM m).N) = t :=
  Fin.ext (by show t.val - 1 + 1 = t.val; omega)

theorem pos_of (t : Fin (cfgM m).N) (h : (pt m t).val ≠ 0) : t.val ≠ 0 := by
  rw [pt_val] at h; omega

theorem prev_lt (t : Fin (cfgM m).N) (h : t.val ≠ 0) : (prev m t).val + 1 < grid0.N := by
  show t.val - 1 + 1 < grid0.N
  have : t.val < grid0.N := t.isLt
  omega

theorem kept_of (ix : grid0.Coords → Fin 2 → ℕ) (t : Fin (cfgM m).N) (h : t.val ≠ 0) (e : ix (grid0.coords t) = ix (grid0.coords (prev m t))) :
    Pipeline.Window.flushOf grid0 true ix (prev m t) = false :=
  flush_same ix (prev m t) (prev_lt m t h) ((congrArg (fun t => ix (grid0.coords t)) (succ_prev m t h (prev_lt m t h))).trans e)

theorem kept_query (t : Fin (cfgM m).N) (h : (pt m t).val ≠ 0) : ((cfgM m).win 6).flush (prev m t) = false :=
  kept_of m cc0_transform_6 t (pos_of m t h)
    (congrArg (fun n => ![0, (BitVec.ofNat 32 n).toNat]) (congrArg Fin.val (head_prev m t h)).symm)

theorem key_kept (t : Fin (cfgM m).N) (h : kb (pt m t) ≠ qb (pt m t)) :
    cc0_transform_1 k0_off1_inb numel1_S1 (tbl m) (grid0.coords t) = cc0_transform_1 k0_off1_inb numel1_S1 (tbl m) (grid0.coords (prev m t)) := by
  obtain ⟨h0, h1⟩ := below_prev _ h
  have hp : pt m (prev m t) = ⟨(pt m t).val - 1, (Nat.sub_le _ _).trans_lt (pt m t).isLt⟩ := Fin.ext (by
    show (pt m (prev m t)).val = (pt m t).val - 1
    rw [pt_val, pt_val]; rw [pt_val] at h0
    show (t.val - 1) % 136 = t.val % 136 - 1
    omega)
  rw [tr_key, tr_key, head_prev m t h0.ne']
  show ![kb (pt m t), _] = ![kb (pt m (prev m t)), _]
  rw [hp, h1]

theorem flush_key (a : (pcfg0 (F := F)).Adm) (t : Fin (cfg0 a).N)
    (h : Pipeline.Window.flushOf grid0 true (cc0_transform_7 k0_off1_inb numel1_S1 a.1) t = false) :
    ((cfg0 a).win 7).flush t = false ∧ ((cfg0 a).win 8).flush t = false := ⟨h, h⟩

set_option maxHeartbeats 4000000 in
theorem kept_key (t : Fin (cfgM m).N) (h : kb (pt m t) ≠ qb (pt m t)) :
    ((cfgM m).win 7).flush (prev m t) = false ∧ ((cfgM m).win 8).flush (prev m t) = false :=
  flush_key (adm m) (prev m t)
    (kept_of m (cc0_transform_7 k0_off1_inb numel1_S1 (adm m).1) t (pos_of m t (below_prev _ h).1.ne') (key_kept m t h))

/-! ## What a point leaves -/

/-- The three results' buffers. -/
abbrev State (F : FTy → Type) [FloatOps F] : Type := Vec F S8192x128 .f32 × Vec F S512x128 .f32 × Vec F S512x128 .f32

/-- The buffers after pair `p`, from the blocks it reads and the buffers before. -/
def step (p : Fin 136) (x0 x1 x2 x3 : Vec F S512x128 .bf16) (x4 x5 : Vec F S512x128 .f32) (s : State F) : State F :=
  if kb p = qb p then
    (dqDiag x0 x1 x2 x3 x4 x5 (if p.val = 0 then k0_pay1 else s.1) (qb p) (qb_lt p), dkDiag x0 x1 x2 x3 x4 x5, dvDiag x0 x1 x3 x4)
  else
    (dqBelow x0 x1 x2 x3 x4 x5 s.1 (qb p) (qb_lt p), dkBelow x0 x1 x2 x3 x4 x5 s.2.1, dvBelow x0 x1 x3 x4 s.2.2)

theorem first_diag : ∀ p : Fin 136, p.val = 0 → kb p = qb p := by decide +kernel

/-- Of the buffers before, a point reads the query side unless it is its head's first, the key side below the diagonal. -/
theorem step_congr (p : Fin 136) (x0 x1 x2 x3 : Vec F S512x128 .bf16) (x4 x5 : Vec F S512x128 .f32) (s s' : State F)
    (h6 : p.val ≠ 0 → s.1 = s'.1) (h7 : kb p ≠ qb p → s.2 = s'.2) :
    step p x0 x1 x2 x3 x4 x5 s = step p x0 x1 x2 x3 x4 x5 s' := by
  unfold step
  by_cases h : kb p = qb p
  · rw [if_pos h, if_pos h]
    by_cases h0 : p.val = 0
    · rw [if_pos h0, if_pos h0]
    · rw [if_neg h0, if_neg h0, h6 h0]
  · rw [if_neg h, if_neg h, h6 (fun h0 => h (first_diag p h0)), h7 h]

set_option maxHeartbeats 1600000 in
/-- The body at a point, whichever its pair. -/
theorem run_step (c : Dev nD) (i : grid0.Coords) (arg4 : Memref sig .tc .vmem S512x128 .bf16) (harg4 : arg4.IsWhole)
    (arg5 : Memref sig .tc .vmem S512x128 .bf16) (harg5 : arg5.IsWhole) (arg6 : Memref sig .tc .vmem S512x128 .bf16) (harg6 : arg6.IsWhole)
    (arg7 : Memref sig .tc .vmem S512x128 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S8192x128 .f32) (harg10 : arg10.IsWhole)
    (arg11 : Memref sig .tc .vmem S512x128 .f32) (harg11 : arg11.IsWhole) (arg12 : Memref sig .tc .vmem S512x128 .f32) (harg12 : arg12.IsWhole)
    (x0 x1 x2 x3 : Vec F S512x128 .bf16) (x4 x5 : Vec F S512x128 .f32) (s : State F) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare s.1 ∗ owns (c : Thread nD τ) arg11 fullShare s.2.1 ∗ owns (c : Thread nD τ) arg12 fullShare s.2.2
        ∗ tbPt c tbQ (tbl m 0) ∗ tbPt c tbK (tbl m 1)
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare x5
            ∗ owns (c : Thread nD τ) arg10 fullShare (step (pair i) x0 x1 x2 x3 x4 x5 s).1
            ∗ owns (c : Thread nD τ) arg11 fullShare (step (pair i) x0 x1 x2 x3 x4 x5 s).2.1
            ∗ owns (c : Thread nD τ) arg12 fullShare (step (pair i) x0 x1 x2 x3 x4 x5 s).2.2
            ∗ tbPt c tbQ (tbl m 0) ∗ tbPt c tbK (tbl m 1)) -∗ K ⟨⟩))
      ⊢ wp frame (wpE (defs₀ (F := F)) Variants.none c none) E (cc0_attn_bwd i tbQ htbQ tbK htbK arg4 harg4 arg5 harg5 arg6 harg6 arg7 harg7 arg8 harg8 arg9 harg9 arg10 harg10 arg11 harg11 arg12 harg12) K := by
  have hq := rd_query m c i
  have hk := rd_key m c i
  have hc : k0_chk1 (rd c tbQ i (tbl m 0)) (rd c tbK i (tbl m 1)) := by rw [hq, hk]; exact chk _
  have ho2 : k0_off2 (rd c tbQ i (tbl m 0)) = ![512 * qb (pair i), 0] := by rw [hq]; exact off2_eq _
  have ho3 : k0_off3 (rd c tbQ i (tbl m 0)) = ![512 * qb (pair i), 0] := by rw [hq]; exact off3_eq _
  unfold step
  by_cases h : kb (pair i) = qb (pair i)
  · have h2 : k0_cond2 (rd c tbQ i (tbl m 0)) (rd c tbK i (tbl m 1)) = 1#1 := by rw [hq, hk]; exact (diag_iff _).mpr h
    have h3 : ¬k0_cond3 (rd c tbQ i (tbl m 0)) (rd c tbK i (tbl m 1)) = 1#1 := by
      rw [hq, hk]; exact fun h' => ((below_iff _).mp h').ne h
    have h4 : k0_cond4 (rd c tbQ i (tbl m 0)) (rd c tbK i (tbl m 1)) = 1#1 := by rw [hq, hk]; exact (diag_iff' _).mpr h
    rw [if_pos h]
    by_cases h0 : (pair i).val = 0
    · rw [if_pos h0]
      exact run_first c i arg4 harg4 arg5 harg5 arg6 harg6 arg7 harg7 arg8 harg8 arg9 harg9 arg10 harg10 arg11 harg11 arg12 harg12 _ _ hc
        ((first_iff i).mpr h0) h2 h3 h4 (qb_lt _) ho3 x0 x1 x2 x3 x4 x5 _ _ _ E K
    · rw [if_neg h0]
      exact run_diag c i arg4 harg4 arg5 harg5 arg6 harg6 arg7 harg7 arg8 harg8 arg9 harg9 arg10 harg10 arg11 harg11 arg12 harg12 _ _ hc
        (fun h' => h0 ((first_iff i).mp h')) h2 h3 h4 (qb_lt _) ho3 x0 x1 x2 x3 x4 x5 _ _ _ E K
  · have h2 : ¬k0_cond2 (rd c tbQ i (tbl m 0)) (rd c tbK i (tbl m 1)) = 1#1 := by
      rw [hq, hk]; exact fun h' => h ((diag_iff _).mp h')
    have h3 : k0_cond3 (rd c tbQ i (tbl m 0)) (rd c tbK i (tbl m 1)) = 1#1 := by rw [hq, hk]; exact below_of_ne h
    have h4 : ¬k0_cond4 (rd c tbQ i (tbl m 0)) (rd c tbK i (tbl m 1)) = 1#1 := by
      rw [hq, hk]; exact fun h' => h ((diag_iff' _).mp h')
    rw [if_neg h]
    exact run_below c i arg4 harg4 arg5 harg5 arg6 harg6 arg7 harg7 arg8 harg8 arg9 harg9 arg10 harg10 arg11 harg11 arg12 harg12 _ _ hc
      (fun h' => h (first_diag _ ((first_iff i).mp h'))) h2 h3 h4 (qb_lt _) ho2 x0 x1 x2 x3 x4 x5 _ _ _ E K

/-! ## The blocks and the recursion -/

/-- Window `w`'s block at point `t`, of its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What point `t` leaves, from what it finds. -/
abbrev stepAt (c : Dev nD) (t : Fin (cfgM m).N) (s : State F) : State F :=
  step (pt m t) (iblk m c 0 t) (iblk m c 1 t) (iblk m c 2 t) (iblk m c 3 t) (iblk m c 4 t) (iblk m c 5 t) s

/-- The buffers after the first points. -/
def state (c : Dev nD) : (n : ℕ) → n < (cfgM m).N → State F
  | 0, h => stepAt m c ⟨0, h⟩ (k0_pay1, k0_pay2, k0_pay3)
  | n + 1, h => stepAt m c ⟨n + 1, h⟩ (state c n (Nat.lt_of_succ_lt h))

abbrev stateAt (c : Dev nD) (t : Fin (cfgM m).N) : State F := state m c t.val t.isLt

theorem state_succ (c : Dev nD) (t : Fin (cfgM m).N) (h : t.val ≠ 0) : stateAt m c t = stepAt m c t (stateAt m c (prev m t)) := by
  match t, h with
  | ⟨0, _⟩, h => exact absurd rfl h
  | ⟨n + 1, _⟩, _ => rfl

/-- The proof data of the run. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stateAt m c t).1
    | ⟨7, _⟩ => (stateAt m c t).2.1
    | ⟨8, _⟩ => (stateAt m c t).2.2
  Φ _ := iprop(Pipeline.ΦA spec0 c ∗ Pipeline.ΦT pre0 (tbl m) c)
  q _ := fullShare
  owed _ := 0

abbrev dat (c : Dev nD) : Dat τ (Elt F) Unit ℕ (UR sig nD τ) ℕ (cfgM m) c := dats m 0 c

theorem arrays (c : Dev nD) (w : Fin (cfgM m).W) : (dat m c).A w = V m c (Pipeline.arrRef spec0 w) := by
  dsimp only [dat, dats]

/-- An input's buffer holds its block at every point. -/
theorem before_in (c : Dev nD) (w : Fin (cfgM m).W) (hw : ((cfgM m).win w).isOut = false) (hl : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hcut : ∀ t, ((cfgM m).win w).cut ((cfgM m).grid.coords t) ((dat m c).after w t) = (dat m c).blockOf w t)
    (t : Fin (cfgM m).N) (d) : (dat m c).before w t d = (dat m c).fetched w t d :=
  (dat m c).before_in_eq_fetched w hw hl hclip hcut t d

theorem before_0 (c : Dev nD) (t : Fin (cfgM m).N) (d) : (dat m c).before 0 t d = iblk m c 0 t :=
  (before_in m c 0 rfl (fun _ => rfl) (fun _ _ _ => rfl) (fun t => by dsimp only [dat, dats, Dat.blockOf, iblk]; rfl) t d).trans (by
    dsimp only [Dat.fetched, Dat.blockOf, iblk, dat, dats]; rfl)
theorem before_1 (c : Dev nD) (t : Fin (cfgM m).N) (d) : (dat m c).before 1 t d = iblk m c 1 t :=
  (before_in m c 1 rfl (fun _ => rfl) (fun _ _ _ => rfl) (fun t => by dsimp only [dat, dats, Dat.blockOf, iblk]; rfl) t d).trans (by
    dsimp only [Dat.fetched, Dat.blockOf, iblk, dat, dats]; rfl)
theorem before_2 (c : Dev nD) (t : Fin (cfgM m).N) (d) : (dat m c).before 2 t d = iblk m c 2 t :=
  (before_in m c 2 rfl (fun _ => rfl) (fun _ _ _ => rfl) (fun t => by dsimp only [dat, dats, Dat.blockOf, iblk]; rfl) t d).trans (by
    dsimp only [Dat.fetched, Dat.blockOf, iblk, dat, dats]; rfl)
theorem before_3 (c : Dev nD) (t : Fin (cfgM m).N) (d) : (dat m c).before 3 t d = iblk m c 3 t :=
  (before_in m c 3 rfl (fun _ => rfl) (fun _ _ _ => rfl) (fun t => by dsimp only [dat, dats, Dat.blockOf, iblk]; rfl) t d).trans (by
    dsimp only [Dat.fetched, Dat.blockOf, iblk, dat, dats]; rfl)
theorem before_4 (c : Dev nD) (t : Fin (cfgM m).N) (d) : (dat m c).before 4 t d = iblk m c 4 t :=
  (before_in m c 4 rfl (fun _ => rfl) (fun _ _ _ => rfl) (fun t => by dsimp only [dat, dats, Dat.blockOf, iblk]; rfl) t d).trans (by
    dsimp only [Dat.fetched, Dat.blockOf, iblk, dat, dats]; rfl)
theorem before_5 (c : Dev nD) (t : Fin (cfgM m).N) (d) : (dat m c).before 5 t d = iblk m c 5 t :=
  (before_in m c 5 rfl (fun _ => rfl) (fun _ _ _ => rfl) (fun t => by dsimp only [dat, dats, Dat.blockOf, iblk]; rfl) t d).trans (by
    dsimp only [Dat.fetched, Dat.blockOf, iblk, dat, dats]; rfl)

theorem after_6 (c : Dev nD) (t : Fin (cfgM m).N) : (dat m c).after 6 t = (stateAt m c t).1 := by dsimp only [dat, dats]; rfl
theorem after_7 (c : Dev nD) (t : Fin (cfgM m).N) : (dat m c).after 7 t = (stateAt m c t).2.1 := by dsimp only [dat, dats]; rfl
theorem after_8 (c : Dev nD) (t : Fin (cfgM m).N) : (dat m c).after 8 t = (stateAt m c t).2.2 := by dsimp only [dat, dats]; rfl

/-- A result's buffer holds what the point before left, where it was not written back between. -/
theorem held (a : (pcfg0 (F := F)).Adm) {c : Dev nD} (D : Dat τ (Elt F) Unit ℕ (UR sig nD τ) ℕ (cfg0 a) c) (t : Fin (cfg0 a).N) (ht : t.val ≠ 0) :
    ((((cfg0 a).win 6).flush ⟨t.val - 1, Nat.lt_of_le_of_lt (Nat.sub_le _ _) t.isLt⟩ = false) → (∀ i, idle0 a.1 6 i = false) →
      ∀ d, D.before 6 t d = D.after 6 ⟨t.val - 1, Nat.lt_of_le_of_lt (Nat.sub_le _ _) t.isLt⟩)
    ∧ ((((cfg0 a).win 7).flush ⟨t.val - 1, Nat.lt_of_le_of_lt (Nat.sub_le _ _) t.isLt⟩ = false) → (∀ i, idle0 a.1 7 i = false) →
      ∀ d, D.before 7 t d = D.after 7 ⟨t.val - 1, Nat.lt_of_le_of_lt (Nat.sub_le _ _) t.isLt⟩)
    ∧ ((((cfg0 a).win 8).flush ⟨t.val - 1, Nat.lt_of_le_of_lt (Nat.sub_le _ _) t.isLt⟩ = false) → (∀ i, idle0 a.1 8 i = false) →
      ∀ d, D.before 8 t d = D.after 8 ⟨t.val - 1, Nat.lt_of_le_of_lt (Nat.sub_le _ _) t.isLt⟩) :=
  ⟨fun hf hl => D.before_out_kept 6 rfl t ht hf hl (fun _ _ => rfl), fun hf hl => D.before_out_kept 7 rfl t ht hf hl (fun _ _ => rfl),
    fun hf hl => D.before_out_kept 8 rfl t ht hf hl (fun _ _ => rfl)⟩

set_option maxHeartbeats 4000000 in
theorem before_query (c : Dev nD) (t : Fin (cfgM m).N) (h : (pt m t).val ≠ 0) (d) :
    (dat m c).before 6 t d = (stateAt m c (prev m t)).1 :=
  ((held (adm m) (dat m c) t (pos_of m t h)).1 (kept_query m t h) (live_query m) d).trans (after_6 m c (prev m t))
set_option maxHeartbeats 4000000 in
theorem before_key7 (c : Dev nD) (t : Fin (cfgM m).N) (h : kb (pt m t) ≠ qb (pt m t)) (d) :
    (dat m c).before 7 t d = (stateAt m c (prev m t)).2.1 :=
  ((held (adm m) (dat m c) t (pos_of m t (below_prev _ h).1.ne')).2.1 (kept_key m t h).1 (live_key m) d).trans (after_7 m c (prev m t))
set_option maxHeartbeats 4000000 in
theorem before_key8 (c : Dev nD) (t : Fin (cfgM m).N) (h : kb (pt m t) ≠ qb (pt m t)) (d) :
    (dat m c).before 8 t d = (stateAt m c (prev m t)).2.2 :=
  ((held (adm m) (dat m c) t (pos_of m t (below_prev _ h).1.ne')).2.2 (kept_key m t h).2 (live_value m) d).trans (after_8 m c (prev m t))

/-- A point's state, from what its buffers hold when it starts. -/
theorem state_before (c : Dev nD) (t : Fin (cfgM m).N) (d6 d7 d8) :
    stateAt m c t = stepAt m c t ((dat m c).before 6 t d6, (dat m c).before 7 t d7, (dat m c).before 8 t d8) := by
  by_cases h : t.val = 0
  · obtain ⟨n, hn⟩ := t
    obtain rfl : n = 0 := h
    have h0 : (pt m ⟨0, hn⟩).val = 0 := by rw [pt_val]; exact Nat.zero_mod 136
    exact step_congr _ _ _ _ _ _ _ _ _ (fun h' => absurd h0 h') (fun h' => absurd (first_diag _ h0) h')
  · rw [state_succ m c t h]
    exact step_congr _ _ _ _ _ _ _ _ _ (fun h' => (before_query m c t h' d6).symm)
      (fun h' => Prod.ext (before_key7 m c t h' d7).symm (before_key8 m c t h' d8).symm)

/-! ## The body at a point -/

/-- The tables' halves in the invariant, one by one. -/
theorem tables_eq (c : Dev nD) : (Pipeline.ΦT pre0 (tbl m) c : sProp 𝕄) = iprop(tbPt c tbQ (tbl m 0) ∗ tbPt c tbK (tbl m 1)) := by
  unfold Pipeline.ΦT Pipeline.prefHeld
  rw [show (Finset.univ : Finset (Fin 2)) = insert (0 : Fin 2) {(1 : Fin 2)} from by decide,
    bigSep_insert (by decide), bigSep_singleton]
  rfl

abbrev stg0 (t : Fin (cfgM m).N) : Memref sig .tc .vmem S512x128 .bf16 := spec0_0.stage ((cfgM m).slots t 0)
abbrev stg1 (t : Fin (cfgM m).N) : Memref sig .tc .vmem S512x128 .bf16 := spec0_1.stage ((cfgM m).slots t 1)
abbrev stg2 (t : Fin (cfgM m).N) : Memref sig .tc .vmem S512x128 .bf16 := spec0_2.stage ((cfgM m).slots t 2)
abbrev stg3 (t : Fin (cfgM m).N) : Memref sig .tc .vmem S512x128 .bf16 := spec0_3.stage ((cfgM m).slots t 3)
abbrev stg4 (t : Fin (cfgM m).N) : Memref sig .tc .vmem S512x128 .f32 := spec0_4.stage ((cfgM m).slots t 4)
abbrev stg5 (t : Fin (cfgM m).N) : Memref sig .tc .vmem S512x128 .f32 := spec0_5.stage ((cfgM m).slots t 5)
abbrev stg6 (t : Fin (cfgM m).N) : Memref sig .tc .vmem S8192x128 .f32 := spec0_6.stage ((cfgM m).slots t 6)
abbrev stg7 (t : Fin (cfgM m).N) : Memref sig .tc .vmem S512x128 .f32 := spec0_7.stage ((cfgM m).slots t 7)
abbrev stg8 (t : Fin (cfgM m).N) : Memref sig .tc .vmem S512x128 .f32 := spec0_8.stage ((cfgM m).slots t 8)

/-- The body as the pipeline calls it at point `t`. -/
abbrev bodyAt (t : Fin (cfgM m).N) : Prog (TpuEff nD τ sig (Elt F) Λ₀ .tc) PUnit :=
  cc0_attn_bwd (grid0.coords t) tbQ htbQ tbK htbK (stg0 m t) (hstage0_0 (((cfgM m).slots t 0).cast nbuf0_0)) (stg1 m t) (hstage0_1 (((cfgM m).slots t 1).cast nbuf0_1)) (stg2 m t) (hstage0_2 (((cfgM m).slots t 2).cast nbuf0_2)) (stg3 m t) (hstage0_3 (((cfgM m).slots t 3).cast nbuf0_3)) (stg4 m t) (hstage0_4 (((cfgM m).slots t 4).cast nbuf0_4)) (stg5 m t) (hstage0_5 (((cfgM m).slots t 5).cast nbuf0_5)) (stg6 m t) (hstage0_6 (((cfgM m).slots t 6).cast nbuf0_6)) (stg7 m t) (hstage0_7 (((cfgM m).slots t 7).cast nbuf0_7)) (stg8 m t) (hstage0_8 (((cfgM m).slots t 8).cast nbuf0_8))

/-- The body's precondition at a point, -/
def bodyPre (c : Dev nD) (t : Fin (cfgM m).N) : sProp 𝕄 :=
  iprop((dat m c).Φ t.castSucc ∗ (dat m c).owesAt () t.castSucc
    ∗ (∃ d, owns (c : Thread nD τ) (stg0 m t) fullShare ((dat m c).before 0 t d))
    ∗ (∃ d, owns (c : Thread nD τ) (stg1 m t) fullShare ((dat m c).before 1 t d))
    ∗ (∃ d, owns (c : Thread nD τ) (stg2 m t) fullShare ((dat m c).before 2 t d))
    ∗ (∃ d, owns (c : Thread nD τ) (stg3 m t) fullShare ((dat m c).before 3 t d))
    ∗ (∃ d, owns (c : Thread nD τ) (stg4 m t) fullShare ((dat m c).before 4 t d))
    ∗ (∃ d, owns (c : Thread nD τ) (stg5 m t) fullShare ((dat m c).before 5 t d))
    ∗ (∃ d, owns (c : Thread nD τ) (stg6 m t) fullShare ((dat m c).before 6 t d))
    ∗ (∃ d, owns (c : Thread nD τ) (stg7 m t) fullShare ((dat m c).before 7 t d))
    ∗ (∃ d, owns (c : Thread nD τ) (stg8 m t) fullShare ((dat m c).before 8 t d)))

/-- and its postcondition. -/
def bodyPost (c : Dev nD) (t : Fin (cfgM m).N) : sProp 𝕄 :=
  iprop((dat m c).Φ t.succ ∗ (dat m c).owesAt () t.succ
    ∗ owns (c : Thread nD τ) (stg0 m t) fullShare ((dat m c).after 0 t)
    ∗ owns (c : Thread nD τ) (stg1 m t) fullShare ((dat m c).after 1 t)
    ∗ owns (c : Thread nD τ) (stg2 m t) fullShare ((dat m c).after 2 t)
    ∗ owns (c : Thread nD τ) (stg3 m t) fullShare ((dat m c).after 3 t)
    ∗ owns (c : Thread nD τ) (stg4 m t) fullShare ((dat m c).after 4 t)
    ∗ owns (c : Thread nD τ) (stg5 m t) fullShare ((dat m c).after 5 t)
    ∗ owns (c : Thread nD τ) (stg6 m t) fullShare ((dat m c).after 6 t)
    ∗ owns (c : Thread nD τ) (stg7 m t) fullShare ((dat m c).after 7 t)
    ∗ owns (c : Thread nD τ) (stg8 m t) fullShare ((dat m c).after 8 t))

set_option maxHeartbeats 1600000 in
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5]
  rw [show (dat m c).Φ t.succ = (dat m c).Φ t.castSucc from rfl,
    show (dat m c).owesAt () t.succ = (dat m c).owesAt () t.castSucc from rfl,
    show (dat m c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have e := state_before m c t d6 d7 d8
  rw [after_6, after_7, after_8, e]
  iapply (run_step m c (grid0.coords t) _ _ _ _ _ _ _ _ _ _ _ _ _ _ _ _ _ _ (iblk m c 0 t) (iblk m c 1 t) (iblk m c 2 t) (iblk m c 3 t) (iblk m c 4 t) (iblk m c 5 t)
    ((dat m c).before 6 t d6, (dat m c).before 7 t d7, (dat m c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT0]; · iexact HT0
  isplitl [HT1]; · iexact HT1
  iintro ⟨H0, H1, H2, H3, H4, H5, H6, H7, H8, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin (cfgM m).N) :
    defs₀ (F := F) .tc (cfgM m).body ((cfgM m).bodyArgs t ((cfgM m).slots t)) = bodyAt m t := by
  unfold defs₀; rw [Defs.onTc_tc]

theorem body_sound (c : Dev nD) : BodyObligation (dat (F := F) m c) (defs₀ (F := F)) Variants.none () Set.univ := fun t => by
  rw [bigSep_W0, bigSep_W0, body_row m]
  have l6 : idle0 (tbl m) 6 ((pcfg0.gridAt (tbl m)).coords t) = false := live_query m _
  have l7 : idle0 (tbl m) 7 ((pcfg0.gridAt (tbl m)).coords t) = false := live_key m _
  have l8 : idle0 (tbl m) 8 ((pcfg0.gridAt (tbl m)).coords t) = false := live_value m _
  refine triple_restated (sound_body m c t) rfl .rfl fun _ => ?_
  unfold bodyPost
  dsimp only
  rw [l6, l7]

/-! ## The run -/

-- the launch lemma's implicit arguments are found by unfolding plain definitions in their types
set_option backward.isDefEq.respectTransparency.types false in
set_option maxHeartbeats 4000000 in
/-- Every execution ends, with the pipeline's arrays as the proof data say and every counter at zero. -/
theorem run_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_sound m c).loose) (hshare := fun c => (dat m c).share_full fun _ => rfl)
    (howed := fun _ _ => rfl) (V := V m) (hmain := hmain m Variants.none) (hA := arrays m) (hpf := V_pre m)
    (hΦ := fun _ _ => rfl)

theorem run_main : θ_run defs (onTc (τ := τ) (main (F := F))) (s₀ m ρ) (Pipeline.FramePost (Pipeline.pin pcfgs fun _ => adm m) (dats m) 0 (V m)) :=
  (θ_run defs _ _).mono (fun _ h => h.1) (run_quiescent m ρ)

/-- The arguments end as they began, and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (by decide : main_arg0 ∈ Pipeline.restRefs sig spec0)).trans (V_arg m c _ (.inl rfl)),
      ((h.1 c).2 main_arg1 (by decide : main_arg1 ∈ Pipeline.restRefs sig spec0)).trans (V_arg m c _ (.inr (.inl rfl))),
      ((h.1 c).2 main_arg2 (by decide : main_arg2 ∈ Pipeline.restRefs sig spec0)).trans (V_arg m c _ (.inr (.inr (.inl rfl)))),
      ((h.1 c).2 main_arg3 (by decide : main_arg3 ∈ Pipeline.restRefs sig spec0)).trans (V_arg m c _ (.inr (.inr (.inr rfl))))⟩, h.2⟩) (run_quiescent m ρ)

end Cert.AttnBwd

end
-- ==== Proof.AttnFwdBody.lean ====
module

public import proofs.«01_k».proof.Proof.AttnFwdRun
public import proofs.«01_k».proof.Proof.AttnBwdFrame
public import Idealize.ShloMosaic.Lib.Pipeline.Kit
public import Idealize.ShloMosaic.Lib.Pipeline.Frame

@[expose] public section

set_option maxRecDepth 16384

/-! # The attention forward points

What the running maximum, sum and product hold after every grid point, as a recursion over the points, and the body's
triple at a point of it. The three results are stored at the diagonal pairs alone, and written back
there. -/

noncomputable section

namespace Cert.AttnFwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel13Ideal Cert.Kernel13Ideal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The words of a point -/

theorem rd_query (c : Dev nD) (i : grid0.Coords) : rd (F := F) c tbQ i (tbl m 0) = lit0 (pair i) := word_query m i
theorem rd_key (c : Dev nD) (i : grid0.Coords) : rd (F := F) c tbK i (tbl m 1) = lit1 (pair i) := word_key m i

theorem off1_in (i : grid0.Coords) : ∀ a, k0_off1 i a + 1 ≤ S136.size a
  | 0 => k0_off1_inb i 0

theorem off1_idx (i : grid0.Coords) : (fun a => (⟨k0_off1 i a, off1_in i a⟩ : Fin (S136.size a))) = wordIdx i :=
  funext fun a => Fin.ext (by show k0_off1 i a = k0_off1 i a + 0 * 1; omega)

theorem atD_word (pf : pre0.Contents (Elt F)) (i : grid0.Coords) :
    pf.atD 0 (k0_off1 i) = pf 0 (wordIdx i) ∧ pf.atD 1 (k0_off1 i) = pf 1 (wordIdx i) :=
  ⟨(dif_pos (off1_in i)).trans (congrArg (pf 0) (off1_idx i)), (dif_pos (off1_in i)).trans (congrArg (pf 1) (off1_idx i))⟩

theorem atD_query (i : grid0.Coords) : (tbl m).atD 0 (k0_off1 i) = lit0 (pair i) := (atD_word (tbl m) i).1.trans (word_query m i)
theorem atD_key (i : grid0.Coords) : (tbl m).atD 1 (k0_off1 i) = lit1 (pair i) := (atD_word (tbl m) i).2.trans (word_key m i)

/-- The results are stored on the diagonal, and nowhere else. -/
theorem idle_diag (i : grid0.Coords) (h : kb (pair i) = qb (pair i)) :
    idle0 (tbl m) 3 i = false ∧ idle0 (tbl m) 4 i = false ∧ idle0 (tbl m) 5 i = false := by
  have e : (!(k0_cond3 ((tbl m).atD 0 (k0_off1 i)) ((tbl m).atD 1 (k0_off1 i)) == 1#1)) = false := by
    rw [atD_query, atD_key, (diag_iff _).mpr h]; rfl
  exact ⟨e, e, e⟩

theorem idle_below (i : grid0.Coords) (h : kb (pair i) ≠ qb (pair i)) :
    idle0 (tbl m) 3 i = true ∧ idle0 (tbl m) 4 i = true ∧ idle0 (tbl m) 5 i = true := by
  have e : (!(k0_cond3 ((tbl m).atD 0 (k0_off1 i)) ((tbl m).atD 1 (k0_off1 i)) == 1#1)) = true := by
    rw [atD_query, atD_key, beq_eq_false_iff_ne.mpr fun h' => h ((diag_iff _).mp h')]; rfl
  exact ⟨e, e, e⟩

/-! ## A point of the grid -/

theorem N_eq : (cfgM m).N = 1088 := N_0

/-- The pair and the head of a point. -/
abbrev pt (t : Fin (cfgM m).N) : Fin 136 := pair (grid0.coords t)
theorem pt_val (t : Fin (cfgM m).N) : (pt m t).val = t.val % 136 := by
  have e : (grid0.coords t 1).val = t.val / 1 % 136 := Pipeline.Grid.coords_val (G := grid0) t 1 (by decide) rfl
  rw [Nat.div_one] at e; exact e
theorem head_val (t : Fin (cfgM m).N) : (grid0.coords t 0).val = t.val / 136 := by
  have e : (grid0.coords t 0).val = t.val / 136 % 8 := Pipeline.Grid.coords_val (G := grid0) t 0 (by decide) rfl
  have := lt_of_lt_of_eq t.isLt (N_eq m)
  omega

/-- The point before. -/
abbrev prev (t : Fin (cfgM m).N) : Fin (cfgM m).N := ⟨t.val - 1, Nat.lt_of_le_of_lt (Nat.sub_le _ _) t.isLt⟩

theorem head_prev (t : Fin (cfgM m).N) (h : (pt m t).val ≠ 0) : grid0.coords (prev m t) 0 = grid0.coords t 0 := by
  refine Fin.ext ?_
  rw [head_val, head_val]
  rw [pt_val] at h
  show (t.val - 1) / 136 = t.val / 136
  omega

theorem pos_of (t : Fin (cfgM m).N) (h : (pt m t).val ≠ 0) : t.val ≠ 0 := by
  rw [pt_val] at h; omega

theorem flush_outs (a : (pcfg0 (F := F)).Adm) (t : Fin (cfg0 a).N)
    (h : Pipeline.Window.flushOf grid0 true (cc0_transform_3 k0_off1_inb numel1_S1 a.1) t = false) :
    (pcfg0.win a 3).flush t = false ∧ (pcfg0.win a 4).flush t = false ∧ (pcfg0.win a 5).flush t = false := ⟨h, h, h⟩

/-- The point after, below the diagonal: the same head and the pair after. -/
theorem next_point (t : Fin (cfgM m).N) (h : kb (pt m t) ≠ qb (pt m t)) :
    ∃ (h1 : t.val + 1 < grid0.N), grid0.coords ⟨t.val + 1, h1⟩ 0 = grid0.coords t 0
      ∧ qb (pair (grid0.coords ⟨t.val + 1, h1⟩)) = qb (pt m t) := by
  obtain ⟨h0, h1⟩ := pair_next _ h
  rw [pt_val] at h0
  have hN : t.val < 1088 := lt_of_lt_of_eq t.isLt (N_eq m)
  have hl : t.val + 1 < grid0.N := lt_of_lt_of_eq (by omega) N_0.symm
  refine ⟨hl, Fin.ext ?_, ?_⟩
  · rw [head_val m ⟨t.val + 1, hl⟩, head_val m t]
    show (t.val + 1) / 136 = t.val / 136
    omega
  · rw [← h1]
    refine congrArg qb (Fin.ext ?_)
    show (pt m ⟨t.val + 1, hl⟩).val = (pt m t).val + 1
    rw [pt_val, pt_val]
    show (t.val + 1) % 136 = t.val % 136 + 1
    omega

set_option maxHeartbeats 4000000 in
/-- Below the diagonal no result is written back. -/
theorem kept_outs (t : Fin (cfgM m).N) (h : kb (pt m t) ≠ qb (pt m t)) :
    (pcfg0.win (adm m) 3).flush t = false ∧ (pcfg0.win (adm m) 4).flush t = false ∧ (pcfg0.win (adm m) 5).flush t = false := by
  obtain ⟨h1, h2, h3⟩ := next_point m t h
  refine flush_outs (adm m) t (Cert.AttnBwd.flush_same _ t h1 ?_)
  show cc0_transform_0 k0_off1_inb numel1_S1 (tbl m) _ = cc0_transform_0 k0_off1_inb numel1_S1 (tbl m) _
  rw [tr_query, tr_query, h2, h3]

/-! ## What a point leaves -/

/-- The running values after pair `p`, from the blocks it reads and the values before. -/
def step (p : Fin 136) (x0 x1 x2 : Vec F S512x128 .bf16) (s : State F) : State F :=
  if kb p = qb p then diag x0 x1 x2 (if kb p = 0 then start else s) else below x0 x1 x2 (if kb p = 0 then start else s)

/-- At the first key block nothing of the values before is read. -/
theorem step_congr (p : Fin 136) (x0 x1 x2 : Vec F S512x128 .bf16) (s s' : State F) (h : kb p ≠ 0 → s = s') :
    step p x0 x1 x2 s = step p x0 x1 x2 s' := by
  unfold step
  by_cases h0 : kb p = 0
  · simp only [if_pos h0]
  · rw [h h0]

set_option maxHeartbeats 1600000 in
/-- The body at a point below the diagonal. -/
theorem run_below_step (c : Dev nD) (i : grid0.Coords) (h : kb (pair i) ≠ qb (pair i))
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (x0 x1 x2 : Vec F S512x128 .bf16) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg10 fullShare s.1
        ∗ owns (c : Thread nD τ) arg11 fullShare s.2.1
        ∗ owns (c : Thread nD τ) arg12 fullShare s.2.2
        ∗ tbPt c tbQ (tbl m 0) ∗ tbPt c tbK (tbl m 1)
        ∗ (iprop(owns (c : Thread nD τ) arg4 fullShare x0
            ∗ owns (c : Thread nD τ) arg5 fullShare x1
            ∗ owns (c : Thread nD τ) arg6 fullShare x2
            ∗ owns (c : Thread nD τ) arg10 fullShare (step (pair i) x0 x1 x2 s).1
            ∗ owns (c : Thread nD τ) arg11 fullShare (step (pair i) x0 x1 x2 s).2.1
            ∗ owns (c : Thread nD τ) arg12 fullShare (step (pair i) x0 x1 x2 s).2.2
            ∗ tbPt c tbQ (tbl m 0) ∗ tbPt c tbK (tbl m 1)) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  have hq := rd_query m c i
  have hk := rd_key m c i
  have h2 : condBelow (rd c tbQ i (tbl m 0)) (rd c tbK i (tbl m 1)) := by
    rw [hq, hk]; exact (below_iff _).mpr ((kb_le _).lt_of_ne h)
  have h3 : ¬k0_cond3 (rd c tbQ i (tbl m 0)) (rd c tbK i (tbl m 1)) = 1#1 := by
    rw [hq, hk]; exact fun h' => h ((diag_iff _).mp h')
  unfold step
  rw [if_neg h]
  by_cases h0 : kb (pair i) = 0
  · rw [if_pos h0]
    exact run_start_below c i arg4 harg4 arg5 harg5 arg6 harg6 arg7 harg7 arg8 harg8 arg9 harg9 arg10 harg10 arg11 harg11 arg12 harg12 _ _
      (by rw [hk]; exact (first_iff _).mpr h0) h2 h3 x0 x1 x2 s E K
  · rw [if_neg h0]
    exact run_below c i arg4 harg4 arg5 harg5 arg6 harg6 arg7 harg7 arg8 harg8 arg9 harg9 arg10 harg10 arg11 harg11 arg12 harg12 _ _
      (by rw [hk]; exact fun h' => h0 ((first_iff _).mp h')) h2 h3 x0 x1 x2 s E K

set_option maxHeartbeats 1600000 in
/-- The body at a point on the diagonal. -/
theorem run_diag_step (c : Dev nD) (i : grid0.Coords) (h : kb (pair i) = qb (pair i))
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S512x128 .f32) (harg7 : arg7.IsWhole)
    (arg8 : Memref sig .tc .vmem S512x128 .bf16) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (x0 x1 x2 : Vec F S512x128 .bf16) (a7 : Vec F S512x128 .f32) (a8 : Vec F S512x128 .bf16) (a9 : Vec F S512x128 .f32) (s : State F) (E : Set ℕ) (K : PUnit → sProp 𝕄) :
    iprop(owns (c : Thread nD τ) arg4 fullShare x0
        ∗ owns (c : Thread nD τ) arg5 fullShare x1
        ∗ owns (c : Thread nD τ) arg6 fullShare x2
        ∗ owns (c : Thread nD τ) arg7 fullShare a7
        ∗ owns (c : Thread nD τ) arg8 fullShare a8
        ∗ owns (c : Thread nD τ) arg9 fullShare a9
        ∗ owns (c : Thread nD τ) arg10 fullShare s.1
        ∗ owns (c : Thread nD τ) arg11 fullShare s.2.1
        ∗ owns (c : Thread nD τ) arg12 fullShare s.2.2
        ∗ tbPt c tbQ (tbl m 0) ∗ tbPt c tbK (tbl m 1)
        ∗ (iprop(owns (c : Thread nD τ) arg4 fullShare x0
            ∗ owns (c : Thread nD τ) arg5 fullShare x1
            ∗ owns (c : Thread nD τ) arg6 fullShare x2
            ∗ owns (c : Thread nD τ) arg7 fullShare (k0_pay7 (step (pair i) x0 x1 x2 s).2.1 (step (pair i) x0 x1 x2 s).2.2)
            ∗ owns (c : Thread nD τ) arg8 fullShare (k0_pay8 (step (pair i) x0 x1 x2 s).2.1 (step (pair i) x0 x1 x2 s).2.2)
            ∗ owns (c : Thread nD τ) arg9 fullShare (k0_pay9 (step (pair i) x0 x1 x2 s).2.1 (step (pair i) x0 x1 x2 s).1)
            ∗ owns (c : Thread nD τ) arg10 fullShare (step (pair i) x0 x1 x2 s).1
            ∗ owns (c : Thread nD τ) arg11 fullShare (step (pair i) x0 x1 x2 s).2.1
            ∗ owns (c : Thread nD τ) arg12 fullShare (step (pair i) x0 x1 x2 s).2.2
            ∗ tbPt c tbQ (tbl m 0) ∗ tbPt c tbK (tbl m 1)) -∗ K ⟨⟩))
      ⊢ wp frame (wpE (defs₀ (F := F)) Variants.none c none) E (cc0_attn_fwd i tbQ htbQ tbK htbK arg4 harg4 arg5 harg5 arg6 harg6 arg7 harg7 arg8 harg8 arg9 harg9 arg10 harg10 arg11 harg11 arg12 harg12) K := by
  have hq := rd_query m c i
  have hk := rd_key m c i
  have h2 : ¬condBelow (rd c tbQ i (tbl m 0)) (rd c tbK i (tbl m 1)) := by
    rw [hq, hk]; exact fun h' => ((below_iff _).mp h').ne h
  have h3 : k0_cond3 (rd c tbQ i (tbl m 0)) (rd c tbK i (tbl m 1)) = 1#1 := by rw [hq, hk]; exact (diag_iff _).mpr h
  unfold step
  rw [if_pos h]
  by_cases h0 : kb (pair i) = 0
  · rw [if_pos h0]
    exact run_start_diag c i arg4 harg4 arg5 harg5 arg6 harg6 arg7 harg7 arg8 harg8 arg9 harg9 arg10 harg10 arg11 harg11 arg12 harg12 _ _
      (by rw [hk]; exact (first_iff _).mpr h0) h2 h3 x0 x1 x2 a7 a8 a9 s E K
  · rw [if_neg h0]
    exact run_diag c i arg4 harg4 arg5 harg5 arg6 harg6 arg7 harg7 arg8 harg8 arg9 harg9 arg10 harg10 arg11 harg11 arg12 harg12 _ _
      (by rw [hk]; exact fun h' => h0 ((first_iff _).mp h')) h2 h3 x0 x1 x2 a7 a8 a9 s E K

/-! ## The blocks and the recursion -/

/-- Window `w`'s block at point `t`, of its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- What point `t` leaves, from what it finds. -/
abbrev stepAt (c : Dev nD) (t : Fin (cfgM m).N) (s : State F) : State F :=
  step (pt m t) (iblk m c 0 t) (iblk m c 1 t) (iblk m c 2 t) s

/-- The running values after the first points. -/
def state (c : Dev nD) : (n : ℕ) → n < (cfgM m).N → State F
  | 0, h => stepAt m c ⟨0, h⟩ start
  | n + 1, h => stepAt m c ⟨n + 1, h⟩ (state c n (Nat.lt_of_succ_lt h))

abbrev stateAt (c : Dev nD) (t : Fin (cfgM m).N) : State F := state m c t.val t.isLt

theorem state_succ (c : Dev nD) (t : Fin (cfgM m).N) (h : t.val ≠ 0) : stateAt m c t = stepAt m c t (stateAt m c (prev m t)) := by
  match t, h with
  | ⟨0, _⟩, h => exact absurd rfl h
  | ⟨n + 1, _⟩, _ => rfl

/-- The buffers of the running values. -/
abbrev scM : Memref sig .tc .vmem S512x128 .f32 := Memref.whole cc0_scratch0
@[inherit_doc scM] abbrev scL : Memref sig .tc .vmem S512x128 .f32 := Memref.whole cc0_scratch1
@[inherit_doc scM] abbrev scA : Memref sig .tc .vmem S512x128 .f32 := Memref.whole cc0_scratch2

/-- Before point `n` the running values are what the point before left. -/
def Carried (c : Dev nD) (n : ℕ) (s : State F) : Prop := ∀ k, k + 1 = n → ∀ h : k < (cfgM m).N, s = state m c k h

/-- The running values' buffers before point `n`. -/
def running (c : Dev nD) (n : ℕ) : sProp 𝕄 :=
  iprop(∃ s : State F, ⌜Carried m c n s⌝ ∗ owns (c : Thread nD τ) scM fullShare s.1 ∗ owns (c : Thread nD τ) scL fullShare s.2.1
    ∗ owns (c : Thread nD τ) scA fullShare s.2.2)

/-- The proof data of the run. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (stateAt m c t).2.1 (stateAt m c t).2.2
    | ⟨4, _⟩ => k0_pay8 (stateAt m c t).2.1 (stateAt m c t).2.2
    | ⟨5, _⟩ => k0_pay9 (stateAt m c t).2.1 (stateAt m c t).1
  Φ n := iprop(running m c n.val ∗ (∃ r, prngReg c r) ∗ Pipeline.ΦT pre0 (tbl m) c)
  q _ := fullShare
  owed _ := 0

abbrev dat (c : Dev nD) : Dat τ (Elt F) Unit ℕ (UR sig nD τ) ℕ (cfgM m) c := dats m 0 c

theorem phi_eq (c : Dev nD) (n : Fin ((cfgM m).N + 1)) :
    (dat m c).Φ n = iprop(running m c n.val ∗ (∃ r, prngReg c r) ∗ Pipeline.ΦT pre0 (tbl m) c) := by
  dsimp only [dat, dats]

theorem arrays (c : Dev nD) (w : Fin (cfgM m).W) : (dat m c).A w = V m c (Pipeline.arrRef spec0 w) := by
  dsimp only [dat, dats]

/-- An input's buffer holds its block at every point. -/
theorem before_in (c : Dev nD) (w : Fin (cfgM m).W) (hw : ((cfgM m).win w).isOut = false) (hl : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hcut : ∀ t, ((cfgM m).win w).cut ((cfgM m).grid.coords t) ((dat m c).after w t) = (dat m c).blockOf w t)
    (t : Fin (cfgM m).N) (d) : (dat m c).before w t d = (dat m c).fetched w t d :=
  (dat m c).before_in_eq_fetched w hw hl hclip hcut t d

theorem before_0 (c : Dev nD) (t : Fin (cfgM m).N) (d) : (dat m c).before 0 t d = iblk m c 0 t :=
  (before_in m c 0 rfl (fun _ => rfl) (fun _ _ _ => rfl) (fun t => by dsimp only [dat, dats, Dat.blockOf, iblk]; rfl) t d).trans (by
    dsimp only [Dat.fetched, Dat.blockOf, iblk, dat, dats]; rfl)
theorem before_1 (c : Dev nD) (t : Fin (cfgM m).N) (d) : (dat m c).before 1 t d = iblk m c 1 t :=
  (before_in m c 1 rfl (fun _ => rfl) (fun _ _ _ => rfl) (fun t => by dsimp only [dat, dats, Dat.blockOf, iblk]; rfl) t d).trans (by
    dsimp only [Dat.fetched, Dat.blockOf, iblk, dat, dats]; rfl)
theorem before_2 (c : Dev nD) (t : Fin (cfgM m).N) (d) : (dat m c).before 2 t d = iblk m c 2 t :=
  (before_in m c 2 rfl (fun _ => rfl) (fun _ _ _ => rfl) (fun t => by dsimp only [dat, dats, Dat.blockOf, iblk]; rfl) t d).trans (by
    dsimp only [Dat.fetched, Dat.blockOf, iblk, dat, dats]; rfl)
theorem after_3 (c : Dev nD) (t : Fin (cfgM m).N) : (dat m c).after 3 t = k0_pay7 (stateAt m c t).2.1 (stateAt m c t).2.2 := by
  dsimp only [dat, dats]; rfl
theorem after_4 (c : Dev nD) (t : Fin (cfgM m).N) : (dat m c).after 4 t = k0_pay8 (stateAt m c t).2.1 (stateAt m c t).2.2 := by
  dsimp only [dat, dats]; rfl
theorem after_5 (c : Dev nD) (t : Fin (cfgM m).N) : (dat m c).after 5 t = k0_pay9 (stateAt m c t).2.1 (stateAt m c t).1 := by
  dsimp only [dat, dats]; rfl

theorem first_pair : ∀ p : Fin 136, p.val = 0 → kb p = 0 := by decide +kernel

/-- A point's running values, from what their buffers hold when it starts. -/
theorem state_before (c : Dev nD) (t : Fin (cfgM m).N) (s : State F) (hs : Carried m c t.val s) :
    stateAt m c t = stepAt m c t s := by
  by_cases h : t.val = 0
  · obtain ⟨n, hn⟩ := t
    obtain rfl : n = 0 := h
    have h0 : (pt m ⟨0, hn⟩).val = 0 := by rw [pt_val]; exact Nat.zero_mod 136
    exact step_congr _ _ _ _ _ _ fun h' => absurd (first_pair _ h0) h'
  · rw [state_succ m c t h]
    exact congrArg _ (hs (t.val - 1) (by omega) (prev m t).isLt).symm

theorem carried_succ (c : Dev nD) (t : Fin (cfgM m).N) : Carried m c (t.val + 1) (stateAt m c t) := by
  intro k hk h
  obtain rfl : k = t.val := by omega
  rfl

/-! ## The body at a point -/

/-- The tables' halves in the invariant, one by one. -/
theorem tables_eq (c : Dev nD) : (Pipeline.ΦT pre0 (tbl m) c : sProp 𝕄) = iprop(tbPt c tbQ (tbl m 0) ∗ tbPt c tbK (tbl m 1)) := by
  unfold Pipeline.ΦT Pipeline.prefHeld
  rw [show (Finset.univ : Finset (Fin 2)) = insert (0 : Fin 2) {(1 : Fin 2)} from by decide,
    bigSep_insert (by decide), bigSep_singleton]
  rfl

abbrev stg0 (t : Fin (cfgM m).N) : Memref sig .tc .vmem S512x128 .bf16 := spec0_0.stage ((cfgM m).slots t 0)
abbrev stg1 (t : Fin (cfgM m).N) : Memref sig .tc .vmem S512x128 .bf16 := spec0_1.stage ((cfgM m).slots t 1)
abbrev stg2 (t : Fin (cfgM m).N) : Memref sig .tc .vmem S512x128 .bf16 := spec0_2.stage ((cfgM m).slots t 2)
abbrev stg3 (t : Fin (cfgM m).N) : Memref sig .tc .vmem S512x128 .f32 := spec0_3.stage ((cfgM m).slots t 3)
abbrev stg4 (t : Fin (cfgM m).N) : Memref sig .tc .vmem S512x128 .bf16 := spec0_4.stage ((cfgM m).slots t 4)
abbrev stg5 (t : Fin (cfgM m).N) : Memref sig .tc .vmem S512x128 .f32 := spec0_5.stage ((cfgM m).slots t 5)

/-- The body as the pipeline calls it at point `t`. -/
abbrev bodyAt (t : Fin (cfgM m).N) : Prog (TpuEff nD τ sig (Elt F) Λ₀ .tc) PUnit :=
  cc0_attn_fwd (grid0.coords t) tbQ htbQ tbK htbK (stg0 m t) (hstage0_0 (((cfgM m).slots t 0).cast nbuf0_0)) (stg1 m t) (hstage0_1 (((cfgM m).slots t 1).cast nbuf0_1)) (stg2 m t) (hstage0_2 (((cfgM m).slots t 2).cast nbuf0_2)) (stg3 m t) (hstage0_3 (((cfgM m).slots t 3).cast nbuf0_3)) (stg4 m t) (hstage0_4 (((cfgM m).slots t 4).cast nbuf0_4)) (stg5 m t) (hstage0_5 (((cfgM m).slots t 5).cast nbuf0_5))
    scM (Memref.isWhole_whole _) scL (Memref.isWhole_whole _) scA (Memref.isWhole_whole _)

/-- The body's precondition at a point, -/
def bodyPre (c : Dev nD) (t : Fin (cfgM m).N) : sProp 𝕄 :=
  iprop((dat m c).Φ t.castSucc ∗ (dat m c).owesAt () t.castSucc
    ∗ (∃ d, owns (c : Thread nD τ) (stg0 m t) fullShare ((dat m c).before 0 t d))
    ∗ (∃ d, owns (c : Thread nD τ) (stg1 m t) fullShare ((dat m c).before 1 t d))
    ∗ (∃ d, owns (c : Thread nD τ) (stg2 m t) fullShare ((dat m c).before 2 t d))
    ∗ (∃ d, owns (c : Thread nD τ) (stg3 m t) fullShare ((dat m c).before 3 t d))
    ∗ (∃ d, owns (c : Thread nD τ) (stg4 m t) fullShare ((dat m c).before 4 t d))
    ∗ (∃ d, owns (c : Thread nD τ) (stg5 m t) fullShare ((dat m c).before 5 t d)))

/-- its postcondition on the diagonal, -/
def diagPost (c : Dev nD) (t : Fin (cfgM m).N) : sProp 𝕄 :=
  iprop((dat m c).Φ t.succ ∗ (dat m c).owesAt () t.succ
    ∗ owns (c : Thread nD τ) (stg0 m t) fullShare ((dat m c).after 0 t)
    ∗ owns (c : Thread nD τ) (stg1 m t) fullShare ((dat m c).after 1 t)
    ∗ owns (c : Thread nD τ) (stg2 m t) fullShare ((dat m c).after 2 t)
    ∗ owns (c : Thread nD τ) (stg3 m t) fullShare ((dat m c).after 3 t)
    ∗ owns (c : Thread nD τ) (stg4 m t) fullShare ((dat m c).after 4 t)
    ∗ owns (c : Thread nD τ) (stg5 m t) fullShare ((dat m c).after 5 t))

/-- and below it. -/
def belowPost (c : Dev nD) (t : Fin (cfgM m).N) : sProp 𝕄 :=
  iprop((dat m c).Φ t.succ ∗ (dat m c).owesAt () t.succ
    ∗ owns (c : Thread nD τ) (stg0 m t) fullShare ((dat m c).after 0 t)
    ∗ owns (c : Thread nD τ) (stg1 m t) fullShare ((dat m c).after 1 t)
    ∗ owns (c : Thread nD τ) (stg2 m t) fullShare ((dat m c).after 2 t)
    ∗ (∃ d, owns (c : Thread nD τ) (stg3 m t) fullShare ((dat m c).before 3 t d))
    ∗ (∃ d, owns (c : Thread nD τ) (stg4 m t) fullShare ((dat m c).before 4 t d))
    ∗ (∃ d, owns (c : Thread nD τ) (stg5 m t) fullShare ((dat m c).before 5 t d)))

set_option maxHeartbeats 1600000 in
theorem sound_diag (c : Dev nD) (t : Fin (cfgM m).N) (h : kb (pt m t) = qb (pt m t)) :
    bodyPre m c t ⊢ wp frame (wpE (defs₀ (F := F)) Variants.none c none) Set.univ (bodyAt m t) (fun _ => diagPost m c t) := by
  unfold bodyPre diagPost bodyAt
  simp only [before_0, before_1, before_2]
  rw [show (dat m c).owesAt () t.succ = (dat m c).owesAt () t.castSucc from rfl,
    phi_eq m c t.castSucc, phi_eq m c t.succ, Fin.val_succ, Fin.val_castSucc, tables_eq]
  unfold running
  iintro ⟨⟨⟨%s, %hs, HM, HL, HA⟩, Hp, ⟨HT0, HT1⟩⟩, Ho, ⟨%d0, H0⟩, ⟨%d1, H1⟩, ⟨%d2, H2⟩, ⟨%d3, H3⟩, ⟨%d4, H4⟩, ⟨%d5, H5⟩⟩
  have e := state_before m c t s hs
  rw [after_3, after_4, after_5]
  iapply (run_diag_step m c (grid0.coords t) h _ _ _ _ _ _ _ _ _ _ _ _ _ _ _ _ _ _ (iblk m c 0 t) (iblk m c 1 t) (iblk m c 2 t)
    ((dat m c).before 3 t d3) ((dat m c).before 4 t d4) ((dat m c).before 5 t d5) s Set.univ _)
  isplitl [H0]; · iexact H0
  isplitl [H1]; · iexact H1
  isplitl [H2]; · iexact H2
  isplitl [H3]; · iexact H3
  isplitl [H4]; · iexact H4
  isplitl [H5]; · iexact H5
  isplitl [HM]; · iexact HM
  isplitl [HL]; · iexact HL
  isplitl [HA]; · iexact HA
  isplitl [HT0]; · iexact HT0
  isplitl [HT1]; · iexact HT1
  iintro ⟨H0, H1, H2, H3, H4, H5, HM, HL, HA, HT0, HT1⟩
  isplitl [HM HL HA Hp HT0 HT1]
  · isplitl [HM HL HA]
    · iexists (stateAt m c t)
      isplitr; · ipureintro; exact carried_succ m c t
      rw [e]
      isplitl [HM]; · iexact HM
      isplitl [HL]; · iexact HL
      iexact HA
    isplitl [Hp]; · iexact Hp
    isplitl [HT0]; · iexact HT0
    iexact HT1
  isplitl [Ho]; · iexact Ho
  isplitl [H0]; · iexact H0
  isplitl [H1]; · iexact H1
  isplitl [H2]; · iexact H2
  rw [e]
  isplitl [H3]; · iexact H3
  isplitl [H4]; · iexact H4
  iexact H5

set_option maxHeartbeats 1600000 in
theorem sound_below (c : Dev nD) (t : Fin (cfgM m).N) (h : kb (pt m t) ≠ qb (pt m t)) :
    bodyPre m c t ⊢ wp frame (wpE (defs₀ (F := F)) Variants.none c none) Set.univ (bodyAt m t) (fun _ => belowPost m c t) := by
  unfold bodyPre belowPost bodyAt
  simp only [before_0, before_1, before_2]
  rw [show (dat m c).owesAt () t.succ = (dat m c).owesAt () t.castSucc from rfl,
    phi_eq m c t.castSucc, phi_eq m c t.succ, Fin.val_succ, Fin.val_castSucc, tables_eq]
  unfold running
  iintro ⟨⟨⟨%s, %hs, HM, HL, HA⟩, Hp, ⟨HT0, HT1⟩⟩, Ho, ⟨%d0, H0⟩, ⟨%d1, H1⟩, ⟨%d2, H2⟩, H3, H4, H5⟩
  have e := state_before m c t s hs
  iapply (run_below_step m c (grid0.coords t) h _ _ _ _ _ _ _ _ _ _ _ _ _ _ _ _ _ _ (iblk m c 0 t) (iblk m c 1 t) (iblk m c 2 t)
    s Set.univ _)
  isplitl [H0]; · iexact H0
  isplitl [H1]; · iexact H1
  isplitl [H2]; · iexact H2
  isplitl [HM]; · iexact HM
  isplitl [HL]; · iexact HL
  isplitl [HA]; · iexact HA
  isplitl [HT0]; · iexact HT0
  isplitl [HT1]; · iexact HT1
  iintro ⟨H0, H1, H2, HM, HL, HA, HT0, HT1⟩
  isplitl [HM HL HA Hp HT0 HT1]
  · isplitl [HM HL HA]
    · iexists (stateAt m c t)
      isplitr; · ipureintro; exact carried_succ m c t
      rw [e]
      isplitl [HM]; · iexact HM
      isplitl [HL]; · iexact HL
      iexact HA
    isplitl [Hp]; · iexact Hp
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem body_row (t : Fin (cfgM m).N) :
    defs₀ (F := F) .tc (cfgM m).body ((cfgM m).bodyArgs t ((cfgM m).slots t)) = bodyAt m t := by
  unfold defs₀; rw [Defs.onTc_tc]

end Cert.AttnFwd

end
-- ==== Proof.AttnFwdFrame.lean ====
module

public import proofs.«01_k».proof.Proof.AttnFwdBody
public import Idealize.ShloMosaic.Lib.Pipeline.Kit
public import Idealize.ShloMosaic.Lib.Pipeline.Frame

@[expose] public section

set_option maxRecDepth 16384

/-! # The attention forward run

The launch from the per-point triples, and the frame. -/

noncomputable section

namespace Cert.AttnFwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel13Ideal Cert.Kernel13Ideal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The body's obligation -/

/-- What the obligation asks of a result that a point neither stores nor writes back. -/
theorem leaves_below (a : (pcfg0 (F := F)).Adm) {c : Dev nD} (D : Dat τ (Elt F) Unit ℕ (UR sig nD τ) ℕ (cfg0 a) c) (t : Fin (cfg0 a).N)
    (w : Fin (cfg0 a).W) (hi : (cfg0 a).idle w ((cfg0 a).grid.coords t) = true) (hf : ((cfg0 a).win w).flush t = false) :
    (iprop(∃ d, owns (c : Thread nD τ) (((cfg0 a).win w).stage ((cfg0 a).slots t w)) fullShare (D.before w t d)) : sProp 𝕄)
      ⊢ D.leavesExact w t := by
  rw [D.leavesExact_idle w t hi hf]

theorem last_three {P Q R S T A A' B B' C C' : sProp 𝕄} (ha : A ⊢ A') (hb : B ⊢ B') (hc : C ⊢ C') :
    iprop(P ∗ Q ∗ R ∗ S ∗ T ∗ A ∗ B ∗ C) ⊢ iprop(P ∗ Q ∗ R ∗ S ∗ T ∗ A' ∗ B' ∗ C') := by
  iintro ⟨HP, HQ, HR, HS, HT, HA, HB, HC⟩
  isplitl [HP]; · iexact HP
  isplitl [HQ]; · iexact HQ
  isplitl [HR]; · iexact HR
  isplitl [HS]; · iexact HS
  isplitl [HT]; · iexact HT
  isplitl [HA]; · iapply ha; iexact HA
  isplitl [HB]; · iapply hb; iexact HB
  iapply hc; iexact HC

set_option maxHeartbeats 4000000 in
theorem body_sound (c : Dev nD) : BodyObligation (dat (F := F) m c) (defs₀ (F := F)) Variants.none () Set.univ := fun t => by
  rw [bigSep_W0, bigSep_W0, body_row m]
  by_cases h : kb (pt m t) = qb (pt m t)
  · obtain ⟨l3, l4, l5⟩ := idle_diag m (grid0.coords t) h
    refine triple_restated (sound_diag m c t h) rfl .rfl fun _ => ?_
    unfold diagPost
    dsimp only
    rw [l3]
  · obtain ⟨l3, l4, l5⟩ := idle_below m (grid0.coords t) h
    obtain ⟨f3, f4, f5⟩ := kept_outs m t h
    refine triple_restated (sound_below m c t h) rfl .rfl fun _ => ?_
    unfold belowPost
    exact last_three (leaves_below (adm m) (dat m c) t 3 l3 f3) (leaves_below (adm m) (dat m c) t 4 l4 f4)
      (leaves_below (adm m) (dat m c) t 5 l5 f5)

/-- The core's other scoped buffers are the running values'. -/
theorem scoped_eq (c : Dev nD) : (Pipeline.scopedRest spec0 c : sProp 𝕄)
    = iprop((∃ x, owns (c : Thread nD τ) scM fullShare x) ∗ (∃ x, owns (c : Thread nD τ) scL fullShare x)
      ∗ (∃ x, owns (c : Thread nD τ) scA fullShare x)) := by
  rw [scopedRest0_eq]
  simp only [owns_whole]
  rfl

/-- They enter at whatever they hold, -/
theorem enter (c : Dev nD) : iprop(Pipeline.ΦA spec0 c ∗ Pipeline.ΦT pre0 (tbl m) c) ⊢ (dat m c).Φ 0 := by
  rw [phi_eq]
  unfold Pipeline.ΦA running
  rw [scoped_eq]
  iintro ⟨⟨⟨⟨%f, HM⟩, ⟨%g, HL⟩, ⟨%k, HA⟩⟩, Hp⟩, HT⟩
  isplitl [HM HL HA]
  · iexists ((f, g, k) : State F)
    isplitr; · ipureintro; exact fun k hk => absurd hk (Nat.succ_ne_zero k)
    isplitl [HM]; · iexact HM
    isplitl [HL]; · iexact HL
    iexact HA
  isplitl [Hp]; · iexact Hp
  iexact HT

/-- and leave so. -/
theorem leave (c : Dev nD) : (dat m c).Φ (Fin.last (cfgM m).N) ⊢ (Pipeline.ΦA spec0 c : sProp 𝕄) := by
  rw [phi_eq]
  unfold Pipeline.ΦA running
  rw [scoped_eq]
  iintro ⟨⟨%s, -, HM, HL, HA⟩, Hp, -⟩
  isplitl [HM HL HA]
  · isplitl [HM]; · iexists s.1; iexact HM
    isplitl [HL]; · iexists s.2.1; iexact HL
    iexists s.2.2; iexact HA
  iexact Hp

/-! ## The run -/

-- the launch lemma's implicit arguments are found by unfolding plain definitions in their types
set_option backward.isDefEq.respectTransparency.types false in
set_option maxHeartbeats 4000000 in
/-- Every execution ends, with the pipeline's arrays as the proof data say and every counter at zero. -/
theorem run_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track (Q' := _) pcfgs (fun _ => adm m) (dats m) (0 : Fin 1) launch0 defs₀ Variants.none m ρ main
    (hbody := fun c => (body_sound m c).loose) (hshare := fun c => (dat m c).share_full fun _ => rfl)
    (howed := fun _ _ => rfl) (V := V m) (hmain := hmain m Variants.none) (hA := arrays m) (hpf := V_pre m)
    (hin := enter m) (hout := leave m)

theorem run_main : θ_run defs (onTc (τ := τ) (main (F := F))) (s₀ m ρ) (Pipeline.FramePost (Pipeline.pin pcfgs fun _ => adm m) (dats m) 0 (V m)) :=
  (θ_run defs _ _).mono (fun _ h => h.1) (run_quiescent m ρ)

/-- The arguments end as they began, and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (by decide : main_arg0 ∈ Pipeline.restRefs sig spec0)).trans (V_arg m c _ (.inl rfl)),
      ((h.1 c).2 main_arg1 (by decide : main_arg1 ∈ Pipeline.restRefs sig spec0)).trans (V_arg m c _ (.inr (.inl rfl))),
      ((h.1 c).2 main_arg2 (by decide : main_arg2 ∈ Pipeline.restRefs sig spec0)).trans (V_arg m c _ (.inr (.inr rfl)))⟩, h.2⟩) (run_quiescent m ρ)

end Cert.AttnFwd

end
-- ==== Proof.AttnFwdTransfer.lean ====
module

public import proofs.«01_k».proof.Defs
public import proofs.«01_k».proof.Proof.AttnFwdFrame
public import proofs.«01_k».proof.Proof.Gen.Kernel13
public import Idealize.ShloMosaic.Lib.Tactic

@[expose] public section

noncomputable section

namespace Cert.AttnFwd

open Idealize.ShloMosaic Idealize.SL.Sem

/-- The two programs have the same text, so the one run is a run of both. -/
theorem frame_kernel : Cert.quiescent_Kernel13 := fun m ρ _ =>
  cast (by sl_kernel_rfl) (frame_ideal (F := Bits) m ρ)

end Cert.AttnFwd

end
-- ==== Proof.AttnBwdReal.lean ====
/- The chunked attention's gradient over the real numbers, one head at a time: `q` and `k` the queries and keys by row and
entry, `v` the values, `o` the output's cotangent, `c` the scale of the scores. A row sees the columns of its own chunk
of 64 and of the chunks before it. The kernel works on rows of 128 entries, filled up by zeros, and on the row's
logarithm of the sum of exponentials; the same numbers come out. -/
module

public import proofs.«01_k».proof.Proof.RealLift

@[expose] public section

set_option maxRecDepth 16384

noncomputable section

namespace Cert.AttnBwd

section Head

variable (q k : Fin 8192 → Fin 96 → ℝ) (v o : Fin 8192 → Fin 64 → ℝ) (c : ℝ)

/-- Row `i` sees column `j`. -/
abbrev Vis (i j : Fin 8192) : Prop := j.val / 64 ≤ i.val / 64
/-- The scores. -/
def sc (i j : Fin 8192) : ℝ := (∑ l, q i l * k j l) * c
/-- The exponentials of the visible scores. -/
def wt (i j : Fin 8192) : ℝ := if Vis i j then Real.exp (sc q k c i j) else 0
/-- A row's sum of exponentials. -/
def tot (i : Fin 8192) : ℝ := ∑ j, wt q k c i j
/-- The probabilities. -/
def pr (i j : Fin 8192) : ℝ := wt q k c i j / tot q k c i
/-- The probabilities' cotangent. -/
def dp (i j : Fin 8192) : ℝ := ∑ l, o i l * v j l
/-- A row's sum of probabilities times cotangents. -/
def del (i : Fin 8192) : ℝ := ∑ j, pr q k c i j * dp v o i j
/-- The scores' cotangent. -/
def ds (i j : Fin 8192) : ℝ := pr q k c i j * (dp v o i j - del q k v o c i)
/-- The queries' cotangent, before the scale; the keys' and the values'. -/
def dq (i : Fin 8192) (l : Fin 96) : ℝ := ∑ j, ds q k v o c i j * k j l
@[inherit_doc dq] def dk (j : Fin 8192) (l : Fin 96) : ℝ := ∑ i, ds q k v o c i j * (q i l * c)
@[inherit_doc dq] def dv (j : Fin 8192) (l : Fin 64) : ℝ := ∑ i, pr q k c i j * o i l

theorem wt_nonneg (i j : Fin 8192) : 0 ≤ wt q k c i j := by
  unfold wt
  split
  · exact (Real.exp_pos _).le
  · exact le_rfl

theorem tot_pos (i : Fin 8192) : 0 < tot q k c i :=
  Finset.sum_pos' (fun j _ => wt_nonneg q k c i j) ⟨i, Finset.mem_univ _, by
    unfold wt; rw [if_pos (le_refl _)]; exact Real.exp_pos _⟩

/-- A row's exponentials, shifted by any number, and their sum. -/
theorem wt_shift (M : ℝ) (i j : Fin 8192) : (if Vis i j then Real.exp (sc q k c i j - M) else 0) = wt q k c i j * Real.exp (-M) := by
  unfold wt
  split
  · rw [← Real.exp_add]; rfl
  · rw [zero_mul]

theorem tot_shift (M : ℝ) (i : Fin 8192) : ∑ j, wt q k c i j * Real.exp (-M) = tot q k c i * Real.exp (-M) :=
  (Finset.sum_mul ..).symm

theorem pr_shift (M : ℝ) (i j : Fin 8192) : wt q k c i j * Real.exp (-M) / (tot q k c i * Real.exp (-M)) = pr q k c i j :=
  mul_div_mul_right _ _ (Real.exp_pos _).ne'

theorem log_shift (M : ℝ) (i : Fin 8192) : M + Real.log (tot q k c i * Real.exp (-M)) = Real.log (tot q k c i) := by
  rw [Real.log_mul (tot_pos q k c i).ne' (Real.exp_pos _).ne', Real.log_exp]; ring

/-- The scores' cotangent as differentiating the quotient writes it. -/
theorem ds_shift (M : ℝ) (i j : Fin 8192) :
    (dp v o i j / (tot q k c i * Real.exp (-M))
      + -(∑ j, dp v o i j * (1 / ((tot q k c i * Real.exp (-M)) * (tot q k c i * Real.exp (-M)))) * (wt q k c i j * Real.exp (-M))))
      * (wt q k c i j * Real.exp (-M)) = ds q k v o c i j := by
  have hE := (Real.exp_pos (-M)).ne'
  have hT := (tot_pos q k c i).ne'
  have h1 : ∀ j, dp v o i j * (1 / ((tot q k c i * Real.exp (-M)) * (tot q k c i * Real.exp (-M)))) * (wt q k c i j * Real.exp (-M))
      = pr q k c i j * dp v o i j / (tot q k c i * Real.exp (-M)) := fun j => by unfold pr; field_simp
  simp only [h1, ← Finset.sum_div]
  unfold ds
  rw [← pr_shift q k c M i j]
  change _ = _ * (_ - del q k v o c i)
  change (_ + -(del q k v o c i / _)) * _ = _
  field_simp
  ring

theorem ds_hidden (i j : Fin 8192) (h : ¬ Vis i j) : ds q k v o c i j = 0 := by
  unfold ds pr wt
  rw [if_neg h, zero_div, zero_mul]

/-- A row of the output against its cotangent. -/
theorem del_out (i : Fin 8192) : ∑ l, o i l * ∑ j, v j l * pr q k c i j = del q k v o c i := by
  unfold del dp
  simp only [Finset.mul_sum]
  rw [Finset.sum_comm]
  exact Finset.sum_congr rfl fun j _ => Finset.sum_congr rfl fun l _ => by ring

end Head

/-! ## Rows filled up by zeros -/

/-- Zeros after 96 entries; zeros before 64 entries. -/
def padHi (x : Fin 96 → ℝ) (l : Fin 128) : ℝ := if h : l.val < 96 then x ⟨l.val, h⟩ else 0
@[inherit_doc padHi] def padLo (x : Fin 64 → ℝ) (l : Fin 128) : ℝ := if h : 64 ≤ l.val then x ⟨l.val - 64, by omega⟩ else 0

theorem sum_padHi (x y : Fin 96 → ℝ) : ∑ l, padHi x l * padHi y l = ∑ l, x l * y l := by
  rw [Fin.sum_univ_add (b := 32) (a := 96) fun l => padHi x l * padHi y l]
  rw [Finset.sum_congr rfl fun (l : Fin 32) _ => show padHi x (Fin.natAdd 96 l) * padHi y (Fin.natAdd 96 l) = 0 by
    unfold padHi; rw [dif_neg (by show ¬ 96 + l.val < 96; omega), zero_mul], Finset.sum_const_zero, add_zero]
  exact Finset.sum_congr rfl fun l _ => by
    unfold padHi; rw [dif_pos (show (Fin.castAdd 32 l).val < 96 from l.isLt), dif_pos (show (Fin.castAdd 32 l).val < 96 from l.isLt)]; rfl

theorem sum_padLo (x y : Fin 64 → ℝ) : ∑ l, padLo x l * padLo y l = ∑ l, x l * y l := by
  rw [Fin.sum_univ_add (b := 64) (a := 64) fun l => padLo x l * padLo y l]
  rw [Finset.sum_congr rfl fun (l : Fin 64) _ => show padLo x (Fin.castAdd 64 l) * padLo y (Fin.castAdd 64 l) = 0 by
    unfold padLo; rw [dif_neg (by show ¬ 64 ≤ l.val; omega), zero_mul], Finset.sum_const_zero, zero_add]
  have e : ∀ (x : Fin 64 → ℝ) (l : Fin 64), padLo x (Fin.natAdd 64 l) = x l := fun x l => by
    unfold padLo
    rw [dif_pos (show 64 ≤ (Fin.natAdd 64 l).val from Nat.le_add_right _ _)]
    exact congrArg x (Fin.ext (Nat.add_sub_cancel_left ..))
  exact Finset.sum_congr rfl fun l _ => by rw [e, e]

/-- A sum of rows filled up is the filled-up row of the sums. -/
theorem padHi_sum {ι : Type} (s : Finset ι) (a : ι → ℝ) (x : ι → Fin 96 → ℝ) (l : Fin 128) :
    ∑ j ∈ s, a j * padHi (x j) l = padHi (fun l => ∑ j ∈ s, a j * x j l) l := by
  unfold padHi
  split
  · rfl
  · simp
theorem padLo_sum {ι : Type} (s : Finset ι) (a : ι → ℝ) (x : ι → Fin 64 → ℝ) (l : Fin 128) :
    ∑ j ∈ s, a j * padLo (x j) l = padLo (fun l => ∑ j ∈ s, a j * x j l) l := by
  unfold padLo
  split
  · rfl
  · simp

/-! ## What the tiles compute -/

section Tiles

variable (Q K V O : Fin 8192 → Fin 128 → ℝ) (L D : Fin 8192 → ℝ)

/-- The probabilities from the row's logarithm `L`, and the scores' cotangent from the row's sum `D`. -/
def kp (i j : Fin 8192) : ℝ := if Vis i j then Real.exp ((∑ l, Q i l * K j l) - L i) else 0
@[inherit_doc kp] def kds (i j : Fin 8192) : ℝ := kp Q K L i j * ((∑ l, O i l * V j l) - D i)

theorem kp_hidden (i j : Fin 8192) (h : ¬ Vis i j) : kp Q K L i j = 0 := if_neg h
theorem kds_hidden (i j : Fin 8192) (h : ¬ Vis i j) : kds Q K V O L D i j = 0 := by
  unfold kds; rw [kp_hidden _ _ _ _ _ h, zero_mul]

end Tiles

section Same

variable (q k : Fin 8192 → Fin 96 → ℝ) (v o : Fin 8192 → Fin 64 → ℝ) (c : ℝ)

/-- The scaled queries filled up, the keys, the values, the output's cotangent. -/
def fq (i : Fin 8192) : Fin 128 → ℝ := padHi fun l => q i l * c
@[inherit_doc fq] def fk (j : Fin 8192) : Fin 128 → ℝ := padHi (k j)
@[inherit_doc fq] def fv (j : Fin 8192) : Fin 128 → ℝ := padLo (v j)

theorem kp_eq (i j : Fin 8192) : kp (fq q c) (fk k) (fun i => Real.log (tot q k c i)) i j = pr q k c i j := by
  have e : ∑ l, fq q c i l * fk k j l = sc q k c i j := by
    refine (sum_padHi _ _).trans ?_
    unfold sc
    rw [Finset.sum_mul]
    exact Finset.sum_congr rfl fun l _ => by ring
  unfold kp pr wt
  split
  · rw [e, Real.exp_sub, Real.exp_log (tot_pos q k c i)]
  · rw [zero_div]

theorem kds_eq (i j : Fin 8192) :
    kds (fq q c) (fk k) (fv v) (fv o) (fun i => Real.log (tot q k c i)) (del q k v o c) i j = ds q k v o c i j := by
  exact congrArg₂ (fun p x : ℝ => p * (x - del q k v o c i)) (kp_eq q k c i j) (sum_padLo (o i) (v j))

end Same

end Cert.AttnBwd
-- ==== Proof.AttnBwdRef.lean ====
/- The chunked attention's gradient as the derivative of its host lines, read at an index: the results are the real numbers
of `AttnBwdReal`, one head after another. -/
module

public import proofs.«01_k».proof.Proof.AttnBwdReal
public import proofs.«01_k».proof.Proof.Softmax
public import proofs.«01_k».proof.Proof.RmsHeads
public import proofs.«01_k».proof.Proof.Tiles
public import proofs.«01_k».proof.Proof.Gen.Reference14Ideal.Run
public import proofs.«01_k».proof.Proof.Gen.Reference14Ideal.Read
public import Idealize.ShloMosaic.Lib.Pointwise
public import Idealize.ShloMosaic.Lib.ValueIdx

@[expose] public section

set_option maxRecDepth 16384

noncomputable section

namespace Cert.AttnBwd

open Idealize.ShloMosaic Idealize.ShloMosaic.TcCoe Idealize.SL.Sem Idealize.ShloMosaic.StableHlo
open Cert.Reference14Ideal Cert.Reference14Ideal.Gen Cert.Reference14Ideal.Read Cert.RealLift Cert.Tiles

/-- The exponential of a score less `M`, a hidden score being minus infinity. -/
theorem exp_visible (p : Prop) [Decidable p] (s M : ℝ) :
    Ideal.exp ((if p then ((s : ℝ) : EReal) else (⊥ : EReal)) - ((M : ℝ) : EReal)) = (((if p then Real.exp (s - M) else 0 : ℝ)) : EReal) := by
  by_cases hp : p
  · rw [if_pos hp, if_pos hp, RealLift.sub, RealLift.exp]
  · rw [if_neg hp, if_neg hp, EReal.bot_sub]
    exact Ideal.exp_bot

/-- The scale of the scores: the single-precision value nearest one over the root of 96. -/
def scale : ℝ := 13698540 * (2 : ℝ) ^ (-27 : ℤ)
theorem scale_ne : scale ≠ 0 := by unfold scale; positivity
theorem word_scale : Ideal.ofBits .f32 0x3DD105EC#32 = ((scale : ℝ) : EReal) := by
  simp [Ideal.ofBits, Ideal.ieee, scale, -EReal.coe_mul]

/-- A number divided by the chunk length, as the host's floor division spells it. -/
theorem chunk_word (i : Fin 8192) : val_main_v4 (F := Ideal) (ix1 i) = BitVec.ofNat 32 (i.val / 64) := by
  pointwise [val_main_v4, val_main_call0_v13, val_main_call0_v12, val_main_call0_c_0, val_main_call0_v11, val_main_call0_v10, val_main_call0_v9,
    val_main_call0_c, val_main_call0_v8, val_main_call0_v7, val_main_call0_v6, val_main_call0_v5, val_main_call0_v2, val_main_call0_v1,
    val_main_call0_v0, val_main_c, val_main_v3]
  revert i
  decide +kernel

theorem mask_at (h : Fin 8) (i j : Fin 8192) : val_main_v11_1 (F := Ideal) (ix4 0 h i j) = BitVec.ofBool (decide (Vis i j)) := by
  pointwise [val_main_v11_1, val_main_v10, val_main_v9, val_main_v8, val_main_v7, val_main_v6, val_main_v5, chunk_word]
  have key : ∀ a b : Fin 128, IntOp.cmpi CmpIPredicate.sle (BitVec.ofNat 32 a.val) (BitVec.ofNat 32 b.val) = BitVec.ofBool (decide (a.val ≤ b.val)) := by
    decide +kernel
  exact key ⟨j.val / 64, by omega⟩ ⟨i.val / 64, by omega⟩

variable (x0 x1 : (⟨S1x8192x8x96, .f32⟩ : BufTy).Contents (Elt Ideal)) (x2 x3 : (⟨S1x8192x8x64, .f32⟩ : BufTy).Contents (Elt Ideal))
  (q k : Fin 8 → Fin 8192 → Fin 96 → ℝ) (v o : Fin 8 → Fin 8192 → Fin 64 → ℝ)
  (h0 : ∀ r h l, x0 (ix4 0 r h l) = ((q h r l : ℝ) : EReal)) (h1 : ∀ r h l, x1 (ix4 0 r h l) = ((k h r l : ℝ) : EReal))
  (h2 : ∀ r h l, x2 (ix4 0 r h l) = ((v h r l : ℝ) : EReal)) (h3 : ∀ r h l, x3 (ix4 0 r h l) = ((o h r l : ℝ) : EReal))

include h0 h1 in
/-- The masked scores. -/
theorem ref_sc (h : Fin 8) (i j : Fin 8192) :
    val_main_v11_0 (F := Ideal) x0 x1 (ix4 0 h i j) = if Vis i j then ((sc (q h) (k h) scale i j : ℝ) : EReal) else (⊥ : EReal) := by
  pointwise [val_main_v11_0, mask_at, val_main_v2, val_main_v1, val_main_cst, val_main_v0, val_main_call1_v2, val_main_call1_v0, val_main_cst_0, h0, h1]
  simp only [word_scale, word_neg_inf, RealLift.mul, RealLift.sum]
  rfl

include h0 h1 in
/-- A row's maximum is a real number. -/
theorem ref_max (h : Fin 8) (i : Fin 8192) : ∃ M : ℝ, val_main_v19 (F := Ideal) x0 x1 (ix3 0 h i) = ((M : ℝ) : EReal) := by
  obtain ⟨M, hM⟩ := Softmax.reduce_max_visible (val_main_v11_0 (F := Ideal) x0 x1) (val_main_cst_1 (F := Ideal))
    reducesTo_S1x8x8192x8192_S1x8x8192_d3 h_S_ word_neg_inf
    0 h i (fun j => by rw [ref_sc x0 x1 q k h0 h1]; split; exact EReal.coe_ne_top _; exact bot_ne_top) i
    (by rw [ref_sc x0 x1 q k h0 h1, if_pos (le_refl _)]; exact EReal.coe_ne_bot _)
  have e12 : val_main_v12 (F := Ideal) x0 x1 (ix3 0 h i) = ((M : ℝ) : EReal) := hM
  have e18 : val_main_v18 (F := Ideal) (ix3 0 h i) = (⊥ : EReal) := by
    rw [val_main_v18_apply]; exact word_neg_inf
  refine ⟨M, ?_⟩
  rw [val_main_v19_apply, e12, e18]
  exact max_eq_right bot_le

section Shift

variable (h : Fin 8) (i : Fin 8192) (M : ℝ) (hM : val_main_v19 (F := Ideal) x0 x1 (ix3 0 h i) = ((M : ℝ) : EReal))

include h0 h1 hM

theorem ref_exp (j : Fin 8192) :
    val_main_v32 (F := Ideal) x0 x1 (ix4 0 h i j) = ((wt (q h) (k h) scale i j * Real.exp (-M) : ℝ) : EReal) := by
  pointwise [val_main_v32, val_main_v31, val_main_v30, val_main_v29, hM, ref_sc x0 x1 q k h0 h1]
  rw [← wt_shift]
  exact exp_visible (Vis i j) _ M

theorem ref_total : val_main_v33 (F := Ideal) x0 x1 (ix3 0 h i) = ((tot (q h) (k h) scale i * Real.exp (-M) : ℝ) : EReal) := by
  pointwise [val_main_v33, val_main_cst_9, ref_exp x0 x1 q k h0 h1 h i M hM]
  rw [RealLift.sum, tot_shift]

end Shift

theorem shift_ne (h : Fin 8) (i : Fin 8192) (M : ℝ) : tot (q h) (k h) scale i * Real.exp (-M) ≠ 0 :=
  (mul_pos (tot_pos _ _ _ i) (Real.exp_pos _)).ne'

include h0 h1 in
theorem ref_pr (h : Fin 8) (i j : Fin 8192) :
    val_main_v36 (F := Ideal) x0 x1 (ix4 0 h i j) = ((pr (q h) (k h) scale i j : ℝ) : EReal) := by
  obtain ⟨M, hM⟩ := ref_max x0 x1 q k h0 h1 h i
  pointwise [val_main_v36, val_main_v35, val_main_v34, ref_exp x0 x1 q k h0 h1 h i M hM, ref_total x0 x1 q k h0 h1 h i M hM]
  rw [RealLift.div _ (shift_ne q k h i M), pr_shift]

include h2 h3 in
theorem ref_dp (h : Fin 8) (i j : Fin 8192) : val_main_v43 (F := Ideal) x2 x3 (ix4 0 h i j) = ((dp (v h) (o h) i j : ℝ) : EReal) := by
  pointwise [val_main_v43, val_main_v42, h2, h3]
  simp only [RealLift.mul, RealLift.sum]
  rfl

include h0 h1 h2 h3 in
theorem ref_ds (h : Fin 8) (i j : Fin 8192) :
    val_main_v61 (F := Ideal) x0 x1 x2 x3 (ix4 0 h i j) = ((ds (q h) (k h) (v h) (o h) scale i j * scale : ℝ) : EReal) := by
  obtain ⟨M, hM⟩ := ref_max x0 x1 q k h0 h1 h i
  have hT := shift_ne q k h i M
  pointwise [RmsHeads.reduceAdd_03, val_main_v61, val_main_v60, val_main_cst_13, val_main_v59, mask_at, val_main_call2_v0, val_main_call2_cst,
    val_main_v58, val_main_v57, val_main_v56, val_main_v55, val_main_v54, val_main_cst_12, val_main_v53, val_main_v52, val_main_v51, val_main_v50,
    val_main_v49, val_main_cst_11, val_main_v48, val_main_v47, val_main_v46, val_main_v39, val_main_v38, val_main_cst_10, val_main_v37, val_main_v34,
    ref_dp x2 x3 v o h2 h3, ref_exp x0 x1 q k h0 h1 h i M hM, ref_total x0 x1 q k h0 h1 h i M hM]
  simp only [word_scale, RealLift.one, RealLift.mul]
  simp only [RealLift.div _ hT, RealLift.div _ (mul_ne_zero hT hT), RealLift.mul, RealLift.sum, RealLift.neg, RealLift.add]
  rw [ds_shift]
  split
  · exact RealLift.mul _ _
  · rename_i hv
    rw [ds_hidden _ _ _ _ _ _ _ hv, RealLift.zero, RealLift.mul]

include h0 h1 h2 h3 in
theorem ref_dk (r : Fin 8192) (h : Fin 8) (l : Fin 96) :
    val_main_v63 (F := Ideal) x0 x1 x2 x3 (ix4 0 r h l) = ((dk (q h) (k h) (v h) (o h) scale r l : ℝ) : EReal) := by
  pointwise [val_main_v63, val_main_v62, ref_ds x0 x1 x2 x3 q k v o h0 h1 h2 h3, h0]
  simp only [RealLift.mul, RealLift.sum]
  exact congrArg _ (Finset.sum_congr rfl fun i _ => by ring)

include h0 h1 h2 h3 in
theorem ref_dq (r : Fin 8192) (h : Fin 8) (l : Fin 96) :
    val_main_v65 (F := Ideal) x0 x1 x2 x3 (ix4 0 r h l) = ((dq (q h) (k h) (v h) (o h) scale r l * scale : ℝ) : EReal) := by
  pointwise [val_main_v65, val_main_v64, ref_ds x0 x1 x2 x3 q k v o h0 h1 h2 h3, h1]
  simp only [RealLift.mul, RealLift.sum]
  refine congrArg _ ?_
  unfold dq
  rw [Finset.sum_mul]
  exact Finset.sum_congr rfl fun i _ => by ring

include h0 h1 h3 in
theorem ref_dv (r : Fin 8192) (h : Fin 8) (l : Fin 64) :
    val_main_v45 (F := Ideal) x0 x1 x3 (ix4 0 r h l) = ((dv (q h) (k h) (o h) scale r l : ℝ) : EReal) := by
  pointwise [val_main_v45, val_main_v44, val_main_v42, ref_pr x0 x1 q k h0 h1, h3]
  simp only [RealLift.mul, RealLift.sum]
  exact congrArg _ (Finset.sum_congr rfl fun i _ => mul_comm _ _)

end Cert.AttnBwd
-- ==== Proof.AttnFwdReal.lean ====
/- One row of the attention's forward over the real numbers. The kernel meets the columns block by block and keeps a row's largest
score so far with the sums of the exponentials below it; whatever the largest is, it falls out of the quotient and of the
logarithm. -/
module

public import proofs.«01_k».proof.Proof.AttnBwdRef

@[expose] public section

set_option maxRecDepth 16384

noncomputable section

namespace Cert.AttnFwd

open Idealize.ShloMosaic Cert.RealLift
open Cert.AttnBwd (Vis sc wt tot pr padHi padLo fq fk fv exp_visible sum_padHi)

section Row

variable {n : ℕ} (S : ℝ) (A : Fin 128 → ℝ) (m l : EReal) (acc : Fin 128 → EReal)

/-- The sum `S` and the weighted sums `A` as they are kept: below a real number. -/
def Kept : Prop :=
  ∃ M : ℝ, m = (M : EReal) ∧ l = ((S * Real.exp (-M) : ℝ) : EReal) ∧ ∀ x, acc x = ((A x * Real.exp (-M) : ℝ) : EReal)
/-- Nothing met yet. -/
def Fresh : Prop := m = ⊥ ∧ l = 0 ∧ (∀ x, acc x = 0) ∧ S = 0 ∧ ∀ x, A x = 0

variable (P : Fin n → Prop) [DecidablePred P] (t : Fin n → ℝ) (V : Fin n → Fin 128 → ℝ) (B : ℝ)

/-- The weight of a column of a block. -/
def bw (b : Fin n) : ℝ := if P b then Real.exp (t b) else 0

theorem bw_shift (M : ℝ) (b : Fin n) :
    Ideal.exp ((if P b then ((t b : ℝ) : EReal) else ⊥) - ((M : ℝ) : EReal)) = ((bw P t b * Real.exp (-M) : ℝ) : EReal) := by
  rw [exp_visible]
  refine congrArg _ ?_
  unfold bw
  split
  · rw [← Real.exp_add]; rfl
  · rw [zero_mul]

variable {S A m l acc}

/-- One block more, its largest score being `B`. -/
theorem kept_step (h : Fresh S A m l acc ∨ Kept S A m l acc) :
    Kept (S + ∑ b, bw P t b) (fun x => A x + ∑ b, bw P t b * V b x) (max m (B : EReal))
      (Ideal.exp (m - max m (B : EReal)) * l + ∑ b, Ideal.exp ((if P b then ((t b : ℝ) : EReal) else ⊥) - max m (B : EReal)))
      (fun x => Ideal.exp (m - max m (B : EReal)) * acc x
        + ∑ b, Ideal.exp ((if P b then ((t b : ℝ) : EReal) else ⊥) - max m (B : EReal)) * ((V b x : ℝ) : EReal)) := by
  have sums : ∀ M : ℝ, (∑ b, bw P t b * Real.exp (-M) = (∑ b, bw P t b) * Real.exp (-M))
      ∧ ∀ x, ∑ b, bw P t b * Real.exp (-M) * V b x = (∑ b, bw P t b * V b x) * Real.exp (-M) := fun M =>
    ⟨(Finset.sum_mul ..).symm, fun x => by rw [Finset.sum_mul]; exact Finset.sum_congr rfl fun b _ => by ring⟩
  rcases h with ⟨hm, hl, ha, hS, hA⟩ | ⟨M, hm, hl, ha⟩
  · rw [hm, max_eq_right bot_le]
    simp only [bw_shift, EReal.bot_sub, Ideal.exp_bot, hl, ha, hS, hA, zero_mul, zero_add, RealLift.mul, RealLift.sum, (sums B).1, (sums B).2]
    exact ⟨B, rfl, rfl, fun _ => rfl⟩
  · have e : ∀ s : ℝ, Real.exp (M - max M B) * (s * Real.exp (-M)) = s * Real.exp (-max M B) := fun s => by
      rw [show -max M B = (M - max M B) + -M by ring, Real.exp_add]; ring
    rw [hm, RealLift.max_coe]
    simp only [bw_shift, RealLift.sub, RealLift.exp, hl, ha, RealLift.mul, RealLift.sum, (sums _).1, (sums _).2, RealLift.add, e, ← add_mul]
    exact ⟨_, rfl, rfl, fun _ => rfl⟩

/-- What the last block leaves: the quotient and the logarithm. -/
theorem kept_quotient (h : Kept S A m l acc) (hS : 0 < S) (x : Fin 128) : Ideal.div (acc x) l = ((A x / S : ℝ) : EReal) := by
  obtain ⟨M, -, hl, ha⟩ := h
  rw [ha, hl, RealLift.div _ (mul_pos hS (Real.exp_pos _)).ne', mul_div_mul_right _ _ (Real.exp_pos _).ne']

theorem kept_log (h : Kept S A m l acc) (hS : 0 < S) : m + Ideal.log l = ((Real.log S : ℝ) : EReal) := by
  obtain ⟨M, hm, hl, -⟩ := h
  rw [hm, hl, Ideal.log_coe, if_neg (not_le.mpr (mul_pos hS (Real.exp_pos _)))]
  refine (RealLift.add _ _).trans (congrArg _ ?_)
  rw [Real.log_mul hS.ne' (Real.exp_pos _).ne', Real.log_exp]; ring

end Row

section Head

variable (q k : Fin 8192 → Fin 96 → ℝ) (c : ℝ) (Q K : Fin 8192 → Fin 128 → ℝ)

/-- The weights from the filled-up rows. -/
def kw (i j : Fin 8192) : ℝ := if Vis i j then Real.exp (∑ l, Q i l * K j l) else 0

theorem kw_eq (i j : Fin 8192) : kw (fq q c) (fk k) i j = wt q k c i j := by
  have e : ∑ l, fq q c i l * fk k j l = sc q k c i j := by
    refine (sum_padHi _ _).trans ?_
    unfold sc
    rw [Finset.sum_mul]
    exact Finset.sum_congr rfl fun l _ => by ring
  unfold kw wt
  rw [e]

theorem kw_hidden (i j : Fin 8192) (h : ¬ Vis i j) : kw Q K i j = 0 := if_neg h

end Head

end Cert.AttnFwd
-- ==== Proof.AttnBwdTile.lean ====
/- One pair of blocks of the attention gradient over the real numbers: the tile's probabilities and the scores' cotangent, and
what the pair adds to the three results. -/
module

public import proofs.«01_k».proof.Proof.AttnBwdFrame
public import proofs.«01_k».proof.Proof.AttnBwdReal
public import proofs.«01_k».proof.Proof.Tiles
public import Idealize.ShloMosaic.Lib.Pointwise

@[expose] public section

set_option maxRecDepth 16384

noncomputable section

namespace Cert.AttnBwd

open Idealize.ShloMosaic Idealize.ShloMosaic.TcCoe
open Idealize.SL.Sem
open Cert.Kernel14Ideal Cert.Kernel14Ideal.Gen Cert.RealLift Cert.Tiles

/-! ## The chunk mask of a tile -/

/-- The words of the columns' chunks. -/
theorem col_chunk (a b : Fin 512) : k0_pay18 (ix2 a b) = BitVec.ofNat 32 (b.val / 64) := by
  pointwise [k0_pay18]
  revert b
  decide +kernel

/-- The rows' chunks, as the tile's floor division spells them. -/
theorem row_chunk : ∀ a : Fin 512,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

theorem chunk_le : ∀ a b : Fin 8, IntOp.cmpi CmpIPredicate.sle (BitVec.ofNat 32 a.val) (BitVec.ofNat 32 b.val) = BitVec.ofBool (decide (a.val ≤ b.val)) := by
  decide +kernel

/-- A tile's entries where the row sees the column, and zero elsewhere. -/
theorem masked_at (e : FVec Ideal S512x512 .f32) (a b : Fin 512) :
    k0_pay21 e (iota .tc S512x512 32 [0] iota_S512x512_d0_w32) k0_pay18 64#32 k0_pay19 k0_pay20 (ix2 a b)
      = if b.val / 64 ≤ a.val / 64 then e (ix2 a b) else 0 := by
  pointwise [k0_pay21, k0_pay19, k0_pay20, col_chunk]
  rw [row_chunk, chunk_le ⟨b.val / 64, by omega⟩ ⟨a.val / 64, by omega⟩]
  by_cases h : b.val / 64 ≤ a.val / 64
  · rw [decide_eq_true h, if_pos h]; rfl
  · rw [decide_eq_false h, if_neg h]; rfl

section Payload

variable (x0 x1 x2 x3 : Vec Ideal S512x128 .bf16) (x4 x5 : Vec Ideal S512x128 .f32)
  (q k v o : Fin 512 → Fin 128 → ℝ) (L D : Fin 512 → ℝ)
  (h0 : ∀ a l, x0 (ix2 a l) = ((q a l : ℝ) : EReal)) (h1 : ∀ a l, x1 (ix2 a l) = ((k a l : ℝ) : EReal))
  (h2 : ∀ a l, x2 (ix2 a l) = ((v a l : ℝ) : EReal)) (h3 : ∀ a l, x3 (ix2 a l) = ((o a l : ℝ) : EReal))
  (h4 : ∀ a l, x4 (ix2 a l) = ((L a : ℝ) : EReal)) (h5 : ∀ a l, x5 (ix2 a l) = ((D a : ℝ) : EReal))

theorem lane_at (x : Vec Ideal S512x128 .f32) (a : Fin 512) : lane x (ix2 a 0) = x (ix2 a 0) :=
  congrArg x (funext fun i => Fin.ext (match i with
    | 0 => (by show 0 + 1 * a.val = a.val; omega)
    | 1 => rfl))

/-- The exponentials of a tile, unmasked; the cotangent less the row's sum. -/
def ex (a b : Fin 512) : ℝ := Real.exp ((∑ l, q a l * k b l) - L a)
@[inherit_doc ex] def dpd (a b : Fin 512) : ℝ := (∑ l, o a l * v b l) - D a

include h0 h1 h4 in
theorem ex_below (a b : Fin 512) : k0_pay10 (F := Ideal) x0 x1 (lane x4) (ix2 a b) = ((ex q k L a b : ℝ) : EReal) := by
  have e := (lane_at x4 a).trans (h4 a 0)
  generalize lane x4 = y at e ⊢
  pointwise [k0_pay10, k0_pay7, k0_pay8, h0, h1, e]
  simp only [RealLift.mul, RealLift.sum, RealLift.sub, RealLift.exp]
  rfl

include h0 h1 h4 in
theorem ex_diag (a b : Fin 512) : k0_pay17 (F := Ideal) x0 x1 (lane x4) (ix2 a b) = ((ex q k L a b : ℝ) : EReal) := by
  have e := (lane_at x4 a).trans (h4 a 0)
  generalize lane x4 = y at e ⊢
  pointwise [k0_pay17, k0_pay14, k0_pay15, h0, h1, e]
  simp only [RealLift.mul, RealLift.sum, RealLift.sub, RealLift.exp]
  rfl

include h0 h1 h2 h3 h4 h5 in
theorem ds_below (a b : Fin 512) : dsBelow x0 x1 x2 x3 x4 x5 (ix2 a b) = ((ex q k L a b * dpd v o D a b : ℝ) : EReal) := by
  have e := (lane_at x5 a).trans (h5 a 0)
  have f := ex_below x0 x1 x4 q k L h0 h1 h4
  unfold dsBelow
  generalize lane x5 = y at e ⊢
  generalize lane x4 = z at f ⊢
  pointwise [k0_pay12, k0_pay9, h2, h3, e, f]
  simp only [RealLift.mul, RealLift.sum, RealLift.sub]
  rfl

/-- The masked exponentials of a tile on the diagonal. -/
def exm (a b : Fin 512) : ℝ := if b.val / 64 ≤ a.val / 64 then ex q k L a b else 0

include h0 h1 h4 in
theorem exm_diag (a b : Fin 512) :
    k0_pay21 (F := Ideal) (k0_pay17 x0 x1 (lane x4)) (iota .tc S512x512 32 [0] iota_S512x512_d0_w32) k0_pay18 64#32 k0_pay19 k0_pay20 (ix2 a b)
      = ((exm q k L a b : ℝ) : EReal) := by
  rw [masked_at, ex_diag x0 x1 x4 q k L h0 h1 h4]
  unfold exm
  by_cases h : b.val / 64 ≤ a.val / 64
  · rw [if_pos h, if_pos h]
  · rw [if_neg h, if_neg h]; rfl

include h0 h1 h2 h3 h4 h5 in
theorem ds_diag (a b : Fin 512) : dsDiag x0 x1 x2 x3 x4 x5 (ix2 a b) = ((exm q k L a b * dpd v o D a b : ℝ) : EReal) := by
  have e := (lane_at x5 a).trans (h5 a 0)
  have f := exm_diag x0 x1 x4 q k L h0 h1 h4
  unfold dsDiag
  generalize lane x5 = y at e ⊢
  generalize k0_pay17 x0 x1 (lane x4) = z at f ⊢
  generalize iota .tc S512x512 32 [0] iota_S512x512_d0_w32 = w1 at f ⊢
  generalize k0_pay18 = w2 at f ⊢
  generalize k0_pay19 = w3 at f ⊢
  generalize k0_pay20 = w4 at f ⊢
  pointwise [k0_pay23, k0_pay16, h2, h3, e, f]
  simp only [RealLift.mul, RealLift.sum, RealLift.sub]
  rfl

include h0 h1 h3 h4 in
theorem dv_below (a8 : Vec Ideal S512x128 .f32) (b : Fin 512) (l : Fin 128) :
    dvBelow x0 x1 x3 x4 a8 (ix2 b l) = a8 (ix2 b l) + ((∑ a, ex q k L a b * o a l : ℝ) : EReal) := by
  have f := ex_below x0 x1 x4 q k L h0 h1 h4
  unfold dvBelow
  generalize lane x4 = z at f ⊢
  pointwise [k0_pay11, k0_pay9, h3, f]
  simp only [RealLift.mul, RealLift.sum]

include h0 h1 h3 h4 in
theorem dv_diag (b : Fin 512) (l : Fin 128) :
    dvDiag x0 x1 x3 x4 (ix2 b l) = ((∑ a, exm q k L a b * o a l : ℝ) : EReal) := by
  have f := exm_diag x0 x1 x4 q k L h0 h1 h4
  unfold dvDiag
  generalize k0_pay17 x0 x1 (lane x4) = z at f ⊢
  generalize iota .tc S512x512 32 [0] iota_S512x512_d0_w32 = w1 at f ⊢
  generalize k0_pay18 = w2 at f ⊢
  generalize k0_pay19 = w3 at f ⊢
  generalize k0_pay20 = w4 at f ⊢
  pointwise [k0_pay22, k0_pay16, k0_pay3, h3, f]
  simp only [RealLift.mul, RealLift.sum]

include h0 h1 h2 h3 h4 h5 in
theorem dk_below (a7 : Vec Ideal S512x128 .f32) (b : Fin 512) (l : Fin 128) :
    dkBelow x0 x1 x2 x3 x4 x5 a7 (ix2 b l) = a7 (ix2 b l) + ((∑ a, ex q k L a b * dpd v o D a b * q a l : ℝ) : EReal) := by
  have f := ds_below x0 x1 x2 x3 x4 x5 q k v o L D h0 h1 h2 h3 h4 h5
  unfold dkBelow
  unfold dsBelow at f
  generalize lane x4 = z at f ⊢
  generalize lane x5 = y at f ⊢
  pointwise [k0_pay13, k0_pay7, h0, f]
  simp only [RealLift.mul, RealLift.sum]

include h0 h1 h2 h3 h4 h5 in
theorem dk_diag (b : Fin 512) (l : Fin 128) :
    dkDiag x0 x1 x2 x3 x4 x5 (ix2 b l) = ((∑ a, exm q k L a b * dpd v o D a b * q a l : ℝ) : EReal) := by
  have f := ds_diag x0 x1 x2 x3 x4 x5 q k v o L D h0 h1 h2 h3 h4 h5
  unfold dkDiag
  generalize dsDiag x0 x1 x2 x3 x4 x5 = z at f ⊢
  pointwise [k0_pay5, k0_pay14, k0_pay24, k0_pay2, h0, f]
  simp only [RealLift.mul, RealLift.sum]

/-- A block put over rows `512 n` and the next. -/
theorem put_at (a6 : Vec Ideal S8192x128 .f32) (n : ℕ) (w : FVec Ideal S512x128 .f32) (r : Fin 8192) (l : Fin 128) :
    VecWindow.put a6 ![512 * n, 0] S512x128.size w (ix2 r l)
      = if r.val / 512 = n then w (ix2 (⟨r.val % 512, Nat.mod_lt _ (by norm_num)⟩ : Fin 512) l) else a6 (ix2 r l) := by
  unfold VecWindow.put
  by_cases h : r.val / 512 = n
  · have hin : ∀ a : Fin 2, (![512 * n, 0] : Fin 2 → ℕ) a ≤ ((ix2 r l : S8192x128.Idx) a).val
        ∧ ((ix2 r l : S8192x128.Idx) a).val < (![512 * n, 0] : Fin 2 → ℕ) a + S512x128.size a := fun a => match a with
      | 0 => (by show 512 * n ≤ r.val ∧ r.val < 512 * n + 512; omega)
      | 1 => (by show 0 ≤ l.val ∧ l.val < 0 + 128; omega)
    rw [if_pos h]
    refine (dif_pos hin).trans (congrArg w (funext fun a => Fin.ext (match a with
      | 0 => (by show r.val - 512 * n = r.val % 512; omega)
      | 1 => (by show l.val - 0 = l.val; omega))))
  · rw [if_neg h]
    refine dif_neg fun hin => h ?_
    have h2 : 512 * n ≤ r.val ∧ r.val < 512 * n + 512 := hin 0
    omega

theorem window_at (a6 : Vec Ideal S8192x128 .f32) (n : ℕ) (hn : n < 16) (a : Fin 512) (l : Fin 128) :
    VecWindow.window a6 ![512 * n, 0] S512x128.size (rows_fit hn) (ix2 a l) = a6 (ix2 ⟨512 * n + a.val, by omega⟩ l) :=
  congrArg a6 (funext fun i => Fin.ext (match i with
    | 0 => (by show 512 * n + 1 * a.val = 512 * n + a.val; omega)
    | 1 => (by show 0 + 1 * l.val = l.val; omega)))

/-- The query side with one more pair: the rows of block `n` take the tile `z` times the keys. -/
theorem pay_dq (z : FVec Ideal S512x512 .bf16) (w : FVec Ideal S512x128 .f32) (f : Fin 512 → Fin 512 → ℝ)
    (hz : ∀ a b, z (ix2 a b) = ((f a b : ℝ) : EReal)) (h1 : ∀ a l, x1 (ix2 a l) = ((k a l : ℝ) : EReal)) (a : Fin 512) (l : Fin 128) :
    k0_pay4 (k0_pay8 x1) z w (ix2 a l) = w (ix2 a l) + ((∑ b, f a b * k b l : ℝ) : EReal)
      ∧ k0_pay6 (k0_pay15 x1) z w (ix2 a l) = w (ix2 a l) + ((∑ b, f a b * k b l : ℝ) : EReal) := by
  constructor
  · pointwise [k0_pay4, k0_pay8, hz, h1]
    simp only [RealLift.mul, RealLift.sum]
  · pointwise [k0_pay6, k0_pay15, hz, h1]
    simp only [RealLift.mul, RealLift.sum]

end Payload

/-! ## One pair -/

/-- The rows and the columns of a pair's tile. -/
def rq (p : Fin 136) (a : Fin 512) : Fin 8192 := ⟨512 * qb p + a.val, by have := qb_lt p; omega⟩
@[inherit_doc rq] def rk (p : Fin 136) (b : Fin 512) : Fin 8192 := ⟨512 * kb p + b.val, by have := kb_lt p; omega⟩

section Step

variable (p : Fin 136) (x0 x1 x2 x3 : Vec Ideal S512x128 .bf16) (x4 x5 : Vec Ideal S512x128 .f32) (s : State Ideal)
  (Q K V O : Fin 8192 → Fin 128 → ℝ) (L D : Fin 8192 → ℝ)
  (h0 : ∀ a l, x0 (ix2 a l) = ((Q (rq p a) l : ℝ) : EReal)) (h1 : ∀ a l, x1 (ix2 a l) = ((K (rk p a) l : ℝ) : EReal))
  (h2 : ∀ a l, x2 (ix2 a l) = ((V (rk p a) l : ℝ) : EReal)) (h3 : ∀ a l, x3 (ix2 a l) = ((O (rq p a) l : ℝ) : EReal))
  (h4 : ∀ a l, x4 (ix2 a l) = ((L (rq p a) : ℝ) : EReal)) (h5 : ∀ a l, x5 (ix2 a l) = ((D (rq p a) : ℝ) : EReal))

theorem vis_diag (h : kb p = qb p) (a b : Fin 512) : Vis (rq p a) (rk p b) ↔ b.val / 64 ≤ a.val / 64 := by
  show (512 * kb p + b.val) / 64 ≤ (512 * qb p + a.val) / 64 ↔ _
  omega

theorem vis_below (h : kb p ≠ qb p) (a b : Fin 512) : Vis (rq p a) (rk p b) := by
  have := kb_le p
  show (512 * kb p + b.val) / 64 ≤ (512 * qb p + a.val) / 64
  omega

theorem kp_diag (h : kb p = qb p) (a b : Fin 512) :
    exm (fun a => Q (rq p a)) (fun b => K (rk p b)) (fun a => L (rq p a)) a b = kp Q K L (rq p a) (rk p b) := by
  unfold exm kp
  by_cases hv : b.val / 64 ≤ a.val / 64
  · rw [if_pos hv, if_pos ((vis_diag p h a b).mpr hv)]; rfl
  · rw [if_neg hv, if_neg fun hn => hv ((vis_diag p h a b).mp hn)]

theorem kp_below (h : kb p ≠ qb p) (a b : Fin 512) :
    ex (fun a => Q (rq p a)) (fun b => K (rk p b)) (fun a => L (rq p a)) a b = kp Q K L (rq p a) (rk p b) := by
  unfold kp
  rw [if_pos (vis_below p h a b)]; rfl

include h0 h1 h3 h4 in
/-- The values' side after a pair. -/
theorem step_v (b : Fin 512) (l : Fin 128) : (step p x0 x1 x2 x3 x4 x5 s).2.2 (ix2 b l)
    = (if kb p = qb p then 0 else s.2.2 (ix2 b l)) + ((∑ a, kp Q K L (rq p a) (rk p b) * O (rq p a) l : ℝ) : EReal) := by
  unfold step
  by_cases h : kb p = qb p
  · rw [if_pos h, if_pos h, zero_add]
    refine (dv_diag x0 x1 x3 x4 _ _ _ _ h0 h1 h3 h4 b l).trans (congrArg _ (Finset.sum_congr rfl fun a _ => ?_))
    rw [kp_diag p Q K L h]
  · rw [if_neg h, if_neg h]
    refine (dv_below x0 x1 x3 x4 _ _ _ _ h0 h1 h3 h4 _ b l).trans (congrArg (fun x : ℝ => _ + (x : EReal)) (Finset.sum_congr rfl fun a _ => ?_))
    rw [kp_below p Q K L h]

include h0 h1 h2 h3 h4 h5 in
/-- The keys' side after a pair. -/
theorem step_k (b : Fin 512) (l : Fin 128) : (step p x0 x1 x2 x3 x4 x5 s).2.1 (ix2 b l)
    = (if kb p = qb p then 0 else s.2.1 (ix2 b l)) + ((∑ a, kds Q K V O L D (rq p a) (rk p b) * Q (rq p a) l : ℝ) : EReal) := by
  unfold step
  by_cases h : kb p = qb p
  · rw [if_pos h, if_pos h, zero_add]
    refine (dk_diag x0 x1 x2 x3 x4 x5 _ _ _ _ _ _ h0 h1 h2 h3 h4 h5 b l).trans (congrArg _ (Finset.sum_congr rfl fun a _ => ?_))
    rw [kp_diag p Q K L h]; rfl
  · rw [if_neg h, if_neg h]
    refine (dk_below x0 x1 x2 x3 x4 x5 _ _ _ _ _ _ h0 h1 h2 h3 h4 h5 _ b l).trans
      (congrArg (fun x : ℝ => _ + (x : EReal)) (Finset.sum_congr rfl fun a _ => ?_))
    rw [kp_below p Q K L h]; rfl

include h0 h1 h2 h3 h4 h5 in
/-- The queries' side after a pair: the rows of its block take the tile's part. -/
theorem step_q (r : Fin 8192) (l : Fin 128) : (step p x0 x1 x2 x3 x4 x5 s).1 (ix2 r l)
    = (if p.val = 0 then 0 else s.1 (ix2 r l))
      + ((if r.val / 512 = qb p then ∑ b, kds Q K V O L D r (rk p b) * K (rk p b) l else 0 : ℝ) : EReal) := by
  have hrow : ∀ h : r.val / 512 = qb p, rq p ⟨r.val % 512, Nat.mod_lt _ (by norm_num)⟩ = r := fun h =>
    Fin.ext (by show 512 * qb p + r.val % 512 = r.val; omega)
  have hwin : ∀ (a6 : Vec Ideal S8192x128 .f32) (h : r.val / 512 = qb p),
      VecWindow.window a6 ![512 * qb p, 0] S512x128.size (rows_fit (qb_lt p)) (ix2 (⟨r.val % 512, Nat.mod_lt _ (by norm_num)⟩ : Fin 512) l)
        = a6 (ix2 r l) := fun a6 h => (window_at a6 _ (qb_lt p) _ l).trans (congrArg (fun r => a6 (ix2 r l)) (hrow h))
  have hds : ∀ (h : r.val / 512 = qb p) (b : Fin 512), kds Q K V O L D (rq p ⟨r.val % 512, Nat.mod_lt _ (by norm_num)⟩) (rk p b) * K (rk p b) l
      = kds Q K V O L D r (rk p b) * K (rk p b) l := fun h b => by rw [hrow h]
  have h00 : k0_pay1 (F := Ideal) (ix2 r l) = 0 := by pointwise [k0_pay1]
  unfold step
  by_cases h : kb p = qb p
  · have hd := ds_diag x0 x1 x2 x3 x4 x5 _ _ _ _ _ _ h0 h1 h2 h3 h4 h5
    have hbase : (if p.val = 0 then k0_pay1 (F := Ideal) else s.1 : Vec Ideal S8192x128 .f32) (ix2 r l) = if p.val = 0 then 0 else s.1 (ix2 r l) := by
      by_cases hp : p.val = 0
      · rw [if_pos hp, if_pos hp, h00]
      · rw [if_neg hp, if_neg hp]
    rw [if_pos h, ← hbase]
    refine (put_at _ _ _ r l).trans ?_
    by_cases hr : r.val / 512 = qb p
    · rw [if_pos hr, if_pos hr, (pay_dq x1 _ _ _ _ hd h1 _ l).2, hwin _ hr]
      refine congrArg (fun x : ℝ => _ + (x : EReal)) (Finset.sum_congr rfl fun b _ => ?_)
      rw [kp_diag p Q K L h]
      exact hds hr b
    · rw [if_neg hr, if_neg hr, EReal.coe_zero, add_zero]
  · have hd := ds_below x0 x1 x2 x3 x4 x5 _ _ _ _ _ _ h0 h1 h2 h3 h4 h5
    have hp : p.val ≠ 0 := fun hp => h (first_diag p hp)
    rw [if_neg h, if_neg hp]
    refine (put_at _ _ _ r l).trans ?_
    by_cases hr : r.val / 512 = qb p
    · rw [if_pos hr, if_pos hr, (pay_dq x1 _ _ _ _ hd h1 _ l).1, hwin _ hr]
      refine congrArg (fun x : ℝ => _ + (x : EReal)) (Finset.sum_congr rfl fun b _ => ?_)
      rw [kp_below p Q K L h]
      exact hds hr b
    · rw [if_neg hr, if_neg hr, EReal.coe_zero, add_zero]

end Step

end Cert.AttnBwd
-- ==== Proof.AttnBwdSums.lean ====
/- The order in which the attention gradient's pairs of blocks are added up: what has been summed after each pair. -/
module

public import proofs.«01_k».proof.Proof.AttnBwdTile

@[expose] public section

set_option maxRecDepth 16384

noncomputable section

namespace Cert.AttnBwd

open Idealize.ShloMosaic

/-- A block of 512 as those of all rows that lie in it. -/
theorem block_sum (f : Fin 8192 → ℝ) (J : ℕ) (hJ : ∀ b : Fin 512, 512 * J + b.val < 8192) :
    ∑ b : Fin 512, f ⟨512 * J + b.val, hJ b⟩ = ∑ j : Fin 8192, if j.val / 512 = J then f j else 0 := by
  rw [← Finset.sum_filter]
  refine Finset.sum_bij' (fun b _ => ⟨512 * J + b.val, hJ b⟩) (fun j _ => ⟨j.val % 512, Nat.mod_lt _ (by norm_num)⟩)
    (fun b _ => ?_) (fun _ _ => Finset.mem_univ _) (fun b _ => ?_) (fun j h => ?_) (fun _ _ => rfl)
  · rw [Finset.mem_filter]
    exact ⟨Finset.mem_univ _, by show (512 * J + b.val) / 512 = J; omega⟩
  · exact Fin.ext (by show (512 * J + b.val) % 512 = b.val; omega)
  · have h' := (Finset.mem_filter.mp h).2
    exact Fin.ext (by show 512 * J + j.val % 512 = j.val; omega)

/-- The pair before. -/
abbrev before (p : Fin 136) : Fin 136 := ⟨p.val - 1, (Nat.sub_le _ _).trans_lt p.isLt⟩

theorem order_first : ∀ p : Fin 136, p.val = 0 → kb p = 0 ∧ qb p = 0 := by decide +kernel
theorem order_diag : ∀ p : Fin 136, p.val ≠ 0 → kb p = qb p → kb (before p) + 1 = kb p ∧ qb (before p) = 15 := by decide +kernel
theorem order_below : ∀ p : Fin 136, kb p ≠ qb p → p.val ≠ 0 ∧ kb (before p) = kb p ∧ qb (before p) + 1 = qb p := by decide +kernel
theorem order_last : ∀ p : Fin 136, p.val = 135 → kb p = 15 ∧ qb p = 15 := by decide +kernel
theorem order_next : ∀ p : Fin 136, qb p ≠ 15 → ∃ h : p.val + 1 < 136, kb ⟨p.val + 1, h⟩ = kb p := by decide +kernel

/-- The columns a row has met after pair `p`; the rows a column has met. -/
abbrev Met (p : Fin 136) (r j : Fin 8192) : Prop := j.val / 512 < kb p ∨ (j.val / 512 = kb p ∧ r.val / 512 ≤ qb p)
@[inherit_doc Met] abbrev MetBy (p : Fin 136) (i : Fin 8192) : Prop := kb p ≤ i.val / 512 ∧ i.val / 512 ≤ qb p

theorem met_next (p : Fin 136) (r : Fin 8192) (f : Fin 8192 → ℝ) (hf : ∀ j, ¬ Vis r j → f j = 0) :
    (if p.val = 0 then 0 else ∑ j, if Met (before p) r j then f j else 0) + (if r.val / 512 = qb p then ∑ b, f (rk p b) else 0)
      = ∑ j, if Met p r j then f j else 0 := by
  have e : (if r.val / 512 = qb p then ∑ b, f (rk p b) else 0)
      = ∑ j : Fin 8192, if r.val / 512 = qb p ∧ j.val / 512 = kb p then f j else 0 := by
    split_ifs with h
    · refine (block_sum f (kb p) _).trans (Finset.sum_congr rfl fun j _ => ?_)
      simp only [h, true_and]
    · simp only [h, false_and, if_false, Finset.sum_const_zero]
  rw [e]
  by_cases h0 : p.val = 0
  · obtain ⟨h1, h2⟩ := order_first p h0
    rw [if_pos h0, zero_add]
    refine Finset.sum_congr rfl fun j _ => if_congr ?_ rfl rfl
    unfold Met
    omega
  · rw [if_neg h0, ← Finset.sum_add_distrib]
    refine Finset.sum_congr rfl fun j _ => ?_
    by_cases hd : kb p = qb p
    · obtain ⟨h1, h2⟩ := order_diag p h0 hd
      have hv := hf j
      have hr := r.isLt
      unfold Met
      split_ifs
      all_goals first
        | exact add_zero _
        | exact zero_add _
        | (exfalso; omega)
        | (rw [hv (by omega)]; exact add_zero _)
    · obtain ⟨-, h1, h2⟩ := order_below p hd
      unfold Met
      split_ifs
      all_goals first
        | exact add_zero _
        | exact zero_add _
        | (exfalso; omega)

theorem metBy_next (p : Fin 136) (g : Fin 8192 → ℝ) :
    (if kb p = qb p then 0 else ∑ i, if MetBy (before p) i then g i else 0) + ∑ a, g (rq p a)
      = ∑ i, if MetBy p i then g i else 0 := by
  rw [show ∑ a, g (rq p a) = _ from block_sum g (qb p) _]
  have hle := kb_le p
  split_ifs with hd
  · rw [zero_add]
    refine Finset.sum_congr rfl fun i _ => if_congr ?_ rfl rfl
    unfold MetBy
    omega
  · obtain ⟨-, h1, h2⟩ := order_below p hd
    rw [← Finset.sum_add_distrib]
    refine Finset.sum_congr rfl fun i _ => ?_
    unfold MetBy
    split_ifs
    all_goals first
      | exact add_zero _
      | exact zero_add _
      | (exfalso; omega)

/-- After the last pair a row has met every column. -/
theorem met_last (p : Fin 136) (hp : p.val = 135) (r : Fin 8192) (f : Fin 8192 → ℝ) : (∑ j, if Met p r j then f j else 0) = ∑ j, f j := by
  obtain ⟨h1, h2⟩ := order_last p hp
  refine Finset.sum_congr rfl fun j _ => if_pos ?_
  unfold Met
  have := r.isLt
  have := j.isLt
  omega

/-- After the last row block a column has met every row that sees it. -/
theorem metBy_last (p : Fin 136) (hp : qb p = 15) (b : Fin 512) (g : Fin 8192 → ℝ) (hg : ∀ i, ¬ Vis i (rk p b) → g i = 0) :
    (∑ i, if MetBy p i then g i else 0) = ∑ i, g i := by
  refine Finset.sum_congr rfl fun i _ => ?_
  split_ifs with h
  · rfl
  · refine (hg i ?_).symm
    have := i.isLt
    have hb : (rk p b).val = 512 * kb p + b.val := rfl
    unfold MetBy at h
    unfold Vis
    omega

section Summed

variable (p : Fin 136) (Q K V O : Fin 8192 → Fin 128 → ℝ) (L D : Fin 8192 → ℝ)

/-- What the buffers hold after pair `p`: each result summed over what has been met. -/
def Summed (s : State Ideal) : Prop :=
  (∀ r l, s.1 (ix2 r l) = ((∑ j, if Met p r j then kds Q K V O L D r j * K j l else 0 : ℝ) : EReal))
    ∧ (∀ b l, s.2.1 (ix2 b l) = ((∑ i, if MetBy p i then kds Q K V O L D i (rk p b) * Q i l else 0 : ℝ) : EReal))
    ∧ ∀ b l, s.2.2 (ix2 b l) = ((∑ i, if MetBy p i then kp Q K L i (rk p b) * O i l else 0 : ℝ) : EReal)

theorem add_real (c : Prop) [Decidable c] (x : EReal) (a b : ℝ) (h : ¬c → x = (a : EReal)) :
    (if c then 0 else x) + (b : EReal) = (((if c then 0 else a) + b : ℝ) : EReal) := by
  split_ifs with hc
  · rw [zero_add, zero_add]
  · rw [h hc, RealLift.add]

theorem rk_before (h : kb p ≠ qb p) (b : Fin 512) : rk (before p) b = rk p b :=
  Fin.ext (congrArg (fun n => 512 * n + b.val) (order_below p h).2.1)

variable (x0 x1 x2 x3 : Vec Ideal Cert.Kernel14Ideal.S512x128 .bf16) (x4 x5 : Vec Ideal Cert.Kernel14Ideal.S512x128 .f32) (s : State Ideal)
  (h0 : ∀ a l, x0 (ix2 a l) = ((Q (rq p a) l : ℝ) : EReal)) (h1 : ∀ a l, x1 (ix2 a l) = ((K (rk p a) l : ℝ) : EReal))
  (h2 : ∀ a l, x2 (ix2 a l) = ((V (rk p a) l : ℝ) : EReal)) (h3 : ∀ a l, x3 (ix2 a l) = ((O (rq p a) l : ℝ) : EReal))
  (h4 : ∀ a l, x4 (ix2 a l) = ((L (rq p a) : ℝ) : EReal)) (h5 : ∀ a l, x5 (ix2 a l) = ((D (rq p a) : ℝ) : EReal))

include h0 h1 h2 h3 h4 h5 in
/-- A pair keeps it. -/
theorem summed_step (hs : p.val ≠ 0 → Summed (before p) Q K V O L D s) : Summed p Q K V O L D (step p x0 x1 x2 x3 x4 x5 s) := by
  refine ⟨fun r l => ?_, fun b l => ?_, fun b l => ?_⟩
  · refine (step_q p x0 x1 x2 x3 x4 x5 s Q K V O L D h0 h1 h2 h3 h4 h5 r l).trans ?_
    refine (add_real _ _ _ _ fun hp => (hs hp).1 r l).trans (congrArg _ ?_)
    exact met_next p r (fun j => kds Q K V O L D r j * K j l) fun j hj => by rw [kds_hidden _ _ _ _ _ _ _ _ hj, zero_mul]
  · refine (step_k p x0 x1 x2 x3 x4 x5 s Q K V O L D h0 h1 h2 h3 h4 h5 b l).trans ?_
    refine (add_real _ _ _ _ fun hp => ?_).trans (congrArg _ (metBy_next p fun i => kds Q K V O L D i (rk p b) * Q i l))
    rw [(hs (order_below p hp).1).2.1 b l, rk_before p hp]
  · refine (step_v p x0 x1 x2 x3 x4 x5 s Q K O L h0 h1 h3 h4 b l).trans ?_
    refine (add_real _ _ _ _ fun hp => ?_).trans (congrArg _ (metBy_next p fun i => kp Q K L i (rk p b) * O i l))
    rw [(hs (order_below p hp).1).2.2 b l, rk_before p hp]

end Summed

end Cert.AttnBwd
-- ==== Proof.AttnFwdTile.lean ====
/- One pair of blocks of the attention's forward over the real numbers: a tile's scores below the diagonal and on it, and what a
pair makes of a row's running maximum, sum and product. -/
module

public import proofs.«01_k».proof.Proof.AttnFwdBody
public import proofs.«01_k».proof.Proof.AttnFwdReal
public import proofs.«01_k».proof.Proof.AttnBwdSums
public import Idealize.ShloMosaic.Lib.Pointwise

@[expose] public section

set_option maxRecDepth 16384

noncomputable section

namespace Cert.AttnFwd

open Idealize.ShloMosaic Idealize.ShloMosaic.TcCoe
open Idealize.SL.Sem
open Cert.Kernel13Ideal Cert.Kernel13Ideal.Gen Cert.RealLift
open Cert.AttnBwd (Vis row_chunk chunk_le block_sum)

/-! ## A tile of scores met -/

/-- A kernel's maximum over the last axis, from minus infinity, over a row some of whose entries are minus infinity. -/
theorem multi_max_visible {n m : ℕ} (x : FVec Ideal ⟨2, ![m, n]⟩ .f32) (h : (⟨2, ![m, n]⟩ : Shape).Reduces [1] ⟨1, ![m]⟩)
    (hf : FKind.Formats .f32) (hb : (0xFF800000#32 : BitVec 32) = FKind.maximumf.neutral .f32 hf)
    (k : Fin m) (hx : ∀ l, x (ix2 k l) ≠ (⊤ : EReal)) (l₀ : Fin n) (h₀ : x (ix2 k l₀) ≠ (⊥ : EReal)) :
    ∃ M : ℝ, multiReduction .maximumf [1] ⟨1, ![m]⟩ x 0xFF800000#32 h hf hb (ix1 k) = ((M : ℝ) : EReal) := by
  haveI : Std.Commutative (FloatOps.maximumf (F := Ideal) (φ := .f32)) := inferInstanceAs (Std.Commutative (max : EReal → EReal → EReal))
  haveI : Std.Associative (FloatOps.maximumf (F := Ideal) (φ := .f32)) := inferInstanceAs (Std.Associative (max : EReal → EReal → EReal))
  obtain ⟨l, -, hl⟩ := Finset.exists_mem_eq_sup (Finset.univ : Finset (Fin n)) ⟨l₀, Finset.mem_univ _⟩ (fun l => (x (ix2 k l) : EReal))
  have hl' : (Finset.univ : Finset (Fin n)).fold max (⊥ : EReal) (fun l => x (ix2 k l)) = x (ix2 k l) := hl
  have hb' : x (ix2 k l) ≠ (⊥ : EReal) := fun hb => h₀ (le_bot_iff.mp
    ((Finset.le_sup (f := fun l => (x (ix2 k l) : EReal)) (Finset.mem_univ l₀)).trans (hl.trans hb).le))
  refine ⟨(x (ix2 k l) : EReal).toReal, ?_⟩
  rw [multiReduction_maximumf_eq_fold, Shape.Reduces.fold_fiber_r2_a1 h]
  refine Eq.trans ?_ (hl'.trans (EReal.coe_toReal (hx l) hb').symm)
  refine congrArg₂ (fun b f => Finset.fold max (b : EReal) f Finset.univ) ?_
    (funext fun l => congrArg x (by funext c; match c with | 0 | 1 => rfl))
  exact RealLift.word_neg_inf

section Fold

variable (z : FVec Ideal S512x512 .f32) (x2 : Vec Ideal S512x128 .bf16) (s : State Ideal)

/-- Every row's largest score of a tile. -/
def tileMax : FVec Ideal S512 .f32 :=
  multiReduction .maximumf [1] S512 z 0xFF800000#32 reduces_S512x512_S512 (.inl rfl) rfl
/-- The running maximum after it, the factor that the values before take, and the tile's exponentials. -/
def newMax : FVec Ideal S512x1 .f32 := maximumf (lane s.1) (shapeCast S512x1 (tileMax z) shapeCasts_S512_S512x1)
@[inherit_doc newMax] def factor : FVec Ideal S512x1 .f32 := exp (subf (lane s.1) (newMax z s))
@[inherit_doc newMax] def tileExp : FVec Ideal S512x512 .f32 := exp (subf z (broadcastTo S512x512 (newMax z s) broadcasts_S512x1_S512x512))

/-- The running values after a tile of scores. -/
def meet : State Ideal :=
  (shapeCast S512x128 (broadcastTo S512x128 (shapeCast S512x1 (newMax z s) shapeCasts_S512x1_S512x1) broadcasts_S512x1_S512x128)
      shapeCasts_S512x128_S512x128,
    shapeCast S512x128 (broadcastTo S512x128 (shapeCast S512x1 (addf (mulf (factor z s) (lane s.2.1))
        (shapeCast S512x1 (multiReduction .add [1] S512 (tileExp z s) 0x00000000#32 reduces_S512x512_S512 (.inl rfl) rfl) shapeCasts_S512_S512x1))
      shapeCasts_S512x1_S512x1) broadcasts_S512x1_S512x128) shapeCasts_S512x128_S512x128,
    shapeCast S512x128 (addf (mulf (broadcastTo S512x128 (factor z s) broadcasts_S512x1_S512x128) s.2.2)
      (matmul (φ₂ := .bf16) dot_S512x512_S512x128_S512x128_1_0_0_1_n_n none (truncf .bf16 (tileExp z s) bitsLt_bf16_f32)
        (shapeCast S512x128 x2 shapeCasts_S512x128_S512x128) (constant S512x128 .f32 0x00000000#32))) shapeCasts_S512x128_S512x128)

theorem below_meet (x0 x1 : Vec Ideal S512x128 .bf16) : below x0 x1 x2 s = meet (k0_pay10 x0 x1) x2 s := rfl
theorem diag_meet (x0 x1 : Vec Ideal S512x128 .bf16) : diag x0 x1 x2 s = meet (masked x0 x1) x2 s := rfl

theorem lane_at (x : Vec Ideal S512x128 .f32) (a : Fin 512) : lane x (ix2 a 0) = x (ix2 a 0) :=
  congrArg x (funext fun i => Fin.ext (match i with
    | 0 => (by show 0 + 1 * a.val = a.val; omega)
    | 1 => rfl))

theorem newMax_at (a : Fin 512) : newMax z s (ix2 a 0) = max (s.1 (ix2 a 0)) (tileMax z (ix1 a)) := by
  have e := lane_at s.1 a
  unfold newMax
  generalize lane s.1 = y at e ⊢
  generalize tileMax z = w
  pointwise [e]

theorem factor_at (a : Fin 512) : factor z s (ix2 a 0) = Ideal.exp (s.1 (ix2 a 0) - newMax z s (ix2 a 0)) := by
  have e := lane_at s.1 a
  unfold factor
  generalize newMax z s = w
  generalize lane s.1 = y at e ⊢
  pointwise [e]

theorem tileExp_at (a b : Fin 512) : tileExp z s (ix2 a b) = Ideal.exp (z (ix2 a b) - newMax z s (ix2 a 0)) := by
  unfold tileExp
  generalize newMax z s = w
  pointwise

theorem meet_max (a : Fin 512) (l : Fin 128) : (meet z x2 s).1 (ix2 a l) = newMax z s (ix2 a 0) := by
  unfold meet
  generalize newMax z s = w
  pointwise

theorem meet_sum (a : Fin 512) (l : Fin 128) :
    (meet z x2 s).2.1 (ix2 a l) = factor z s (ix2 a 0) * s.2.1 (ix2 a 0) + ∑ b, tileExp z s (ix2 a b) := by
  have e := lane_at s.2.1 a
  unfold meet
  generalize tileExp z s = u
  generalize factor z s = w
  generalize lane s.2.1 = y at e ⊢
  pointwise [e]

theorem meet_prod (a : Fin 512) (l : Fin 128) :
    (meet z x2 s).2.2 (ix2 a l) = factor z s (ix2 a 0) * s.2.2 (ix2 a l) + ∑ b, tileExp z s (ix2 a b) * x2 (ix2 b l) := by
  unfold meet
  generalize tileExp z s = u
  generalize factor z s = w
  pointwise

variable (P : Fin 512 → Prop) [DecidablePred P] (t : Fin 512 → ℝ) (V : Fin 512 → Fin 128 → ℝ) (S : ℝ) (A : Fin 128 → ℝ) (a : Fin 512)

/-- What a row of the running values keeps, on every lane. -/
def RowKept : Prop := ∀ l, Kept S A (s.1 (ix2 a l)) (s.2.1 (ix2 a l)) fun x => s.2.2 (ix2 a x)
/-- A row before anything is met. -/
def RowFresh : Prop := Fresh S A (s.1 (ix2 a 0)) (s.2.1 (ix2 a 0)) fun x => s.2.2 (ix2 a x)

/-- A tile met. -/
theorem meet_kept (hs : RowFresh s S A a ∨ RowKept s S A a) (hz : ∀ b, z (ix2 a b) = if P b then ((t b : ℝ) : EReal) else ⊥)
    (b₀ : Fin 512) (h₀ : P b₀) (hx : ∀ b x, x2 (ix2 b x) = ((V b x : ℝ) : EReal)) :
    RowKept (meet z x2 s) (S + ∑ b, bw P t b) (fun x => A x + ∑ b, bw P t b * V b x) a := by
  obtain ⟨B, hB⟩ := multi_max_visible z reduces_S512x512_S512 (.inl rfl) rfl a
    (fun b => by rw [hz]; split; exact EReal.coe_ne_top _; exact bot_ne_top) b₀ (by rw [hz, if_pos h₀]; exact EReal.coe_ne_bot _)
  have hm : newMax z s (ix2 a 0) = max (s.1 (ix2 a 0)) (B : EReal) := (newMax_at z s a).trans (congrArg _ hB)
  intro l
  simp only [meet_max, meet_sum, meet_prod, factor_at, tileExp_at, hm, hz, hx]
  exact kept_step P t V B (hs.imp id fun h => h 0)

theorem start_fresh : RowFresh (start (F := Ideal)) 0 (fun _ => 0) a := by
  refine ⟨?_, ?_, fun x => ?_, rfl, fun _ => rfl⟩
  · show k0_pay1 (F := Ideal) (ix2 a 0) = _
    pointwise [k0_pay1]
    exact word_neg_inf
  · show k0_pay2 (F := Ideal) (ix2 a 0) = _
    pointwise [k0_pay2]
  · show k0_pay3 (F := Ideal) (ix2 a x) = _
    pointwise [k0_pay3]

end Fold

/-! ## The scores of a tile -/

/-- The words of the columns' chunks. -/
theorem col_chunk (a b : Fin 512) : k0_pay18 (ix2 a b) = BitVec.ofNat 32 (b.val / 64) := by
  pointwise [k0_pay18]
  revert b
  decide +kernel

/-- A tile's entries where the row sees the column, and minus infinity elsewhere. -/
theorem hide_at (e : FVec Ideal S512x512 .f32) (a b : Fin 512) :
    k0_pay21 e (iota .tc S512x512 32 [0] iota_S512x512_d0_w32) k0_pay18 64#32 k0_pay19 k0_pay20
        (Scalar.extui (Scalar.cmpi .sgt 64#32 0#32)) (Scalar.cmpi .slt 64#32 0#32) (ix2 a b)
      = if b.val / 64 ≤ a.val / 64 then e (ix2 a b) else (⊥ : EReal) := by
  pointwise [k0_pay21, k0_pay19, k0_pay20, col_chunk]
  rw [row_chunk, chunk_le ⟨b.val / 64, by omega⟩ ⟨a.val / 64, by omega⟩]
  by_cases h : b.val / 64 ≤ a.val / 64
  · rw [decide_eq_true h, if_pos h]; rfl
  · rw [decide_eq_false h, if_neg h]; exact word_neg_inf

section Payload

variable (x0 x1 : Vec Ideal S512x128 .bf16) (q k : Fin 512 → Fin 128 → ℝ)
  (h0 : ∀ a l, x0 (ix2 a l) = ((q a l : ℝ) : EReal)) (h1 : ∀ a l, x1 (ix2 a l) = ((k a l : ℝ) : EReal))

include h0 h1

theorem scores_at (a b : Fin 512) : k0_pay10 (F := Ideal) x0 x1 (ix2 a b) = ((∑ l, q a l * k b l : ℝ) : EReal) := by
  pointwise [k0_pay10, h0, h1]
  simp only [RealLift.mul, RealLift.sum]

theorem masked_at (a b : Fin 512) :
    masked (F := Ideal) x0 x1 (ix2 a b) = if b.val / 64 ≤ a.val / 64 then ((∑ l, q a l * k b l : ℝ) : EReal) else ⊥ := by
  refine (hide_at _ a b).trans ?_
  by_cases h : b.val / 64 ≤ a.val / 64
  · rw [if_pos h, if_pos h]; exact scores_at x0 x1 q k h0 h1 a b
  · rw [if_neg h, if_neg h]

end Payload

/-! ## One pair -/

/-- The rows and the columns of a pair's tile. -/
def rq (p : Fin 136) (a : Fin 512) : Fin 8192 := ⟨512 * qb p + a.val, by have := qb_lt p; omega⟩
@[inherit_doc rq] def rk (p : Fin 136) (b : Fin 512) : Fin 8192 := ⟨512 * kb p + b.val, by have := kb_lt p; omega⟩

/-- A sum over the first blocks of columns. -/
def upto (n : ℕ) (f : Fin 8192 → ℝ) : ℝ := ∑ j, if j.val / 512 < n then f j else 0

theorem upto_zero (f : Fin 8192 → ℝ) : upto 0 f = 0 :=
  Finset.sum_eq_zero fun _ _ => if_neg (Nat.not_lt_zero _)

theorem upto_next (p : Fin 136) (f : Fin 8192 → ℝ) : upto (kb p) f + ∑ b, f (rk p b) = upto (kb p + 1) f := by
  rw [show ∑ b, f (rk p b) = _ from block_sum f (kb p) _]
  unfold upto
  rw [← Finset.sum_add_distrib]
  refine Finset.sum_congr rfl fun j _ => ?_
  split_ifs
  all_goals first
    | exact add_zero _
    | exact zero_add _
    | (exfalso; omega)

/-- On the diagonal a row has met every column that it sees. -/
theorem upto_last (p : Fin 136) (h : kb p = qb p) (a : Fin 512) (f : Fin 8192 → ℝ) (hf : ∀ j, ¬ Vis (rq p a) j → f j = 0) :
    upto (kb p + 1) f = ∑ j, f j := by
  refine Finset.sum_congr rfl fun j _ => ?_
  split_ifs with hj
  · rfl
  · refine (hf j fun hv => hj ?_).symm
    have hv : j.val / 64 ≤ (512 * qb p + a.val) / 64 := hv
    have := a.isLt
    omega

section Step

variable (p : Fin 136) (x0 x1 x2 : Vec Ideal S512x128 .bf16) (s : State Ideal) (Q K V : Fin 8192 → Fin 128 → ℝ)
  (h0 : ∀ a l, x0 (ix2 a l) = ((Q (rq p a) l : ℝ) : EReal)) (h1 : ∀ a l, x1 (ix2 a l) = ((K (rk p a) l : ℝ) : EReal))
  (h2 : ∀ a l, x2 (ix2 a l) = ((V (rk p a) l : ℝ) : EReal))

/-- What the rows of a pair's tile keep after `n` blocks of columns. -/
def Met (n : ℕ) (s : State Ideal) : Prop :=
  ∀ a, RowKept s (upto n fun j => kw Q K (rq p a) j) (fun x => upto n fun j => kw Q K (rq p a) j * V j x) a

include h0 h1 h2 in
/-- A pair adds its block. -/
theorem met_step (hs : kb p ≠ 0 → Met p Q K V (kb p) s) : Met p Q K V (kb p + 1) (step p x0 x1 x2 s) := by
  intro a
  have hs' : RowFresh (if kb p = 0 then start else s) (upto (kb p) fun j => kw Q K (rq p a) j) (fun x => upto (kb p) fun j => kw Q K (rq p a) j * V j x) a
      ∨ RowKept (if kb p = 0 then start else s) (upto (kb p) fun j => kw Q K (rq p a) j) (fun x => upto (kb p) fun j => kw Q K (rq p a) j * V j x) a := by
    by_cases hk : kb p = 0
    · rw [if_pos hk, hk]
      simp only [upto_zero]
      exact .inl (start_fresh a)
    · rw [if_neg hk]; exact .inr (hs hk a)
  have e1 := upto_next p fun j => kw Q K (rq p a) j
  have e2 := fun x => upto_next p fun j => kw Q K (rq p a) j * V j x
  have key : ∀ (z : FVec Ideal S512x512 .f32), (∀ b, z (ix2 a b) = if Vis (rq p a) (rk p b) then ((∑ l, Q (rq p a) l * K (rk p b) l : ℝ) : EReal) else ⊥) →
      (∃ b, Vis (rq p a) (rk p b)) →
      RowKept (meet z x2 (if kb p = 0 then start else s)) (upto (kb p + 1) fun j => kw Q K (rq p a) j) (fun x => upto (kb p + 1) fun j => kw Q K (rq p a) j * V j x) a := by
    intro z hz ⟨b₀, hb⟩
    rw [← e1]
    simp only [← e2]
    exact meet_kept z x2 _ (fun b => Vis (rq p a) (rk p b)) (fun b => ∑ l, Q (rq p a) l * K (rk p b) l) (fun b => V (rk p b)) _ _ a hs' hz b₀ hb h2
  have hle := kb_le p
  have ha := a.isLt
  unfold step
  by_cases h : kb p = qb p
  · rw [if_pos h, diag_meet]
    have hv : ∀ b : Fin 512, Vis (rq p a) (rk p b) ↔ b.val / 64 ≤ a.val / 64 := fun b => by
      show (512 * kb p + b.val) / 64 ≤ (512 * qb p + a.val) / 64 ↔ _
      omega
    refine key _ (fun b => (masked_at x0 x1 _ _ h0 h1 a b).trans ?_) ⟨a, (hv a).mpr (le_refl _)⟩
    by_cases hb : b.val / 64 ≤ a.val / 64
    · rw [if_pos hb, if_pos ((hv b).mpr hb)]
    · rw [if_neg hb, if_neg fun hn => hb ((hv b).mp hn)]
  · rw [if_neg h, below_meet]
    have hv : ∀ b : Fin 512, Vis (rq p a) (rk p b) := fun b => by
      have := b.isLt
      show (512 * kb p + b.val) / 64 ≤ (512 * qb p + a.val) / 64
      omega
    exact key _ (fun b => (scores_at x0 x1 _ _ h0 h1 a b).trans (if_pos (hv b)).symm) ⟨a, hv a⟩

end Step

end Cert.AttnFwd
-- ==== Proof.AttnBwdHost.lean ====
/- The arrays that the attention gradient's host lines hand to the launch, read at an index: the scaled queries, the keys, the
values and the output's cotangent filled up by zeros, and every row's logarithm and sum repeated over the lanes. -/
module

public import proofs.«01_k».proof.Proof.AttnBwdEntry
public import proofs.«01_k».proof.Proof.AttnBwdRef

@[expose] public section

set_option maxRecDepth 16384

noncomputable section

namespace Cert.AttnBwd

open Idealize.ShloMosaic Idealize.ShloMosaic.TcCoe
open Idealize.SL.Sem
open Cert.Kernel14Ideal Cert.Kernel14Ideal.Gen Cert.RealLift Cert.Tiles

/-! ## The lines -/

/-- Zeros after the last axis, and before it. -/
def zerosHi (x : FVec Ideal S8192x8x96 .f32) : FVec Ideal S8192x8x128 .f32 :=
  pad S8192x8x128 ![0, 0, 0] ![0, 0, 32] ![0, 0, 0] x (sitofp .f32 (constantI S_ 32 0#32)) pads_S8192x8x96_S8192x8x128_000_000_0320 h_S_
@[inherit_doc zerosHi] def zerosLo (x : FVec Ideal S8192x8x64 .f32) : FVec Ideal S8192x8x128 .f32 :=
  pad S8192x8x128 ![0, 0, 64] ![0, 0, 0] ![0, 0, 0] x (sitofp .f32 (constantI S_ 32 0#32)) pads_S8192x8x64_S8192x8x128_000_000_6400 h_S_
/-- The heads side by side, in the short format. -/
def sideBySide (x : FVec Ideal S8192x8x128 .f32) : FVec Ideal S8192x1024 .bf16 :=
  truncf .bf16 (shapeCast S8192x1024 x shapeCasts_S8192x8x128_S8192x1024) bitsLt_bf16_f32
abbrev fillHi (x : FVec Ideal S8192x8x96 .f32) : FVec Ideal S8192x1024 .bf16 := sideBySide (zerosHi x)
abbrev fillLo (x : FVec Ideal S8192x8x64 .f32) : FVec Ideal S8192x1024 .bf16 := sideBySide (zerosLo x)

variable (s : FVec Ideal S1x8x8192x8192 .f32) (v o : FVec Ideal S1x8192x8x64 .f32)

/-- Every row's maximum; the shifted exponentials; their sum. -/
def rowMax : FVec Ideal S1x8x8192 .f32 :=
  Host.reduce FloatOps.maximumf s (constant S_ .f32 0xFF800000#32) reducesTo_S1x8x8192x8192_S1x8x8192_d3 h_S_
@[inherit_doc rowMax] def rowExp : FVec Ideal S1x8x8192x8192 .f32 :=
  Host.exp (subf s (broadcastInDim S1x8x8192x8192 ![0, 1, 2, 3] bcast_S1x8x8192x1_S1x8x8192x8192_0_1_2_3
    (broadcastInDim S1x8x8192x1 ![0, 1, 2] bcast_S1x8x8192_S1x8x8192x1_0_1_2 (rowMax s))))
@[inherit_doc rowMax] def rowTot : FVec Ideal S1x8x8192x1 .f32 :=
  broadcastInDim S1x8x8192x1 ![0, 1, 2] bcast_S1x8x8192_S1x8x8192x1_0_1_2
    (Host.reduceAdd (rowExp s) (constant S_ .f32 0x00000000#32) reducesTo_S1x8x8192x8192_S1x8x8192_d3 h_S_)
/-- Every row's logarithm of the sum of exponentials, over the lanes. -/
def lseLanes : FVec Ideal S8192x1024 .f32 :=
  shapeCast S8192x1024 (broadcastInDim S8192x8x128 ![0, 1, 2] bcast_S8192x8x1_S8192x8x128_0_1_2
    (transpose S8192x8x1 [1, 0, 2] (shapeCast S8x8192x1
      (addf (broadcastInDim S1x8x8192x1 ![0, 1, 2] bcast_S1x8x8192_S1x8x8192x1_0_1_2 (rowMax s)) (Host.log (rowTot s)))
      shapeCasts_S1x8x8192x1_S8x8192x1) transposes_S8x8192x1_S8192x8x1_1_0_2)) shapeCasts_S8192x8x128_S8192x1024
/-- The output; its product with the cotangent summed over a row, over the lanes. -/
def attnOut : FVec Ideal S1x8192x8x64 .f32 :=
  transpose S1x8192x8x64 [0, 3, 1, 2] (Host.dotGeneral dot_S1x8192x8x64_S1x8x8192x8192_S1x8x64x8192_1_3_3_2_02_01 none v
    (Host.divf (rowExp s) (broadcastInDim S1x8x8192x8192 ![0, 1, 2, 3] bcast_S1x8x8192x1_S1x8x8192x8192_0_1_2_3 (rowTot s))))
    transposes_S1x8x64x8192_S1x8192x8x64_0_3_1_2
@[inherit_doc attnOut] def delLanes : FVec Ideal S8192x1024 .f32 :=
  shapeCast S8192x1024 (broadcastInDim S8192x8x128 ![0, 1, 2] bcast_S8192x8x1_S8192x8x128_0_1_2
    (shapeCast S8192x8x1 (broadcastInDim S1x8192x8x1 ![0, 1, 2] bcast_S1x8192x8_S1x8192x8x1_0_1_2
      (Host.reduceAdd (mulf o (attnOut s v)) (constant S_ .f32 0x00000000#32) reducesTo_S1x8192x8x64_S1x8192x8_d3 h_S_))
      shapeCasts_S1x8192x8x1_S8192x8x1)) shapeCasts_S8192x8x128_S8192x1024

/-! ## The lines at an index -/

/-- Column `l` of head `h`. -/
def col (h : Fin 8) (l : Fin 128) : Fin 1024 := rowAt (n := 8) (b := 128) rfl h l

/-- A three-axis array's rows of heads side by side. -/
theorem cast_col {α : Type} (x : S8192x8x128.Idx → α) (r : Fin 8192) (h : Fin 8) (l : Fin 128) :
    shapeCast S8192x1024 x shapeCasts_S8192x8x128_S8192x1024 (ix2 r (col h l)) = x (ix3 r h l) := by
  refine shapeCast_apply _ _ _ (ix3 r h l) ?_
  rw [Shape.rowMajor_val_two, Shape.rowMajor_val_three]
  show (r.val * 8 + h.val) * 128 + l.val = r.val * 1024 + (h.val * 128 + l.val)
  omega

theorem side_at (x : FVec Ideal S8192x8x128 .f32) (r : Fin 8192) (h : Fin 8) (l : Fin 128) : sideBySide x (ix2 r (col h l)) = x (ix3 r h l) := by
  have e := cast_col x r h l
  unfold sideBySide
  generalize shapeCast S8192x1024 x shapeCasts_S8192x8x128_S8192x1024 = y at e ⊢
  pointwise [e]

theorem sitofp_zero : (FloatOps.sitofp FTy.f32 0#32 : Ideal .f32) = ((0 : ℝ) : EReal) := by
  show ((((0#32 : BitVec 32).toInt : ℝ)) : EReal) = _
  simp

theorem zerosHi_at (x : FVec Ideal S8192x8x96 .f32) (a : Fin 8192 → Fin 8 → Fin 96 → ℝ) (ha : ∀ r h l, x (ix3 r h l) = ((a r h l : ℝ) : EReal))
    (r : Fin 8192) (h : Fin 8) (l : Fin 128) : zerosHi x (ix3 r h l) = ((padHi (a r h) l : ℝ) : EReal) := by
  pointwise [zerosHi]
  unfold padHi
  by_cases hl : l.val < 96
  · rw [dif_pos hl, dif_pos hl, ha]
  · rw [dif_neg hl, dif_neg hl]; exact sitofp_zero

theorem fillHi_at (x : FVec Ideal S8192x8x96 .f32) (a : Fin 8192 → Fin 8 → Fin 96 → ℝ) (ha : ∀ r h l, x (ix3 r h l) = ((a r h l : ℝ) : EReal))
    (r : Fin 8192) (h : Fin 8) (l : Fin 128) : fillHi x (ix2 r (col h l)) = ((padHi (a r h) l : ℝ) : EReal) :=
  (side_at _ r h l).trans (zerosHi_at x a ha r h l)

theorem zerosLo_at (x : FVec Ideal S8192x8x64 .f32) (a : Fin 8192 → Fin 8 → Fin 64 → ℝ) (ha : ∀ r h l, x (ix3 r h l) = ((a r h l : ℝ) : EReal))
    (r : Fin 8192) (h : Fin 8) (l : Fin 128) : zerosLo x (ix3 r h l) = ((padLo (a r h) l : ℝ) : EReal) := by
  pointwise [zerosLo]
  unfold padLo
  by_cases hl : 64 ≤ l.val
  · rw [dif_pos hl]
    simp only [hl, and_self, true_and]
    rw [dif_pos (by omega), ha]
  · rw [dif_neg hl, dif_neg fun hn => hl hn.1]; exact sitofp_zero

theorem fillLo_at (x : FVec Ideal S8192x8x64 .f32) (a : Fin 8192 → Fin 8 → Fin 64 → ℝ) (ha : ∀ r h l, x (ix3 r h l) = ((a r h l : ℝ) : EReal))
    (r : Fin 8192) (h : Fin 8) (l : Fin 128) : fillLo x (ix2 r (col h l)) = ((padLo (a r h) l : ℝ) : EReal) :=
  (side_at _ r h l).trans (zerosLo_at x a ha r h l)

theorem cast_row {α : Type} (x : S1x8x8192x1.Idx → α) (h : Fin 8) (r : Fin 8192) :
    shapeCast S8x8192x1 x shapeCasts_S1x8x8192x1_S8x8192x1 (ix3 h r 0) = x (ix4 0 h r 0) := by
  refine shapeCast_apply _ _ _ (ix4 0 h r 0) ?_
  rw [Shape.rowMajor_val_three, Shape.rowMajor_val_four]
  show ((0 * 8 + h.val) * 8192 + r.val) * 1 + 0 = (h.val * 8192 + r.val) * 1 + 0
  omega

/-- The numbers of the rows over the lanes. -/
theorem lanes_at (x : FVec Ideal S1x8x8192x1 .f32) (r : Fin 8192) (h : Fin 8) (l : Fin 128) :
    shapeCast S8192x1024 (broadcastInDim S8192x8x128 ![0, 1, 2] bcast_S8192x8x1_S8192x8x128_0_1_2
      (transpose S8192x8x1 [1, 0, 2] (shapeCast S8x8192x1 x shapeCasts_S1x8x8192x1_S8x8192x1) transposes_S8x8192x1_S8192x8x1_1_0_2))
      shapeCasts_S8192x8x128_S8192x1024 (ix2 r (col h l)) = x (ix4 0 h r 0) := by
  refine (cast_col _ r h l).trans ?_
  have e := cast_row x h r
  generalize shapeCast S8x8192x1 x shapeCasts_S1x8x8192x1_S8x8192x1 = y at e ⊢
  refine Eq.trans ?_ e
  pointwise

theorem log_sum_at (a : FVec Ideal S1x8x8192 .f32) (b : FVec Ideal S1x8x8192x1 .f32) (h : Fin 8) (r : Fin 8192) :
    addf (broadcastInDim S1x8x8192x1 ![0, 1, 2] bcast_S1x8x8192_S1x8x8192x1_0_1_2 a) (Host.log b) (ix4 0 h r 0)
      = a (ix3 0 h r) + Ideal.log (b (ix4 0 h r 0)) := by
  pointwise

theorem lse_at (r : Fin 8192) (h : Fin 8) (l : Fin 128) :
    lseLanes s (ix2 r (col h l)) = rowMax s (ix3 0 h r) + Ideal.log (rowTot s (ix4 0 h r 0)) :=
  (lanes_at _ r h l).trans (log_sum_at _ _ h r)

theorem tot_at (h : Fin 8) (r : Fin 8192) : rowTot s (ix4 0 h r 0) = ∑ j, rowExp s (ix4 0 h r j) := by
  unfold rowTot
  generalize rowExp s = a
  pointwise

theorem exp_at (h : Fin 8) (r j : Fin 8192) : rowExp s (ix4 0 h r j) = Ideal.exp (s (ix4 0 h r j) - rowMax s (ix3 0 h r)) := by
  unfold rowExp
  generalize rowMax s = a
  pointwise

theorem del_at (r : Fin 8192) (h : Fin 8) (l : Fin 128) :
    delLanes s v o (ix2 r (col h l))
      = ∑ x, o (ix4 0 r h x) * ∑ j, v (ix4 0 j h x) * Ideal.div (rowExp s (ix4 0 h r j)) (rowTot s (ix4 0 h r 0)) := by
  refine (cast_col _ r h l).trans ?_
  unfold attnOut
  generalize rowExp s = a
  generalize rowTot s = b
  pointwise

section Real

variable (q k : Fin 8 → Fin 8192 → Fin 96 → ℝ) (vr or : Fin 8 → Fin 8192 → Fin 64 → ℝ)
  (hs : ∀ h i j, s (ix4 0 h i j) = if Vis i j then ((sc (q h) (k h) scale i j : ℝ) : EReal) else (⊥ : EReal))
  (hv : ∀ r h l, v (ix4 0 r h l) = ((vr h r l : ℝ) : EReal)) (ho : ∀ r h l, o (ix4 0 r h l) = ((or h r l : ℝ) : EReal))

include hs

theorem max_real (h : Fin 8) (i : Fin 8192) : ∃ M : ℝ, rowMax s (ix3 0 h i) = ((M : ℝ) : EReal) :=
  Softmax.reduce_max_visible s (constant S_ .f32 0xFF800000#32) reducesTo_S1x8x8192x8192_S1x8x8192_d3 h_S_ word_neg_inf
    0 h i (fun j => by rw [hs]; split; exact EReal.coe_ne_top _; exact bot_ne_top) i
    (by rw [hs, if_pos (le_refl _)]; exact EReal.coe_ne_bot _)

theorem exp_real (h : Fin 8) (i : Fin 8192) (M : ℝ) (hM : rowMax s (ix3 0 h i) = ((M : ℝ) : EReal)) (j : Fin 8192) :
    rowExp s (ix4 0 h i j) = ((wt (q h) (k h) scale i j * Real.exp (-M) : ℝ) : EReal) := by
  rw [exp_at, hs, hM, ← wt_shift]
  exact exp_visible (Vis i j) _ M

theorem tot_real (h : Fin 8) (i : Fin 8192) (M : ℝ) (hM : rowMax s (ix3 0 h i) = ((M : ℝ) : EReal)) :
    rowTot s (ix4 0 h i 0) = ((tot (q h) (k h) scale i * Real.exp (-M) : ℝ) : EReal) := by
  rw [tot_at]
  simp only [exp_real s q k hs h i M hM]
  rw [RealLift.sum, tot_shift]

theorem lse_real (r : Fin 8192) (h : Fin 8) (l : Fin 128) :
    lseLanes s (ix2 r (col h l)) = ((Real.log (tot (q h) (k h) scale r) : ℝ) : EReal) := by
  obtain ⟨M, hM⟩ := max_real s q k hs h r
  rw [lse_at, tot_real s q k hs h r M hM, hM, ← log_shift _ _ _ M]
  have hp : 0 < tot (q h) (k h) scale r * Real.exp (-M) := mul_pos (tot_pos _ _ _ r) (Real.exp_pos _)
  rw [Ideal.log_coe, if_neg (not_le.mpr hp)]
  exact RealLift.add _ _

include hv ho in
theorem del_real (r : Fin 8192) (h : Fin 8) (l : Fin 128) :
    delLanes s v o (ix2 r (col h l)) = ((del (q h) (k h) (vr h) (or h) scale r : ℝ) : EReal) := by
  obtain ⟨M, hM⟩ := max_real s q k hs h r
  rw [del_at, tot_real s q k hs h r M hM, ← del_out]
  simp only [exp_real s q k hs h r M hM, RealLift.div _ (shift_ne q k h r M), pr_shift, hv, ho, RealLift.mul, RealLift.sum]

end Real

section Launch

variable (m : (ℓ : Loc nD τ sig) → Buf (Elt Ideal) ℓ) (c : Dev nD)

/-- The masked scores of the arguments. -/
abbrev scores : FVec Ideal S1x8x8192x8192 .f32 :=
  Cert.Reference14Ideal.Read.val_main_v11_0 (F := Ideal) (m ((c : Thread nD τ).loc main_arg0)) (m ((c : Thread nD τ).loc main_arg1))

theorem host_q : V m c main_v5 = fillHi (mulf (shapeCast S8192x8x96 (m ((c : Thread nD τ).loc main_arg0)) shapeCasts_S1x8192x8x96_S8192x8x96)
    (broadcastInDim S8192x8x96 ![] bcast_S_S8192x8x96 (constant S_ .f32 0x3DD105EC#32))) := by
  unfold V stretches
  after_reads_simp
  rfl

theorem host_k : V m c main_v9 = fillHi (shapeCast S8192x8x96 (m ((c : Thread nD τ).loc main_arg1)) shapeCasts_S1x8192x8x96_S8192x8x96) := by
  unfold V stretches
  after_reads_simp
  rfl

theorem host_v : V m c main_v13 = fillLo (shapeCast S8192x8x64 (m ((c : Thread nD τ).loc main_arg2)) shapeCasts_S1x8192x8x64_S8192x8x64) := by
  unfold V stretches
  after_reads_simp
  rfl

theorem host_o : V m c main_v52 = fillLo (shapeCast S8192x8x64 (m ((c : Thread nD τ).loc main_arg3)) shapeCasts_S1x8192x8x64_S8192x8x64) := by
  unfold V stretches
  after_reads_simp
  rfl

theorem host_lse : V m c main_v45 = lseLanes (scores m c) := by
  unfold V stretches
  after_reads_simp
  rfl

theorem host_del : V m c main_v51 = delLanes (scores m c) (m ((c : Thread nD τ).loc main_arg2)) (m ((c : Thread nD τ).loc main_arg3)) := by
  unfold V stretches
  after_reads_simp
  rfl

variable (q k : Fin 8 → Fin 8192 → Fin 96 → ℝ) (v o : Fin 8 → Fin 8192 → Fin 64 → ℝ)
  (h0 : ∀ r h l, m ((c : Thread nD τ).loc main_arg0) (ix4 0 r h l) = ((q h r l : ℝ) : EReal))
  (h1 : ∀ r h l, m ((c : Thread nD τ).loc main_arg1) (ix4 0 r h l) = ((k h r l : ℝ) : EReal))
  (h2 : ∀ r h l, m ((c : Thread nD τ).loc main_arg2) (ix4 0 r h l) = ((v h r l : ℝ) : EReal))
  (h3 : ∀ r h l, m ((c : Thread nD τ).loc main_arg3) (ix4 0 r h l) = ((o h r l : ℝ) : EReal))

/-- The first axis of extent one dropped. -/
theorem cast_head {α : Type} {n : ℕ} (x : (⟨4, ![1, 8192, 8, n]⟩ : Shape).Idx → α)
    (hc : (⟨4, ![1, 8192, 8, n]⟩ : Shape).ShapeCasts ⟨3, ![8192, 8, n]⟩) (r : Fin 8192) (h : Fin 8) (l : Fin n) :
    shapeCast ⟨3, ![8192, 8, n]⟩ x hc (ix3 r h l) = x (ix4 0 r h l) := by
  refine shapeCast_apply _ _ _ (ix4 0 r h l) ?_
  rw [Shape.rowMajor_val_three, Shape.rowMajor_val_four]
  show ((0 * 8192 + r.val) * 8 + h.val) * n + l.val = (r.val * 8 + h.val) * n + l.val
  rw [Nat.zero_mul, Nat.zero_add]

include h0 in
theorem in_q (r : Fin 8192) (h : Fin 8) (l : Fin 128) : V m c main_v5 (ix2 r (col h l)) = ((fq (q h) scale r l : ℝ) : EReal) := by
  rw [host_q]
  refine fillHi_at _ (fun r h l => q h r l * scale) (fun r h l => ?_) r h l
  have e := (cast_head _ shapeCasts_S1x8192x8x96_S8192x8x96 r h l).trans (h0 r h l)
  generalize shapeCast S8192x8x96 (m ((c : Thread nD τ).loc main_arg0)) shapeCasts_S1x8192x8x96_S8192x8x96 = x at e
  pointwise [e]
  rw [word_scale, RealLift.mul]

include h1 in
theorem in_k (r : Fin 8192) (h : Fin 8) (l : Fin 128) : V m c main_v9 (ix2 r (col h l)) = ((fk (k h) r l : ℝ) : EReal) := by
  rw [host_k]
  exact fillHi_at _ (fun r h l => k h r l) (fun r h l => (cast_head _ _ r h l).trans (h1 r h l)) r h l

include h2 in
theorem in_v (r : Fin 8192) (h : Fin 8) (l : Fin 128) : V m c main_v13 (ix2 r (col h l)) = ((fv (v h) r l : ℝ) : EReal) := by
  rw [host_v]
  exact fillLo_at _ (fun r h l => v h r l) (fun r h l => (cast_head _ _ r h l).trans (h2 r h l)) r h l

include h3 in
theorem in_o (r : Fin 8192) (h : Fin 8) (l : Fin 128) : V m c main_v52 (ix2 r (col h l)) = ((fv (o h) r l : ℝ) : EReal) := by
  rw [host_o]
  exact fillLo_at _ (fun r h l => o h r l) (fun r h l => (cast_head _ _ r h l).trans (h3 r h l)) r h l

include h0 h1 in
theorem in_lse (r : Fin 8192) (h : Fin 8) (l : Fin 128) :
    V m c main_v45 (ix2 r (col h l)) = ((Real.log (tot (q h) (k h) scale r) : ℝ) : EReal) := by
  rw [host_lse]
  exact lse_real _ q k (ref_sc _ _ q k h0 h1) r h l

include h0 h1 h2 h3 in
theorem in_del (r : Fin 8192) (h : Fin 8) (l : Fin 128) :
    V m c main_v51 (ix2 r (col h l)) = ((del (q h) (k h) (v h) (o h) scale r : ℝ) : EReal) := by
  rw [host_del]
  exact del_real _ _ _ q k v o (ref_sc _ _ q k h0 h1) h2 h3 r h l

end Launch

end Cert.AttnBwd
-- ==== Proof.AttnFwdHost.lean ====
/- The arrays that the attention forward's host lines hand to the launch, read at an index: the scaled queries, the keys and the
values filled up by zeros. -/
module

public import proofs.«01_k».proof.Proof.AttnFwdEntry
public import proofs.«01_k».proof.Proof.AttnBwdHost

@[expose] public section

set_option maxRecDepth 16384

noncomputable section

namespace Cert.AttnFwd

open Idealize.ShloMosaic Idealize.ShloMosaic.TcCoe
open Idealize.SL.Sem
open Cert.Kernel13Ideal Cert.Kernel13Ideal.Gen Cert.RealLift
open Cert.AttnBwd (fillHi fillLo fillHi_at fillLo_at cast_head col fq fk fv scale word_scale)

variable (m : (ℓ : Loc nD τ sig) → Buf (Elt Ideal) ℓ) (c : Dev nD)

theorem host_q : V m c main_v5 = fillHi (mulf (shapeCast S8192x8x96 (m ((c : Thread nD τ).loc main_arg0)) shapeCasts_S1x8192x8x96_S8192x8x96)
    (broadcastInDim S8192x8x96 ![] bcast_S_S8192x8x96 (constant S_ .f32 0x3DD105EC#32))) := by
  unfold V stretches
  after_reads_simp
  rfl

theorem host_k : V m c main_v9 = fillHi (shapeCast S8192x8x96 (m ((c : Thread nD τ).loc main_arg1)) shapeCasts_S1x8192x8x96_S8192x8x96) := by
  unfold V stretches
  after_reads_simp
  rfl

theorem host_v : V m c main_v13 = fillLo (shapeCast S8192x8x64 (m ((c : Thread nD τ).loc main_arg2)) shapeCasts_S1x8192x8x64_S8192x8x64) := by
  unfold V stretches
  after_reads_simp
  rfl

variable (q k : Fin 8 → Fin 8192 → Fin 96 → ℝ) (v : Fin 8 → Fin 8192 → Fin 64 → ℝ)
  (h0 : ∀ r h l, m ((c : Thread nD τ).loc main_arg0) (ix4 0 r h l) = ((q h r l : ℝ) : EReal))
  (h1 : ∀ r h l, m ((c : Thread nD τ).loc main_arg1) (ix4 0 r h l) = ((k h r l : ℝ) : EReal))
  (h2 : ∀ r h l, m ((c : Thread nD τ).loc main_arg2) (ix4 0 r h l) = ((v h r l : ℝ) : EReal))

include h0 in
theorem in_q (r : Fin 8192) (h : Fin 8) (l : Fin 128) : V m c main_v5 (ix2 r (col h l)) = ((fq (q h) scale r l : ℝ) : EReal) := by
  rw [host_q]
  refine fillHi_at _ (fun r h l => q h r l * scale) (fun r h l => ?_) r h l
  have e := (cast_head _ shapeCasts_S1x8192x8x96_S8192x8x96 r h l).trans (h0 r h l)
  generalize shapeCast S8192x8x96 (m ((c : Thread nD τ).loc main_arg0)) shapeCasts_S1x8192x8x96_S8192x8x96 = x at e
  pointwise [e]
  rw [word_scale, RealLift.mul]

include h1 in
theorem in_k (r : Fin 8192) (h : Fin 8) (l : Fin 128) : V m c main_v9 (ix2 r (col h l)) = ((fk (k h) r l : ℝ) : EReal) := by
  rw [host_k]
  exact fillHi_at _ (fun r h l => k h r l) (fun r h l => (cast_head _ _ r h l).trans (h1 r h l)) r h l

include h2 in
theorem in_v (r : Fin 8192) (h : Fin 8) (l : Fin 128) : V m c main_v13 (ix2 r (col h l)) = ((fv (v h) r l : ℝ) : EReal) := by
  rw [host_v]
  exact fillLo_at _ (fun r h l => v h r l) (fun r h l => (cast_head _ _ r h l).trans (h2 r h l)) r h l

end Cert.AttnFwd
-- ==== Proof.AttnBwdKernel.lean ====
/- The attention gradient's kernel over the real numbers: the blocks that a pair reads, what the pairs so far have summed, and the
arrays written. -/
module

public import proofs.«01_k».proof.Proof.AttnBwdSums
public import proofs.«01_k».proof.Proof.AttnBwdHost
public import Idealize.ShloMosaic.Lib.Pipeline.ValueKit.Geometry
public import Idealize.ShloMosaic.Lib.Pipeline.Covers

@[expose] public section

set_option maxRecDepth 16384

noncomputable section

namespace Cert.AttnBwd

open Idealize.ShloMosaic Idealize.ShloMosaic.TcCoe
open Idealize.SL.Sem
open Cert.Kernel14Ideal Cert.Kernel14Ideal.Gen Cert.RealLift Cert.Tiles

variable (m : (ℓ : Loc nD τ sig) → Buf (Elt Ideal) ℓ) (c : Dev nD)

/-- The head of a point. -/
abbrev hd (t : Fin (cfgM m).N) : Fin 8 := grid0.coords t 0

/-! ## The blocks -/

/-- An entry of a block in its array, from the block's index. -/
abbrev Placed (ix : Fin 2 → ℕ) (x : Fin 512) (l : Fin 128) (i : S8192x1024.Idx) : Prop :=
  ∀ a : Fin 2, ix a * ![512, 128] a + 1 * (ix2 x l a).val = (i a).val

theorem emb_query (a : (pcfg0 (F := Ideal)).Adm) (t : Fin (cfg0 a).N) (x : Fin 512) (l : Fin 128) (i : S8192x1024.Idx)
    (h : Placed (cc0_transform_0 k0_off1_inb numel1_S1 a.1 (grid0.coords t)) x l i) :
    (((cfg0 a).win 0).blk t).view.emb (ix2 x l) = i ∧ (((cfg0 a).win 3).blk t).view.emb (ix2 x l) = i
      ∧ (((cfg0 a).win 4).blk t).view.emb (ix2 x l) = i ∧ (((cfg0 a).win 5).blk t).view.emb (ix2 x l) = i :=
  have e : ∀ j : S8192x1024.Idx, (∀ a : Fin 2, (j a).val = (i a).val) → j = i := fun _ h => funext fun a => Fin.ext (h a)
  ⟨e _ fun | ⟨0, _⟩ => h 0 | ⟨1, _⟩ => h 1, e _ fun | ⟨0, _⟩ => h 0 | ⟨1, _⟩ => h 1,
    e _ fun | ⟨0, _⟩ => h 0 | ⟨1, _⟩ => h 1, e _ fun | ⟨0, _⟩ => h 0 | ⟨1, _⟩ => h 1⟩

theorem emb_key (a : (pcfg0 (F := Ideal)).Adm) (t : Fin (cfg0 a).N) (x : Fin 512) (l : Fin 128) (i : S8192x1024.Idx)
    (h : Placed (cc0_transform_1 k0_off1_inb numel1_S1 a.1 (grid0.coords t)) x l i) :
    (((cfg0 a).win 1).blk t).view.emb (ix2 x l) = i ∧ (((cfg0 a).win 2).blk t).view.emb (ix2 x l) = i
      ∧ (((cfg0 a).win 7).blk t).view.emb (ix2 x l) = i ∧ (((cfg0 a).win 8).blk t).view.emb (ix2 x l) = i :=
  have e : ∀ j : S8192x1024.Idx, (∀ a : Fin 2, (j a).val = (i a).val) → j = i := fun _ h => funext fun a => Fin.ext (h a)
  ⟨e _ fun | ⟨0, _⟩ => h 0 | ⟨1, _⟩ => h 1, e _ fun | ⟨0, _⟩ => h 0 | ⟨1, _⟩ => h 1,
    e _ fun | ⟨0, _⟩ => h 0 | ⟨1, _⟩ => h 1, e _ fun | ⟨0, _⟩ => h 0 | ⟨1, _⟩ => h 1⟩

theorem reads_query (a : (pcfg0 (F := Ideal)).Adm) (W : (b : Ref sig .tc) → Buf (Elt Ideal) ((c : Thread nD τ).loc b)) (t : Fin (cfg0 a).N)
    (x : Fin 512) (l : Fin 128) (i : S8192x1024.Idx) (h : Placed (cc0_transform_0 k0_off1_inb numel1_S1 a.1 (grid0.coords t)) x l i) :
    (((cfg0 a).win 0).blk t).view.read (Elt Ideal) (W (Pipeline.arrRef spec0 0)) (ix2 x l) = W main_v5 i
      ∧ (((cfg0 a).win 3).blk t).view.read (Elt Ideal) (W (Pipeline.arrRef spec0 3)) (ix2 x l) = W main_v52 i
      ∧ (((cfg0 a).win 4).blk t).view.read (Elt Ideal) (W (Pipeline.arrRef spec0 4)) (ix2 x l) = W main_v45 i
      ∧ (((cfg0 a).win 5).blk t).view.read (Elt Ideal) (W (Pipeline.arrRef spec0 5)) (ix2 x l) = W main_v51 i :=
  have e := emb_query a t x l i h
  ⟨congrArg (W main_v5) e.1, congrArg (W main_v52) e.2.1, congrArg (W main_v45) e.2.2.1, congrArg (W main_v51) e.2.2.2⟩

theorem reads_key (a : (pcfg0 (F := Ideal)).Adm) (W : (b : Ref sig .tc) → Buf (Elt Ideal) ((c : Thread nD τ).loc b)) (t : Fin (cfg0 a).N)
    (x : Fin 512) (l : Fin 128) (i : S8192x1024.Idx) (h : Placed (cc0_transform_1 k0_off1_inb numel1_S1 a.1 (grid0.coords t)) x l i) :
    (((cfg0 a).win 1).blk t).view.read (Elt Ideal) (W (Pipeline.arrRef spec0 1)) (ix2 x l) = W main_v9 i
      ∧ (((cfg0 a).win 2).blk t).view.read (Elt Ideal) (W (Pipeline.arrRef spec0 2)) (ix2 x l) = W main_v13 i :=
  have e := emb_key a t x l i h
  ⟨congrArg (W main_v9) e.1, congrArg (W main_v13) e.2.1⟩

/-- The keys' blocks are the pairs' and the heads'. -/
abbrev Keyed (a : (pcfg0 (F := Ideal)).Adm) : Prop :=
  ∀ i, cc0_transform_1 k0_off1_inb numel1_S1 a.1 i = ![kb (pair i), (i 0).val]

theorem placed_query (t : Fin (cfgM m).N) (x : Fin 512) (l : Fin 128) :
    Placed (cc0_transform_0 k0_off1_inb numel1_S1 (tbl m) (grid0.coords t)) x l (ix2 (rq (pt m t) x) (col (hd m t) l)) := by
  intro a
  rw [tr_query]
  match a with
  | ⟨0, _⟩ => show qb (pt m t) * 512 + 1 * x.val = 512 * qb (pt m t) + x.val; omega
  | ⟨1, _⟩ => show (grid0.coords t 0).val * 128 + 1 * l.val = (grid0.coords t 0).val * 128 + l.val; omega

theorem placed_key (a : (pcfg0 (F := Ideal)).Adm) (ha : Keyed a) (i : grid0.Coords) (x : Fin 512) (l : Fin 128) :
    Placed (cc0_transform_1 k0_off1_inb numel1_S1 a.1 i) x l (ix2 (rk (pair i) x) (col (i 0) l)) := by
  intro b
  rw [ha]
  match b with
  | ⟨0, _⟩ => show kb (pair i) * 512 + 1 * x.val = 512 * kb (pair i) + x.val; omega
  | ⟨1, _⟩ => show (i 0).val * 128 + 1 * l.val = (i 0).val * 128 + l.val; omega

theorem blk_query (t : Fin (cfgM m).N) (x : Fin 512) (l : Fin 128) :
    iblk m c 0 t (ix2 x l) = V m c main_v5 (ix2 (rq (pt m t) x) (col (hd m t) l))
      ∧ iblk m c 3 t (ix2 x l) = V m c main_v52 (ix2 (rq (pt m t) x) (col (hd m t) l))
      ∧ iblk m c 4 t (ix2 x l) = V m c main_v45 (ix2 (rq (pt m t) x) (col (hd m t) l))
      ∧ iblk m c 5 t (ix2 x l) = V m c main_v51 (ix2 (rq (pt m t) x) (col (hd m t) l)) :=
  reads_query c (adm m) (V m c) t x l _ (placed_query m t x l)

theorem blk_key (t : Fin (cfgM m).N) (x : Fin 512) (l : Fin 128) :
    iblk m c 1 t (ix2 x l) = V m c main_v9 (ix2 (rk (pt m t) x) (col (hd m t) l))
      ∧ iblk m c 2 t (ix2 x l) = V m c main_v13 (ix2 (rk (pt m t) x) (col (hd m t) l)) :=
  reads_key c (adm m) (V m c) t x l _ (placed_key (adm m) (tr_key m) _ x l)

/-! ## The arrays from the buffers written back -/

/-- An array of eight heads side by side. -/
def headsOf (f : Fin 8 → Fin 8192 → Fin 128 → ℝ) : FVec Ideal S8192x1024 .f32 := fun i =>
  ((f ⟨(i 1).val / 128, by have h : (i 1).val < 1024 := (i 1).isLt; omega⟩ (i 0) ⟨(i 1).val % 128, Nat.mod_lt _ (by norm_num)⟩ : ℝ) : EReal)

theorem headsOf_at (f : Fin 8 → Fin 8192 → Fin 128 → ℝ) (r : Fin 8192) (h : Fin 8) (l : Fin 128) :
    headsOf f (ix2 r (col h l)) = ((f h r l : ℝ) : EReal) := by
  have e : (col h l).val = h.val * 128 + l.val := rfl
  have e1 : (col h l).val / 128 = h.val := by omega
  have e2 : (col h l).val % 128 = l.val := by omega
  show ((f ⟨(col h l).val / 128, _⟩ r ⟨(col h l).val % 128, _⟩ : ℝ) : EReal) = _
  simp only [e1, e2]

theorem heads_ext (x : FVec Ideal S8192x1024 .f32) (f : Fin 8 → Fin 8192 → Fin 128 → ℝ)
    (h : ∀ r k l, x (ix2 r (col k l)) = ((f k r l : ℝ) : EReal)) : x = headsOf f := by
  funext i
  have e : i = ix2 (i 0) (col ⟨(i 1).val / 128, by have h : (i 1).val < 1024 := (i 1).isLt; omega⟩ ⟨(i 1).val % 128, Nat.mod_lt _ (by norm_num)⟩) := by
    refine funext fun a => Fin.ext ?_
    match a with
    | ⟨0, _⟩ => rfl
    | ⟨1, _⟩ => exact (Nat.div_add_mod' (i 1).val 128).symm
  exact (congrArg x e).trans (h (i 0) _ _)

theorem kb_onto : ∀ J : Fin 16, ∃ p : Fin 136, kb p = J.val := by decide +kernel

/-- A point, by its head and its pair. -/
abbrev coord (h : Fin 8) (p : Fin 136) : grid0.Coords := fun | 0 => h | 1 => p

theorem covers_query (a : (pcfg0 (F := Ideal)).Adm) : ((cfg0 a).win 6).Covers :=
  Pipeline.Window.covers_of_indexMap_surj _ rfl (show ∀ x : Fin 2, 0 < S8192x128.size x by decide) fun β =>
    have b0 : (β (0 : Fin 2)).val < 1 := lt_of_lt_of_eq (β (0 : Fin 2)).isLt (show (8192 + 8192 - 1) / 8192 = 1 by decide)
    have b1 : (β (1 : Fin 2)).val < 8 := lt_of_lt_of_eq (β (1 : Fin 2)).isLt (show (1024 + 128 - 1) / 128 = 8 by decide)
    ⟨coord ⟨_, b1⟩ 0, fun
      | ⟨0, _⟩ => (Nat.lt_one_iff.mp b0).symm
      | ⟨1, _⟩ => (BitVec.toNat_ofNat ..).trans (Nat.mod_eq_of_lt (lt_trans b1 (by decide)))⟩

theorem covers_key (a : (pcfg0 (F := Ideal)).Adm) (ha : Keyed a) : ((cfg0 a).win 7).Covers ∧ ((cfg0 a).win 8).Covers := by
  have size : ∀ x : Fin 2, 0 < S512x128.size x := by decide
  have key : ∀ J h : ℕ, J < (8192 + 512 - 1) / 512 → h < (1024 + 128 - 1) / 128 →
      ∃ i, cc0_transform_1 k0_off1_inb numel1_S1 a.1 i 0 = J ∧ cc0_transform_1 k0_off1_inb numel1_S1 a.1 i 1 = h := fun J h hJ hh => by
    obtain ⟨p, hp⟩ := kb_onto ⟨J, lt_of_lt_of_eq hJ (by decide)⟩
    refine ⟨coord ⟨h, lt_of_lt_of_eq hh (by decide)⟩ p, (congrFun (ha _) 0).trans hp, congrFun (ha _) 1⟩
  constructor
  · refine Pipeline.Window.covers_of_indexMap_surj _ rfl size fun β => ?_
    obtain ⟨i, i0, i1⟩ := key _ _ (β (0 : Fin 2)).isLt (β (1 : Fin 2)).isLt
    exact ⟨i, fun | ⟨0, _⟩ => i0 | ⟨1, _⟩ => i1⟩
  · refine Pipeline.Window.covers_of_indexMap_surj _ rfl size fun β => ?_
    obtain ⟨i, i0, i1⟩ := key _ _ (β (0 : Fin 2)).isLt (β (1 : Fin 2)).isLt
    exact ⟨i, fun | ⟨0, _⟩ => i0 | ⟨1, _⟩ => i1⟩

theorem pair_val (t : Fin grid0.N) : (pair (grid0.coords t)).val = t.val % 136 := by
  have e : (grid0.coords t 1).val = t.val / 1 % 136 := Pipeline.Grid.coords_val (G := grid0) t 1 (by decide) rfl
  rw [Nat.div_one] at e; exact e

theorem flush_query (a : (pcfg0 (F := Ideal)).Adm) (t : Fin (cfg0 a).N) (hf : ((cfg0 a).win 6).flush t = true) : (pair (grid0.coords t)).val = 135 :=
  (pair_val t).trans ((Pipeline.Window.flushOf_reads cc0_transform_6 reads0_6 hreads0_6 0 (by decide) (by decide)
    (Pipeline.Window.sep_of_coord cc0_transform_6 0 1 (fun _ => rfl) (by decide)) (P := 136) (m := 135) (by decide) rfl t).mp hf)

theorem next_key (a : (pcfg0 (F := Ideal)).Adm) (ha : Keyed a) (t : Fin grid0.N) (h : qb (pair (grid0.coords t)) ≠ 15) :
    Pipeline.Window.flushOf grid0 true (cc0_transform_1 k0_off1_inb numel1_S1 a.1) t = false := by
  obtain ⟨hp, e⟩ := order_next _ h
  have hN : grid0.N = 1088 := N_0
  have hv := pair_val t
  have ht := t.isLt
  have hlt : t.val + 1 < grid0.N := by omega
  have h0 : ∀ t : Fin grid0.N, (grid0.coords t 0).val = t.val / 136 % 8 := fun t => Pipeline.Grid.coords_val (G := grid0) t 0 (by decide) rfl
  refine flush_same _ t hlt ?_
  rw [ha, ha]
  have e1 : pair (grid0.coords ⟨t.val + 1, hlt⟩) = ⟨(pair (grid0.coords t)).val + 1, hp⟩ := Fin.ext (by
    rw [pair_val]
    show (t.val + 1) % 136 = (pair (grid0.coords t)).val + 1
    omega)
  have e2 : (grid0.coords ⟨t.val + 1, hlt⟩ 0).val = (grid0.coords t 0).val := by
    rw [h0, h0]
    show (t.val + 1) / 136 % 8 = t.val / 136 % 8
    omega
  rw [e1, e, e2]

theorem flush_last (a : (pcfg0 (F := Ideal)).Adm) (ha : Keyed a) (t : Fin (cfg0 a).N)
    (hf : ((cfg0 a).win 7).flush t = true ∨ ((cfg0 a).win 8).flush t = true) : qb (pair (grid0.coords t)) = 15 := by
  by_contra h
  have e := flush_key a t (next_key a ha t h)
  rcases hf with hf | hf
  · exact Bool.noConfusion (e.1.symm.trans hf)
  · exact Bool.noConfusion (e.2.symm.trans hf)

variable (a : (pcfg0 (F := Ideal)).Adm) (D : Pipeline.Dat τ (Elt Ideal) Unit ℕ (UR sig nD τ) ℕ (cfg0 a) c)
  (f : Fin 8 → Fin 8192 → Fin 128 → ℝ)

theorem pair_idx {n b : ℕ} (y : (⟨2, ![n, b]⟩ : Shape).Idx) : ∃ (r : Fin n) (l : Fin b), y = ix2 r l :=
  ⟨y 0, y 1, funext fun | ⟨0, _⟩ => rfl | ⟨1, _⟩ => rfl⟩

theorem emb_rows (t : Fin (cfg0 a).N) (r : Fin 8192) (l : Fin 128) :
    (((cfg0 a).win 6).blk t).view.emb (ix2 r l) = (ix2 r (col (grid0.coords t 0) l) : S8192x1024.Idx) := by
  have h : (BitVec.ofNat 32 (grid0.coords t 0).val).toNat = (grid0.coords t 0).val :=
    (BitVec.toNat_ofNat ..).trans (Nat.mod_eq_of_lt ((grid0.coords t 0).isLt.trans (by decide)))
  have e : ∀ x : Fin 2, cc0_transform_6 (grid0.coords t) x * ![8192, 128] x + 1 * (ix2 r l x).val
      = ((ix2 r (col (grid0.coords t 0) l) : S8192x1024.Idx) x).val := fun
    | ⟨0, _⟩ => (congrArg₂ (· + ·) (Nat.zero_mul _) (Nat.one_mul r.val)).trans (Nat.zero_add _)
    | ⟨1, _⟩ => congrArg₂ (fun a b => a * 128 + b) h (Nat.one_mul l.val)
  exact funext fun x => Fin.ext (match x with | ⟨0, _⟩ => e 0 | ⟨1, _⟩ => e 1)

theorem array_query (hD : ∀ t, (pair (grid0.coords t)).val = 135 → ∀ (r : Fin 8192) (l : Fin 128), D.after 6 t (ix2 r l) = ((f (grid0.coords t 0) r l : ℝ) : EReal)) :
    D.arrAt 6 (cfg0 a).N = headsOf f := by
  refine D.arrAt_eq_of_covers 6 _ (covers_query a) fun t hf (y : S8192x128.Idx) => ?_
  obtain ⟨r, l, rfl⟩ := pair_idx y
  exact (hD t (flush_query a t hf) r l).trans ((congrArg (headsOf f) (emb_rows a t r l)).trans (headsOf_at f _ _ _)).symm

theorem array_keys (ha : Keyed a) (hD : ∀ t, qb (pair (grid0.coords t)) = 15 → ∀ (b : Fin 512) (l : Fin 128),
    D.after 7 t (ix2 b l) = ((f (grid0.coords t 0) (rk (pair (grid0.coords t)) b) l : ℝ) : EReal)) :
    D.arrAt 7 (cfg0 a).N = headsOf f := by
  refine D.arrAt_eq_of_covers 7 _ (covers_key a ha).1 fun t hf (y : S512x128.Idx) => ?_
  obtain ⟨b, l, rfl⟩ := pair_idx y
  exact (hD t (flush_last a ha t (.inl hf)) b l).trans
    ((congrArg (headsOf f) (emb_key a t b l _ (placed_key a ha _ b l)).2.2.1).trans (headsOf_at f _ _ _)).symm

theorem array_values (ha : Keyed a) (hD : ∀ t, qb (pair (grid0.coords t)) = 15 → ∀ (b : Fin 512) (l : Fin 128),
    D.after 8 t (ix2 b l) = ((f (grid0.coords t 0) (rk (pair (grid0.coords t)) b) l : ℝ) : EReal)) :
    D.arrAt 8 (cfg0 a).N = headsOf f := by
  refine D.arrAt_eq_of_covers 8 _ (covers_key a ha).2 fun t hf (y : S512x128.Idx) => ?_
  obtain ⟨b, l, rfl⟩ := pair_idx y
  exact (hD t (flush_last a ha t (.inr hf)) b l).trans
    ((congrArg (headsOf f) (emb_key a t b l _ (placed_key a ha _ b l)).2.2.2).trans (headsOf_at f _ _ _)).symm

/-! ## What has been summed after each point -/

variable (q k : Fin 8 → Fin 8192 → Fin 96 → ℝ) (v o : Fin 8 → Fin 8192 → Fin 64 → ℝ)
  (h0 : ∀ r h l, m ((c : Thread nD τ).loc main_arg0) (ix4 0 r h l) = ((q h r l : ℝ) : EReal))
  (h1 : ∀ r h l, m ((c : Thread nD τ).loc main_arg1) (ix4 0 r h l) = ((k h r l : ℝ) : EReal))
  (h2 : ∀ r h l, m ((c : Thread nD τ).loc main_arg2) (ix4 0 r h l) = ((v h r l : ℝ) : EReal))
  (h3 : ∀ r h l, m ((c : Thread nD τ).loc main_arg3) (ix4 0 r h l) = ((o h r l : ℝ) : EReal))

/-- What a head's buffers hold after pair `p`. -/
abbrev HeadSummed (p : Fin 136) (h : Fin 8) : State Ideal → Prop :=
  Summed p (fq (q h) scale) (fk (k h)) (fv (v h)) (fv (o h)) (fun i => Real.log (tot (q h) (k h) scale i)) (del (q h) (k h) (v h) (o h) scale)

include h0 h1 h2 h3 in
theorem summed_at (t : Fin (cfgM m).N) (s : State Ideal) (hs : (pt m t).val ≠ 0 → HeadSummed q k v o (before (pt m t)) (hd m t) s) :
    HeadSummed q k v o (pt m t) (hd m t) (stepAt m c t s) :=
  summed_step (pt m t) _ _ _ _ _ _ (iblk m c 0 t) (iblk m c 1 t) (iblk m c 2 t) (iblk m c 3 t) (iblk m c 4 t) (iblk m c 5 t) s
    (fun a l => (blk_query m c t a l).1.trans (in_q m c q h0 _ _ _))
    (fun a l => (blk_key m c t a l).1.trans (in_k m c k h1 _ _ _))
    (fun a l => (blk_key m c t a l).2.trans (in_v m c v h2 _ _ _))
    (fun a l => (blk_query m c t a l).2.1.trans (in_o m c o h3 _ _ _))
    (fun a l => (blk_query m c t a l).2.2.1.trans (in_lse m c q k h0 h1 _ _ _))
    (fun a l => (blk_query m c t a l).2.2.2.trans (in_del m c q k v o h0 h1 h2 h3 _ _ _)) hs

theorem pt_prev (t : Fin (cfgM m).N) (h : (pt m t).val ≠ 0) : pt m (prev m t) = before (pt m t) := Fin.ext (by
  show (pt m (prev m t)).val = (pt m t).val - 1
  rw [pt_val] at h
  rw [pt_val, pt_val]
  show (t.val - 1) % 136 = t.val % 136 - 1
  omega)

include h0 h1 h2 h3 in
theorem summed_after (n : ℕ) : ∀ hn : n < (cfgM m).N, HeadSummed q k v o (pt m ⟨n, hn⟩) (hd m ⟨n, hn⟩) (stateAt m c ⟨n, hn⟩) := by
  induction n with
  | zero => exact fun hn => summed_at m c q k v o h0 h1 h2 h3 ⟨0, hn⟩ _ fun hp => absurd rfl (pos_of m ⟨0, hn⟩ hp)
  | succ n ih =>
    intro hn
    rw [state_succ m c ⟨n + 1, hn⟩ (Nat.succ_ne_zero n)]
    refine summed_at m c q k v o h0 h1 h2 h3 ⟨n + 1, hn⟩ _ fun hp => ?_
    rw [← pt_prev m ⟨n + 1, hn⟩ hp, show hd m ⟨n + 1, hn⟩ = hd m (prev m ⟨n + 1, hn⟩) from (head_prev m _ hp).symm]
    exact ih (Nat.lt_of_succ_lt hn)

include h0 h1 h2 h3 in
/-- The first result: the queries' cotangents, filled up. -/
theorem out_dq : (dat m c).arrAt 6 (cfgM m).N = headsOf fun h r => padHi (dq (q h) (k h) (v h) (o h) scale r) :=
  array_query c (adm m) (dat m c) _ fun t ht r l => by
    refine (congrFun (after_6 m c t) _).trans (((summed_after m c q k v o h0 h1 h2 h3 t.val t.isLt).1 r l).trans (congrArg _ ?_))
    refine (met_last (pt m t) ht r _).trans ?_
    simp only [kds_eq]
    exact padHi_sum _ _ _ l

include h0 h1 h2 h3 in
/-- The second: the keys'. -/
theorem out_dk : (dat m c).arrAt 7 (cfgM m).N = headsOf fun h r => padHi (dk (q h) (k h) (v h) (o h) scale r) :=
  array_keys c (adm m) (dat m c) _ (tr_key m) fun t ht b l => by
    refine (congrFun (after_7 m c t) _).trans (((summed_after m c q k v o h0 h1 h2 h3 t.val t.isLt).2.1 b l).trans (congrArg _ ?_))
    refine (metBy_last (pt m t) ht b _ fun i hi => by rw [kds_hidden _ _ _ _ _ _ _ _ hi, zero_mul]).trans ?_
    simp only [kds_eq]
    exact padHi_sum _ _ _ l

include h0 h1 h2 h3 in
/-- The third: the values'. -/
theorem out_dv : (dat m c).arrAt 8 (cfgM m).N = headsOf fun h r => padLo (dv (q h) (k h) (o h) scale r) :=
  array_values c (adm m) (dat m c) _ (tr_key m) fun t ht b l => by
    refine (congrFun (after_8 m c t) _).trans (((summed_after m c q k v o h0 h1 h2 h3 t.val t.isLt).2.2 b l).trans (congrArg _ ?_))
    refine (metBy_last (pt m t) ht b _ fun i hi => by rw [kp_hidden _ _ _ _ _ hi, zero_mul]).trans ?_
    simp only [kp_eq]
    exact padLo_sum _ _ _ l

end Cert.AttnBwd
-- ==== Proof.AttnFwdRef.lean ====
/- The chunked attention as its host lines, read at an index: the output and every row's logarithm of the sum of exponentials, one
head after another. -/
module

public import proofs.«01_k».proof.Proof.AttnBwdKernel
public import proofs.«01_k».proof.Proof.Gen.Reference13Ideal.Run
public import proofs.«01_k».proof.Proof.Gen.Reference13Ideal.Read

@[expose] public section

set_option maxRecDepth 16384

noncomputable section

namespace Cert.AttnFwd

open Idealize.ShloMosaic Idealize.ShloMosaic.TcCoe Idealize.SL.Sem Idealize.ShloMosaic.StableHlo
open Cert.Reference13Ideal Cert.Reference13Ideal.Gen Cert.Reference13Ideal.Read Cert.RealLift
open Cert.AttnBwd (Vis sc wt tot pr padLo tot_pos pr_shift wt_shift tot_shift shift_ne exp_visible scale ref_sc lseLanes lse_real
  headsOf heads_ext cast_col cast_head zerosLo_at)

variable (x0 x1 : (⟨S1x8192x8x96, .f32⟩ : BufTy).Contents (Elt Ideal)) (x2 : (⟨S1x8192x8x64, .f32⟩ : BufTy).Contents (Elt Ideal))

theorem scores_eq : val_main_v11 (F := Ideal) x0 x1 = Cert.Reference14Ideal.Read.val_main_v11_0 (F := Ideal) x0 x1 := rfl
theorem lse_eq : val_main_v52 (F := Ideal) x0 x1 = lseLanes (Cert.Reference14Ideal.Read.val_main_v11_0 (F := Ideal) x0 x1) := rfl

variable (q k : Fin 8 → Fin 8192 → Fin 96 → ℝ) (v : Fin 8 → Fin 8192 → Fin 64 → ℝ)
  (h0 : ∀ r h l, x0 (ix4 0 r h l) = ((q h r l : ℝ) : EReal)) (h1 : ∀ r h l, x1 (ix4 0 r h l) = ((k h r l : ℝ) : EReal))
  (h2 : ∀ r h l, x2 (ix4 0 r h l) = ((v h r l : ℝ) : EReal))

include h0 h1 in
/-- The masked scores. -/
theorem scores_real (h : Fin 8) (i j : Fin 8192) :
    val_main_v11 (F := Ideal) x0 x1 (ix4 0 h i j) = if Vis i j then ((sc (q h) (k h) scale i j : ℝ) : EReal) else (⊥ : EReal) :=
  (congrFun (scores_eq x0 x1) _).trans (ref_sc x0 x1 q k h0 h1 h i j)

include h0 h1 in
/-- A row's maximum is a real number. -/
theorem max_real (h : Fin 8) (i : Fin 8192) : ∃ M : ℝ, val_main_v14 (F := Ideal) x0 x1 (ix3 0 h i) = ((M : ℝ) : EReal) := by
  obtain ⟨M, hM⟩ := Softmax.reduce_max_visible (val_main_v11 (F := Ideal) x0 x1) (val_main_cst_1 (F := Ideal))
    reducesTo_S1x8x8192x8192_S1x8x8192_d3 h_S_ word_neg_inf
    0 h i (fun j => by rw [scores_real x0 x1 q k h0 h1]; split; exact EReal.coe_ne_top _; exact bot_ne_top) i
    (by rw [scores_real x0 x1 q k h0 h1, if_pos (le_refl _)]; exact EReal.coe_ne_bot _)
  have e12 : val_main_v12 (F := Ideal) x0 x1 (ix3 0 h i) = ((M : ℝ) : EReal) := hM
  have e13 : val_main_v13 (F := Ideal) (ix3 0 h i) = (⊥ : EReal) := by
    rw [val_main_v13_apply]; exact word_neg_inf
  refine ⟨M, ?_⟩
  rw [val_main_v14_apply, e12, e13]
  exact max_eq_right bot_le

section Shift

variable (h : Fin 8) (i : Fin 8192) (M : ℝ) (hM : val_main_v14 (F := Ideal) x0 x1 (ix3 0 h i) = ((M : ℝ) : EReal))

include h0 h1 hM

theorem exp_real (j : Fin 8192) :
    val_main_v18 (F := Ideal) x0 x1 (ix4 0 h i j) = ((wt (q h) (k h) scale i j * Real.exp (-M) : ℝ) : EReal) := by
  pointwise [val_main_v18, val_main_v17, val_main_v16, val_main_v15, hM, scores_real x0 x1 q k h0 h1]
  rw [← wt_shift]
  exact exp_visible (Vis i j) _ M

theorem total_real : val_main_v19 (F := Ideal) x0 x1 (ix3 0 h i) = ((tot (q h) (k h) scale i * Real.exp (-M) : ℝ) : EReal) := by
  pointwise [val_main_v19, val_main_cst_3, exp_real x0 x1 q k h0 h1 h i M hM]
  rw [RealLift.sum, tot_shift]

end Shift

include h0 h1 in
theorem pr_real (h : Fin 8) (i j : Fin 8192) :
    val_main_v22 (F := Ideal) x0 x1 (ix4 0 h i j) = ((pr (q h) (k h) scale i j : ℝ) : EReal) := by
  obtain ⟨M, hM⟩ := max_real x0 x1 q k h0 h1 h i
  pointwise [val_main_v22, val_main_v21, val_main_v20, exp_real x0 x1 q k h0 h1 h i M hM, total_real x0 x1 q k h0 h1 h i M hM]
  rw [RealLift.div _ (shift_ne q k h i M), pr_shift]

/-- The output of a row. -/
def out (q k : Fin 8192 → Fin 96 → ℝ) (v : Fin 8192 → Fin 64 → ℝ) (r : Fin 8192) (l : Fin 64) : ℝ := ∑ j, pr q k scale r j * v j l

include h0 h1 h2 in
theorem out_real (r : Fin 8192) (h : Fin 8) (l : Fin 64) :
    val_main_v24 (F := Ideal) x0 x1 x2 (ix4 0 r h l) = ((out (q h) (k h) (v h) r l : ℝ) : EReal) := by
  pointwise [val_main_v24, val_main_v23, pr_real x0 x1 q k h0 h1, h2]
  simp only [RealLift.mul, RealLift.sum]
  exact congrArg _ (Finset.sum_congr rfl fun i _ => mul_comm _ _)

include h0 h1 h2 in
theorem result_out : val_main_v27 (F := Ideal) x0 x1 x2 = headsOf fun h r => padLo (out (q h) (k h) (v h) r) :=
  heads_ext _ _ fun r h l => (cast_col _ r h l).trans (zerosLo_at (val_main_v25 (F := Ideal) x0 x1 x2)
    (fun r h l => out (q h) (k h) (v h) r l) (fun r h l =>
      (cast_head (val_main_v24 (F := Ideal) x0 x1 x2) shapeCasts_S1x8192x8x64_S8192x8x64 r h l).trans
        (out_real x0 x1 x2 q k v h0 h1 h2 r h l)) r h l)

theorem result_copy : val_main_v53 (F := Ideal) x0 x1 x2 = val_main_v27 (F := Ideal) x0 x1 x2 := rfl

include h0 h1 in
theorem result_lse : val_main_v52 (F := Ideal) x0 x1 = headsOf fun h r _ => Real.log (tot (q h) (k h) scale r) := by
  rw [lse_eq]
  exact heads_ext _ _ fun r h l => lse_real _ q k (ref_sc x0 x1 q k h0 h1) r h l

end Cert.AttnFwd
-- ==== Proof.AttnFwdKernel.lean ====
/- The attention forward's kernel over the real numbers: the blocks that a pair reads, what the pairs so far have met, and the arrays
written. -/
module

public import proofs.«01_k».proof.Proof.AttnFwdTile
public import proofs.«01_k».proof.Proof.AttnFwdHost
public import proofs.«01_k».proof.Proof.AttnFwdRef
public import Idealize.ShloMosaic.Lib.Pipeline.ValueKit.Geometry
public import Idealize.ShloMosaic.Lib.Pipeline.Covers

@[expose] public section

set_option maxRecDepth 16384

noncomputable section

namespace Cert.AttnFwd

open Idealize.ShloMosaic Idealize.ShloMosaic.TcCoe
open Idealize.SL.Sem
open Cert.Kernel13Ideal Cert.Kernel13Ideal.Gen Cert.RealLift
open Cert.AttnBwd (Vis col headsOf headsOf_at pair_idx Placed fq fk fv wt tot pr padLo padLo_sum tot_pos scale)

variable (m : (ℓ : Loc nD τ sig) → Buf (Elt Ideal) ℓ) (c : Dev nD)

/-- The head of a point. -/
abbrev hd (t : Fin (cfgM m).N) : Fin 8 := grid0.coords t 0

/-! ## The blocks -/

theorem emb_query (a : (pcfg0 (F := Ideal)).Adm) (t : Fin (cfg0 a).N) (x : Fin 512) (l : Fin 128) (i : S8192x1024.Idx)
    (h : Placed (cc0_transform_0 k0_off1_inb numel1_S1 a.1 (grid0.coords t)) x l i) :
    ((((cfg0 a).win 0).blk t).view.emb (ix2 x l) = i ∧ (((cfg0 a).win 3).blk t).view.emb (ix2 x l) = i)
      ∧ (((cfg0 a).win 4).blk t).view.emb (ix2 x l) = i ∧ (((cfg0 a).win 5).blk t).view.emb (ix2 x l) = i :=
  have e : ∀ j : S8192x1024.Idx, (∀ a : Fin 2, (j a).val = (i a).val) → j = i := fun _ h => funext fun a => Fin.ext (h a)
  ⟨⟨e _ fun | ⟨0, _⟩ => h 0 | ⟨1, _⟩ => h 1, e _ fun | ⟨0, _⟩ => h 0 | ⟨1, _⟩ => h 1⟩,
    e _ fun | ⟨0, _⟩ => h 0 | ⟨1, _⟩ => h 1, e _ fun | ⟨0, _⟩ => h 0 | ⟨1, _⟩ => h 1⟩

theorem emb_key (a : (pcfg0 (F := Ideal)).Adm) (t : Fin (cfg0 a).N) (x : Fin 512) (l : Fin 128) (i : S8192x1024.Idx)
    (h : Placed (cc0_transform_1 k0_off1_inb numel1_S1 a.1 (grid0.coords t)) x l i) :
    (((cfg0 a).win 1).blk t).view.emb (ix2 x l) = i ∧ (((cfg0 a).win 2).blk t).view.emb (ix2 x l) = i :=
  have e : ∀ j : S8192x1024.Idx, (∀ a : Fin 2, (j a).val = (i a).val) → j = i := fun _ h => funext fun a => Fin.ext (h a)
  ⟨e _ fun | ⟨0, _⟩ => h 0 | ⟨1, _⟩ => h 1, e _ fun | ⟨0, _⟩ => h 0 | ⟨1, _⟩ => h 1⟩

theorem reads_query (a : (pcfg0 (F := Ideal)).Adm) (W : (b : Ref sig .tc) → Buf (Elt Ideal) ((c : Thread nD τ).loc b)) (t : Fin (cfg0 a).N)
    (x : Fin 512) (l : Fin 128) (i : S8192x1024.Idx) (h : Placed (cc0_transform_0 k0_off1_inb numel1_S1 a.1 (grid0.coords t)) x l i) :
    (((cfg0 a).win 0).blk t).view.read (Elt Ideal) (W (Pipeline.arrRef spec0 0)) (ix2 x l) = W main_v5 i :=
  congrArg (W main_v5) (emb_query a t x l i h).1.1

theorem reads_key (a : (pcfg0 (F := Ideal)).Adm) (W : (b : Ref sig .tc) → Buf (Elt Ideal) ((c : Thread nD τ).loc b)) (t : Fin (cfg0 a).N)
    (x : Fin 512) (l : Fin 128) (i : S8192x1024.Idx) (h : Placed (cc0_transform_1 k0_off1_inb numel1_S1 a.1 (grid0.coords t)) x l i) :
    (((cfg0 a).win 1).blk t).view.read (Elt Ideal) (W (Pipeline.arrRef spec0 1)) (ix2 x l) = W main_v9 i
      ∧ (((cfg0 a).win 2).blk t).view.read (Elt Ideal) (W (Pipeline.arrRef spec0 2)) (ix2 x l) = W main_v13 i :=
  have e := emb_key a t x l i h
  ⟨congrArg (W main_v9) e.1, congrArg (W main_v13) e.2⟩

/-- The queries' blocks are the pairs' and the heads'. -/
abbrev Asked (a : (pcfg0 (F := Ideal)).Adm) : Prop :=
  ∀ i, cc0_transform_0 k0_off1_inb numel1_S1 a.1 i = ![qb (pair i), (i 0).val]

theorem placed {ix : Fin 2 → ℕ} {n h : ℕ} (e : ix = ![n, h]) (x : Fin 512) (l : Fin 128) (r : Fin 8192) (hh : Fin 8)
    (hr : r.val = 512 * n + x.val) (hhh : hh.val = h) : Placed ix x l (ix2 r (col hh l)) := by
  subst e
  intro a
  match a with
  | ⟨0, _⟩ => show n * 512 + 1 * x.val = r.val; omega
  | ⟨1, _⟩ => show h * 128 + 1 * l.val = hh.val * 128 + l.val; omega

theorem placed_query (a : (pcfg0 (F := Ideal)).Adm) (ha : Asked a) (i : grid0.Coords) (x : Fin 512) (l : Fin 128) :
    Placed (cc0_transform_0 k0_off1_inb numel1_S1 a.1 i) x l (ix2 (rq (pair i) x) (col (i 0) l)) :=
  placed (ha i) x l _ _ rfl rfl

theorem blk_query (t : Fin (cfgM m).N) (x : Fin 512) (l : Fin 128) :
    iblk m c 0 t (ix2 x l) = V m c main_v5 (ix2 (rq (pt m t) x) (col (hd m t) l)) :=
  reads_query c (adm m) (V m c) t x l _ (placed_query (adm m) (tr_query m) _ x l)

theorem blk_key (t : Fin (cfgM m).N) (x : Fin 512) (l : Fin 128) :
    iblk m c 1 t (ix2 x l) = V m c main_v9 (ix2 (rk (pt m t) x) (col (hd m t) l))
      ∧ iblk m c 2 t (ix2 x l) = V m c main_v13 (ix2 (rk (pt m t) x) (col (hd m t) l)) :=
  reads_key c (adm m) (V m c) t x l _ (placed (tr_key m (grid0.coords t)) x l (rk (pt m t) x) (hd m t) rfl rfl)

/-! ## The arrays from the buffers written back -/

theorem qb_onto : ∀ J : Fin 16, ∃ p : Fin 136, qb p = J.val := by decide +kernel

/-- A point, by its head and its pair. -/
abbrev coord (h : Fin 8) (p : Fin 136) : grid0.Coords := fun | 0 => h | 1 => p

theorem covers_outs (a : (pcfg0 (F := Ideal)).Adm) (ha : Asked a) :
    ((cfg0 a).win 3).Covers ∧ ((cfg0 a).win 4).Covers ∧ ((cfg0 a).win 5).Covers := by
  have size : ∀ x : Fin 2, 0 < S512x128.size x := by decide
  have key : ∀ J h : ℕ, J < (8192 + 512 - 1) / 512 → h < (1024 + 128 - 1) / 128 →
      ∃ i, cc0_transform_0 k0_off1_inb numel1_S1 a.1 i 0 = J ∧ cc0_transform_0 k0_off1_inb numel1_S1 a.1 i 1 = h := fun J h hJ hh => by
    obtain ⟨p, hp⟩ := qb_onto ⟨J, lt_of_lt_of_eq hJ (by decide)⟩
    refine ⟨coord ⟨h, lt_of_lt_of_eq hh (by decide)⟩ p, (congrFun (ha _) 0).trans hp, congrFun (ha _) 1⟩
  refine ⟨?_, ?_, ?_⟩
  all_goals
    refine Pipeline.Window.covers_of_indexMap_surj _ rfl size fun β => ?_
    obtain ⟨i, i0, i1⟩ := key _ _ (β (0 : Fin 2)).isLt (β (1 : Fin 2)).isLt
    exact ⟨i, fun | ⟨0, _⟩ => i0 | ⟨1, _⟩ => i1⟩

/-- Where the results are written back, on the diagonal. -/
abbrev Flushed (a : (pcfg0 (F := Ideal)).Adm) : Prop :=
  ∀ t : Fin (cfg0 a).N, kb (pair (grid0.coords t)) ≠ qb (pair (grid0.coords t)) →
    (pcfg0.win a 3).flush t = false ∧ (pcfg0.win a 4).flush t = false ∧ (pcfg0.win a 5).flush t = false

section Arrays

variable (a : (pcfg0 (F := Ideal)).Adm) (D : Pipeline.Dat τ (Elt Ideal) Unit ℕ (UR sig nD τ) ℕ (cfg0 a) c)
  (f : Fin 8 → Fin 8192 → Fin 128 → ℝ) (ha : Asked a) (hf : Flushed a)

include ha hf

theorem array_out (hD : ∀ t, kb (pair (grid0.coords t)) = qb (pair (grid0.coords t)) → ∀ (x : Fin 512) (l : Fin 128),
    D.after 3 t (ix2 x l) = ((f (grid0.coords t 0) (rq (pair (grid0.coords t)) x) l : ℝ) : EReal)) :
    D.arrAt 3 (cfg0 a).N = headsOf f := by
  refine D.arrAt_eq_of_covers 3 _ (covers_outs a ha).1 fun t hw (y : S512x128.Idx) => ?_
  obtain ⟨x, l, rfl⟩ := pair_idx y
  have hd : kb (pair (grid0.coords t)) = qb (pair (grid0.coords t)) := by
    by_contra h; exact Bool.noConfusion ((hf t h).1.symm.trans hw)
  exact (hD t hd x l).trans
    ((congrArg (headsOf f) (emb_query a t x l _ (placed_query a ha _ x l)).1.2).trans (headsOf_at f _ _ _)).symm

theorem array_copy (hD : ∀ t, kb (pair (grid0.coords t)) = qb (pair (grid0.coords t)) → ∀ (x : Fin 512) (l : Fin 128),
    D.after 4 t (ix2 x l) = ((f (grid0.coords t 0) (rq (pair (grid0.coords t)) x) l : ℝ) : EReal)) :
    D.arrAt 4 (cfg0 a).N = headsOf f := by
  refine D.arrAt_eq_of_covers 4 _ (covers_outs a ha).2.1 fun t hw (y : S512x128.Idx) => ?_
  obtain ⟨x, l, rfl⟩ := pair_idx y
  have hd : kb (pair (grid0.coords t)) = qb (pair (grid0.coords t)) := by
    by_contra h; exact Bool.noConfusion ((hf t h).2.1.symm.trans hw)
  exact (hD t hd x l).trans
    ((congrArg (headsOf f) (emb_query a t x l _ (placed_query a ha _ x l)).2.1).trans (headsOf_at f _ _ _)).symm

theorem array_log (hD : ∀ t, kb (pair (grid0.coords t)) = qb (pair (grid0.coords t)) → ∀ (x : Fin 512) (l : Fin 128),
    D.after 5 t (ix2 x l) = ((f (grid0.coords t 0) (rq (pair (grid0.coords t)) x) l : ℝ) : EReal)) :
    D.arrAt 5 (cfg0 a).N = headsOf f := by
  refine D.arrAt_eq_of_covers 5 _ (covers_outs a ha).2.2 fun t hw (y : S512x128.Idx) => ?_
  obtain ⟨x, l, rfl⟩ := pair_idx y
  have hd : kb (pair (grid0.coords t)) = qb (pair (grid0.coords t)) := by
    by_contra h; exact Bool.noConfusion ((hf t h).2.2.symm.trans hw)
  exact (hD t hd x l).trans
    ((congrArg (headsOf f) (emb_query a t x l _ (placed_query a ha _ x l)).2.2).trans (headsOf_at f _ _ _)).symm

end Arrays

/-! ## What has been met after each point -/

variable (q k : Fin 8 → Fin 8192 → Fin 96 → ℝ) (v : Fin 8 → Fin 8192 → Fin 64 → ℝ)
  (h0 : ∀ r h l, m ((c : Thread nD τ).loc main_arg0) (ix4 0 r h l) = ((q h r l : ℝ) : EReal))
  (h1 : ∀ r h l, m ((c : Thread nD τ).loc main_arg1) (ix4 0 r h l) = ((k h r l : ℝ) : EReal))
  (h2 : ∀ r h l, m ((c : Thread nD τ).loc main_arg2) (ix4 0 r h l) = ((v h r l : ℝ) : EReal))

/-- What a head's buffers keep of the rows of pair `p` after `n` blocks. -/
abbrev HeadMet (p : Fin 136) (h : Fin 8) (n : ℕ) : State Ideal → Prop := Met p (fq (q h) scale) (fk (k h)) (fv (v h)) n

include h0 h1 h2 in
theorem met_at (t : Fin (cfgM m).N) (s : State Ideal) (hs : kb (pt m t) ≠ 0 → HeadMet q k v (pt m t) (hd m t) (kb (pt m t)) s) :
    HeadMet q k v (pt m t) (hd m t) (kb (pt m t) + 1) (stepAt m c t s) :=
  met_step (pt m t) (iblk m c 0 t) (iblk m c 1 t) (iblk m c 2 t) s _ _ _
    (fun a l => (blk_query m c t a l).trans (in_q m c q h0 _ _ _))
    (fun a l => (blk_key m c t a l).1.trans (in_k m c k h1 _ _ _))
    (fun a l => (blk_key m c t a l).2.trans (in_v m c v h2 _ _ _)) hs

/-- The rows are those of the query block. -/
theorem met_congr (p p' : Fin 136) (Q K : Fin 8192 → Fin 128 → ℝ) (V : Fin 8192 → Fin 128 → ℝ) (n n' : ℕ) (s : State Ideal)
    (hq : qb p' = qb p) (hn : n' = n) (h : Met p' Q K V n' s) : Met p Q K V n s := by
  subst hn
  intro a
  have e : rq p' a = rq p a := Fin.ext (by show 512 * qb p' + a.val = 512 * qb p + a.val; rw [hq])
  rw [← e]
  exact h a

include h0 h1 h2 in
theorem met_after (n : ℕ) : ∀ hn : n < (cfgM m).N,
    HeadMet q k v (pt m ⟨n, hn⟩) (hd m ⟨n, hn⟩) (kb (pt m ⟨n, hn⟩) + 1) (stateAt m c ⟨n, hn⟩) := by
  induction n with
  | zero =>
    refine fun hn => met_at m c q k v h0 h1 h2 ⟨0, hn⟩ _ fun hp => absurd (first_pair _ ?_) hp
    rw [pt_val]; rfl
  | succ n ih =>
    intro hn
    rw [state_succ m c ⟨n + 1, hn⟩ (Nat.succ_ne_zero n)]
    refine met_at m c q k v h0 h1 h2 ⟨n + 1, hn⟩ _ fun hp => ?_
    obtain ⟨hpos, eq, ek⟩ := pair_prev _ hp
    have ep : pt m (prev m ⟨n + 1, hn⟩) = ⟨(pt m ⟨n + 1, hn⟩).val - 1, (Nat.sub_le _ _).trans_lt (pt m ⟨n + 1, hn⟩).isLt⟩ := Fin.ext (by
      have e1 := pt_val m ⟨n + 1, hn⟩
      have e2 := pt_val m (prev m ⟨n + 1, hn⟩)
      have e1 : (pt m ⟨n + 1, hn⟩).val = (n + 1) % 136 := e1
      have e2 : (pt m (prev m ⟨n + 1, hn⟩)).val = (n + 1 - 1) % 136 := e2
      show (pt m (prev m ⟨n + 1, hn⟩)).val = (pt m ⟨n + 1, hn⟩).val - 1
      omega)
    rw [← ep] at eq ek
    rw [show hd m ⟨n + 1, hn⟩ = hd m (prev m ⟨n + 1, hn⟩) from (head_prev m _ hpos.ne').symm]
    exact met_congr _ _ _ _ _ _ _ _ eq ek (ih (Nat.lt_of_succ_lt hn))

include h0 h1 h2 in
/-- On the diagonal a row keeps its whole sum and its whole product. -/
theorem row_last (t : Fin (cfgM m).N) (ht : kb (pt m t) = qb (pt m t)) (a : Fin 512) :
    RowKept (stateAt m c t) (tot (q (hd m t)) (k (hd m t)) scale (rq (pt m t) a))
      (fun x => padLo (fun l => ∑ j, wt (q (hd m t)) (k (hd m t)) scale (rq (pt m t) a) j * v (hd m t) j l) x) a := by
  have e := met_after m c q k v h0 h1 h2 t.val t.isLt a
  have e1 : upto (kb (pt m t) + 1) (fun j => kw (fq (q (hd m t)) scale) (fk (k (hd m t))) (rq (pt m t) a) j)
      = tot (q (hd m t)) (k (hd m t)) scale (rq (pt m t) a) :=
    (upto_last (pt m t) ht a _ fun j hj => kw_hidden _ _ _ _ hj).trans (Finset.sum_congr rfl fun j _ => kw_eq _ _ _ _ _)
  have e2 : (fun x => upto (kb (pt m t) + 1) (fun j => kw (fq (q (hd m t)) scale) (fk (k (hd m t))) (rq (pt m t) a) j * fv (v (hd m t)) j x))
      = fun x => padLo (fun l => ∑ j, wt (q (hd m t)) (k (hd m t)) scale (rq (pt m t) a) j * v (hd m t) j l) x := by
    funext x
    refine (upto_last (pt m t) ht a _ fun j hj => by rw [kw_hidden _ _ _ _ hj, zero_mul]).trans ?_
    simp only [kw_eq]
    exact padLo_sum _ _ _ x
  rw [← e1, ← e2]
  exact e

theorem padLo_div (x : Fin 64 → ℝ) (d : ℝ) (l : Fin 128) : padLo x l / d = padLo (fun l => x l / d) l := by
  unfold padLo
  split
  · rfl
  · exact zero_div _

theorem out_div (q k : Fin 8192 → Fin 96 → ℝ) (v : Fin 8192 → Fin 64 → ℝ) (r : Fin 8192) (l : Fin 64) :
    (∑ j, wt q k scale r j * v j l) / tot q k scale r = out q k v r l := by
  unfold out pr
  rw [Finset.sum_div]
  exact Finset.sum_congr rfl fun j _ => by ring

/-- The output from the running values, -/
theorem pay_out (s : State Ideal) (q k : Fin 8192 → Fin 96 → ℝ) (v : Fin 8192 → Fin 64 → ℝ) (r : Fin 8192) (a : Fin 512)
    (h : RowKept s (tot q k scale r) (fun x => padLo (fun l => ∑ j, wt q k scale r j * v j l) x) a) (l : Fin 128) :
    k0_pay7 (F := Ideal) s.2.1 s.2.2 (ix2 a l) = ((padLo (out q k v r) l : ℝ) : EReal) := by
  refine (kept_quotient (h l) (tot_pos q k scale r) l).trans (congrArg _ ?_)
  rw [padLo_div]
  exact congrArg (fun f => padLo f l) (funext fun l => out_div q k v r l)

/-- and the logarithm. -/
theorem pay_log (s : State Ideal) (S : ℝ) (A : Fin 128 → ℝ) (a : Fin 512) (hS : 0 < S) (h : RowKept s S A a) (l : Fin 128) :
    k0_pay9 (F := Ideal) s.2.1 s.1 (ix2 a l) = ((Real.log S : ℝ) : EReal) := kept_log (h l) hS

include h0 h1 h2 in
/-- The first result: the output, filled up. -/
theorem out_array : (dat m c).arrAt 3 (cfgM m).N = headsOf fun h r => padLo (out (q h) (k h) (v h) r) :=
  array_out c (adm m) (dat m c) _ (tr_query m) (kept_outs m) fun t ht a l =>
    (congrFun (after_3 m c t) _).trans (pay_out _ _ _ _ _ a (row_last m c q k v h0 h1 h2 t ht a) l)

include h0 h1 h2 in
/-- The second: its copy. -/
theorem out_copy : (dat m c).arrAt 4 (cfgM m).N = headsOf fun h r => padLo (out (q h) (k h) (v h) r) :=
  array_copy c (adm m) (dat m c) _ (tr_query m) (kept_outs m) fun t ht a l =>
    (congrFun (after_4 m c t) _).trans (pay_out _ _ _ _ _ a (row_last m c q k v h0 h1 h2 t ht a) l)

include h0 h1 h2 in
/-- The third: every row's logarithm. -/
theorem out_log : (dat m c).arrAt 5 (cfgM m).N = headsOf fun h r _ => Real.log (tot (q h) (k h) scale r) :=
  array_log c (adm m) (dat m c) _ (tr_query m) (kept_outs m) fun t ht a l =>
    (congrFun (after_5 m c t) _).trans (pay_log _ _ _ a (tot_pos _ _ _ _) (row_last m c q k v h0 h1 h2 t ht a) l)

end Cert.AttnFwd
-- ==== Proof.AttnFwdClaim.lean ====
/- The claim on values: from finite arguments the forward kernel's three results are the reference's. -/
module

public import proofs.«01_k».proof.Defs
public import Idealize.ShloMosaic.Lib.Quiescent
public import proofs.«01_k».proof.Proof.AttnFwdFrame
public import proofs.«01_k».proof.Proof.AttnFwdKernel
public import proofs.«01_k».proof.Proof.Gen.Pre_finite13

@[expose] public section

set_option maxRecDepth 16384

noncomputable section

open Idealize.ShloMosaic Idealize.ShloMosaic.TcCoe Idealize.SL.Sem

namespace Cert.AttnFwd

open Cert.RealLift

/-- Finite arguments are arrays of real numbers. -/
theorem reals_of_finite (x0 x1 : FVec Ideal Cert.Pre_finite13.S1x8192x8x96 .f32) (x2 : FVec Ideal Cert.Pre_finite13.S1x8192x8x64 .f32)
    (e : Cert.Pre_finite13.fn (F := Ideal) x0 x1 x2 = fun _ => 1#1) : IsReal x0 ∧ IsReal x1 ∧ IsReal x2 := by
  have hs : Subsingleton Cert.Pre_finite13.S_.Idx := ⟨fun a b => funext fun i => i.elim0⟩
  have e1 := congrFun e ix0
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2⟩

theorem frame_reference : Cert.quiescent_Reference13Ideal := fun m g _ =>
  (θ_run _ _ _).mono (fun r h => ⟨fun c => (h c).2.2.2, sem_eq_zero_of_no_sems rfl r.2⟩) (Cert.Reference13Ideal.Value.run m g)

open Cert.Kernel13Ideal Cert.Kernel13Ideal.Gen in
/-- The kernel's run, its results named. -/
theorem run_blocks (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14_0) = (dat m c).arrAt 3 (cfgM m).N
      ∧ r.2.mem ((c.tc : Thread nD τ).loc main_v14_1) = (dat m c).arrAt 4 (cfgM m).N
      ∧ r.2.mem ((c.tc : Thread nD τ).loc main_v14_2) = (dat m c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3, (h c).1 4, (h c).1 5,
      ((h c).2 main_arg0 (by decide : main_arg0 ∈ Pipeline.restRefs sig spec0)).trans (V_arg m c _ (.inl rfl)),
      ((h c).2 main_arg1 (by decide : main_arg1 ∈ Pipeline.restRefs sig spec0)).trans (V_arg m c _ (.inr (.inl rfl))),
      ((h c).2 main_arg2 (by decide : main_arg2 ∈ Pipeline.restRefs sig spec0)).trans (V_arg m c _ (.inr (.inr rfl)))⟩) (run_main m g)

theorem algebraic : Cert.algebraic_Kernel13Ideal_Reference13Ideal_pre_finite13 := by
  intro m g m' g' hpre hargs
  refine ⟨fun c => (dat m c).arrAt 3 (cfgM m).N, fun c => (dat m c).arrAt 4 (cfgM m).N, fun c => (dat m c).arrAt 5 (cfgM m).N,
    (θ_run _ _ _).mono (fun r h c => h c) (run_blocks m g),
    (θ_run _ _ _).mono (fun r h c => ?_) (Cert.Reference13Ideal.Value.run m' g')⟩
  obtain ⟨⟨a0, h0⟩, ⟨a1, h1⟩, ⟨a2, h2⟩⟩ := reals_of_finite _ _ _ (hpre c)
  obtain ⟨e0, e1, e2⟩ := hargs c
  obtain ⟨r1, r2, r3, rest⟩ := h c
  have k0 := fun (r : Fin 8192) (h : Fin 8) (l : Fin 96) => h0 (ix4 0 r h l)
  have k1 := fun (r : Fin 8192) (h : Fin 8) (l : Fin 96) => h1 (ix4 0 r h l)
  have k2 := fun (r : Fin 8192) (h : Fin 8) (l : Fin 64) => h2 (ix4 0 r h l)
  have l0 := fun (r : Fin 8192) (h : Fin 8) (l : Fin 96) => (congrFun e0 _).trans (k0 r h l)
  have l1 := fun (r : Fin 8192) (h : Fin 8) (l : Fin 96) => (congrFun e1 _).trans (k1 r h l)
  have l2 := fun (r : Fin 8192) (h : Fin 8) (l : Fin 64) => (congrFun e2 _).trans (k2 r h l)
  have ref := result_out _ _ _ (fun h r l => a0 (ix4 0 r h l)) (fun h r l => a1 (ix4 0 r h l)) (fun h r l => a2 (ix4 0 r h l)) l0 l1 l2
  refine ⟨r1.trans ?_, r2.trans ?_, r3.trans ?_, rest⟩
  · exact (Cert.Reference13Ideal.Read.val_main_v27_eq _ _).trans (ref.trans (out_array m c _ _ _ k0 k1 k2).symm)
  · exact (Cert.Reference13Ideal.Read.val_main_v53_eq _ _).trans ((result_copy _ _ _).trans (ref.trans (out_copy m c _ _ _ k0 k1 k2).symm))
  · exact (Cert.Reference13Ideal.Read.val_main_v52_eq _ _).trans ((result_lse _ _ (fun h r l => a0 (ix4 0 r h l)) (fun h r l => a1 (ix4 0 r h l)) l0 l1).trans (out_log m c _ _ _ k0 k1 k2).symm)

end Cert.AttnFwd
-- ==== Proof.AttnBwdTransfer.lean ====
module

public import proofs.«01_k».proof.Defs
public import proofs.«01_k».proof.Proof.AttnBwdFrame
public import proofs.«01_k».proof.Proof.Gen.Kernel14
public import Idealize.ShloMosaic.Lib.Tactic

@[expose] public section

noncomputable section

namespace Cert.AttnBwd

open Idealize.ShloMosaic Idealize.SL.Sem

/-- The two programs have the same text, so the one run is a run of both. -/
theorem frame_kernel : Cert.quiescent_Kernel14 := fun m ρ _ =>
  cast (by sl_kernel_rfl) (frame_ideal (F := Bits) m ρ)

end Cert.AttnBwd

end
-- ==== Proof.AttnBwdClaim.lean ====
/- The claim on values: from finite arguments the kernel's three results are the reference's. -/
module

public import proofs.«01_k».proof.Defs
public import Idealize.ShloMosaic.Lib.Quiescent
public import proofs.«01_k».proof.Proof.AttnBwdKernel
public import proofs.«01_k».proof.Proof.Gen.Pre_finite14
public import proofs.«01_k».proof.Proof.Gen.Reference14Ideal.Run

@[expose] public section

set_option maxRecDepth 16384

noncomputable section

open Idealize.ShloMosaic Idealize.ShloMosaic.TcCoe Idealize.SL.Sem

namespace Cert.AttnBwd

open Cert.RealLift

/-! ## The reference's results -/

section Reference

open Cert.Reference14Ideal Cert.Reference14Ideal.Gen Cert.Reference14Ideal.Read

variable (x0 x1 : FVec Ideal S1x8192x8x96 .f32) (x2 x3 : FVec Ideal S1x8192x8x64 .f32)
  (q k : Fin 8 → Fin 8192 → Fin 96 → ℝ) (v o : Fin 8 → Fin 8192 → Fin 64 → ℝ)
  (h0 : ∀ r h l, x0 (ix4 0 r h l) = ((q h r l : ℝ) : EReal)) (h1 : ∀ r h l, x1 (ix4 0 r h l) = ((k h r l : ℝ) : EReal))
  (h2 : ∀ r h l, x2 (ix4 0 r h l) = ((v h r l : ℝ) : EReal)) (h3 : ∀ r h l, x3 (ix4 0 r h l) = ((o h r l : ℝ) : EReal))

include h0 h1 h2 h3 in
theorem result_dq : val_main_v70 (F := Ideal) x0 x1 x2 x3 = headsOf fun h r => padHi (dq (q h) (k h) (v h) (o h) scale r) :=
  heads_ext _ _ fun r h l => (cast_col _ r h l).trans (zerosHi_at (val_main_v68 (F := Ideal) x0 x1 x2 x3)
    (fun r h l => dq (q h) (k h) (v h) (o h) scale r l) (fun r h l => by
      have e := (cast_head (val_main_v65 (F := Ideal) x0 x1 x2 x3) shapeCasts_S1x8192x8x96_S8192x8x96 r h l).trans
        (ref_dq x0 x1 x2 x3 q k v o h0 h1 h2 h3 r h l)
      change val_main_v66 (F := Ideal) x0 x1 x2 x3 (ix3 r h l) = _ at e
      pointwise [val_main_v68, val_main_v67, val_main_cst_14, e]
      rw [word_scale, RealLift.div _ scale_ne, mul_div_cancel_right₀ _ scale_ne]) r h l)

include h0 h1 h2 h3 in
theorem result_dk : val_main_v73 (F := Ideal) x0 x1 x2 x3 = headsOf fun h r => padHi (dk (q h) (k h) (v h) (o h) scale r) :=
  heads_ext _ _ fun r h l => (cast_col _ r h l).trans (zerosHi_at (val_main_v71 (F := Ideal) x0 x1 x2 x3)
    (fun r h l => dk (q h) (k h) (v h) (o h) scale r l) (fun r h l =>
      (cast_head (val_main_v63 (F := Ideal) x0 x1 x2 x3) shapeCasts_S1x8192x8x96_S8192x8x96 r h l).trans
        (ref_dk x0 x1 x2 x3 q k v o h0 h1 h2 h3 r h l)) r h l)

include h0 h1 h3 in
theorem result_dv : val_main_v76 (F := Ideal) x0 x1 x3 = headsOf fun h r => padLo (dv (q h) (k h) (o h) scale r) :=
  heads_ext _ _ fun r h l => (cast_col _ r h l).trans (zerosLo_at (val_main_v74 (F := Ideal) x0 x1 x3)
    (fun r h l => dv (q h) (k h) (o h) scale r l) (fun r h l =>
      (cast_head (val_main_v45 (F := Ideal) x0 x1 x3) shapeCasts_S1x8192x8x64_S8192x8x64 r h l).trans
        (ref_dv x0 x1 x3 q k o h0 h1 h3 r h l)) r h l)

end Reference

/-! ## The claim -/

/-- Finite arguments are arrays of real numbers. -/
theorem reals_of_finite (x0 x1 : FVec Ideal Cert.Pre_finite14.S1x8192x8x96 .f32) (x2 x3 : FVec Ideal Cert.Pre_finite14.S1x8192x8x64 .f32)
    (e : Cert.Pre_finite14.fn (F := Ideal) x0 x1 x2 x3 = fun _ => 1#1) : IsReal x0 ∧ IsReal x1 ∧ IsReal x2 ∧ IsReal x3 := by
  have hs : Subsingleton Cert.Pre_finite14.S_.Idx := ⟨fun a b => funext fun i => i.elim0⟩
  have e1 := congrFun e ix0
  obtain ⟨e1, h3⟩ := IntOp.andi_eq_one.mp e1
  obtain ⟨e1, h2⟩ := IntOp.andi_eq_one.mp e1
  obtain ⟨e1, h1⟩ := IntOp.andi_eq_one.mp e1
  obtain ⟨e1, h0⟩ := IntOp.andi_eq_one.mp e1
  exact ⟨real_of_test _ _ _ _ _ _ _ h0, real_of_test _ _ _ _ _ _ _ h1, real_of_test _ _ _ _ _ _ _ h2, real_of_test _ _ _ _ _ _ _ h3⟩

theorem frame_reference : Cert.quiescent_Reference14Ideal := fun m g _ =>
  (θ_run _ _ _).mono (fun r h => ⟨fun c => (h c).2.2.2, sem_eq_zero_of_no_sems rfl r.2⟩) (Cert.Reference14Ideal.Value.run m g)

open Cert.Kernel14Ideal Cert.Kernel14Ideal.Gen in
/-- The kernel's run, its results named. -/
theorem run_blocks (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v53_0) = (dat m c).arrAt 6 (cfgM m).N
      ∧ r.2.mem ((c.tc : Thread nD τ).loc main_v53_1) = (dat m c).arrAt 7 (cfgM m).N
      ∧ r.2.mem ((c.tc : Thread nD τ).loc main_v53_2) = (dat m c).arrAt 8 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 6, (h c).1 7, (h c).1 8,
      ((h c).2 main_arg0 (by decide : main_arg0 ∈ Pipeline.restRefs sig spec0)).trans (V_arg m c _ (.inl rfl)),
      ((h c).2 main_arg1 (by decide : main_arg1 ∈ Pipeline.restRefs sig spec0)).trans (V_arg m c _ (.inr (.inl rfl))),
      ((h c).2 main_arg2 (by decide : main_arg2 ∈ Pipeline.restRefs sig spec0)).trans (V_arg m c _ (.inr (.inr (.inl rfl)))),
      ((h c).2 main_arg3 (by decide : main_arg3 ∈ Pipeline.restRefs sig spec0)).trans (V_arg m c _ (.inr (.inr (.inr rfl))))⟩) (run_main m g)

theorem algebraic : Cert.algebraic_Kernel14Ideal_Reference14Ideal_pre_finite14 := by
  intro m g m' g' hpre hargs
  refine ⟨fun c => (dat m c).arrAt 6 (cfgM m).N, fun c => (dat m c).arrAt 7 (cfgM m).N, fun c => (dat m c).arrAt 8 (cfgM m).N,
    (θ_run _ _ _).mono (fun r h c => h c) (run_blocks m g),
    (θ_run _ _ _).mono (fun r h c => ?_) (Cert.Reference14Ideal.Value.run m' g')⟩
  obtain ⟨⟨a0, h0⟩, ⟨a1, h1⟩, ⟨a2, h2⟩, ⟨a3, h3⟩⟩ := reals_of_finite _ _ _ _ (hpre c)
  obtain ⟨e0, e1, e2, e3⟩ := hargs c
  obtain ⟨r1, r2, r3, rest⟩ := h c
  have k0 := fun (r : Fin 8192) (h : Fin 8) (l : Fin 96) => h0 (ix4 0 r h l)
  have k1 := fun (r : Fin 8192) (h : Fin 8) (l : Fin 96) => h1 (ix4 0 r h l)
  have k2 := fun (r : Fin 8192) (h : Fin 8) (l : Fin 64) => h2 (ix4 0 r h l)
  have k3 := fun (r : Fin 8192) (h : Fin 8) (l : Fin 64) => h3 (ix4 0 r h l)
  have l0 := fun (r : Fin 8192) (h : Fin 8) (l : Fin 96) => (congrFun e0 _).trans (k0 r h l)
  have l1 := fun (r : Fin 8192) (h : Fin 8) (l : Fin 96) => (congrFun e1 _).trans (k1 r h l)
  have l2 := fun (r : Fin 8192) (h : Fin 8) (l : Fin 64) => (congrFun e2 _).trans (k2 r h l)
  have l3 := fun (r : Fin 8192) (h : Fin 8) (l : Fin 64) => (congrFun e3 _).trans (k3 r h l)
  refine ⟨r1.trans ?_, r2.trans ?_, r3.trans ?_, rest⟩
  · exact (Cert.Reference14Ideal.Read.val_main_v70_eq _ _).trans ((result_dq _ _ _ _ (fun h r l => a0 (ix4 0 r h l)) (fun h r l => a1 (ix4 0 r h l)) (fun h r l => a2 (ix4 0 r h l)) (fun h r l => a3 (ix4 0 r h l)) l0 l1 l2 l3).trans (out_dq m c _ _ _ _ k0 k1 k2 k3).symm)
  · exact (Cert.Reference14Ideal.Read.val_main_v73_eq _ _).trans ((result_dk _ _ _ _ (fun h r l => a0 (ix4 0 r h l)) (fun h r l => a1 (ix4 0 r h l)) (fun h r l => a2 (ix4 0 r h l)) (fun h r l => a3 (ix4 0 r h l)) l0 l1 l2 l3).trans (out_dk m c _ _ _ _ k0 k1 k2 k3).symm)
  · exact (Cert.Reference14Ideal.Read.val_main_v76_eq _ _).trans ((result_dv _ _ _ (fun h r l => a0 (ix4 0 r h l)) (fun h r l => a1 (ix4 0 r h l)) (fun h r l => a3 (ix4 0 r h l)) l0 l1 l3).trans (out_dv m c _ _ _ _ k0 k1 k2 k3).symm)

end Cert.AttnBwd
-- ==== Proof.DeltaRef.lean ====
/- The row sums of the attention's gradient as the derivative of its host lines, read at an index: the cotangent times the output,
summed over a head's numbers and repeated over its lanes. -/
module

public import proofs.«01_k».proof.Proof.AttnFwdRef
public import proofs.«01_k».proof.Proof.Gen.Reference15Ideal.Run
public import proofs.«01_k».proof.Proof.Gen.Reference15Ideal.Read

@[expose] public section

set_option maxRecDepth 16384

noncomputable section

namespace Cert.Delta

open Idealize.ShloMosaic Idealize.ShloMosaic.TcCoe Idealize.SL.Sem Idealize.ShloMosaic.StableHlo
open Cert.Reference15Ideal Cert.Reference15Ideal.Gen Cert.Reference15Ideal.Read Cert.RealLift
open Cert.AttnBwd (col cast_col)

/-- The row sums over the lanes. -/
def rowSums (d o : FVec Ideal S1x8192x8x64 .f32) : FVec Ideal S8192x1024 .f32 := fun i =>
  ∑ k : Fin 64, d (ix4 0 (i 0) ⟨(i 1).val / 128, by have h : (i 1).val < 1024 := (i 1).isLt; omega⟩ k)
    * o (ix4 0 (i 0) ⟨(i 1).val / 128, by have h : (i 1).val < 1024 := (i 1).isLt; omega⟩ k)

theorem rowSums_at (d o : FVec Ideal S1x8192x8x64 .f32) (r : Fin 8192) (h : Fin 8) (l : Fin 128) :
    rowSums d o (ix2 r (col h l)) = ∑ k, d (ix4 0 r h k) * o (ix4 0 r h k) := by
  have e : (col h l).val = h.val * 128 + l.val := rfl
  have e1 : (col h l).val / 128 = h.val := by omega
  show (∑ k : Fin 64, d (ix4 0 r ⟨(col h l).val / 128, _⟩ k) * o (ix4 0 r ⟨(col h l).val / 128, _⟩ k)) = _
  simp only [e1]

/-- An array is the row sums if it is at every head's lanes. -/
theorem sums_ext (d o : FVec Ideal S1x8192x8x64 .f32) (x : FVec Ideal S8192x1024 .f32)
    (h : ∀ r k l, x (ix2 r (col k l)) = ∑ j, d (ix4 0 r k j) * o (ix4 0 r k j)) : x = rowSums d o := by
  funext i
  have e : i = ix2 (i 0) (col ⟨(i 1).val / 128, by have h : (i 1).val < 1024 := (i 1).isLt; omega⟩ ⟨(i 1).val % 128, Nat.mod_lt _ (by norm_num)⟩) := by
    refine funext fun a => Fin.ext ?_
    match a with
    | ⟨0, _⟩ => rfl
    | ⟨1, _⟩ => exact (Nat.div_add_mod' (i 1).val 128).symm
  exact (congrArg x e).trans (h (i 0) _ _)

variable (x0 x1 : (⟨S1x8192x8x96, .f32⟩ : BufTy).Contents (Elt Ideal)) (x2 x3 : (⟨S1x8192x8x64, .f32⟩ : BufTy).Contents (Elt Ideal))

theorem sum_at (r : Fin 8192) (h : Fin 8) :
    val_main_v30 (F := Ideal) x0 x1 x2 x3 (ix3 0 r h) = ∑ k, x3 (ix4 0 r h k) * val_main_v26 (F := Ideal) x0 x1 x2 (ix4 0 r h k) := by
  pointwise [val_main_v30, val_main_v29, val_main_cst_5]

theorem result : val_main_v37 (F := Ideal) x0 x1 x2 x3 = rowSums x3 (val_main_v26 (F := Ideal) x0 x1 x2) :=
  sums_ext _ _ _ fun r h l => by
    refine (cast_col _ r h l).trans ?_
    pointwise [RmsHeads.reduceAdd_03, val_main_v36, val_main_v35, val_main_v34, val_main_v33, val_main_v32, val_main_v31, val_main_cst_6, sum_at]

end Cert.Delta
-- ==== Proof.DeltaKernel.lean ====
/- The kernel of the row sums, read at an index: every grid point's rows of its head, the products with the zeros adding nothing. -/
module

public import proofs.«01_k».proof.Proof.DeltaRef
public import proofs.«01_k».proof.Proof.Gen.Kernel15Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Delta

open Cert.Kernel15Ideal Cert.Kernel15Ideal.Gen Cert.RealLift Cert.Tiles
open Cert.AttnBwd (col cast_col cast_head zerosLo sitofp_zero)

/-- Zeros before the numbers of a head. -/
def before (x : Fin 64 → EReal) (l : Fin 128) : EReal := if h : 64 ≤ l.val then x ⟨l.val - 64, by omega⟩ else 0

/-- The zeros add nothing to a sum of products. -/
theorem sum_before (x y : Fin 64 → EReal) : ∑ l, before x l * before y l = ∑ l, x l * y l := by
  rw [Fin.sum_univ_add (b := 64) (a := 64) fun l => before x l * before y l]
  rw [Finset.sum_congr rfl fun (l : Fin 64) _ => show before x (Fin.castAdd 64 l) * before y (Fin.castAdd 64 l) = 0 by
    unfold before; rw [dif_neg (by show ¬ 64 ≤ l.val; omega), zero_mul], Finset.sum_const_zero, zero_add]
  have e : ∀ (x : Fin 64 → EReal) (l : Fin 64), before x (Fin.natAdd 64 l) = x l := fun x l => by
    unfold before
    rw [dif_pos (show 64 ≤ (Fin.natAdd 64 l).val from Nat.le_add_right _ _)]
    exact congrArg x (Fin.ext (Nat.add_sub_cancel_left ..))
  exact Finset.sum_congr rfl fun l _ => by rw [e, e]

theorem zeros_at (x : FVec Ideal S8192x8x64 .f32) (r : Fin 8192) (h : Fin 8) (l : Fin 128) :
    zerosLo x (ix3 r h l) = before (fun k => x (ix3 r h k)) l := by
  pointwise [zerosLo]
  unfold before
  by_cases hl : 64 ≤ l.val
  · rw [dif_pos hl]
    simp only [hl, and_self, true_and]
    rw [dif_pos (by omega)]
  · rw [dif_neg hl, dif_neg fun hn => hl hn.1]; exact sitofp_zero.trans RealLift.zero.symm

variable (m : (ℓ : Loc nD τ sig) → Buf (Elt Ideal) ℓ) (c : Dev nD)

/-- The attention's output, from the launched arguments. -/
def output : FVec Ideal S1x8192x8x64 .f32 :=
  Cert.Reference15Ideal.Read.val_main_v26 (F := Ideal) (m ((c : Thread nD τ).loc main_arg0)) (m ((c : Thread nD τ).loc main_arg1))
    (m ((c : Thread nD τ).loc main_arg2))

theorem host_d : V m c main_v2 = shapeCast S8192x1024 (zerosLo (shapeCast S8192x8x64 (m ((c : Thread nD τ).loc main_arg3))
    shapeCasts_S1x8192x8x64_S8192x8x64)) shapeCasts_S8192x8x128_S8192x1024 := by
  entry_read
  rfl

theorem host_o : V m c main_v30 = shapeCast S8192x1024 (zerosLo (shapeCast S8192x8x64 (output m c)
    shapeCasts_S1x8192x8x64_S8192x8x64)) shapeCasts_S8192x8x128_S8192x1024 := by
  unfold V
  after_reads_simp
  rfl

theorem padded_at (x : FVec Ideal S1x8192x8x64 .f32) (r : Fin 8192) (h : Fin 8) (l : Fin 128) :
    shapeCast S8192x1024 (zerosLo (shapeCast S8192x8x64 x shapeCasts_S1x8192x8x64_S8192x8x64)) shapeCasts_S8192x8x128_S8192x1024
      (ix2 r (col h l)) = before (fun k => x (ix4 0 r h k)) l :=
  (cast_col _ r h l).trans ((zeros_at _ r h l).trans (congrArg (fun f => before f l) (funext fun k => cast_head x _ r h k)))

theorem pay (v0 v2 : FVec Ideal S512x128 .f32) (r : Fin 512) (l : Fin 128) :
    k0_pay1 (F := Ideal) v0 v2 (ix2 r l) = ∑ k, v0 (ix2 r k) * v2 (ix2 r k) := by
  pointwise [k0_pay1]

theorem idx : ∀ t : Fin cfg0.N, win0_0.index t = ![t.val / 8, t.val % 8] ∧ win0_1.index t = ![t.val / 8, t.val % 8]
    ∧ win0_2.index t = ![t.val / 8, t.val % 8] :=
  (by decide +kernel : ∀ t : Fin grid0.N, _)

theorem points (t : Fin cfg0.N) : t.val < 128 := lt_of_lt_of_eq t.isLt (by decide : cfg0.N = 128)

/-- The row and the head of a grid point. -/
def rowOf (t : Fin cfg0.N) (r : Fin 512) : Fin 8192 := rowAt (n := 16) rfl ⟨t.val / 8, by have := points t; omega⟩ r
@[inherit_doc rowOf] def headOf (t : Fin cfg0.N) : Fin 8 := ⟨t.val % 8, Nat.mod_lt _ (by norm_num)⟩

theorem blk_d (t : Fin cfg0.N) (r : Fin 512) (l : Fin 128) :
    iblk m c 0 t (ix2 r l) = V m c main_v2 (ix2 (rowOf t r) (col (headOf t) l)) := by
  generalize hV : V m c main_v2 = x
  blk_simp [iblk, idx t]
  rw [hV]
  blk_ext [idx t, rowOf, headOf, rowAt, col]

theorem blk_o (t : Fin cfg0.N) (r : Fin 512) (l : Fin 128) :
    iblk m c 1 t (ix2 r l) = V m c main_v30 (ix2 (rowOf t r) (col (headOf t) l)) := by
  generalize hV : V m c main_v30 = x
  blk_simp [iblk, idx t]
  rw [hV]
  blk_ext [idx t, rowOf, headOf, rowAt, col]

theorem emb (t : Fin cfg0.N) (r : Fin 512) (l : Fin 128) :
    (((cfg0.win 2).blk t).view.emb (ix2 r l : S512x128.Idx) : S8192x1024.Idx) = ix2 (rowOf t r) (col (headOf t) l) := by
  blk_ext [idx t, rowOf, headOf, rowAt, col]

/-- The result: the row sums. -/
theorem out_sums : (dats m 0 c).arrAt 2 cfg0.N = rowSums (m ((c : Thread nD τ).loc main_arg3)) (output m c) := by
  refine (dats m 0 c).arrAt_eq_of_covers 2 _ (by decide +kernel) fun t hf q => ?_
  blk_simp
  rw [after0_2]
  idx_vars q
  frame_out
  refine (pay _ _ q0 q1).trans (Eq.trans ?_ (congrArg (rowSums (m ((c : Thread nD τ).loc main_arg3)) (output m c)) (emb t q0 q1)).symm)
  rw [rowSums_at, ← sum_before]
  refine Finset.sum_congr rfl fun k _ => congrArg₂ (· * ·) ?_ ?_
  · exact (blk_d m c t q0 k).trans ((congrFun (host_d m c) _).trans (padded_at _ _ _ k))
  · exact (blk_o m c t q0 k).trans ((congrFun (host_o m c) _).trans (padded_at _ _ _ k))

end Cert.Delta
-- ==== Proof.DeltaClaim.lean ====
/- The claim on values: for any arguments the kernel of the row sums returns what the reference does. -/
module

public import proofs.«01_k».proof.Defs
public import Idealize.ShloMosaic.Lib.Quiescent
public import proofs.«01_k».proof.Proof.DeltaKernel
public import proofs.«01_k».proof.Proof.Gen.Kernel15Ideal
public import proofs.«01_k».proof.Proof.Gen.Reference15Ideal

@[expose] public section

set_option maxRecDepth 16384

noncomputable section

open Idealize.ShloMosaic Idealize.SL.Sem

namespace Cert.Delta

theorem frame_reference : Cert.quiescent_Reference15Ideal := fun m g _ =>
  (θ_run _ _ _).mono (fun r h => ⟨fun c => (h c).2, sem_eq_zero_of_no_sems rfl r.2⟩) (Cert.Reference15Ideal.Value.run m g)

theorem algebraic : Cert.algebraic_Kernel15Ideal_Reference15Ideal := by
  intro m g m' g' _ hargs
  refine ⟨fun c => (Cert.Kernel15Ideal.Gen.dats m 0 c).arrAt 2 Cert.Kernel15Ideal.cfg0.N,
    (θ_run _ _ _).mono (fun r h c => h c) (Cert.Kernel15Ideal.Value.run_blocks m g),
    (θ_run _ _ _).mono (fun r h c => ?_) (Cert.Reference15Ideal.Value.run m' g')⟩
  obtain ⟨e0, e1, e2, e3⟩ := hargs c
  obtain ⟨r1, rest⟩ := h c
  refine ⟨r1.trans ?_, rest⟩
  refine (Cert.Reference15Ideal.Read.val_main_v37_eq _ _).trans ((result _ _ _ _).trans (Eq.trans ?_ (out_sums m c).symm))
  unfold output
  rw [e0, e1, e2, e3]

end Cert.Delta
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Pre_finite5
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Pre_finite8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Pre_finite9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Pre_finite10
public import proofs.«01_k».proof.Proof.Gen.Kernel13
public import proofs.«01_k».proof.Proof.Gen.Kernel13.Skeleton
public import proofs.«01_k».proof.Proof.Gen.Kernel13.Launch
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Reference13Ideal.Run
public import proofs.«01_k».proof.Proof.Gen.Reference13Ideal.Read
public import proofs.«01_k».proof.Proof.Gen.Reference13Ideal
public import proofs.«01_k».proof.Proof.Gen.Pre_finite13
public import proofs.«01_k».proof.Proof.Gen.Kernel14
public import proofs.«01_k».proof.Proof.Gen.Kernel14.Skeleton
public import proofs.«01_k».proof.Proof.Gen.Kernel14.Launch
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Reference14Ideal.Run
public import proofs.«01_k».proof.Proof.Gen.Reference14Ideal.Read
public import proofs.«01_k».proof.Proof.Gen.Reference14Ideal
public import proofs.«01_k».proof.Proof.Gen.Pre_finite14
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Reference15Ideal
public import proofs.«01_k».proof.Proof.ConvLnClaim
public import proofs.«01_k».proof.Proof.UpClaim
public import proofs.«01_k».proof.Proof.QUpClaim
public import proofs.«01_k».proof.Proof.InClaim
public import proofs.«01_k».proof.Proof.MemClaim
public import proofs.«01_k».proof.Proof.LossClaim
public import proofs.«01_k».proof.Proof.MemQClaim
public import proofs.«01_k».proof.Proof.MemKvClaim
public import proofs.«01_k».proof.Proof.KvUpClaim
public import proofs.«01_k».proof.Proof.AttnFwdTransfer
public import proofs.«01_k».proof.Proof.AttnFwdClaim
public import proofs.«01_k».proof.Proof.AttnBwdTransfer
public import proofs.«01_k».proof.Proof.AttnBwdClaim
public import proofs.«01_k».proof.Proof.DeltaClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts, Cert.Pre_finite2.Gen.facts, Cert.Pre_finite3.Gen.facts,
    Cert.Pre_finite4.Gen.facts, Cert.Pre_finite5.Gen.facts, Cert.Pre_finite8.Gen.facts,
    Cert.Pre_finite9.Gen.facts, Cert.Pre_finite10.Gen.facts, Cert.Pre_finite13.Gen.facts,
    Cert.Pre_finite14.Gen.facts, by
  exact ⟨fun m ρ _ => Cert.Kernel.Gen.frame m ρ, fun m ρ _ => Cert.KernelIdeal.Gen.frame m ρ, fun m ρ _ => Cert.KernelIdeal.Gen.frame m ρ, Cert.ConvLn.frame_reference, fun m ρ _ => Cert.ConvLn.frame_reference m ρ trivial,
    fun m ρ _ => Cert.Kernel2.Gen.frame m ρ, fun m ρ _ => Cert.Kernel2Ideal.Gen.frame m ρ, fun m ρ _ => Cert.Kernel2Ideal.Gen.frame m ρ, Cert.Up.frame_reference, fun m ρ _ => Cert.Up.frame_reference m ρ trivial,
    fun m ρ _ => Cert.Kernel3.Gen.frame m ρ, fun m ρ _ => Cert.Kernel3Ideal.Gen.frame m ρ, fun m ρ _ => Cert.Kernel3Ideal.Gen.frame m ρ, Cert.QUp.frame_reference, fun m ρ _ => Cert.QUp.frame_reference m ρ trivial,
    fun m ρ _ => Cert.Kernel4.Gen.frame m ρ, fun m ρ _ => Cert.Kernel4Ideal.Gen.frame m ρ, fun m ρ _ => Cert.Kernel4Ideal.Gen.frame m ρ, Cert.In.frame_reference, fun m ρ _ => Cert.In.frame_reference m ρ trivial,
    fun m ρ _ => Cert.Kernel5.Gen.frame m ρ, fun m ρ _ => Cert.Kernel5Ideal.Gen.frame m ρ, fun m ρ _ => Cert.Kernel5Ideal.Gen.frame m ρ, Cert.Mem.frame_reference, fun m ρ _ => Cert.Mem.frame_reference m ρ trivial,
    fun m ρ _ => Cert.Kernel7.Gen.frame m ρ, fun m ρ _ => Cert.Kernel7Ideal.Gen.frame m ρ, Cert.Loss.frame_reference,
    fun m ρ _ => Cert.Kernel8.Gen.frame m ρ, fun m ρ _ => Cert.Kernel8Ideal.Gen.frame m ρ, fun m ρ _ => Cert.Kernel8Ideal.Gen.frame m ρ, Cert.MemQ.frame_reference, fun m ρ _ => Cert.MemQ.frame_reference m ρ trivial,
    fun m ρ _ => Cert.Kernel9.Gen.frame m ρ, fun m ρ _ => Cert.Kernel9Ideal.Gen.frame m ρ, fun m ρ _ => Cert.Kernel9Ideal.Gen.frame m ρ, Cert.MemKv.frame_reference, fun m ρ _ => Cert.MemKv.frame_reference m ρ trivial,
    fun m ρ _ => Cert.Kernel10.Gen.frame m ρ, fun m ρ _ => Cert.Kernel10Ideal.Gen.frame m ρ, fun m ρ _ => Cert.Kernel10Ideal.Gen.frame m ρ, Cert.KvUp.frame_reference, fun m ρ _ => Cert.KvUp.frame_reference m ρ trivial,
    Cert.AttnFwd.frame_kernel, fun m ρ _ => Cert.AttnFwd.frame_ideal m ρ, fun m ρ _ => Cert.AttnFwd.frame_ideal m ρ, Cert.AttnFwd.frame_reference, fun m ρ _ => Cert.AttnFwd.frame_reference m ρ trivial,
    Cert.AttnBwd.frame_kernel, fun m ρ _ => Cert.AttnBwd.frame_ideal m ρ, fun m ρ _ => Cert.AttnBwd.frame_ideal m ρ, Cert.AttnBwd.frame_reference, fun m ρ _ => Cert.AttnBwd.frame_reference m ρ trivial,
    fun m ρ _ => Cert.Kernel15.Gen.frame m ρ, fun m ρ _ => Cert.Kernel15Ideal.Gen.frame m ρ, Cert.Delta.frame_reference,
    trivial, Cert.ConvLn.algebraic,
    trivial, Cert.Up.algebraic,
    trivial, Cert.QUp.algebraic,
    trivial, Cert.In.algebraic,
    trivial, Cert.Mem.algebraic,
    trivial, Cert.Loss.algebraic,
    trivial, Cert.MemQ.algebraic,
    trivial, Cert.MemKv.algebraic,
    trivial, Cert.KvUp.algebraic,
    trivial, Cert.AttnFwd.algebraic,
    trivial, Cert.AttnBwd.algebraic,
    trivial, Cert.Delta.algebraic⟩⟩

end Cert.Proof

end
